-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conv [hPre_finite_conv : Cert.Pre_finite_conv.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conv [hPre_finite_conv : Cert.Pre_finite_conv.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_conv [hKernel4Ideal : Cert.Kernel4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conv m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_conv [hReference4Ideal : Cert.Reference4Ideal.Facts] [hPre_finite_conv : Cert.Pre_finite_conv.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conv m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v23)) (v1 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_v26) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v101)) (v1 : (c : Dev Cert.Kernel3Ideal.nD) → Buf (Elt Ideal) ((c.tc : Thread Cert.Kernel3Ideal.nD Cert.Kernel3Ideal.τ).loc Cert.Kernel3Ideal.main_v100_1)) (v2 : (c : Dev Cert.Kernel3Ideal.nD) → Buf (Elt Ideal) ((c.tc : Thread Cert.Kernel3Ideal.nD Cert.Kernel3Ideal.τ).loc Cert.Kernel3Ideal.main_v100_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v101) = v0 c
          ∧ r.2.mem ((c.tc : Thread Cert.Kernel3Ideal.nD Cert.Kernel3Ideal.τ).loc Cert.Kernel3Ideal.main_v100_1) = v1 c
          ∧ r.2.mem ((c.tc : Thread Cert.Kernel3Ideal.nD Cert.Kernel3Ideal.τ).loc Cert.Kernel3Ideal.main_v100_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v160) = v0 c
          ∧ r.2.mem ((c.tc : Thread Cert.Reference3Ideal.nD Cert.Reference3Ideal.τ).loc Cert.Reference3Ideal.main_v132) = v1 c
          ∧ r.2.mem ((c.tc : Thread Cert.Reference3Ideal.nD Cert.Reference3Ideal.τ).loc Cert.Reference3Ideal.main_v161) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_conv [hKernel4Ideal : Cert.Kernel4Ideal.Facts] [hReference4Ideal : Cert.Reference4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conv m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v101)) (v1 : (c : Dev Cert.Kernel4Ideal.nD) → Buf (Elt Ideal) ((c.tc : Thread Cert.Kernel4Ideal.nD Cert.Kernel4Ideal.τ).loc Cert.Kernel4Ideal.main_v100_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v101) = v0 c
          ∧ r.2.mem ((c.tc : Thread Cert.Kernel4Ideal.nD Cert.Kernel4Ideal.τ).loc Cert.Kernel4Ideal.main_v100_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v319) = v0 c
          ∧ r.2.mem ((c.tc : Thread Cert.Reference4Ideal.nD Cert.Reference4Ideal.τ).loc Cert.Reference4Ideal.main_v300) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_conv : Cert.Pre_finite_conv.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_conv (hKernel4Ideal := hKernel4Ideal) (hPre_finite_conv := hPre_finite_conv)
    ∧ quiescent_Reference4Ideal (hReference4Ideal := hReference4Ideal)
    ∧ quiescent_Reference4Ideal_pre_finite_conv (hReference4Ideal := hReference4Ideal) (hPre_finite_conv := hPre_finite_conv)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_conv (hKernel4Ideal := hKernel4Ideal) (hReference4Ideal := hReference4Ideal) (hPre_finite_conv := hPre_finite_conv)
-- ==== Pre_finite_conv.lean ====
abbrev S528x4224 : Shape := ⟨2, ![528, 4224]⟩
abbrev S1x4x1536 : Shape := ⟨3, ![1, 4, 1536]⟩
abbrev S1x4 : Shape := ⟨2, ![1, 4]⟩
abbrev S1x512 : Shape := ⟨2, ![1, 512]⟩
abbrev S1x128 : Shape := ⟨2, ![1, 128]⟩
abbrev S16x1536 : Shape := ⟨2, ![16, 1536]⟩
abbrev S4x1536 : Shape := ⟨2, ![4, 1536]⟩
abbrev S20x1536 : Shape := ⟨2, ![20, 1536]⟩
abbrev S_ : Shape := ⟨0, ![]⟩

class Facts : Prop where
  slices_S528x4224_S16x1536_512_2048 : S528x4224.Slices ![512, 2048] S16x1536
  shapeCasts_S1x4x1536_S4x1536 : S1x4x1536.ShapeCasts S4x1536
  concatenates_S16x1536_S4x1536_S20x1536_d0 : Shape.Concatenates [S16x1536, S4x1536] S20x1536 0
  bcast_S_S20x1536 : S_.BroadcastsInDim S20x1536 (![] : Fin 0 → Fin S20x1536.rank)

variable [Facts]

def fn {F : FTy → Type} [FloatOps F] (main_arg0 : FVec F S528x4224 .f32) (main_arg1 : FVec F S1x4x1536 .f32) (main_arg2 : FVec F S1x4 .f32) (main_arg3 : FVec F S1x4 .f32) (main_arg4 : FVec F S1x512 .f32) (main_arg5 : FVec F S1x128 .f32) : IVec S20x1536 1 :=
  let main_v0 : FVec F S16x1536 .f32 := (extractStridedSlice S16x1536 ![512, 2048] · slices_S528x4224_S16x1536_512_2048) main_arg0
  let main_v1 : FVec F S4x1536 .f32 := shapeCast S4x1536 main_arg1 shapeCasts_S1x4x1536_S4x1536
  let main_v2 : FVec F S20x1536 .f32 := (fun a b => concatenate S20x1536 0 [⟨S16x1536, a⟩, ⟨S4x1536, b⟩] concatenates_S16x1536_S4x1536_S20x1536_d0) main_v0 main_v1
  let main_v3 : FVec F S20x1536 .f32 := Host.absf main_v2
  let main_cst : FVec F S_ .f32 := constant S_ .f32 0x7F800000#32
  let main_v4 : FVec F S20x1536 .f32 := broadcastInDim S20x1536 ![] bcast_S_S20x1536 main_cst
  let main_v5 : IVec S20x1536 1 := cmpf .olt main_v3 main_v4
  main_v5
-- ==== Kernel.lean ====
abbrev S8x2048x1024 : Shape := ⟨3, ![8, 2048, 1024]⟩
abbrev S16x1024 : Shape := ⟨2, ![16, 1024]⟩
abbrev S1x16x1024 : Shape := ⟨3, ![1, 16, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S16384x1024 : Shape := ⟨2, ![16384, 1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S8x2x5632 : Shape := ⟨3, ![8, 2, 5632]⟩
abbrev S512x1024 : Shape := ⟨2, ![512, 1024]⟩
abbrev S1x2x5632 : Shape := ⟨3, ![1, 2, 5632]⟩
abbrev S520x5632 : Shape := ⟨2, ![520, 5632]⟩
abbrev S2x5632 : Shape := ⟨2, ![2, 5632]⟩
abbrev S16 : Shape := ⟨1, ![16]⟩
abbrev S16x1 : Shape := ⟨2, ![16, 1]⟩
abbrev S16x5632 : Shape := ⟨2, ![16, 5632]⟩
abbrev S512 : Shape := ⟨1, ![512]⟩
abbrev S512x1 : Shape := ⟨2, ![512, 1]⟩
abbrev S512x5632 : Shape := ⟨2, ![512, 5632]⟩
abbrev S512x256 : Shape := ⟨2, ![512, 256]⟩
abbrev S1x256 : Shape := ⟨2, ![1, 256]⟩
abbrev S256x1024 : Shape := ⟨2, ![256, 1024]⟩

abbrev nBuf : Space → Nat
  | .hbm => 25
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S16x1024, .f32⟩
  | .hbm, ⟨3, _⟩ => ⟨S1x16x1024, .bf16⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x2816x1024, .f32⟩
  | .hbm, ⟨9, _⟩ => ⟨S1024, .f32⟩
  | .hbm, ⟨10, _⟩ => ⟨S16384x1024, .f32⟩
  | .hbm, ⟨11, _⟩ => ⟨S16384x1024, .bf16⟩
  | .hbm, ⟨12, _⟩ => ⟨S1024x1024, .f32⟩
  | .hbm, ⟨13, _⟩ => ⟨S1024x1024, .bf16⟩
  | .hbm, ⟨14, _⟩ => ⟨S1024x5632, .f32⟩
  | .hbm, ⟨15, _⟩ => ⟨S1024x5632, .bf16⟩
  | .hbm, ⟨16, _⟩ => ⟨S2816x1024, .f32⟩
  | .hbm, ⟨17, _⟩ => ⟨S2816x1024, .bf16⟩
  | .hbm, ⟨18, _⟩ => ⟨S1024, .f32⟩
  | .hbm, ⟨19, _⟩ => ⟨S1x1024, .f32⟩
  | .hbm, ⟨20, _⟩ => ⟨S3x5632, .f32⟩
  | .hbm, ⟨21, _⟩ => ⟨S1x1024, .f32⟩
  | .hbm, ⟨22, _⟩ => ⟨S16x1024, .bf16⟩
  | .hbm, ⟨23, _⟩ => ⟨S16384x1024, .f32⟩
  | .hbm, ⟨24, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S16x1024, .f32⟩
  | .local _ .vmem, ⟨5, _⟩ => ⟨S16x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x2x5632, .f32⟩
  | .local _ .vmem, ⟨15, _⟩ => ⟨S1x2x5632, .f32⟩
  | .local _ .vmem, ⟨16, _⟩ => ⟨S520x5632, .f32⟩
  | .local _ .vmem, ⟨17, _⟩ => ⟨S2x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8x2048x1024 : Shape := ⟨3, ![8, 2048, 1024]⟩
abbrev S16x1024 : Shape := ⟨2, ![16, 1024]⟩
abbrev S1x16x1024 : Shape := ⟨3, ![1, 16, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S8x16x1024 : Shape := ⟨3, ![8, 16, 1024]⟩
abbrev S8x2064x1024 : Shape := ⟨3, ![8, 2064, 1024]⟩
abbrev S_ : Shape := ⟨0, ![]⟩
abbrev S8x2x5632 : Shape := ⟨3, ![8, 2, 5632]⟩
abbrev S1024x1024 : Shape := ⟨2, ![1024, 1024]⟩
abbrev S1024x5632 : Shape := ⟨2, ![1024, 5632]⟩
abbrev S3x5632 : Shape := ⟨2, ![3, 5632]⟩
abbrev S2816x1024 : Shape := ⟨2, ![2816, 1024]⟩
abbrev S8x2064 : Shape := ⟨2, ![8, 2064]⟩
abbrev S8x2064x1 : Shape := ⟨3, ![8, 2064, 1]⟩
abbrev S1x1x1024 : Shape := ⟨3, ![1, 1, 1024]⟩
abbrev S8x2064x5632 : Shape := ⟨3, ![8, 2064, 5632]⟩
abbrev S8x2066x5632 : Shape := ⟨3, ![8, 2066, 5632]⟩
abbrev S1x5632 : Shape := ⟨2, ![1, 5632]⟩
abbrev S5632 : Shape := ⟨1, ![5632]⟩
abbrev S1x1x5632 : Shape := ⟨3, ![1, 1, 5632]⟩
abbrev S8x2064x2816 : Shape := ⟨3, ![8, 2064, 2816]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S16x1024, .f32⟩
  | .hbm, ⟨3, _⟩ => ⟨S1x16x1024, .bf16⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x2816x1024, .f32⟩
  | .hbm, ⟨9, _⟩ => ⟨S1024, .f32⟩
  | .hbm, ⟨10, _⟩ => ⟨S1x16x1024, .f32⟩
  | .hbm, ⟨11, _⟩ => ⟨S8x16x1024, .f32⟩
  | .hbm, ⟨12, _⟩ => ⟨S8x2064x1024, .f32⟩
  | .hbm, ⟨13, _⟩ => ⟨S1x16x1024, .f32⟩
  | .hbm, ⟨14, _⟩ => ⟨S8x16x1024, .f32⟩
  | .hbm, ⟨15, _⟩ => ⟨S8x2048x1024, .f32⟩
  | .hbm, ⟨16, _⟩ => ⟨S8x2064x1024, .f32⟩
  | .hbm, ⟨17, _⟩ => ⟨S_, .f32⟩
  | .hbm, ⟨18, _⟩ => ⟨S8x2x5632, .f32⟩
  | .hbm, ⟨19, _⟩ => ⟨S1024x1024, .f32⟩
  | .hbm, ⟨20, _⟩ => ⟨S1024, .f32⟩
  | .hbm, ⟨21, _⟩ => ⟨S1024x5632, .f32⟩
  | .hbm, ⟨22, _⟩ => ⟨S3x5632, .f32⟩
  | .hbm, ⟨23, _⟩ => ⟨S2816x1024, .f32⟩
  | .hbm, ⟨24, _⟩ => ⟨S8x2064x1024, .f32⟩
  | .hbm, ⟨25, _⟩ => ⟨S8x2064x1024, .f32⟩
  | .hbm, ⟨26, _⟩ => ⟨S8x2064x1024, .f32⟩
  | .hbm, ⟨27, _⟩ => ⟨S_, .f32⟩
  | .hbm, ⟨28, _⟩ => ⟨S8x2064, .f32⟩
  | .hbm, ⟨29, _⟩ => ⟨S8x2064x1, .f32⟩
  | .hbm, ⟨30, _⟩ => ⟨S_, .f32⟩
  | .hbm, ⟨31, _⟩ => ⟨S8x2064x1, .f32⟩
  | .hbm, ⟨32, _⟩ => ⟨S8x2064x1, .f32⟩
  | .hbm, ⟨33, _⟩ => ⟨S_, .f32⟩
  | .hbm, ⟨34, _⟩ => ⟨S8x2064x1, .f32⟩
  | .hbm, ⟨35, _⟩ => ⟨S8x2064x1, .f32⟩
  | .hbm, ⟨36, _⟩ => ⟨S8x2064x1, .f32⟩
  | .hbm, ⟨37, _⟩ => ⟨S8x2064x1024, .f32⟩
  | .hbm, ⟨38, _⟩ => ⟨S8x2064x1024, .f32⟩
  | .hbm, ⟨39, _⟩ => ⟨S1x1x1024, .f32⟩
  | .hbm, ⟨40, _⟩ => ⟨S8x2064x1024, .f32⟩
  | .hbm, ⟨41, _⟩ => ⟨S8x2064x1024, .f32⟩
  | .hbm, ⟨42, _⟩ => ⟨S8x2064x5632, .f32⟩
  | .hbm, ⟨43, _⟩ => ⟨S8x2066x5632, .f32⟩
  | .hbm, ⟨44, _⟩ => ⟨S8x2064x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S8x2064x5632, .f32⟩
  | .hbm, ⟨49, _⟩ => ⟨S8x2064x5632, .f32⟩
  | .hbm, ⟨50, _⟩ => ⟨S8x2064x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S8x2064x5632, .f32⟩
  | .hbm, ⟨55, _⟩ => ⟨S8x2064x5632, .f32⟩
  | .hbm, ⟨56, _⟩ => ⟨S8x2064x5632, .f32⟩
  | .hbm, ⟨57, _⟩ => ⟨S8x2064x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S8x2064x5632, .f32⟩
  | .hbm, ⟨62, _⟩ => ⟨S8x2064x5632, .f32⟩
  | .hbm, ⟨63, _⟩ => ⟨S8x2064x5632, .f32⟩
  | .hbm, ⟨64, _⟩ => ⟨S8x2x5632, .f32⟩
  | .hbm, ⟨65, _⟩ => ⟨S8x2064x2816, .f32⟩
  | .hbm, ⟨66, _⟩ => ⟨S8x2064x2816, .f32⟩
  | .hbm, ⟨67, _⟩ => ⟨S8x2064x2816, .f32⟩
  | .hbm, ⟨68, _⟩ => ⟨S8x2064x2816, .f32⟩
  | .hbm, ⟨69, _⟩ => ⟨S_, .f32⟩
  | .hbm, ⟨70, _⟩ => ⟨S8x2064x2816, .f32⟩
  | .hbm, ⟨71, _⟩ => ⟨S8x2064x2816, .f32⟩
  | .hbm, ⟨72, _⟩ => ⟨S_, .f32⟩
  | .hbm, ⟨73, _⟩ => ⟨S8x2064x2816, .f32⟩
  | .hbm, ⟨74, _⟩ => ⟨S8x2064x2816, .f32⟩
  | .hbm, ⟨75, _⟩ => ⟨S8x2064x2816, .f32⟩
  | .hbm, ⟨76, _⟩ => ⟨S8x2064x2816, .f32⟩
  | .hbm, ⟨77, _⟩ => ⟨S8x2064x1024, .f32⟩
  | .hbm, ⟨78, _⟩ => ⟨S8x2064x1024, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S_, .f32⟩
  | .hbm, ⟨88, _⟩ => ⟨S8x2048x1, .f32⟩
  | .hbm, ⟨89, _⟩ => ⟨S8x2048x1, .f32⟩
  | .hbm, ⟨90, _⟩ => ⟨S8x2048x1, .f32⟩
  | .hbm, ⟨91, _⟩ => ⟨S8x2048x1024, .f32⟩
  | .hbm, ⟨92, _⟩ => ⟨S8x2048x1024, .f32⟩
  | .hbm, ⟨93, _⟩ => ⟨S1x1x1024, .f32⟩
  | .hbm, ⟨94, _⟩ => ⟨S8x2048x1024, .f32⟩
  | .hbm, ⟨95, _⟩ => ⟨S8x2048x1024, .f32⟩
  | .hbm, ⟨96, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_3 : Ref sig .tc := ⟨.hbm, 81, rfl⟩
abbrev main_v59 : Ref sig .tc := ⟨.hbm, 82, rfl⟩
abbrev main_v60 : Ref sig .tc := ⟨.hbm, 83, rfl⟩
abbrev main_cst_4 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Kernel2.lean ====
abbrev S128x4x1024 : Shape := ⟨3, ![128, 4, 1024]⟩
abbrev S1x128x2x5632 : Shape := ⟨4, ![1, 128, 2, 5632]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S2x64x4x1024 : Shape := ⟨4, ![2, 64, 4, 1024]⟩
abbrev S2x4x64x1024 : Shape := ⟨4, ![2, 4, 64, 1024]⟩
abbrev S512x1024 : Shape := ⟨2, ![512, 1024]⟩
abbrev S128x2x5632 : Shape := ⟨3, ![128, 2, 5632]⟩
abbrev S2x64x2x5632 : Shape := ⟨4, ![2, 64, 2, 5632]⟩
abbrev S2x2x64x5632 : Shape := ⟨4, ![2, 2, 64, 5632]⟩
abbrev S2x128x5632 : Shape := ⟨3, ![2, 128, 5632]⟩
abbrev S256x1024 : Shape := ⟨2, ![256, 1024]⟩
abbrev S1x128x5632 : Shape := ⟨3, ![1, 128, 5632]⟩
abbrev S384x5632 : Shape := ⟨2, ![384, 5632]⟩
abbrev S128x5632 : Shape := ⟨2, ![128, 5632]⟩
abbrev S256 : Shape := ⟨1, ![256]⟩
abbrev S256x1 : Shape := ⟨2, ![256, 1]⟩
abbrev S256x5632 : Shape := ⟨2, ![256, 5632]⟩
abbrev S256x256 : Shape := ⟨2, ![256, 256]⟩
abbrev S1x256 : Shape := ⟨2, ![1, 256]⟩

abbrev nBuf : Space → Nat
  | .hbm => 37
  | .vmem => 17
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .bf16⟩
  | .hbm, ⟨2, _⟩ => ⟨S1x128x2x5632, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x2816x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S3x5632, .f32⟩
  | .hbm, ⟨18, _⟩ => ⟨S1x1024, .f32⟩
  | .hbm, ⟨19, _⟩ => ⟨S2x64x4x1024, .f32⟩
  | .hbm, ⟨20, _⟩ => ⟨S2x4x64x1024, .f32⟩
  | .hbm, ⟨21, _⟩ => ⟨S512x1024, .f32⟩
  | .hbm, ⟨22, _⟩ => ⟨S2x64x4x1024, .bf16⟩
  | .hbm, ⟨23, _⟩ => ⟨S2x4x64x1024, .bf16⟩
  | .hbm, ⟨24, _⟩ => ⟨S512x1024, .bf16⟩
  | .hbm, ⟨25, _⟩ => ⟨S128x2x5632, .f32⟩
  | .hbm, ⟨26, _⟩ => ⟨S2x64x2x5632, .f32⟩
  | .hbm, ⟨27, _⟩ => ⟨S2x2x64x5632, .f32⟩
  | .hbm, ⟨28, _⟩ => ⟨S2x128x5632, .f32⟩
  | .hbm, ⟨29, _⟩ => ⟨S512x1024, .f32⟩
  | .hbm, ⟨30, _⟩ => ⟨S2x128x5632, .f32⟩
  | .hbm, ⟨31, _⟩ => ⟨S2x4x64x1024, .f32⟩
  | .hbm, ⟨32, _⟩ => ⟨S2x64x4x1024, .f32⟩
  | .hbm, ⟨33, _⟩ => ⟨S128x4x1024, .f32⟩
  | .hbm, ⟨34, _⟩ => ⟨S2x2x64x5632, .f32⟩
  | .hbm, ⟨35, _⟩ => ⟨S2x64x2x5632, .f32⟩
  | .hbm, ⟨36, _⟩ => ⟨S128x2x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x128x5632, .f32⟩
  | .local _ .vmem, ⟨5, _⟩ => ⟨S1x128x5632, .f32⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x128x5632, .f32⟩
  | .local _ .vmem, ⟨15, _⟩ => ⟨S1x128x5632, .f32⟩
  | .local _ .vmem, ⟨16, _⟩ => ⟨S384x5632, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S128x4x1024 : Shape := ⟨3, ![128, 4, 1024]⟩
abbrev S1x128x2x5632 : Shape := ⟨4, ![1, 128, 2, 5632]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S128x2x5632 : Shape := ⟨3, ![128, 2, 5632]⟩
abbrev S1024x1024 : Shape := ⟨2, ![1024, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x6x5632 : Shape := ⟨3, ![128, 6, 5632]⟩
abbrev S1x5632 : Shape := ⟨2, ![1, 5632]⟩
abbrev S5632 : Shape := ⟨1, ![5632]⟩
abbrev S1x1x5632 : Shape := ⟨3, ![1, 1, 5632]⟩
abbrev S128x4x2816 : Shape := ⟨3, ![128, 4, 2816]⟩

abbrev nBuf : Space → Nat
  | .hbm => 87
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .bf16⟩
  | .hbm, ⟨2, _⟩ => ⟨S1x128x2x5632, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x2816x1024, .f32⟩
  | .hbm, ⟨8, _⟩ => ⟨S1024, .f32⟩
  | .hbm, ⟨9, _⟩ => ⟨S128x4x1024, .f32⟩
  | .hbm, ⟨10, _⟩ => ⟨S128x2x5632, .f32⟩
  | .hbm, ⟨11, _⟩ => ⟨S1024x1024, .f32⟩
  | .hbm, ⟨12, _⟩ => ⟨S1024, .f32⟩
  | .hbm, ⟨13, _⟩ => ⟨S1024x5632, .f32⟩
  | .hbm, ⟨14, _⟩ => ⟨S3x5632, .f32⟩
  | .hbm, ⟨15, _⟩ => ⟨S2816x1024, .f32⟩
  | .hbm, ⟨16, _⟩ => ⟨S128x4x1024, .f32⟩
  | .hbm, ⟨17, _⟩ => ⟨S128x4x1024, .f32⟩
  | .hbm, ⟨18, _⟩ => ⟨S128x4x1024, .f32⟩
  | .hbm, ⟨19, _⟩ => ⟨S_, .f32⟩
  | .hbm, ⟨20, _⟩ => ⟨S128x4, .f32⟩
  | .hbm, ⟨21, _⟩ => ⟨S128x4x1, .f32⟩
  | .hbm, ⟨22, _⟩ => ⟨S_, .f32⟩
  | .hbm, ⟨23, _⟩ => ⟨S128x4x1, .f32⟩
  | .hbm, ⟨24, _⟩ => ⟨S128x4x1, .f32⟩
  | .hbm, ⟨25, _⟩ => ⟨S_, .f32⟩
  | .hbm, ⟨26, _⟩ => ⟨S128x4x1, .f32⟩
  | .hbm, ⟨27, _⟩ => ⟨S128x4x1, .f32⟩
  | .hbm, ⟨28, _⟩ => ⟨S128x4x1, .f32⟩
  | .hbm, ⟨29, _⟩ => ⟨S128x4x1024, .f32⟩
  | .hbm, ⟨30, _⟩ => ⟨S128x4x1024, .f32⟩
  | .hbm, ⟨31, _⟩ => ⟨S1x1x1024, .f32⟩
  | .hbm, ⟨32, _⟩ => ⟨S128x4x1024, .f32⟩
  | .hbm, ⟨33, _⟩ => ⟨S128x4x1024, .f32⟩
  | .hbm, ⟨34, _⟩ => ⟨S128x4x5632, .f32⟩
  | .hbm, ⟨35, _⟩ => ⟨S128x6x5632, .f32⟩
  | .hbm, ⟨36, _⟩ => ⟨S128x4x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S128x4x5632, .f32⟩
  | .hbm, ⟨41, _⟩ => ⟨S128x4x5632, .f32⟩
  | .hbm, ⟨42, _⟩ => ⟨S128x4x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S128x4x5632, .f32⟩
  | .hbm, ⟨47, _⟩ => ⟨S128x4x5632, .f32⟩
  | .hbm, ⟨48, _⟩ => ⟨S128x4x5632, .f32⟩
  | .hbm, ⟨49, _⟩ => ⟨S128x4x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S128x4x5632, .f32⟩
  | .hbm, ⟨54, _⟩ => ⟨S128x4x5632, .f32⟩
  | .hbm, ⟨55, _⟩ => ⟨S128x4x5632, .f32⟩
  | .hbm, ⟨56, _⟩ => ⟨S128x2x5632, .f32⟩
  | .hbm, ⟨57, _⟩ => ⟨S128x4x2816, .f32⟩
  | .hbm, ⟨58, _⟩ => ⟨S128x4x2816, .f32⟩
  | .hbm, ⟨59, _⟩ => ⟨S128x4x2816, .f32⟩
  | .hbm, ⟨60, _⟩ => ⟨S128x4x2816, .f32⟩
  | .hbm, ⟨61, _⟩ => ⟨S_, .f32⟩
  | .hbm, ⟨62, _⟩ => ⟨S128x4x2816, .f32⟩
  | .hbm, ⟨63, _⟩ => ⟨S128x4x2816, .f32⟩
  | .hbm, ⟨64, _⟩ => ⟨S_, .f32⟩
  | .hbm, ⟨65, _⟩ => ⟨S128x4x2816, .f32⟩
  | .hbm, ⟨66, _⟩ => ⟨S128x4x2816, .f32⟩
  | .hbm, ⟨67, _⟩ => ⟨S128x4x2816, .f32⟩
  | .hbm, ⟨68, _⟩ => ⟨S128x4x2816, .f32⟩
  | .hbm, ⟨69, _⟩ => ⟨S128x4x1024, .f32⟩
  | .hbm, ⟨70, _⟩ => ⟨S128x4x1024, .f32⟩
  | .hbm, ⟨71, _⟩ => ⟨S128x4x1024, .f32⟩
  | .hbm, ⟨72, _⟩ => ⟨S_, .f32⟩
  | .hbm, ⟨73, _⟩ => ⟨S128x4, .f32⟩
  | .hbm, ⟨74, _⟩ => ⟨S128x4x1, .f32⟩
  | .hbm, ⟨75, _⟩ => ⟨S_, .f32⟩
  | .hbm, ⟨76, _⟩ => ⟨S128x4x1, .f32⟩
  | .hbm, ⟨77, _⟩ => ⟨S128x4x1, .f32⟩
  | .hbm, ⟨78, _⟩ => ⟨S_, .f32⟩
  | .hbm, ⟨79, _⟩ => ⟨S128x4x1, .f32⟩
  | .hbm, ⟨80, _⟩ => ⟨S128x4x1, .f32⟩
  | .hbm, ⟨81, _⟩ => ⟨S128x4x1, .f32⟩
  | .hbm, ⟨82, _⟩ => ⟨S128x4x1024, .f32⟩
  | .hbm, ⟨83, _⟩ => ⟨S128x4x1024, .f32⟩
  | .hbm, ⟨84, _⟩ => ⟨S1x1x1024, .f32⟩
  | .hbm, ⟨85, _⟩ => ⟨S128x4x1024, .f32⟩
  | .hbm, ⟨86, _⟩ => ⟨S128x4x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_2 : Ref sig .tc := ⟨.hbm, 72, rfl⟩
abbrev main_v52 : Ref sig .tc := ⟨.hbm, 73, rfl⟩
abbrev main_v53 : Ref sig .tc := ⟨.hbm, 74, rfl⟩
abbrev main_cst_3 : Ref sig .tc := ⟨.hbm, 75, rfl⟩
abbrev main_v54 : Ref sig .tc := ⟨.hbm, 76, rfl⟩
abbrev main_v55 : Ref sig .tc := ⟨.hbm, 77, rfl⟩
abbrev main_cst_4 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel3.lean ====
abbrev S528x4224 : Shape := ⟨2, ![528, 4224]⟩
abbrev S1x4x1536 : Shape := ⟨3, ![1, 4, 1536]⟩
abbrev S1x4 : Shape := ⟨2, ![1, 4]⟩
abbrev S1x512 : Shape := ⟨2, ![1, 512]⟩
abbrev S1x128 : Shape := ⟨2, ![1, 128]⟩
abbrev S16x16 : Shape := ⟨2, ![16, 16]⟩
abbrev S4x1536 : Shape := ⟨2, ![4, 1536]⟩
abbrev S4 : Shape := ⟨1, ![4]⟩
abbrev S_ : Shape := ⟨0, ![]⟩
abbrev S128 : Shape := ⟨1, ![128]⟩
abbrev S512 : Shape := ⟨1, ![512]⟩
abbrev S4x128 : Shape := ⟨2, ![4, 128]⟩
abbrev S64 : Shape := ⟨1, ![64]⟩
abbrev S2072x128 : Shape := ⟨2, ![2072, 128]⟩
abbrev S1x4x128x128 : Shape := ⟨4, ![1, 4, 128, 128]⟩
abbrev S1x3x1536 : Shape := ⟨3, ![1, 3, 1536]⟩
abbrev S4x1 : Shape := ⟨2, ![4, 1]⟩
abbrev S16 : Shape := ⟨1, ![16]⟩
abbrev S16x1 : Shape := ⟨2, ![16, 1]⟩
abbrev S1x16 : Shape := ⟨2, ![1, 16]⟩
abbrev S1x16x16 : Shape := ⟨3, ![1, 16, 16]⟩
abbrev S4x1x1 : Shape := ⟨3, ![4, 1, 1]⟩
abbrev S4x16x16 : Shape := ⟨3, ![4, 16, 16]⟩
abbrev S4x16 : Shape := ⟨2, ![4, 16]⟩
abbrev S4x16x1 : Shape := ⟨3, ![4, 16, 1]⟩
abbrev S4x16x128 : Shape := ⟨3, ![4, 16, 128]⟩
abbrev S4x1x128 : Shape := ⟨3, ![4, 1, 128]⟩
abbrev S1x16x1024 : Shape := ⟨3, ![1, 16, 1024]⟩
abbrev S16x4224 : Shape := ⟨2, ![16, 4224]⟩
abbrev S16x128 : Shape := ⟨2, ![16, 128]⟩
abbrev S1x24x1536 : Shape := ⟨3, ![1, 24, 1536]⟩
abbrev S1x16x128 : Shape := ⟨3, ![1, 16, 128]⟩
abbrev S128x128 : Shape := ⟨2, ![128, 128]⟩
abbrev S1x1x128x128 : Shape := ⟨4, ![1, 1, 128, 128]⟩
abbrev S1x1x128 : Shape := ⟨3, ![1, 1, 128]⟩
abbrev S1x1536 : Shape := ⟨2, ![1, 1536]⟩
abbrev S16x1536 : Shape := ⟨2, ![16, 1536]⟩
abbrev S1x16x1536 : Shape := ⟨3, ![1, 16, 1536]⟩
abbrev S1x1x1536 : Shape := ⟨3, ![1, 1, 1536]⟩
abbrev S1x2x1536 : Shape := ⟨3, ![1, 2, 1536]⟩
abbrev S2x1536 : Shape := ⟨2, ![2, 1536]⟩
abbrev S3x1536 : Shape := ⟨2, ![3, 1536]⟩
abbrev S128x16 : Shape := ⟨2, ![128, 16]⟩
abbrev S128x1 : Shape := ⟨2, ![128, 1]⟩
abbrev S32x128 : Shape := ⟨2, ![32, 128]⟩
abbrev S32x16 : Shape := ⟨2, ![32, 16]⟩
abbrev S16x256 : Shape := ⟨2, ![16, 256]⟩
abbrev S1x16x512 : Shape := ⟨3, ![1, 16, 512]⟩

abbrev nBuf : Space → Nat
  | .hbm => 142
  | .vmem => 21
  | .smem => 0
  | _ => 0

abbrev hbmTy0_0 (i : Nat) : BufTy := match i % 128 with
  | 0 => ⟨S528x4224, .f32⟩
  | 1 => ⟨S1x4x1536, .f32⟩
  | 2 => ⟨S1x4, .f32⟩
  | 3 => ⟨S1x4, .f32⟩
  | 4 => ⟨S1x512, .f32⟩
  | 5 => ⟨S1x128, .f32⟩
  | 6 => ⟨S16x16, .bf16⟩
  | 7 => ⟨S4x1536, .f32⟩
  | 8 => ⟨S4, .f32⟩
  | 9 => ⟨S_, .i32⟩
  | 10 => ⟨S_, .f32⟩
  | 11 => ⟨S128, .f32⟩
  | 12 => ⟨S1x128, .f32⟩
  | 13 => ⟨S4, .f32⟩
  | 14 => ⟨S_, .i32⟩
  | 15 => ⟨S_, .f32⟩
  | 16 => ⟨S128, .f32⟩
  | 17 => ⟨S1x128, .f32⟩
  | 18 => ⟨S512, .f32⟩
  | 19 => ⟨S4x128, .f32⟩
  | 20 => ⟨S128, .f32⟩
  | 21 => ⟨S1x128, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S128, .f32⟩
  | 31 => ⟨S1x128, .f32⟩
  | 32 => ⟨S2072x128, .i32⟩
  | 33 => ⟨S_, .i32⟩
  | 34 => ⟨S2072x128, .i32⟩
  | 35 => ⟨S2072x128, .i32⟩
  | 36 => ⟨S_, .i32⟩
  | 37 => ⟨S2072x128, .i32⟩
  | 38 => ⟨S2072x128, .i1⟩
  | 39 => ⟨S_, .i32⟩
  | 40 => ⟨S2072x128, .i32⟩
  | 41 => ⟨S2072x128, .i32⟩
  | 42 => ⟨S2072x128, .i32⟩
  | 43 => ⟨S_, .i32⟩
  | 44 => ⟨S2072x128, .i32⟩
  | 45 => ⟨S2072x128, .i1⟩
  | 46 => ⟨S_, .i32⟩
  | 47 => ⟨S2072x128, .i32⟩
  | 48 => ⟨S2072x128, .i32⟩
  | 49 => ⟨S2072x128, .i32⟩
  | 50 => ⟨S2072x128, .f32⟩
  | 51 => ⟨S2072x128, .f32⟩
  | 52 => ⟨S2072x128, .f32⟩
  | 53 => ⟨S2072x128, .i32⟩
  | 54 => ⟨S2072x128, .f32⟩
  | 55 => ⟨S2072x128, .f32⟩
  | 56 => ⟨S_, .i32⟩
  | 57 => ⟨S2072x128, .i32⟩
  | 58 => ⟨S2072x128, .i1⟩
  | 59 => ⟨S2072x128, .f32⟩
  | 60 => ⟨S2072x128, .f32⟩
  | 61 => ⟨S_, .f32⟩
  | 62 => ⟨S1x4x128x128, .f32⟩
  | 63 => ⟨S_, .f32⟩
  | 64 => ⟨S1x3x1536, .f32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S4, .f32⟩
  | 73 => ⟨S4, .f32⟩
  | 74 => ⟨S4x1, .f32⟩
  | 75 => ⟨S16, .f32⟩
  | 76 => ⟨S16x1, .f32⟩
  | 77 => ⟨S1x16, .f32⟩
  | 78 => ⟨S16x16, .f32⟩
  | 79 => ⟨S16x16, .f32⟩
  | 80 => ⟨S16x16, .f32⟩
  | 81 => ⟨S1x16x16, .f32⟩
  | 82 => ⟨S_, .f32⟩
  | 83 => ⟨S1x16x16, .f32⟩
  | 84 => ⟨S1x16x16, .i1⟩
  | 85 => ⟨S4x1x1, .f32⟩
  | 86 => ⟨S1x16x16, .f32⟩
  | 87 => ⟨S_, .f32⟩
  | 88 => ⟨S1x16x16, .f32⟩
  | 89 => ⟨S1x16x16, .f32⟩
  | 90 => ⟨S4x16x16, .f32⟩
  | 91 => ⟨S4x16x16, .f32⟩
  | 92 => ⟨S4x16x16, .f32⟩
  | 93 => ⟨S4x16x16, .f32⟩
  | 94 => ⟨S_, .f32⟩
  | 95 => ⟨S4x16x16, .i1⟩
  | 96 => ⟨S4x16x16, .f32⟩
  | 97 => ⟨S4x16x16, .f32⟩
  | 98 => ⟨S_, .f32⟩
  | 99 => ⟨S16, .f32⟩
  | 100 => ⟨S16, .f32⟩
  | 101 => ⟨S1x16, .f32⟩
  | 102 => ⟨S4x16, .f32⟩
  | 103 => ⟨S4x16, .f32⟩
  | 104 => ⟨S4x16, .f32⟩
  | 105 => ⟨S4x16, .f32⟩
  | 106 => ⟨S1x16, .f32⟩
  | 107 => ⟨S_, .f32⟩
  | 108 => ⟨S1x16, .f32⟩
  | 109 => ⟨S1x16, .i1⟩
  | 110 => ⟨S_, .f32⟩
  | 111 => ⟨S_, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S1x16, .f32⟩
  | 119 => ⟨S4x16, .f32⟩
  | 120 => ⟨S4x16, .f32⟩
  | 121 => ⟨S4x16, .f32⟩
  | 122 => ⟨S4x16, .f32⟩
  | 123 => ⟨S_, .f32⟩
  | 124 => ⟨S4x16, .i1⟩
  | 125 => ⟨S4x16, .f32⟩
  | 126 => ⟨S4x16, .f32⟩
  | 127 => ⟨S_, .f32⟩
  | _ => ⟨S528x4224, .f32⟩

abbrev hbmTy0_1 (i : Nat) : BufTy := match i % 128 with
  | 0 => ⟨S4x1, .f32⟩
  | 1 => ⟨S4x1, .f32⟩
  | 2 => ⟨S4x1, .f32⟩
  | 3 => ⟨S4x16x1, .f32⟩
  | 4 => ⟨S4x16x128, .f32⟩
  | 5 => ⟨S4x16x1, .f32⟩
  | 6 => ⟨S4x16x128, .f32⟩
  | 7 => ⟨S4x1x1, .f32⟩
  | 8 => ⟨S4x1x128, .f32⟩
  | 9 => ⟨S1x16x1024, .bf16⟩
  | 10 => ⟨S1x4x128x128, .f32⟩
  | 11 => ⟨S1x4x128x128, .f32⟩
  | 12 => ⟨S1x3x1536, .f32⟩
  | 13 => ⟨S1x16x512, .bf16⟩
  | _ => ⟨S528x4224, .f32⟩

abbrev hbmTy (i : Nat) : BufTy := match i / 128 with
  | 0 => hbmTy0_0 i
  | 1 => hbmTy0_1 i
  | _ => ⟨S528x4224, .f32⟩

abbrev bufTy : (tb : Table) → Fin (tcTables nBuf tb) → BufTy
  | .hbm, ⟨i, _⟩ => hbmTy i
  | .local _ .vmem, ⟨0, _⟩ => ⟨S16x4224, .f32⟩
  | .local _ .vmem, ⟨1, _⟩ => ⟨S1x4x128x128, .f32⟩
  | .local _ .vmem, ⟨2, _⟩ => ⟨S1x4x128x128, .f32⟩
  | .local _ .vmem, ⟨3, _⟩ => ⟨S1x3x1536, .f32⟩
  | .local _ .vmem, ⟨4, _⟩ => ⟨S16x128, .f32⟩
  | .local _ .vmem, ⟨5, _⟩ => ⟨S16x128, .f32⟩
  | .local _ .vmem, ⟨6, _⟩ => ⟨S16x16, .bf16⟩
  | .local _ .vmem, ⟨7, _⟩ => ⟨S4x16x16, .f32⟩
  | .local _ .vmem, ⟨8, _⟩ => ⟨S4x16x128, .f32⟩
  | .local _ .vmem, ⟨9, _⟩ => ⟨S4x16x128, .f32⟩
  | .local _ .vmem, ⟨10, _⟩ => ⟨S4x1x128, .f32⟩
  | .local _ .vmem, ⟨11, _⟩ => ⟨S4x1536, .f32⟩
  | .local _ .vmem, ⟨12, _⟩ => ⟨S1x128, .f32⟩
  | .local _ .vmem, ⟨13, _⟩ => ⟨S1x128, .f32⟩
  | .local _ .vmem, ⟨14, _⟩ => ⟨S4x128, .f32⟩
  | .local _ .vmem, ⟨15, _⟩ => ⟨S1x128, .f32⟩
  | .local _ .vmem, ⟨16, _⟩ => ⟨S1x16x1024, .bf16⟩
  | .local _ .vmem, ⟨17, _⟩ => ⟨S1x4x128x128, .f32⟩
  | .local _ .vmem, ⟨18, _⟩ => ⟨S1x4x128x128, .f32⟩
  | .local _ .vmem, ⟨19, _⟩ => ⟨S1x3x1536, .f32⟩
  | .local _ .vmem, ⟨20, _⟩ => ⟨S1x24x1536, .f32⟩
  | _, _ => ⟨S528x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_call5_v0 : Ref sig .tc := ⟨.hbm, 95, rfl⟩
abbrev main_call5_v1 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_21 : Ref sig .tc := ⟨.hbm, 123, rfl⟩
abbrev main_call6_v0 : Ref sig .tc := ⟨.hbm, 124, rfl⟩
abbrev main_call6_v1 : Ref sig .tc := ⟨.hbm, 125, rfl⟩
abbrev main_v90 : Ref sig .tc := ⟨.hbm, 126, rfl⟩
abbrev main_cst_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100_0 : Ref sig .tc := ⟨.hbm, 137, rfl⟩
abbrev main_v100_1 : Ref sig .tc := ⟨.hbm, 138, rfl⟩
abbrev main_v100_2 : Ref sig .tc := ⟨.hbm, 139, rfl⟩
abbrev main_v100_3 : Ref sig .tc := ⟨.hbm, 140, rfl⟩
abbrev main_v101 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x4224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S16x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x16x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]

abbrev stage0_19 : Fin 1 → Memref sig .tc .vmem S1x3x1536 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false]
-- ==== Reference3Ideal.lean ====
abbrev S528x4224 : Shape := ⟨2, ![528, 4224]⟩
abbrev S1x4x1536 : Shape := ⟨3, ![1, 4, 1536]⟩
abbrev S1x4 : Shape := ⟨2, ![1, 4]⟩
abbrev S1x512 : Shape := ⟨2, ![1, 512]⟩
abbrev S1x128 : Shape := ⟨2, ![1, 128]⟩
abbrev S16x4224 : Shape := ⟨2, ![16, 4224]⟩
abbrev S1x16x4224 : Shape := ⟨3, ![1, 16, 4224]⟩
abbrev S1x16x512 : Shape := ⟨3, ![1, 16, 512]⟩
abbrev S1x16x1536 : Shape := ⟨3, ![1, 16, 1536]⟩
abbrev S16 : Shape := ⟨1, ![16]⟩
abbrev S1x16x4x128 : Shape := ⟨4, ![1, 16, 4, 128]⟩
abbrev S64 : Shape := ⟨1, ![64]⟩
abbrev S_ : Shape := ⟨0, ![]⟩
abbrev S16x1 : Shape := ⟨2, ![16, 1]⟩
abbrev S1x64 : Shape := ⟨2, ![1, 64]⟩
abbrev S16x64 : Shape := ⟨2, ![16, 64]⟩
abbrev S1x16x1x64 : Shape := ⟨4, ![1, 16, 1, 64]⟩
abbrev S1x16x4x64 : Shape := ⟨4, ![1, 16, 4, 64]⟩
abbrev S1x4x16x128 : Shape := ⟨4, ![1, 4, 16, 128]⟩
abbrev S1x4x128x128 : Shape := ⟨4, ![1, 4, 128, 128]⟩
abbrev S4 : Shape := ⟨1, ![4]⟩
abbrev S4x1 : Shape := ⟨2, ![4, 1]⟩
abbrev S1x16 : Shape := ⟨2, ![1, 16]⟩
abbrev S16x16 : Shape := ⟨2, ![16, 16]⟩
abbrev S1x16x16 : Shape := ⟨3, ![1, 16, 16]⟩
abbrev S4x1x1 : Shape := ⟨3, ![4, 1, 1]⟩
abbrev S4x16x16 : Shape := ⟨3, ![4, 16, 16]⟩
abbrev S4x16 : Shape := ⟨2, ![4, 16]⟩
abbrev S1x4x16x1 : Shape := ⟨4, ![1, 4, 16, 1]⟩
abbrev S1x4x1x1 : Shape := ⟨4, ![1, 4, 1, 1]⟩
abbrev S1x4x16x16 : Shape := ⟨4, ![1, 4, 16, 16]⟩
abbrev S512 : Shape := ⟨1, ![512]⟩
abbrev S4x128 : Shape := ⟨2, ![4, 128]⟩
abbrev S1x16x4 : Shape := ⟨3, ![1, 16, 4]⟩
abbrev S1x16x4x1 : Shape := ⟨4, ![1, 16, 4, 1]⟩
abbrev S1x1x4x128 : Shape := ⟨4, ![1, 1, 4, 128]⟩
abbrev S1x3x1536 : Shape := ⟨3, ![1, 3, 1536]⟩
abbrev S1x19x1536 : Shape := ⟨3, ![1, 19, 1536]⟩

abbrev nBuf : Space → Nat
  | .hbm => 198
  | .vmem => 0
  | .smem => 0
  | _ => 0

abbrev hbmTy0_0 (i : Nat) : BufTy := match i % 128 with
  | 0 => ⟨S528x4224, .f32⟩
  | 1 => ⟨S1x4x1536, .f32⟩
  | 2 => ⟨S1x4, .f32⟩
  | 3 => ⟨S1x4, .f32⟩
  | 4 => ⟨S1x512, .f32⟩
  | 5 => ⟨S1x128, .f32⟩
  | 6 => ⟨S16x4224, .f32⟩
  | 7 => ⟨S1x16x4224, .f32⟩
  | 8 => ⟨S1x16x512, .f32⟩
  | 9 => ⟨S1x16x512, .f32⟩
  | 10 => ⟨S1x16x512, .f32⟩
  | 11 => ⟨S1x16x512, .f32⟩
  | 12 => ⟨S1x16x1536, .f32⟩
  | 13 => ⟨S16, .i32⟩
  | 14 => ⟨S1x16x4x128, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S16, .f32⟩
  | 24 => ⟨S16x1, .f32⟩
  | 25 => ⟨S1x64, .f32⟩
  | 26 => ⟨S16x64, .f32⟩
  | 27 => ⟨S16x64, .f32⟩
  | 28 => ⟨S16x64, .f32⟩
  | 29 => ⟨S16x64, .f32⟩
  | 30 => ⟨S1x16x1x64, .f32⟩
  | 31 => ⟨S16x64, .f32⟩
  | 32 => ⟨S1x16x1x64, .f32⟩
  | 33 => ⟨S1x16x4x64, .f32⟩
  | 34 => ⟨S1x16x4x64, .f32⟩
  | 35 => ⟨S1x16x4x64, .f32⟩
  | 36 => ⟨S1x16x4x64, .f32⟩
  | 37 => ⟨S1x16x4x64, .f32⟩
  | 38 => ⟨S1x16x4x64, .f32⟩
  | 39 => ⟨S1x16x4x64, .f32⟩
  | 40 => ⟨S1x16x4x64, .f32⟩
  | 41 => ⟨S1x16x4x64, .f32⟩
  | 42 => ⟨S1x16x4x64, .f32⟩
  | 43 => ⟨S1x16x4x64, .f32⟩
  | 44 => ⟨S1x16x4x64, .f32⟩
  | 45 => ⟨S1x16x4x128, .f32⟩
  | 46 => ⟨S1x4x16x128, .f32⟩
  | 47 => ⟨S1x16x4x128, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S16, .f32⟩
  | 57 => ⟨S16x1, .f32⟩
  | 58 => ⟨S1x64, .f32⟩
  | 59 => ⟨S16x64, .f32⟩
  | 60 => ⟨S16x64, .f32⟩
  | 61 => ⟨S16x64, .f32⟩
  | 62 => ⟨S16x64, .f32⟩
  | 63 => ⟨S1x16x1x64, .f32⟩
  | 64 => ⟨S16x64, .f32⟩
  | 65 => ⟨S1x16x1x64, .f32⟩
  | 66 => ⟨S1x16x4x64, .f32⟩
  | 67 => ⟨S1x16x4x64, .f32⟩
  | 68 => ⟨S1x16x4x64, .f32⟩
  | 69 => ⟨S1x16x4x64, .f32⟩
  | 70 => ⟨S1x16x4x64, .f32⟩
  | 71 => ⟨S1x16x4x64, .f32⟩
  | 72 => ⟨S1x16x4x64, .f32⟩
  | 73 => ⟨S1x16x4x64, .f32⟩
  | 74 => ⟨S1x16x4x64, .f32⟩
  | 75 => ⟨S1x16x4x64, .f32⟩
  | 76 => ⟨S1x16x4x64, .f32⟩
  | 77 => ⟨S1x16x4x64, .f32⟩
  | 78 => ⟨S1x16x4x128, .f32⟩
  | 79 => ⟨S1x4x16x128, .f32⟩
  | 80 => ⟨S_, .f32⟩
  | 81 => ⟨S1x4x16x128, .f32⟩
  | 82 => ⟨S1x4x16x128, .f32⟩
  | 83 => ⟨S1x16x4x128, .f32⟩
  | 84 => ⟨S1x4x16x128, .f32⟩
  | 85 => ⟨S_, .f32⟩
  | 86 => ⟨S1x4x128x128, .f32⟩
  | 87 => ⟨S4, .f32⟩
  | 88 => ⟨S_, .f32⟩
  | 89 => ⟨S4, .f32⟩
  | 90 => ⟨S4, .f32⟩
  | 91 => ⟨S_, .f32⟩
  | 92 => ⟨S4, .f32⟩
  | 93 => ⟨S4, .f32⟩
  | 94 => ⟨S4, .f32⟩
  | 95 => ⟨S4, .f32⟩
  | 96 => ⟨S16, .f32⟩
  | 97 => ⟨S4x1, .f32⟩
  | 98 => ⟨S16x1, .f32⟩
  | 99 => ⟨S1x16, .f32⟩
  | 100 => ⟨S16x16, .f32⟩
  | 101 => ⟨S16x16, .f32⟩
  | 102 => ⟨S16x16, .f32⟩
  | 103 => ⟨S1x16x16, .f32⟩
  | 104 => ⟨S_, .f32⟩
  | 105 => ⟨S1x16x16, .f32⟩
  | 106 => ⟨S1x16x16, .i1⟩
  | 107 => ⟨S4x1x1, .f32⟩
  | 108 => ⟨S1x16x16, .f32⟩
  | 109 => ⟨S4x16x16, .f32⟩
  | 110 => ⟨S4x16x16, .f32⟩
  | 111 => ⟨S4x16x16, .f32⟩
  | 112 => ⟨S_, .f32⟩
  | 113 => ⟨S_, .f32⟩
  | 114 => ⟨S4x16x16, .i1⟩
  | 115 => ⟨S4x16x16, .f32⟩
  | 116 => ⟨S4x16x16, .f32⟩
  | 117 => ⟨S4x16x16, .f32⟩
  | 118 => ⟨S_, .f32⟩
  | 119 => ⟨S16, .f32⟩
  | 120 => ⟨S16, .f32⟩
  | 121 => ⟨S1x16, .f32⟩
  | 122 => ⟨S4x16, .f32⟩
  | 123 => ⟨S4x16, .f32⟩
  | 124 => ⟨S4x16, .f32⟩
  | 125 => ⟨S4x16, .f32⟩
  | 126 => ⟨S1x4x16x1, .f32⟩
  | 127 => ⟨S_, .f32⟩
  | _ => ⟨S528x4224, .f32⟩

abbrev hbmTy0_1 (i : Nat) : BufTy := match i % 128 with
  | 0 => ⟨S16, .f32⟩
  | 1 => ⟨S16, .f32⟩
  | 2 => ⟨S1x16, .f32⟩
  | 3 => ⟨S4x16, .f32⟩
  | 4 => ⟨S4x16, .f32⟩
  | 5 => ⟨S4x16, .f32⟩
  | 6 => ⟨S4x16, .f32⟩
  | 7 => ⟨S1x4x16x1, .f32⟩
  | 8 => ⟨S_, .f32⟩
  | 9 => ⟨S4, .f32⟩
  | 10 => ⟨S4, .f32⟩
  | 11 => ⟨S4, .f32⟩
  | 12 => ⟨S1x4x1x1, .f32⟩
  | 13 => ⟨S1x4x16x16, .f32⟩
  | 14 => ⟨S1x4x16x16, .f32⟩
  | 15 => ⟨S1x4x16x16, .f32⟩
  | 16 => ⟨S1x4x16x128, .f32⟩
  | 17 => ⟨S1x4x16x128, .f32⟩
  | 18 => ⟨S1x4x16x128, .f32⟩
  | 19 => ⟨S1x4x128x128, .f32⟩
  | 20 => ⟨S1x4x16x128, .f32⟩
  | 21 => ⟨S1x4x16x128, .f32⟩
  | 22 => ⟨S1x4x16x128, .f32⟩
  | 23 => ⟨S1x4x16x128, .f32⟩
  | 24 => ⟨S1x4x128x128, .f32⟩
  | 25 => ⟨S1x4x128x128, .f32⟩
  | 26 => ⟨S1x4x128x128, .f32⟩
  | 27 => ⟨S1x16x4x128, .f32⟩
  | 28 => ⟨S512, .f32⟩
  | 29 => ⟨S4x128, .f32⟩
  | 30 => ⟨S_, .f32⟩
  | 31 => ⟨S1x16x4, .f32⟩
  | 32 => ⟨S1x16x4x1, .f32⟩
  | 33 => ⟨S_, .f32⟩
  | 34 => ⟨S1x16x4x1, .f32⟩
  | 35 => ⟨S1x16x4x1, .f32⟩
  | 36 => ⟨S1x16x4x128, .f32⟩
  | 37 => ⟨S1x16x4x128, .f32⟩
  | 38 => ⟨S1x16x4x128, .f32⟩
  | 39 => ⟨S_, .f32⟩
  | 40 => ⟨S1x16x4, .f32⟩
  | 41 => ⟨S1x16x4x1, .f32⟩
  | 42 => ⟨S_, .f32⟩
  | 43 => ⟨S1x16x4x1, .f32⟩
  | 44 => ⟨S1x16x4x1, .f32⟩
  | 45 => ⟨S_, .f32⟩
  | 46 => ⟨S1x16x4x1, .f32⟩
  | 47 => ⟨S1x16x4x1, .f32⟩
  | 48 => ⟨S1x16x4x1, .f32⟩
  | 49 => ⟨S1x16x4x128, .f32⟩
  | 50 => ⟨S1x16x4x128, .f32⟩
  | 51 => ⟨S1x1x4x128, .f32⟩
  | 52 => ⟨S1x16x4x128, .f32⟩
  | 53 => ⟨S1x16x4x128, .f32⟩
  | 54 => ⟨S1x16x512, .f32⟩
  | 55 => ⟨S1x16x512, .f32⟩
  | 56 => ⟨S1x16x512, .f32⟩
  | 57 => ⟨S_, .f32⟩
  | 58 => ⟨S1x16x512, .f32⟩
  | 59 => ⟨S1x16x512, .f32⟩
  | 60 => ⟨S_, .f32⟩
  | 61 => ⟨S1x16x512, .f32⟩
  | 62 => ⟨S1x16x512, .f32⟩
  | 63 => ⟨S1x16x512, .f32⟩
  | 64 => ⟨S1x16x512, .f32⟩
  | 65 => ⟨S_, .f32⟩
  | 66 => ⟨S1x3x1536, .f32⟩
  | 67 => ⟨S1x19x1536, .f32⟩
  | 68 => ⟨S1x16x512, .bf16⟩
  | 69 => ⟨S1x3x1536, .f32⟩
  | _ => ⟨S528x4224, .f32⟩

abbrev hbmTy (i : Nat) : BufTy := match i / 128 with
  | 0 => hbmTy0_0 i
  | 1 => hbmTy0_1 i
  | _ => ⟨S528x4224, .f32⟩

abbrev bufTy : (tb : Table) → Fin (tcTables nBuf tb) → BufTy
  | .hbm, ⟨i, _⟩ => hbmTy i
  | _, _ => ⟨S528x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_3 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_v75 : Ref sig .tc := ⟨.hbm, 87, rfl⟩
abbrev main_cst_5 : Ref sig .tc := ⟨.hbm, 88, rfl⟩
abbrev main_v76 : Ref sig .tc := ⟨.hbm, 89, rfl⟩
abbrev main_v77 : Ref sig .tc := ⟨.hbm, 90, rfl⟩
abbrev main_cst_6 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_7 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_v97 : Ref sig .tc := ⟨.hbm, 116, rfl⟩
abbrev main_v98 : Ref sig .tc := ⟨.hbm, 117, rfl⟩
abbrev main_cst_9 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_10 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_11 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_12 : Ref sig .tc := ⟨.hbm, 158, rfl⟩
abbrev main_v136 : Ref sig .tc := ⟨.hbm, 159, rfl⟩
abbrev main_v137 : Ref sig .tc := ⟨.hbm, 160, rfl⟩
abbrev main_cst_13 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_14 : Ref sig .tc := ⟨.hbm, 167, rfl⟩
abbrev main_v143 : Ref sig .tc := ⟨.hbm, 168, rfl⟩
abbrev main_v144 : Ref sig .tc := ⟨.hbm, 169, rfl⟩
abbrev main_cst_15 : Ref sig .tc := ⟨.hbm, 170, rfl⟩
abbrev main_v145 : Ref sig .tc := ⟨.hbm, 171, rfl⟩
abbrev main_v146 : Ref sig .tc := ⟨.hbm, 172, rfl⟩
abbrev main_cst_16 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_call1_v0 : Ref sig .tc := ⟨.hbm, 183, rfl⟩
abbrev main_call1_v1 : Ref sig .tc := ⟨.hbm, 184, rfl⟩
abbrev main_call1_cst : Ref sig .tc := ⟨.hbm, 185, rfl⟩
abbrev main_call1_v2 : Ref sig .tc := ⟨.hbm, 186, rfl⟩
abbrev main_call1_v3 : Ref sig .tc := ⟨.hbm, 187, rfl⟩
abbrev main_call1_cst_0 : Ref sig .tc := ⟨.hbm, 188, rfl⟩
abbrev main_call1_v4 : Ref sig .tc := ⟨.hbm, 189, rfl⟩
abbrev main_call1_v5 : Ref sig .tc := ⟨.hbm, 190, rfl⟩
abbrev main_v156 : Ref sig .tc := ⟨.hbm, 191, rfl⟩
abbrev main_v157 : Ref sig .tc := ⟨.hbm, 192, rfl⟩
abbrev main_cst_17 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩

abbrev nD : Nat := 1
abbrev τ : Topo := Topo.v7x

variable {F : FTy → Type} [FloatOps F]
-- ==== Kernel4.lean ====
abbrev S528x4224 : Shape := ⟨2, ![528, 4224]⟩
abbrev S1x4x1536 : Shape := ⟨3, ![1, 4, 1536]⟩
abbrev S1x4 : Shape := ⟨2, ![1, 4]⟩
abbrev S1x512 : Shape := ⟨2, ![1, 512]⟩
abbrev S1x128 : Shape := ⟨2, ![1, 128]⟩
abbrev S16x16 : Shape := ⟨2, ![16, 16]⟩
abbrev S4x1536 : Shape := ⟨2, ![4, 1536]⟩
abbrev S4 : Shape := ⟨1, ![4]⟩
abbrev S_ : Shape := ⟨0, ![]⟩
abbrev S128 : Shape := ⟨1, ![128]⟩
abbrev S512 : Shape := ⟨1, ![512]⟩
abbrev S4x128 : Shape := ⟨2, ![4, 128]⟩
abbrev S64 : Shape := ⟨1, ![64]⟩
abbrev S2072x128 : Shape := ⟨2, ![2072, 128]⟩
abbrev S1x4x128x128 : Shape := ⟨4, ![1, 4, 128, 128]⟩
abbrev S1x3x1536 : Shape := ⟨3, ![1, 3, 1536]⟩
abbrev S4x1 : Shape := ⟨2, ![4, 1]⟩
abbrev S16 : Shape := ⟨1, ![16]⟩
abbrev S16x1 : Shape := ⟨2, ![16, 1]⟩
abbrev S1x16 : Shape := ⟨2, ![1, 16]⟩
abbrev S1x16x16 : Shape := ⟨3, ![1, 16, 16]⟩
abbrev S4x1x1 : Shape := ⟨3, ![4, 1, 1]⟩
abbrev S4x16x16 : Shape := ⟨3, ![4, 16, 16]⟩
abbrev S4x16 : Shape := ⟨2, ![4, 16]⟩
abbrev S4x16x1 : Shape := ⟨3, ![4, 16, 1]⟩
abbrev S4x16x128 : Shape := ⟨3, ![4, 16, 128]⟩
abbrev S4x1x128 : Shape := ⟨3, ![4, 1, 128]⟩
abbrev S1x16x1024 : Shape := ⟨3, ![1, 16, 1024]⟩
abbrev S16x4224 : Shape := ⟨2, ![16, 4224]⟩
abbrev S16x128 : Shape := ⟨2, ![16, 128]⟩
abbrev S1x24x1536 : Shape := ⟨3, ![1, 24, 1536]⟩
abbrev S1x16x128 : Shape := ⟨3, ![1, 16, 128]⟩
abbrev S128x128 : Shape := ⟨2, ![128, 128]⟩
abbrev S1x1x128x128 : Shape := ⟨4, ![1, 1, 128, 128]⟩
abbrev S1x1x128 : Shape := ⟨3, ![1, 1, 128]⟩
abbrev S1x1536 : Shape := ⟨2, ![1, 1536]⟩
abbrev S16x1536 : Shape := ⟨2, ![16, 1536]⟩
abbrev S1x16x1536 : Shape := ⟨3, ![1, 16, 1536]⟩
abbrev S1x1x1536 : Shape := ⟨3, ![1, 1, 1536]⟩
abbrev S1x2x1536 : Shape := ⟨3, ![1, 2, 1536]⟩
abbrev S2x1536 : Shape := ⟨2, ![2, 1536]⟩
abbrev S3x1536 : Shape := ⟨2, ![3, 1536]⟩
abbrev S128x16 : Shape := ⟨2, ![128, 16]⟩
abbrev S128x1 : Shape := ⟨2, ![128, 1]⟩
abbrev S32x128 : Shape := ⟨2, ![32, 128]⟩
abbrev S32x16 : Shape := ⟨2, ![32, 16]⟩
abbrev S16x256 : Shape := ⟨2, ![16, 256]⟩
abbrev S1x16x512 : Shape := ⟨3, ![1, 16, 512]⟩

abbrev nBuf : Space → Nat
  | .hbm => 142
  | .vmem => 21
  | .smem => 0
  | _ => 0

abbrev hbmTy0_0 (i : Nat) : BufTy := match i % 128 with
  | 0 => ⟨S528x4224, .f32⟩
  | 1 => ⟨S1x4x1536, .f32⟩
  | 2 => ⟨S1x4, .f32⟩
  | 3 => ⟨S1x4, .f32⟩
  | 4 => ⟨S1x512, .f32⟩
  | 5 => ⟨S1x128, .f32⟩
  | 6 => ⟨S16x16, .bf16⟩
  | 7 => ⟨S4x1536, .f32⟩
  | 8 => ⟨S4, .f32⟩
  | 9 => ⟨S_, .i32⟩
  | 10 => ⟨S_, .f32⟩
  | 11 => ⟨S128, .f32⟩
  | 12 => ⟨S1x128, .f32⟩
  | 13 => ⟨S4, .f32⟩
  | 14 => ⟨S_, .i32⟩
  | 15 => ⟨S_, .f32⟩
  | 16 => ⟨S128, .f32⟩
  | 17 => ⟨S1x128, .f32⟩
  | 18 => ⟨S512, .f32⟩
  | 19 => ⟨S4x128, .f32⟩
  | 20 => ⟨S128, .f32⟩
  | 21 => ⟨S1x128, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S128, .f32⟩
  | 31 => ⟨S1x128, .f32⟩
  | 32 => ⟨S2072x128, .i32⟩
  | 33 => ⟨S_, .i32⟩
  | 34 => ⟨S2072x128, .i32⟩
  | 35 => ⟨S2072x128, .i32⟩
  | 36 => ⟨S_, .i32⟩
  | 37 => ⟨S2072x128, .i32⟩
  | 38 => ⟨S2072x128, .i1⟩
  | 39 => ⟨S_, .i32⟩
  | 40 => ⟨S2072x128, .i32⟩
  | 41 => ⟨S2072x128, .i32⟩
  | 42 => ⟨S2072x128, .i32⟩
  | 43 => ⟨S_, .i32⟩
  | 44 => ⟨S2072x128, .i32⟩
  | 45 => ⟨S2072x128, .i1⟩
  | 46 => ⟨S_, .i32⟩
  | 47 => ⟨S2072x128, .i32⟩
  | 48 => ⟨S2072x128, .i32⟩
  | 49 => ⟨S2072x128, .i32⟩
  | 50 => ⟨S2072x128, .f32⟩
  | 51 => ⟨S2072x128, .f32⟩
  | 52 => ⟨S2072x128, .f32⟩
  | 53 => ⟨S2072x128, .i32⟩
  | 54 => ⟨S2072x128, .f32⟩
  | 55 => ⟨S2072x128, .f32⟩
  | 56 => ⟨S_, .i32⟩
  | 57 => ⟨S2072x128, .i32⟩
  | 58 => ⟨S2072x128, .i1⟩
  | 59 => ⟨S2072x128, .f32⟩
  | 60 => ⟨S2072x128, .f32⟩
  | 61 => ⟨S_, .f32⟩
  | 62 => ⟨S1x4x128x128, .f32⟩
  | 63 => ⟨S_, .f32⟩
  | 64 => ⟨S1x3x1536, .f32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S4, .f32⟩
  | 73 => ⟨S4, .f32⟩
  | 74 => ⟨S4x1, .f32⟩
  | 75 => ⟨S16, .f32⟩
  | 76 => ⟨S16x1, .f32⟩
  | 77 => ⟨S1x16, .f32⟩
  | 78 => ⟨S16x16, .f32⟩
  | 79 => ⟨S16x16, .f32⟩
  | 80 => ⟨S16x16, .f32⟩
  | 81 => ⟨S1x16x16, .f32⟩
  | 82 => ⟨S_, .f32⟩
  | 83 => ⟨S1x16x16, .f32⟩
  | 84 => ⟨S1x16x16, .i1⟩
  | 85 => ⟨S4x1x1, .f32⟩
  | 86 => ⟨S1x16x16, .f32⟩
  | 87 => ⟨S_, .f32⟩
  | 88 => ⟨S1x16x16, .f32⟩
  | 89 => ⟨S1x16x16, .f32⟩
  | 90 => ⟨S4x16x16, .f32⟩
  | 91 => ⟨S4x16x16, .f32⟩
  | 92 => ⟨S4x16x16, .f32⟩
  | 93 => ⟨S4x16x16, .f32⟩
  | 94 => ⟨S_, .f32⟩
  | 95 => ⟨S4x16x16, .i1⟩
  | 96 => ⟨S4x16x16, .f32⟩
  | 97 => ⟨S4x16x16, .f32⟩
  | 98 => ⟨S_, .f32⟩
  | 99 => ⟨S16, .f32⟩
  | 100 => ⟨S16, .f32⟩
  | 101 => ⟨S1x16, .f32⟩
  | 102 => ⟨S4x16, .f32⟩
  | 103 => ⟨S4x16, .f32⟩
  | 104 => ⟨S4x16, .f32⟩
  | 105 => ⟨S4x16, .f32⟩
  | 106 => ⟨S1x16, .f32⟩
  | 107 => ⟨S_, .f32⟩
  | 108 => ⟨S1x16, .f32⟩
  | 109 => ⟨S1x16, .i1⟩
  | 110 => ⟨S_, .f32⟩
  | 111 => ⟨S_, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S1x16, .f32⟩
  | 119 => ⟨S4x16, .f32⟩
  | 120 => ⟨S4x16, .f32⟩
  | 121 => ⟨S4x16, .f32⟩
  | 122 => ⟨S4x16, .f32⟩
  | 123 => ⟨S_, .f32⟩
  | 124 => ⟨S4x16, .i1⟩
  | 125 => ⟨S4x16, .f32⟩
  | 126 => ⟨S4x16, .f32⟩
  | 127 => ⟨S_, .f32⟩
  | _ => ⟨S528x4224, .f32⟩

abbrev hbmTy0_1 (i : Nat) : BufTy := match i % 128 with
  | 0 => ⟨S4x1, .f32⟩
  | 1 => ⟨S4x1, .f32⟩
  | 2 => ⟨S4x1, .f32⟩
  | 3 => ⟨S4x16x1, .f32⟩
  | 4 => ⟨S4x16x128, .f32⟩
  | 5 => ⟨S4x16x1, .f32⟩
  | 6 => ⟨S4x16x128, .f32⟩
  | 7 => ⟨S4x1x1, .f32⟩
  | 8 => ⟨S4x1x128, .f32⟩
  | 9 => ⟨S1x16x1024, .bf16⟩
  | 10 => ⟨S1x4x128x128, .f32⟩
  | 11 => ⟨S1x4x128x128, .f32⟩
  | 12 => ⟨S1x3x1536, .f32⟩
  | 13 => ⟨S1x16x512, .bf16⟩
  | _ => ⟨S528x4224, .f32⟩

abbrev hbmTy (i : Nat) : BufTy := match i / 128 with
  | 0 => hbmTy0_0 i
  | 1 => hbmTy0_1 i
  | _ => ⟨S528x4224, .f32⟩

abbrev bufTy : (tb : Table) → Fin (tcTables nBuf tb) → BufTy
  | .hbm, ⟨i, _⟩ => hbmTy i
  | .local _ .vmem, ⟨0, _⟩ => ⟨S16x4224, .f32⟩
  | .local _ .vmem, ⟨1, _⟩ => ⟨S1x4x128x128, .f32⟩
  | .local _ .vmem, ⟨2, _⟩ => ⟨S1x4x128x128, .f32⟩
  | .local _ .vmem, ⟨3, _⟩ => ⟨S1x3x1536, .f32⟩
  | .local _ .vmem, ⟨4, _⟩ => ⟨S16x128, .f32⟩
  | .local _ .vmem, ⟨5, _⟩ => ⟨S16x128, .f32⟩
  | .local _ .vmem, ⟨6, _⟩ => ⟨S16x16, .bf16⟩
  | .local _ .vmem, ⟨7, _⟩ => ⟨S4x16x16, .f32⟩
  | .local _ .vmem, ⟨8, _⟩ => ⟨S4x16x128, .f32⟩
  | .local _ .vmem, ⟨9, _⟩ => ⟨S4x16x128, .f32⟩
  | .local _ .vmem, ⟨10, _⟩ => ⟨S4x1x128, .f32⟩
  | .local _ .vmem, ⟨11, _⟩ => ⟨S4x1536, .f32⟩
  | .local _ .vmem, ⟨12, _⟩ => ⟨S1x128, .f32⟩
  | .local _ .vmem, ⟨13, _⟩ => ⟨S1x128, .f32⟩
  | .local _ .vmem, ⟨14, _⟩ => ⟨S4x128, .f32⟩
  | .local _ .vmem, ⟨15, _⟩ => ⟨S1x128, .f32⟩
  | .local _ .vmem, ⟨16, _⟩ => ⟨S1x16x1024, .bf16⟩
  | .local _ .vmem, ⟨17, _⟩ => ⟨S1x4x128x128, .f32⟩
  | .local _ .vmem, ⟨18, _⟩ => ⟨S1x4x128x128, .f32⟩
  | .local _ .vmem, ⟨19, _⟩ => ⟨S1x3x1536, .f32⟩
  | .local _ .vmem, ⟨20, _⟩ => ⟨S1x24x1536, .f32⟩
  | _, _ => ⟨S528x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_call5_v0 : Ref sig .tc := ⟨.hbm, 95, rfl⟩
abbrev main_call5_v1 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_21 : Ref sig .tc := ⟨.hbm, 123, rfl⟩
abbrev main_call6_v0 : Ref sig .tc := ⟨.hbm, 124, rfl⟩
abbrev main_call6_v1 : Ref sig .tc := ⟨.hbm, 125, rfl⟩
abbrev main_v90 : Ref sig .tc := ⟨.hbm, 126, rfl⟩
abbrev main_cst_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100_0 : Ref sig .tc := ⟨.hbm, 137, rfl⟩
abbrev main_v100_1 : Ref sig .tc := ⟨.hbm, 138, rfl⟩
abbrev main_v100_2 : Ref sig .tc := ⟨.hbm, 139, rfl⟩
abbrev main_v100_3 : Ref sig .tc := ⟨.hbm, 140, rfl⟩
abbrev main_v101 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_scratch0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x4224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S16x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x16x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]

abbrev stage0_19 : Fin 1 → Memref sig .tc .vmem S1x3x1536 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, false]
-- ==== Reference4Ideal.lean ====
abbrev S528x4224 : Shape := ⟨2, ![528, 4224]⟩
abbrev S1x4x1536 : Shape := ⟨3, ![1, 4, 1536]⟩
abbrev S1x4 : Shape := ⟨2, ![1, 4]⟩
abbrev S1x512 : Shape := ⟨2, ![1, 512]⟩
abbrev S1x128 : Shape := ⟨2, ![1, 128]⟩
abbrev S16x4224 : Shape := ⟨2, ![16, 4224]⟩
abbrev S1x16x4224 : Shape := ⟨3, ![1, 16, 4224]⟩
abbrev S1x16x1536 : Shape := ⟨3, ![1, 16, 1536]⟩
abbrev S1x16x512 : Shape := ⟨3, ![1, 16, 512]⟩
abbrev S1x16x4 : Shape := ⟨3, ![1, 16, 4]⟩
abbrev S_ : Shape := ⟨0, ![]⟩
abbrev S1x3x1536 : Shape := ⟨3, ![1, 3, 1536]⟩
abbrev S4x1536 : Shape := ⟨2, ![4, 1536]⟩
abbrev S1x19x1536 : Shape := ⟨3, ![1, 19, 1536]⟩
abbrev S1x1536 : Shape := ⟨2, ![1, 1536]⟩
abbrev S1536 : Shape := ⟨1, ![1536]⟩
abbrev S1x1x1536 : Shape := ⟨3, ![1, 1, 1536]⟩
abbrev S1x16x4x128 : Shape := ⟨4, ![1, 16, 4, 128]⟩
abbrev S1x4x16x128 : Shape := ⟨4, ![1, 4, 16, 128]⟩
abbrev S1x4x16 : Shape := ⟨3, ![1, 4, 16]⟩
abbrev S1x4x16x1 : Shape := ⟨4, ![1, 4, 16, 1]⟩
abbrev S4 : Shape := ⟨1, ![4]⟩
abbrev S1x1x4 : Shape := ⟨3, ![1, 1, 4]⟩
abbrev S1x4x128x128 : Shape := ⟨4, ![1, 4, 128, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x4x1x16 : Shape := ⟨4, ![1, 4, 1, 16]⟩
abbrev S1x4x16x16 : Shape := ⟨4, ![1, 4, 16, 16]⟩
abbrev S1x4x1 : Shape := ⟨3, ![1, 4, 1]⟩
abbrev S1x4x1x1 : Shape := ⟨4, ![1, 4, 1, 1]⟩
abbrev S128 : Shape := ⟨1, ![128]⟩
abbrev S1x16x4x1 : Shape := ⟨4, ![1, 16, 4, 1]⟩
abbrev S1x1x1x128 : Shape := ⟨4, ![1, 1, 1, 128]⟩

abbrev nBuf : Space → Nat
  | .hbm => 445
  | .vmem => 0
  | .smem => 0
  | _ => 0

abbrev hbmTy0_0 (i : Nat) : BufTy := match i % 128 with
  | 0 => ⟨S528x4224, .f32⟩
  | 1 => ⟨S1x4x1536, .f32⟩
  | 2 => ⟨S1x4, .f32⟩
  | 3 => ⟨S1x4, .f32⟩
  | 4 => ⟨S1x512, .f32⟩
  | 5 => ⟨S1x128, .f32⟩
  | 6 => ⟨S16x4224, .f32⟩
  | 7 => ⟨S1x16x4224, .f32⟩
  | 8 => ⟨S1x16x1536, .f32⟩
  | 9 => ⟨S1x16x512, .f32⟩
  | 10 => ⟨S1x16x4, .f32⟩
  | 11 => ⟨S1x16x4, .f32⟩
  | 12 => ⟨S_, .f32⟩
  | 13 => ⟨S1x3x1536, .f32⟩
  | 14 => ⟨S4x1536, .f32⟩
  | 15 => ⟨S1x19x1536, .f32⟩
  | 16 => ⟨S1x16x1536, .f32⟩
  | 17 => ⟨S1x1536, .f32⟩
  | 18 => ⟨S1536, .f32⟩
  | 19 => ⟨S1x1x1536, .f32⟩
  | 20 => ⟨S1x16x1536, .f32⟩
  | 21 => ⟨S1x16x1536, .f32⟩
  | 22 => ⟨S1x16x1536, .f32⟩
  | 23 => ⟨S1x1536, .f32⟩
  | 24 => ⟨S1536, .f32⟩
  | 25 => ⟨S1x1x1536, .f32⟩
  | 26 => ⟨S1x16x1536, .f32⟩
  | 27 => ⟨S1x16x1536, .f32⟩
  | 28 => ⟨S1x16x1536, .f32⟩
  | 29 => ⟨S1x16x1536, .f32⟩
  | 30 => ⟨S1x1536, .f32⟩
  | 31 => ⟨S1536, .f32⟩
  | 32 => ⟨S1x1x1536, .f32⟩
  | 33 => ⟨S1x16x1536, .f32⟩
  | 34 => ⟨S1x16x1536, .f32⟩
  | 35 => ⟨S1x16x1536, .f32⟩
  | 36 => ⟨S1x16x1536, .f32⟩
  | 37 => ⟨S1x1536, .f32⟩
  | 38 => ⟨S1536, .f32⟩
  | 39 => ⟨S1x1x1536, .f32⟩
  | 40 => ⟨S1x16x1536, .f32⟩
  | 41 => ⟨S1x16x1536, .f32⟩
  | 42 => ⟨S1x16x1536, .f32⟩
  | 43 => ⟨S1x3x1536, .f32⟩
  | 44 => ⟨S1x16x1536, .f32⟩
  | 45 => ⟨S1x16x1536, .f32⟩
  | 46 => ⟨S_, .f32⟩
  | 47 => ⟨S1x16x1536, .f32⟩
  | 48 => ⟨S1x16x1536, .f32⟩
  | 49 => ⟨S_, .f32⟩
  | 50 => ⟨S1x16x1536, .f32⟩
  | 51 => ⟨S1x16x1536, .f32⟩
  | 52 => ⟨S1x16x1536, .f32⟩
  | 53 => ⟨S1x16x512, .f32⟩
  | 54 => ⟨S1x16x512, .f32⟩
  | 55 => ⟨S1x16x512, .f32⟩
  | 56 => ⟨S1x16x4x128, .f32⟩
  | 57 => ⟨S1x4x16x128, .f32⟩
  | 58 => ⟨S1x4x16x128, .f32⟩
  | 59 => ⟨S_, .f32⟩
  | 60 => ⟨S1x4x16, .f32⟩
  | 61 => ⟨S1x4x16x1, .f32⟩
  | 62 => ⟨S_, .f32⟩
  | 63 => ⟨S1x4x16x1, .f32⟩
  | 64 => ⟨S1x4x16x1, .f32⟩
  | 65 => ⟨S1x4x16x1, .f32⟩
  | 66 => ⟨S1x4x16x128, .f32⟩
  | 67 => ⟨S1x4x16x128, .f32⟩
  | 68 => ⟨S_, .f32⟩
  | 69 => ⟨S1x4x16x128, .f32⟩
  | 70 => ⟨S1x4x16x128, .f32⟩
  | 71 => ⟨S1x16x4x128, .f32⟩
  | 72 => ⟨S1x4x16x128, .f32⟩
  | 73 => ⟨S1x4x16x128, .f32⟩
  | 74 => ⟨S_, .f32⟩
  | 75 => ⟨S1x4x16, .f32⟩
  | 76 => ⟨S1x4x16x1, .f32⟩
  | 77 => ⟨S_, .f32⟩
  | 78 => ⟨S1x4x16x1, .f32⟩
  | 79 => ⟨S1x4x16x1, .f32⟩
  | 80 => ⟨S1x4x16x1, .f32⟩
  | 81 => ⟨S1x4x16x128, .f32⟩
  | 82 => ⟨S1x4x16x128, .f32⟩
  | 83 => ⟨S1x16x4, .f32⟩
  | 84 => ⟨S1x16x4, .f32⟩
  | 85 => ⟨S_, .f32⟩
  | 86 => ⟨S1x16x4, .f32⟩
  | 87 => ⟨S1x16x4, .f32⟩
  | 88 => ⟨S_, .f32⟩
  | 89 => ⟨S1x16x4, .f32⟩
  | 90 => ⟨S1x16x4, .f32⟩
  | 91 => ⟨S1x4x16, .f32⟩
  | 92 => ⟨S4, .f32⟩
  | 93 => ⟨S4, .f32⟩
  | 94 => ⟨S4, .f32⟩
  | 95 => ⟨S4, .f32⟩
  | 96 => ⟨S1x1x4, .f32⟩
  | 97 => ⟨S1x16x4, .f32⟩
  | 98 => ⟨S1x16x4, .f32⟩
  | 99 => ⟨S_, .f32⟩
  | 100 => ⟨S1x16x4, .f32⟩
  | 101 => ⟨S1x16x4, .f32⟩
  | 102 => ⟨S1x16x4, .f32⟩
  | 103 => ⟨S1x16x4, .f32⟩
  | 104 => ⟨S1x16x4, .i1⟩
  | 105 => ⟨S1x16x4, .f32⟩
  | 106 => ⟨S1x16x4, .f32⟩
  | 107 => ⟨S1x16x4, .f32⟩
  | 108 => ⟨S1x16x4, .f32⟩
  | 109 => ⟨S1x16x4, .f32⟩
  | 110 => ⟨S1x16x4, .f32⟩
  | 111 => ⟨S1x16x4, .f32⟩
  | 112 => ⟨S1x16x4, .f32⟩
  | 113 => ⟨S1x1x4, .f32⟩
  | 114 => ⟨S1x16x4, .f32⟩
  | 115 => ⟨S1x16x4, .f32⟩
  | 116 => ⟨S1x4x16, .f32⟩
  | 117 => ⟨S_, .f32⟩
  | 118 => ⟨S1x4x128x128, .f32⟩
  | 119 => ⟨S1x16x4x128, .f32⟩
  | 120 => ⟨S1x4x16x128, .f32⟩
  | 121 => ⟨S16, .i32⟩
  | 122 => ⟨S16x1, .i32⟩
  | 123 => ⟨S1x16, .i32⟩
  | 124 => ⟨S16x16, .i32⟩
  | 125 => ⟨S16x16, .i32⟩
  | 126 => ⟨S16x16, .i1⟩
  | 127 => ⟨S16x1, .i32⟩
  | _ => ⟨S528x4224, .f32⟩

abbrev hbmTy0_1 (i : Nat) : BufTy := match i % 128 with
  | 0 => ⟨S1x16, .i32⟩
  | 1 => ⟨S16x16, .i32⟩
  | 2 => ⟨S16x16, .i32⟩
  | 3 => ⟨S16x16, .i1⟩
  | 4 => ⟨S1x4x1x16, .f32⟩
  | 5 => ⟨S_, .f32⟩
  | 6 => ⟨S_, .f32⟩
  | 7 => ⟨S1x4x16x16, .i1⟩
  | 8 => ⟨S1x4x16x16, .f32⟩
  | 9 => ⟨S1x4x16x16, .f32⟩
  | 10 => ⟨S1x4x16x16, .f32⟩
  | 11 => ⟨S_, .f32⟩
  | 12 => ⟨S1x4x16, .f32⟩
  | 13 => ⟨S1x4x16x1, .f32⟩
  | 14 => ⟨S1x4x1x16, .f32⟩
  | 15 => ⟨S1x4x16x16, .f32⟩
  | 16 => ⟨S1x4x16x16, .f32⟩
  | 17 => ⟨S1x4x16x16, .f32⟩
  | 18 => ⟨S_, .f32⟩
  | 19 => ⟨S_, .f32⟩
  | 20 => ⟨S1x4x16x16, .i1⟩
  | 21 => ⟨S1x4x16x16, .f32⟩
  | 22 => ⟨S1x4x16x16, .f32⟩
  | 23 => ⟨S1x4x16x16, .f32⟩
  | 24 => ⟨S1x4x16x16, .f32⟩
  | 25 => ⟨S1x4x16x1, .f32⟩
  | 26 => ⟨S1x4x16x16, .f32⟩
  | 27 => ⟨S1x4x16x16, .f32⟩
  | 28 => ⟨S1x4x16x16, .f32⟩
  | 29 => ⟨S_, .f32⟩
  | 30 => ⟨S_, .f32⟩
  | 31 => ⟨S1x4x16x16, .i1⟩
  | 32 => ⟨S1x4x16x16, .f32⟩
  | 33 => ⟨S1x4x16x16, .f32⟩
  | 34 => ⟨S1x4x16x1, .f32⟩
  | 35 => ⟨S1x4x16x128, .f32⟩
  | 36 => ⟨S1x4x16x128, .f32⟩
  | 37 => ⟨S16, .i32⟩
  | 38 => ⟨S16x1, .i32⟩
  | 39 => ⟨S_, .i32⟩
  | 40 => ⟨S16x1, .i32⟩
  | 41 => ⟨S16x1, .i1⟩
  | 42 => ⟨S1x4x16x128, .f32⟩
  | 43 => ⟨S1x4x16x128, .f32⟩
  | 44 => ⟨S1x4x16x128, .i1⟩
  | 45 => ⟨S1x4x16x128, .f32⟩
  | 46 => ⟨S_, .i32⟩
  | 47 => ⟨S16x1, .i32⟩
  | 48 => ⟨S16x1, .i1⟩
  | 49 => ⟨S1x4x16x128, .f32⟩
  | 50 => ⟨S1x4x16x128, .f32⟩
  | 51 => ⟨S1x4x16x128, .i1⟩
  | 52 => ⟨S1x4x16x128, .f32⟩
  | 53 => ⟨S_, .i32⟩
  | 54 => ⟨S16x1, .i32⟩
  | 55 => ⟨S16x1, .i1⟩
  | 56 => ⟨S1x4x16x128, .f32⟩
  | 57 => ⟨S1x4x16x128, .f32⟩
  | 58 => ⟨S1x4x16x128, .i1⟩
  | 59 => ⟨S1x4x16x128, .f32⟩
  | 60 => ⟨S_, .i32⟩
  | 61 => ⟨S16x1, .i32⟩
  | 62 => ⟨S16x1, .i1⟩
  | 63 => ⟨S1x4x16x128, .f32⟩
  | 64 => ⟨S1x4x16x128, .f32⟩
  | 65 => ⟨S1x4x16x128, .i1⟩
  | 66 => ⟨S1x4x16x128, .f32⟩
  | 67 => ⟨S_, .i32⟩
  | 68 => ⟨S16x1, .i32⟩
  | 69 => ⟨S16x1, .i1⟩
  | 70 => ⟨S1x4x16x128, .f32⟩
  | 71 => ⟨S1x4x16x128, .f32⟩
  | 72 => ⟨S1x4x16x128, .i1⟩
  | 73 => ⟨S1x4x16x128, .f32⟩
  | 74 => ⟨S_, .i32⟩
  | 75 => ⟨S16x1, .i32⟩
  | 76 => ⟨S16x1, .i1⟩
  | 77 => ⟨S1x4x16x128, .f32⟩
  | 78 => ⟨S1x4x16x128, .f32⟩
  | 79 => ⟨S1x4x16x128, .i1⟩
  | 80 => ⟨S1x4x16x128, .f32⟩
  | 81 => ⟨S_, .i32⟩
  | 82 => ⟨S16x1, .i32⟩
  | 83 => ⟨S16x1, .i1⟩
  | 84 => ⟨S1x4x16x128, .f32⟩
  | 85 => ⟨S1x4x16x128, .f32⟩
  | 86 => ⟨S1x4x16x128, .i1⟩
  | 87 => ⟨S1x4x16x128, .f32⟩
  | 88 => ⟨S_, .i32⟩
  | 89 => ⟨S16x1, .i32⟩
  | 90 => ⟨S16x1, .i1⟩
  | 91 => ⟨S1x4x16x128, .f32⟩
  | 92 => ⟨S1x4x16x128, .f32⟩
  | 93 => ⟨S1x4x16x128, .i1⟩
  | 94 => ⟨S1x4x16x128, .f32⟩
  | 95 => ⟨S_, .i32⟩
  | 96 => ⟨S16x1, .i32⟩
  | 97 => ⟨S16x1, .i1⟩
  | 98 => ⟨S1x4x16x128, .f32⟩
  | 99 => ⟨S1x4x16x128, .f32⟩
  | 100 => ⟨S1x4x16x128, .i1⟩
  | 101 => ⟨S1x4x16x128, .f32⟩
  | 102 => ⟨S_, .i32⟩
  | 103 => ⟨S16x1, .i32⟩
  | 104 => ⟨S16x1, .i1⟩
  | 105 => ⟨S1x4x16x128, .f32⟩
  | 106 => ⟨S1x4x16x128, .f32⟩
  | 107 => ⟨S1x4x16x128, .i1⟩
  | 108 => ⟨S1x4x16x128, .f32⟩
  | 109 => ⟨S_, .i32⟩
  | 110 => ⟨S16x1, .i32⟩
  | 111 => ⟨S16x1, .i1⟩
  | 112 => ⟨S1x4x16x128, .f32⟩
  | 113 => ⟨S1x4x16x128, .f32⟩
  | 114 => ⟨S1x4x16x128, .i1⟩
  | 115 => ⟨S1x4x16x128, .f32⟩
  | 116 => ⟨S_, .i32⟩
  | 117 => ⟨S16x1, .i32⟩
  | 118 => ⟨S16x1, .i1⟩
  | 119 => ⟨S1x4x16x128, .f32⟩
  | 120 => ⟨S1x4x16x128, .f32⟩
  | 121 => ⟨S1x4x16x128, .i1⟩
  | 122 => ⟨S1x4x16x128, .f32⟩
  | 123 => ⟨S_, .i32⟩
  | 124 => ⟨S16x1, .i32⟩
  | 125 => ⟨S16x1, .i1⟩
  | 126 => ⟨S1x4x16x128, .f32⟩
  | 127 => ⟨S1x4x16x128, .f32⟩
  | _ => ⟨S528x4224, .f32⟩

abbrev hbmTy0_2 (i : Nat) : BufTy := match i % 128 with
  | 0 => ⟨S1x4x16x128, .i1⟩
  | 1 => ⟨S1x4x16x128, .f32⟩
  | 2 => ⟨S_, .i32⟩
  | 3 => ⟨S16x1, .i32⟩
  | 4 => ⟨S16x1, .i1⟩
  | 5 => ⟨S1x4x16x128, .f32⟩
  | 6 => ⟨S1x4x16x128, .f32⟩
  | 7 => ⟨S1x4x16x128, .i1⟩
  | 8 => ⟨S1x4x16x128, .f32⟩
  | 9 => ⟨S_, .i32⟩
  | 10 => ⟨S16x1, .i32⟩
  | 11 => ⟨S16x1, .i1⟩
  | 12 => ⟨S1x4x16x128, .f32⟩
  | 13 => ⟨S1x4x16x128, .f32⟩
  | 14 => ⟨S1x4x16x128, .i1⟩
  | 15 => ⟨S1x4x16x128, .f32⟩
  | 16 => ⟨S1x4x16, .f32⟩
  | 17 => ⟨S1x4x16, .f32⟩
  | 18 => ⟨S1x4x16x1, .f32⟩
  | 19 => ⟨S1x4x16x128, .f32⟩
  | 20 => ⟨S1x4x16x128, .f32⟩
  | 21 => ⟨S16, .i32⟩
  | 22 => ⟨S16x1, .i32⟩
  | 23 => ⟨S_, .i32⟩
  | 24 => ⟨S16x1, .i32⟩
  | 25 => ⟨S16x1, .i1⟩
  | 26 => ⟨S1x4x16x128, .f32⟩
  | 27 => ⟨S1x4x16x128, .f32⟩
  | 28 => ⟨S1x4x16x128, .i1⟩
  | 29 => ⟨S1x4x16x128, .f32⟩
  | 30 => ⟨S_, .i32⟩
  | 31 => ⟨S16x1, .i32⟩
  | 32 => ⟨S16x1, .i1⟩
  | 33 => ⟨S1x4x16x128, .f32⟩
  | 34 => ⟨S1x4x16x128, .f32⟩
  | 35 => ⟨S1x4x16x128, .i1⟩
  | 36 => ⟨S1x4x16x128, .f32⟩
  | 37 => ⟨S_, .i32⟩
  | 38 => ⟨S16x1, .i32⟩
  | 39 => ⟨S16x1, .i1⟩
  | 40 => ⟨S1x4x16x128, .f32⟩
  | 41 => ⟨S1x4x16x128, .f32⟩
  | 42 => ⟨S1x4x16x128, .i1⟩
  | 43 => ⟨S1x4x16x128, .f32⟩
  | 44 => ⟨S_, .i32⟩
  | 45 => ⟨S16x1, .i32⟩
  | 46 => ⟨S16x1, .i1⟩
  | 47 => ⟨S1x4x16x128, .f32⟩
  | 48 => ⟨S1x4x16x128, .f32⟩
  | 49 => ⟨S1x4x16x128, .i1⟩
  | 50 => ⟨S1x4x16x128, .f32⟩
  | 51 => ⟨S_, .i32⟩
  | 52 => ⟨S16x1, .i32⟩
  | 53 => ⟨S16x1, .i1⟩
  | 54 => ⟨S1x4x16x128, .f32⟩
  | 55 => ⟨S1x4x16x128, .f32⟩
  | 56 => ⟨S1x4x16x128, .i1⟩
  | 57 => ⟨S1x4x16x128, .f32⟩
  | 58 => ⟨S_, .i32⟩
  | 59 => ⟨S16x1, .i32⟩
  | 60 => ⟨S16x1, .i1⟩
  | 61 => ⟨S1x4x16x128, .f32⟩
  | 62 => ⟨S1x4x16x128, .f32⟩
  | 63 => ⟨S1x4x16x128, .i1⟩
  | 64 => ⟨S1x4x16x128, .f32⟩
  | 65 => ⟨S_, .i32⟩
  | 66 => ⟨S16x1, .i32⟩
  | 67 => ⟨S16x1, .i1⟩
  | 68 => ⟨S1x4x16x128, .f32⟩
  | 69 => ⟨S1x4x16x128, .f32⟩
  | 70 => ⟨S1x4x16x128, .i1⟩
  | 71 => ⟨S1x4x16x128, .f32⟩
  | 72 => ⟨S_, .i32⟩
  | 73 => ⟨S16x1, .i32⟩
  | 74 => ⟨S16x1, .i1⟩
  | 75 => ⟨S1x4x16x128, .f32⟩
  | 76 => ⟨S1x4x16x128, .f32⟩
  | 77 => ⟨S1x4x16x128, .i1⟩
  | 78 => ⟨S1x4x16x128, .f32⟩
  | 79 => ⟨S_, .i32⟩
  | 80 => ⟨S16x1, .i32⟩
  | 81 => ⟨S16x1, .i1⟩
  | 82 => ⟨S1x4x16x128, .f32⟩
  | 83 => ⟨S1x4x16x128, .f32⟩
  | 84 => ⟨S1x4x16x128, .i1⟩
  | 85 => ⟨S1x4x16x128, .f32⟩
  | 86 => ⟨S_, .i32⟩
  | 87 => ⟨S16x1, .i32⟩
  | 88 => ⟨S16x1, .i1⟩
  | 89 => ⟨S1x4x16x128, .f32⟩
  | 90 => ⟨S1x4x16x128, .f32⟩
  | 91 => ⟨S1x4x16x128, .i1⟩
  | 92 => ⟨S1x4x16x128, .f32⟩
  | 93 => ⟨S_, .i32⟩
  | 94 => ⟨S16x1, .i32⟩
  | 95 => ⟨S16x1, .i1⟩
  | 96 => ⟨S1x4x16x128, .f32⟩
  | 97 => ⟨S1x4x16x128, .f32⟩
  | 98 => ⟨S1x4x16x128, .i1⟩
  | 99 => ⟨S1x4x16x128, .f32⟩
  | 100 => ⟨S_, .i32⟩
  | 101 => ⟨S16x1, .i32⟩
  | 102 => ⟨S16x1, .i1⟩
  | 103 => ⟨S1x4x16x128, .f32⟩
  | 104 => ⟨S1x4x16x128, .f32⟩
  | 105 => ⟨S1x4x16x128, .i1⟩
  | 106 => ⟨S1x4x16x128, .f32⟩
  | 107 => ⟨S_, .i32⟩
  | 108 => ⟨S16x1, .i32⟩
  | 109 => ⟨S16x1, .i1⟩
  | 110 => ⟨S1x4x16x128, .f32⟩
  | 111 => ⟨S1x4x16x128, .f32⟩
  | 112 => ⟨S1x4x16x128, .i1⟩
  | 113 => ⟨S1x4x16x128, .f32⟩
  | 114 => ⟨S_, .i32⟩
  | 115 => ⟨S16x1, .i32⟩
  | 116 => ⟨S16x1, .i1⟩
  | 117 => ⟨S1x4x16x128, .f32⟩
  | 118 => ⟨S1x4x16x128, .f32⟩
  | 119 => ⟨S1x4x16x128, .i1⟩
  | 120 => ⟨S1x4x16x128, .f32⟩
  | 121 => ⟨S_, .i32⟩
  | 122 => ⟨S16x1, .i32⟩
  | 123 => ⟨S16x1, .i1⟩
  | 124 => ⟨S1x4x16x128, .f32⟩
  | 125 => ⟨S1x4x16x128, .f32⟩
  | 126 => ⟨S1x4x16x128, .i1⟩
  | 127 => ⟨S1x4x16x128, .f32⟩
  | _ => ⟨S528x4224, .f32⟩

abbrev hbmTy0_3 (i : Nat) : BufTy := match i % 128 with
  | 0 => ⟨S1x4x16x16, .f32⟩
  | 1 => ⟨S1x4x16x16, .f32⟩
  | 2 => ⟨S_, .f32⟩
  | 3 => ⟨S_, .f32⟩
  | 4 => ⟨S1x4x16x16, .i1⟩
  | 5 => ⟨S1x4x16x16, .f32⟩
  | 6 => ⟨S1x4x16x16, .f32⟩
  | 7 => ⟨S1x4x16, .f32⟩
  | 8 => ⟨S1x4x16x1, .f32⟩
  | 9 => ⟨S1x4x16x128, .f32⟩
  | 10 => ⟨S1x4x16x128, .f32⟩
  | 11 => ⟨S1x4x1, .f32⟩
  | 12 => ⟨S1x4x16, .f32⟩
  | 13 => ⟨S1x4x16, .f32⟩
  | 14 => ⟨S1x4x16, .f32⟩
  | 15 => ⟨S1x4x16x1, .f32⟩
  | 16 => ⟨S1x4x16x128, .f32⟩
  | 17 => ⟨S1x4x16x128, .f32⟩
  | 18 => ⟨S1x4x1, .f32⟩
  | 19 => ⟨S1x4, .f32⟩
  | 20 => ⟨S1x4, .f32⟩
  | 21 => ⟨S1x4x16x128, .f32⟩
  | 22 => ⟨S1x4x16x128, .f32⟩
  | 23 => ⟨S1x4x16x128, .f32⟩
  | 24 => ⟨S1x4x16x128, .f32⟩
  | 25 => ⟨S1x4x16x128, .f32⟩
  | 26 => ⟨S1x4x1x1, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x16x4x128, .f32⟩
  | 32 => ⟨S128, .f32⟩
  | 33 => ⟨S1x16x4x128, .f32⟩
  | 34 => ⟨S_, .f32⟩
  | 35 => ⟨S1x16x4, .f32⟩
  | 36 => ⟨S1x16x4x1, .f32⟩
  | 37 => ⟨S_, .f32⟩
  | 38 => ⟨S1x16x4x1, .f32⟩
  | 39 => ⟨S1x16x4x1, .f32⟩
  | 40 => ⟨S_, .f32⟩
  | 41 => ⟨S1x16x4x1, .f32⟩
  | 42 => ⟨S1x16x4x1, .f32⟩
  | 43 => ⟨S1x16x4x1, .f32⟩
  | 44 => ⟨S1x16x4x128, .f32⟩
  | 45 => ⟨S1x16x4x128, .f32⟩
  | 46 => ⟨S1x1x1x128, .f32⟩
  | 47 => ⟨S1x16x4x128, .f32⟩
  | 48 => ⟨S1x16x4x128, .f32⟩
  | 49 => ⟨S1x16x512, .f32⟩
  | 50 => ⟨S1x16x512, .f32⟩
  | 51 => ⟨S1x16x512, .f32⟩
  | 52 => ⟨S_, .f32⟩
  | 53 => ⟨S1x16x512, .f32⟩
  | 54 => ⟨S1x16x512, .f32⟩
  | 55 => ⟨S_, .f32⟩
  | 56 => ⟨S1x16x512, .f32⟩
  | 57 => ⟨S1x16x512, .f32⟩
  | 58 => ⟨S1x16x512, .f32⟩
  | 59 => ⟨S1x16x512, .f32⟩
  | 60 => ⟨S1x16x512, .bf16⟩
  | _ => ⟨S528x4224, .f32⟩

abbrev hbmTy (i : Nat) : BufTy := match i / 128 with
  | 0 => hbmTy0_0 i
  | 1 => hbmTy0_1 i
  | 2 => hbmTy0_2 i
  | 3 => hbmTy0_3 i
  | _ => ⟨S528x4224, .f32⟩

abbrev bufTy : (tb : Table) → Fin (tcTables nBuf tb) → BufTy
  | .hbm, ⟨i, _⟩ => hbmTy i
  | _, _ => ⟨S528x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_0 : Ref sig .tc := ⟨.hbm, 59, rfl⟩
abbrev main_v44 : Ref sig .tc := ⟨.hbm, 60, rfl⟩
abbrev main_v45 : Ref sig .tc := ⟨.hbm, 61, rfl⟩
abbrev main_cst_1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_2 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_3 : Ref sig .tc := ⟨.hbm, 74, rfl⟩
abbrev main_v56 : Ref sig .tc := ⟨.hbm, 75, rfl⟩
abbrev main_v57 : Ref sig .tc := ⟨.hbm, 76, rfl⟩
abbrev main_cst_4 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_7 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_8 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_v97 : Ref sig .tc := ⟨.hbm, 138, rfl⟩
abbrev main_cst_9 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_10 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_11 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_c : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_call5_v0 : Ref sig .tc := ⟨.hbm, 172, rfl⟩
abbrev main_v121 : Ref sig .tc := ⟨.hbm, 173, rfl⟩
abbrev main_c_12 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_call6_v0 : Ref sig .tc := ⟨.hbm, 179, rfl⟩
abbrev main_v126 : Ref sig .tc := ⟨.hbm, 180, rfl⟩
abbrev main_c_13 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_call7_v0 : Ref sig .tc := ⟨.hbm, 186, rfl⟩
abbrev main_v131 : Ref sig .tc := ⟨.hbm, 187, rfl⟩
abbrev main_c_14 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_call8_v0 : Ref sig .tc := ⟨.hbm, 193, rfl⟩
abbrev main_v136 : Ref sig .tc := ⟨.hbm, 194, rfl⟩
abbrev main_c_15 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_call9_v0 : Ref sig .tc := ⟨.hbm, 200, rfl⟩
abbrev main_v141 : Ref sig .tc := ⟨.hbm, 201, rfl⟩
abbrev main_c_16 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call10_v0 : Ref sig .tc := ⟨.hbm, 207, rfl⟩
abbrev main_v146 : Ref sig .tc := ⟨.hbm, 208, rfl⟩
abbrev main_c_17 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_call11_v0 : Ref sig .tc := ⟨.hbm, 214, rfl⟩
abbrev main_v151 : Ref sig .tc := ⟨.hbm, 215, rfl⟩
abbrev main_c_18 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_call12_v0 : Ref sig .tc := ⟨.hbm, 221, rfl⟩
abbrev main_v156 : Ref sig .tc := ⟨.hbm, 222, rfl⟩
abbrev main_c_19 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_call13_v0 : Ref sig .tc := ⟨.hbm, 228, rfl⟩
abbrev main_v161 : Ref sig .tc := ⟨.hbm, 229, rfl⟩
abbrev main_c_20 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_call14_v0 : Ref sig .tc := ⟨.hbm, 235, rfl⟩
abbrev main_v166 : Ref sig .tc := ⟨.hbm, 236, rfl⟩
abbrev main_c_21 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_call15_v0 : Ref sig .tc := ⟨.hbm, 242, rfl⟩
abbrev main_v171 : Ref sig .tc := ⟨.hbm, 243, rfl⟩
abbrev main_c_22 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_call16_v0 : Ref sig .tc := ⟨.hbm, 249, rfl⟩
abbrev main_v176 : Ref sig .tc := ⟨.hbm, 250, rfl⟩
abbrev main_c_23 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_call17_v0 : Ref sig .tc := ⟨.hbm, 256, rfl⟩
abbrev main_v181 : Ref sig .tc := ⟨.hbm, 257, rfl⟩
abbrev main_c_24 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_call18_v0 : Ref sig .tc := ⟨.hbm, 263, rfl⟩
abbrev main_v186 : Ref sig .tc := ⟨.hbm, 264, rfl⟩
abbrev main_c_25 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_call19_v0 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_c_26 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_call20_v0 : Ref sig .tc := ⟨.hbm, 284, rfl⟩
abbrev main_v203 : Ref sig .tc := ⟨.hbm, 285, rfl⟩
abbrev main_c_27 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_call21_v0 : Ref sig .tc := ⟨.hbm, 291, rfl⟩
abbrev main_v208 : Ref sig .tc := ⟨.hbm, 292, rfl⟩
abbrev main_c_28 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_call22_v0 : Ref sig .tc := ⟨.hbm, 298, rfl⟩
abbrev main_v213 : Ref sig .tc := ⟨.hbm, 299, rfl⟩
abbrev main_c_29 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_call23_v0 : Ref sig .tc := ⟨.hbm, 305, rfl⟩
abbrev main_v218 : Ref sig .tc := ⟨.hbm, 306, rfl⟩
abbrev main_c_30 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_call24_v0 : Ref sig .tc := ⟨.hbm, 312, rfl⟩
abbrev main_v223 : Ref sig .tc := ⟨.hbm, 313, rfl⟩
abbrev main_c_31 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_call25_v0 : Ref sig .tc := ⟨.hbm, 319, rfl⟩
abbrev main_v228 : Ref sig .tc := ⟨.hbm, 320, rfl⟩
abbrev main_c_32 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_call26_v0 : Ref sig .tc := ⟨.hbm, 326, rfl⟩
abbrev main_v233 : Ref sig .tc := ⟨.hbm, 327, rfl⟩
abbrev main_c_33 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_call27_v0 : Ref sig .tc := ⟨.hbm, 333, rfl⟩
abbrev main_v238 : Ref sig .tc := ⟨.hbm, 334, rfl⟩
abbrev main_c_34 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_call28_v0 : Ref sig .tc := ⟨.hbm, 340, rfl⟩
abbrev main_v243 : Ref sig .tc := ⟨.hbm, 341, rfl⟩
abbrev main_c_35 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_call29_v0 : Ref sig .tc := ⟨.hbm, 347, rfl⟩
abbrev main_v248 : Ref sig .tc := ⟨.hbm, 348, rfl⟩
abbrev main_c_36 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_v252 : Ref sig .tc := ⟨.hbm, 353, rfl⟩
abbrev main_call30_v0 : Ref sig .tc := ⟨.hbm, 354, rfl⟩
abbrev main_v253 : Ref sig .tc := ⟨.hbm, 355, rfl⟩
abbrev main_c_37 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_call31_v0 : Ref sig .tc := ⟨.hbm, 361, rfl⟩
abbrev main_v258 : Ref sig .tc := ⟨.hbm, 362, rfl⟩
abbrev main_c_38 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_call32_v0 : Ref sig .tc := ⟨.hbm, 368, rfl⟩
abbrev main_v263 : Ref sig .tc := ⟨.hbm, 369, rfl⟩
abbrev main_c_39 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_call33_v0 : Ref sig .tc := ⟨.hbm, 375, rfl⟩
abbrev main_v268 : Ref sig .tc := ⟨.hbm, 376, rfl⟩
abbrev main_c_40 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_v272 : Ref sig .tc := ⟨.hbm, 381, rfl⟩
abbrev main_call34_v0 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_cst_41 : Ref sig .tc := ⟨.hbm, 386, rfl⟩
abbrev main_call35_v0 : Ref sig .tc := ⟨.hbm, 387, rfl⟩
abbrev main_call35_v1 : Ref sig .tc := ⟨.hbm, 388, rfl⟩
abbrev main_call35_v2 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_v296 : Ref sig .tc := ⟨.hbm, 410, rfl⟩
abbrev main_v297 : Ref sig .tc := ⟨.hbm, 411, rfl⟩
abbrev main_v298 : Ref sig .tc := ⟨.hbm, 412, rfl⟩
abbrev main_v299 : Ref sig .tc := ⟨.hbm, 413, rfl⟩
abbrev main_v300 : Ref sig .tc := ⟨.hbm, 414, rfl⟩
abbrev main_v301 : Ref sig .tc := ⟨.hbm, 415, rfl⟩
abbrev main_v302 : Ref sig .tc := ⟨.hbm, 416, rfl⟩
abbrev main_v303 : Ref sig .tc := ⟨.hbm, 417, rfl⟩
abbrev main_cst_42 : Ref sig .tc := ⟨.hbm, 418, rfl⟩
abbrev main_v304 : Ref sig .tc := ⟨.hbm, 419, rfl⟩
abbrev main_v305 : Ref sig .tc := ⟨.hbm, 420, rfl⟩
abbrev main_cst_43 : Ref sig .tc := ⟨.hbm, 421, rfl⟩
abbrev main_v306 : Ref sig .tc := ⟨.hbm, 422, rfl⟩
abbrev main_v307 : Ref sig .tc := ⟨.hbm, 423, rfl⟩
abbrev main_cst_44 : Ref sig .tc := ⟨.hbm, 424, rfl⟩
abbrev main_v308 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_v315 : Ref sig .tc := ⟨.hbm, 432, rfl⟩
abbrev main_v316 : Ref sig .tc := ⟨.hbm, 433, rfl⟩
abbrev main_call36_v0 : Ref sig .tc := ⟨.hbm, 434, rfl⟩
abbrev main_call36_v1 : Ref sig .tc := ⟨.hbm, 435, rfl⟩
abbrev main_call36_cst : Ref sig .tc := ⟨.hbm, 436, rfl⟩
abbrev main_call36_v2 : Ref sig .tc := ⟨.hbm, 437, rfl⟩
abbrev main_call36_v3 : Ref sig .tc := ⟨.hbm, 438, rfl⟩
abbrev main_call36_cst_0 : Ref sig .tc := ⟨.hbm, 439, rfl⟩
abbrev main_call36_v4 : Ref sig .tc := ⟨.hbm, 440, rfl⟩
abbrev main_call36_v5 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩

abbrev nD : Nat := 1
abbrev τ : Topo := Topo.v7x

variable {F : FTy → Type} [FloatOps F]
-- ==== Proof.FfnNames.lean ====
/-
The names the body's triple is stated with: the two branch conditions in closed form, the staging memrefs of a point,
the two scratch memrefs and the region's invariant.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x5632 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x5632 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2816x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x5632 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S520x5632 .f32 := Memref.whole cc0_scratch0
abbrev scM0_1 : Memref sig .tc .vmem S2x5632 .f32 := Memref.whole cc0_scratch1
/-- The scratch `arg15` the kernel carries between points, as a view: what it holds is stated through it. -/
abbrev VS0_1 : View sig .tc .vmem S2x5632 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.FfnRunA.lean ====
/-
The run of the body at the first point, where both branches are taken.
-/
module

public import proofs.«01_k».proof.Proof.FfnNames

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body run at the first point, where both branches are taken: what it stores, as pieces (last first), in the two
    outputs and the scratch buffers, found by the run; the first scratch buffer enters at `xs0`. -/
noncomputable def ffnRunA (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S16x1024 .f32) (harg4 : arg4.IsWhole) (arg5 : Memref sig .tc .vmem S16x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x5632 .f32) (harg13 : arg13.IsWhole) (arg14 : Memref sig .tc .vmem S520x5632 .f32) (harg14 : arg14.IsWhole) (arg15 : Memref sig .tc .vmem S2x5632 .f32) (harg15 : arg15.IsWhole) (hc0 : cond0_0 i) (hc1 : cond0_1 i)
    (x0 : Vec F S512x1024 .f32) (x1 : Vec F S512x1024 .bf16) (x2 : Vec F S16x1024 .f32) (x3 : Vec F S16x1024 .bf16) (x4 : Vec F S1024x1024 .bf16) (x5 : Vec F S1x1024 .f32) (x6 : Vec F S1024x5632 .bf16) (x7 : Vec F S3x5632 .f32) (x8 : Vec F S2816x1024 .bf16) (x9 : Vec F S1x1024 .f32) (xs0 : Vec F S520x5632 .f32) :
    Σ' (L10 : List (View.Piece (Elt F) S512x1024 .f32)), Σ' (L11 : List (View.Piece (Elt F) S1x2x5632 .f32)), Σ' (LS0 : List (View.Piece (Elt F) S520x5632 .f32)), { LS1 : List (View.Piece (Elt F) S2x5632 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread xs0) LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_out_ffn_eq_skeleton]; unfold cc0_out_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexact HS0
    iexists _; iexact HS1

end Cert.KernelIdeal.Hand

end
-- ==== Proof.FfnRunB.lean ====
/-
The run of the body at a point that continues a sequence, where neither branch is taken.
-/
module

public import proofs.«01_k».proof.Proof.FfnRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body run at a point that continues a sequence, where neither branch is taken: what it stores, as pieces (last first), in the two
    outputs and the scratch buffers, found by the run; the first scratch buffer enters at `xs0`. -/
noncomputable def ffnRunB (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S16x1024 .f32) (harg4 : arg4.IsWhole) (arg5 : Memref sig .tc .vmem S16x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x5632 .f32) (harg13 : arg13.IsWhole) (arg14 : Memref sig .tc .vmem S520x5632 .f32) (harg14 : arg14.IsWhole) (arg15 : Memref sig .tc .vmem S2x5632 .f32) (harg15 : arg15.IsWhole) (hc0 : ¬cond0_0 i) (hc1 : ¬cond0_1 i)
    (x0 : Vec F S512x1024 .f32) (x1 : Vec F S512x1024 .bf16) (x2 : Vec F S16x1024 .f32) (x3 : Vec F S16x1024 .bf16) (x4 : Vec F S1024x1024 .bf16) (x5 : Vec F S1x1024 .f32) (x6 : Vec F S1024x5632 .bf16) (x7 : Vec F S3x5632 .f32) (x8 : Vec F S2816x1024 .bf16) (x9 : Vec F S1x1024 .f32) (xs0 : Vec F S520x5632 .f32) (xs1 : Vec F S2x5632 .f32) :
    Σ' (L10 : List (View.Piece (Elt F) S512x1024 .f32)), Σ' (L11 : List (View.Piece (Elt F) S1x2x5632 .f32)), { LS0 : List (View.Piece (Elt F) S520x5632 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread xs0) LS0) ∗ owns (c : Thread nD τ) arg15 fullShare xs1) -∗ K ⟨⟩))
          ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_out_ffn_eq_skeleton]; unfold cc0_out_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexact HS0
    iexists _; isplitr; · ipureintro; exact harg15.read_unread _
    iexact HS1

end Cert.KernelIdeal.Hand

end
-- ==== Proof.FfnRunC.lean ====
/-
The run of the body at a later sequence's first point, where only the second branch is taken.
-/
module

public import proofs.«01_k».proof.Proof.FfnRunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body run at a later sequence's first point, where only the second branch is taken: what it stores, as pieces (last first), in the two
    outputs and the scratch buffers, found by the run; the first scratch buffer enters at `xs0`. -/
noncomputable def ffnRunC (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S16x1024 .f32) (harg4 : arg4.IsWhole) (arg5 : Memref sig .tc .vmem S16x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x5632 .f32) (harg13 : arg13.IsWhole) (arg14 : Memref sig .tc .vmem S520x5632 .f32) (harg14 : arg14.IsWhole) (arg15 : Memref sig .tc .vmem S2x5632 .f32) (harg15 : arg15.IsWhole) (hc0 : ¬cond0_0 i) (hc1 : cond0_1 i)
    (x0 : Vec F S512x1024 .f32) (x1 : Vec F S512x1024 .bf16) (x2 : Vec F S16x1024 .f32) (x3 : Vec F S16x1024 .bf16) (x4 : Vec F S1024x1024 .bf16) (x5 : Vec F S1x1024 .f32) (x6 : Vec F S1024x5632 .bf16) (x7 : Vec F S3x5632 .f32) (x8 : Vec F S2816x1024 .bf16) (x9 : Vec F S1x1024 .f32) (xs0 : Vec F S520x5632 .f32) (xs1 : Vec F S2x5632 .f32) :
    Σ' (L10 : List (View.Piece (Elt F) S512x1024 .f32)), Σ' (L11 : List (View.Piece (Elt F) S1x2x5632 .f32)), { LS0 : List (View.Piece (Elt F) S520x5632 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread xs0) LS0) ∗ owns (c : Thread nD τ) arg15 fullShare xs1) -∗ K ⟨⟩))
          ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_out_ffn_eq_skeleton]; unfold cc0_out_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexact HS0
    iexists _; isplitr; · ipureintro; exact harg15.read_unread _
    iexact HS1

end Cert.KernelIdeal.Hand

end
-- ==== Proof.FfnClean.lean ====
/-
What a run of the body leaves, in closed form: the block of results as a function of the point's blocks and of the
two rows carried from the block before.
-/
module

public import proofs.«01_k».proof.Proof.FfnRunC
public import Idealize.ShloMosaic.Lib.ValueIdxCore
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

variable {F : FTy → Type} [FloatOps F]

/-! ## The functions -/

/-- The scratch above its sixth row: the two carried rows and the block's rows after them. -/
def bufRows (T : Vec F S2x5632 .f32) (u : Vec F S512x5632 .f32) : Vec F S520x5632 .f32 :=
  fun j => if h : (j 0).val < 8 then T (ix2 ⟨(j 0).val - 6, by omega⟩ (j 1))
    else u (ix2 ⟨(j 0).val - 8, by have := (j 0).isLt; show (j 0).val - 8 < 512; have : (j 0).val < 520 := (j 0).isLt; omega⟩ (j 1))

/-- The sixth and seventh row of the scratch. -/
def midRows (d : Vec F S520x5632 .f32) : Vec F S2x5632 .f32 :=
  fun i => d (ix2 ⟨(i 0).val + 6, by have : (i 0).val < 2 := (i 0).isLt; omega⟩ (i 1))

/-- The last two rows of a block. -/
def lastRows (u : Vec F S512x5632 .f32) : Vec F S2x5632 .f32 :=
  fun i => u (ix2 ⟨(i 0).val + 510, by have : (i 0).val < 2 := (i 0).isLt; omega⟩ (i 1))

/-- 512 rows of the scratch from row `k` on, 256 columns from `lo` on. -/
def rowsAt (B : Vec F S520x5632 .f32) (k : ℕ) (hk : k ≤ 8) (lo : ℕ) (h : lo + 256 ≤ 5632) : Vec F S512x256 .f32 :=
  fun i => B (ix2 ⟨k + (i 0).val, by have : (i 0).val < 512 := (i 0).isLt; omega⟩ ⟨lo + (i 1).val, by have : (i 1).val < 256 := (i 1).isLt; omega⟩)

/-- One tap's 256 weights from `lo` on. -/
def tapAt (w : Vec F S3x5632 .f32) (k : ℕ) (hk : k < 3) (lo : ℕ) (h : lo + 256 ≤ 5632) : Vec F S1x256 .f32 :=
  fun i => w (ix2 ⟨k, hk⟩ ⟨lo + (i 1).val, by have : (i 1).val < 256 := (i 1).isLt; omega⟩)

/-- 256 rows of the down projection from `lo` on. -/
def downAt (w : Vec F S2816x1024 .bf16) (lo : ℕ) (h : lo + 256 ≤ 2816) : Vec F S256x1024 .bf16 :=
  fun i => w (ix2 ⟨lo + (i 0).val, by have : (i 0).val < 256 := (i 0).isLt; omega⟩ (i 1))

/-- The three taps on three shifted blocks. -/
def conv3 (a0 a1 a2 : Vec F S512x256 .f32) (c0 c1 c2 : Vec F S1x256 .f32) : FVec F S512x256 .f32 :=
  addf (addf (mulf a0 (broadcastTo S512x256 (shapeCast S1x256 c0 shapeCasts_S1x256_S1x256) broadcasts_S1x256_S512x256))
      (mulf a1 (broadcastTo S512x256 (shapeCast S1x256 c1 shapeCasts_S1x256_S1x256) broadcasts_S1x256_S512x256)))
    (mulf a2 (broadcastTo S512x256 (shapeCast S1x256 c2 shapeCasts_S1x256_S1x256) broadcasts_S1x256_S512x256))

/-- One chunk's term added to what was accumulated before it. -/
def chunkAdd (acc : FVec F S512x1024 .f32) (g v : FVec F S512x256 .f32) (d : Vec F S256x1024 .bf16) : FVec F S512x1024 .f32 :=
  addf acc (matmul dot_S512x256_S256x1024_S512x1024_1_0_0_1_n_n none
    (truncf .bf16 (mulf (mulf g (logistic g)) v) bitsLt_bf16_f32)
    (shapeCast S256x1024 d shapeCasts_S256x1024_S256x1024) (constant S512x1024 .f32 0x00000000#32))

/-- The last normalization. -/
def normOut (x : FVec F S512x1024 .f32) (w : FVec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 w shapeCasts_S1x1024_S1x1024) broadcasts_S1x1024_S512x1024)

section
variable (R6 R7 R8 : (lo : ℕ) → lo + 256 ≤ 5632 → Vec F S512x256 .f32) (C0 C1 C2 : (lo : ℕ) → lo + 256 ≤ 5632 → Vec F S1x256 .f32)
  (D : (lo : ℕ) → lo + 256 ≤ 2816 → Vec F S256x1024 .bf16)

/-- The convolution of one chunk of columns, from the chunk's reads. -/
def convR (lo : ℕ) (h : lo + 256 ≤ 5632) : FVec F S512x256 .f32 := conv3 (R6 lo h) (R7 lo h) (R8 lo h) (C0 lo h) (C1 lo h) (C2 lo h)

/-- One chunk's term, from the chunk's reads. -/
def chunkR (acc : FVec F S512x1024 .f32) (lo : ℕ) (h : lo + 256 ≤ 2816) : FVec F S512x1024 .f32 :=
  chunkAdd acc (convR R6 R7 R8 C0 C1 C2 lo (by omega)) (convR R6 R7 R8 C0 C1 C2 (2816 + lo) (by omega)) (D lo h)

/-- The eleven chunks. -/
def chunksR (x1 : FVec F S512x1024 .f32) : FVec F S512x1024 .f32 :=
  chunkR R6 R7 R8 C0 C1 C2 D (chunkR R6 R7 R8 C0 C1 C2 D (chunkR R6 R7 R8 C0 C1 C2 D (chunkR R6 R7 R8 C0 C1 C2 D (chunkR R6 R7 R8 C0 C1 C2 D (chunkR R6 R7 R8 C0 C1 C2 D (chunkR R6 R7 R8 C0 C1 C2 D (chunkR R6 R7 R8 C0 C1 C2 D (chunkR R6 R7 R8 C0 C1 C2 D (chunkR R6 R7 R8 C0 C1 C2 D (chunkR R6 R7 R8 C0 C1 C2 D x1 0 (by decide)) 256 (by decide)) 512 (by decide)) 768 (by decide)) 1024 (by decide)) 1280 (by decide)) 1536 (by decide)) 1792 (by decide)) 2048 (by decide)) 2304 (by decide)) 2560 (by decide)
end

/-- The block of results, from the block after the out projection, the scratch and the weights. -/
def ffnOut (x1 : FVec F S512x1024 .f32) (B : Vec F S520x5632 .f32) (cw : Vec F S3x5632 .f32) (dw : Vec F S2816x1024 .bf16)
    (nf : Vec F S1x1024 .f32) : FVec F S512x1024 .f32 :=
  normOut (chunksR (rowsAt B 6 (by decide)) (rowsAt B 7 (by decide)) (rowsAt B 8 (by decide))
    (tapAt cw 0 (by decide)) (tapAt cw 1 (by decide)) (tapAt cw 2 (by decide)) (downAt dw) x1) nf

/-! ## The reads -/

/-- A whole memref's contents read over a rectangle. -/
theorem readAt_two {κ : Kind} {sp : Space} {n m : ℕ} {e : EltTy} (v : View sig κ sp ⟨2, ![n, m]⟩ e) (f : v.ty.Contents (Elt F))
    (k lo a b : ℕ) (inb) (i : (Rect.unit (s := ⟨2, ![n, m]⟩) ![k, lo] ![a, b] inb).shape.Idx) (hk : k + (i 0).val < n) (hl : lo + (i 1).val < m) :
    v.readAt (Elt F) (Rect.unit (s := ⟨2, ![n, m]⟩) ![k, lo] ![a, b] inb).toLoadRect f i = v.read (Elt F) f (ix2 ⟨k + (i 0).val, hk⟩ ⟨lo + (i 1).val, hl⟩) := by
  show v.read (Elt F) f ((Rect.unit (s := ⟨2, ![n, m]⟩) ![k, lo] ![a, b] inb).emb i) = _
  congr 1
  funext x
  apply Fin.ext
  match x with
  | ⟨0, _⟩ => show k + 1 * (i 0).val = k + (i 0).val; omega
  | ⟨1, _⟩ => show lo + 1 * (i 1).val = lo + (i 1).val; omega

/-- The whole of a whole memref's contents. -/
theorem readAt_whole {κ : Kind} {sp : Space} {s : Shape} {e : EltTy} (m : Memref sig κ sp s e) (h : m.IsWhole) (X : Vec F s e)
    {off : Fin s.rank → ℕ} (inb) : View.readAt (Elt F) m.view (Rect.unit off s.size inb).toLoadRect (h.unread X) = X :=
  (View.readAt_full _ _ _).trans (h.read_unread X)

/-- The two pieces over anything. -/
theorem read_two (v : View sig .tc .vmem S520x5632 .f32) (f : v.ty.Contents (Elt F)) (T : Vec F S2x5632 .f32) (u : Vec F S512x5632 .f32)
    (j : S520x5632.Idx) (hj : 6 ≤ (j 0).val) :
    v.read (Elt F) (v.writes (Elt F) f [⟨Rect.unit ![8, 0] S512x5632.size inb_S520x5632_S512x5632_8_0, u⟩,
      ⟨Rect.unit ![6, 0] S2x5632.size inb_S520x5632_S2x5632_6_0, T⟩]) j = bufRows T u j := by
  have h0 : (j 0).val < 520 := (j 0).isLt
  have h1 : (j 1).val < 5632 := (j 1).isLt
  rw [View.read_writes_cons_put v f inb_S520x5632_S512x5632_8_0 u _ rfl, View.read_writes_cons_put v f inb_S520x5632_S2x5632_6_0 T _ rfl]
  unfold bufRows VecWindow.put
  by_cases h : (j 0).val < 8
  · rw [dif_neg (fun hh => by have := (hh 0).1; simp at this; omega), dif_pos h, dif_pos (by
      intro a
      match a with
      | ⟨0, _⟩ => exact ⟨hj, by show (j 0).val < 6 + 2; omega⟩
      | ⟨1, _⟩ => exact ⟨Nat.zero_le _, by show (j 1).val < 0 + 5632; omega⟩)]
    congr 1
    funext a
    apply Fin.ext
    match a with
    | ⟨0, _⟩ => rfl
    | ⟨1, _⟩ => show (j 1).val - 0 = (j 1).val; omega
  · rw [dif_neg h, dif_pos (by
      intro a
      match a with
      | ⟨0, _⟩ => exact ⟨by show 8 ≤ (j 0).val; omega, by show (j 0).val < 8 + 512; omega⟩
      | ⟨1, _⟩ => exact ⟨Nat.zero_le _, by show (j 1).val < 0 + 5632; omega⟩)]
    congr 1
    funext a
    apply Fin.ext
    match a with
    | ⟨0, _⟩ => rfl
    | ⟨1, _⟩ => show (j 1).val - 0 = (j 1).val; omega

/-- The block's rows over anything. -/
theorem read_one (v : View sig .tc .vmem S520x5632 .f32) (f : v.ty.Contents (Elt F)) (T : Vec F S2x5632 .f32) (u : Vec F S512x5632 .f32)
    (j : S520x5632.Idx) (hj : 8 ≤ (j 0).val) :
    v.read (Elt F) (v.writes (Elt F) f [⟨Rect.unit ![8, 0] S512x5632.size inb_S520x5632_S512x5632_8_0, u⟩]) j = bufRows T u j := by
  have h0 : (j 0).val < 520 := (j 0).isLt
  have h1 : (j 1).val < 5632 := (j 1).isLt
  rw [View.read_writes_cons_put v f inb_S520x5632_S512x5632_8_0 u _ rfl]
  unfold bufRows VecWindow.put
  rw [dif_neg (show ¬ (j 0).val < 8 by omega), dif_pos (by
      intro a
      match a with
      | ⟨0, _⟩ => exact ⟨hj, by show (j 0).val < 8 + 512; omega⟩
      | ⟨1, _⟩ => exact ⟨Nat.zero_le _, by show (j 1).val < 0 + 5632; omega⟩)]
  congr 1
  funext a
  apply Fin.ext
  match a with
  | ⟨0, _⟩ => rfl
  | ⟨1, _⟩ => show (j 1).val - 0 = (j 1).val; omega

/-- The block's rows over contents that hold the two carried rows. -/
theorem read_over (v : View sig .tc .vmem S520x5632 .f32) (f : v.ty.Contents (Elt F)) (X : Vec F S520x5632 .f32) (hX : v.read (Elt F) f = X)
    (u : Vec F S512x5632 .f32) (j : S520x5632.Idx) (hj : 6 ≤ (j 0).val) :
    v.read (Elt F) (v.writes (Elt F) f [⟨Rect.unit ![8, 0] S512x5632.size inb_S520x5632_S512x5632_8_0, u⟩]) j = bufRows (midRows X) u j := by
  by_cases h : 8 ≤ (j 0).val
  · exact read_one v f _ u j h
  have h0 : (j 0).val < 520 := (j 0).isLt
  rw [View.read_writes_cons_put v f inb_S520x5632_S512x5632_8_0 u _ rfl]
  unfold bufRows VecWindow.put midRows
  rw [dif_neg (fun hh => h (hh 0).1), dif_pos (by omega), View.writes_nil, hX]
  congr 1
  funext a
  apply Fin.ext
  match a with
  | ⟨0, _⟩ => show (j 0).val = (j 0).val - 6 + 6; omega
  | ⟨1, _⟩ => rfl

/-- The rows after a last store to the carried rows. -/
theorem midRows_store (v : View sig .tc .vmem S520x5632 .f32) (f : v.ty.Contents (Elt F)) (T : Vec F S2x5632 .f32) (L) :
    midRows (v.read (Elt F) (v.writes (Elt F) f (⟨Rect.unit ![6, 0] ![2, 5632] inb_S520x5632_S2x5632_6_0, T⟩ :: L))) = T := by
  rw [View.read_writes_cons_put v f inb_S520x5632_S2x5632_6_0 T _ rfl]
  funext i
  have h0 : (i 0).val < 2 := (i 0).isLt
  have h1 : (i 1).val < 5632 := (i 1).isLt
  unfold midRows VecWindow.put
  rw [dif_pos (by
      intro a
      match a with
      | ⟨0, _⟩ => exact ⟨by show 6 ≤ (i 0).val + 6; omega, by show (i 0).val + 6 < 6 + 2; omega⟩
      | ⟨1, _⟩ => exact ⟨Nat.zero_le _, by show (i 1).val < 0 + 5632; omega⟩)]
  congr 1
  funext a
  apply Fin.ext
  match a with
  | ⟨0, _⟩ => show (i 0).val + 6 - 6 = (i 0).val; omega
  | ⟨1, _⟩ => show (i 1).val - 0 = (i 1).val; omega

end Cert.KernelIdeal.Hand

end
-- ==== Proof.FfnVals.lean ====
/-
The pieces each case's run leaves, in closed form.
-/
module

public import proofs.«01_k».proof.Proof.FfnClean
public import Idealize.ShloMosaic.Lib.Pipeline.Value
public import Idealize.ShloMosaic.Lib.ValueIdxCore
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

variable {F : FTy → Type} [FloatOps F]

/-! ## The bounds -/

/-- 512 rows and 256 columns of the scratch. -/
theorem inb520 (k lo : ℕ) (hk : k ≤ 8) (h : lo + 256 ≤ 5632) : ∀ a, (![k, lo] : Fin 2 → ℕ) a + S512x256.size a ≤ S520x5632.size a := fun a =>
  match a with
  | ⟨0, _⟩ => by show k + 512 ≤ 520; omega
  | ⟨1, _⟩ => h

/-- 256 weights of a tap. -/
theorem inb3 (k lo : ℕ) (hk : k < 3) (h : lo + 256 ≤ 5632) : ∀ a, (![k, lo] : Fin 2 → ℕ) a + S1x256.size a ≤ S3x5632.size a := fun a =>
  match a with
  | ⟨0, _⟩ => by show k + 1 ≤ 3; omega
  | ⟨1, _⟩ => h

/-- 256 rows of the down projection. -/
theorem inb2816 (lo : ℕ) (h : lo + 256 ≤ 2816) : ∀ a, (![lo, 0] : Fin 2 → ℕ) a + S256x1024.size a ≤ S2816x1024.size a := fun a =>
  match a with
  | ⟨0, _⟩ => h
  | ⟨1, _⟩ => (by show 0 + 1024 ≤ 1024; omega)

/-- A cast of a shape to itself. -/
theorem pay5_eq (v : Vec F S2x5632 .f32) : k0_pay5 v = v := by
  exact shapeCast_self v _
theorem pay2_eq (v : Vec F S2x5632 .f32) : k0_pay2 v = v := by
  exact shapeCast_self v _
theorem pay8_eq (v : FVec F S512x5632 .f32) : k0_pay8 v = v := by
  exact shapeCast_self v _

/-! ## The three cases -/

section
variable (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S16x1024 .f32) (harg4 : arg4.IsWhole) (arg5 : Memref sig .tc .vmem S16x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x5632 .f32) (harg13 : arg13.IsWhole) (arg14 : Memref sig .tc .vmem S520x5632 .f32) (harg14 : arg14.IsWhole) (arg15 : Memref sig .tc .vmem S2x5632 .f32) (harg15 : arg15.IsWhole) (hc0 : cond0_0 i) (hc1 : cond0_1 i)
    (x0 : Vec F S512x1024 .f32) (x1 : Vec F S512x1024 .bf16) (x2 : Vec F S16x1024 .f32) (x3 : Vec F S16x1024 .bf16) (x4 : Vec F S1024x1024 .bf16) (x5 : Vec F S1x1024 .f32) (x6 : Vec F S1024x5632 .bf16) (x7 : Vec F S3x5632 .f32) (x8 : Vec F S2816x1024 .bf16) (x9 : Vec F S1x1024 .f32) (xs0 : Vec F S520x5632 .f32)
include hc0 hc1

/-- The pieces of the scratch. -/
theorem piecesA : (ffnRunA.sl.HS0_2 c arg2 harg2 arg3 harg3 arg4 harg4 arg5 harg5 arg6 harg6 arg7 harg7 arg8 harg8 arg15 x0 x1 x2 x3 x4 x5 x6) = [⟨Rect.unit ![8, 0] S512x5632.size inb_S520x5632_S512x5632_8_0, (k0_pay7 x0 x1 x4 x5 x6)⟩, ⟨Rect.unit ![6, 0] S2x5632.size inb_S520x5632_S2x5632_6_0, (k0_pay4 x2 x3 x4 x5 x6)⟩] := by
  have e : ffnRunA.sl.r_1 c arg2 harg2 arg3 harg3 arg6 harg6 arg7 harg7 arg8 harg8 x0 x1 x4 x5 x6 = (k0_pay7 x0 x1 x4 x5 x6) := by
    unfold ffnRunA.sl.r_1; rw [readAt_whole, readAt_whole, readAt_whole, readAt_whole, readAt_whole]
  have e2 : ffnRunA.sl.v521 c arg4 harg4 arg5 harg5 arg6 harg6 arg7 harg7 arg8 harg8 arg15 x2 x3 x4 x5 x6 = (k0_pay4 x2 x3 x4 x5 x6) := by
    unfold ffnRunA.sl.v521 ffnRunA.sl.HS1_1; rw [readAt_whole, readAt_whole, readAt_whole, readAt_whole, readAt_whole]; exact View.readCov_full _ _ _ _ _
  unfold ffnRunA.sl.HS0_2; rw [e, e2, pay5_eq, pay8_eq]

set_option maxHeartbeats 400000 in
/-- The block of results. -/
theorem outA : k0_pay1 (ffnRunA.sl.r_31 c arg11 harg11 x9) (ffnRunA.sl.r_32 c arg2 harg2 arg3 harg3 arg4 harg4 arg5 harg5 arg6 harg6 arg7 harg7 arg8 harg8 arg9 harg9 arg10 harg10 arg14 arg15 x0 x1 x2 x3 x4 x5 x6 x7 x8) = ffnOut (k0_pay6 x0 x1 x4) (bufRows (k0_pay4 x2 x3 x4 x5 x6) (k0_pay7 x0 x1 x4 x5 x6)) x7 x8 x9 := by
  have e : k0_pay1 (ffnRunA.sl.r_31 c arg11 harg11 x9) (ffnRunA.sl.r_32 c arg2 harg2 arg3 harg3 arg4 harg4 arg5 harg5 arg6 harg6 arg7 harg7 arg8 harg8 arg9 harg9 arg10 harg10 arg14 arg15 x0 x1 x2 x3 x4 x5 x6 x7 x8) = normOut (chunksR (fun lo h => arg14.view.readCov (ffnRunA.sl.HS0_2 c arg2 harg2 arg3 harg3 arg4 harg4 arg5 harg5 arg6 harg6 arg7 harg7 arg8 harg8 arg15 x0 x1 x2 x3 x4 x5 x6) (Rect.unit (s := S520x5632) ![6, lo] S512x256.size (inb520 6 lo (by decide) h)).toLoadRect) (fun lo h => arg14.view.readCov (ffnRunA.sl.HS0_2 c arg2 harg2 arg3 harg3 arg4 harg4 arg5 harg5 arg6 harg6 arg7 harg7 arg8 harg8 arg15 x0 x1 x2 x3 x4 x5 x6) (Rect.unit (s := S520x5632) ![7, lo] S512x256.size (inb520 7 lo (by decide) h)).toLoadRect) (fun lo h => arg14.view.readCov (ffnRunA.sl.HS0_2 c arg2 harg2 arg3 harg3 arg4 harg4 arg5 harg5 arg6 harg6 arg7 harg7 arg8 harg8 arg15 x0 x1 x2 x3 x4 x5 x6) (Rect.unit (s := S520x5632) ![8, lo] S512x256.size (inb520 8 lo (by decide) h)).toLoadRect)
      (fun lo h => View.readAt (Elt F) arg9.view (Rect.unit (s := S3x5632) ![0, lo] S1x256.size (inb3 0 lo (by decide) h)).toLoadRect (harg9.unread x7)) (fun lo h => View.readAt (Elt F) arg9.view (Rect.unit (s := S3x5632) ![1, lo] S1x256.size (inb3 1 lo (by decide) h)).toLoadRect (harg9.unread x7)) (fun lo h => View.readAt (Elt F) arg9.view (Rect.unit (s := S3x5632) ![2, lo] S1x256.size (inb3 2 lo (by decide) h)).toLoadRect (harg9.unread x7)) (fun lo h => View.readAt (Elt F) arg10.view (Rect.unit (s := S2816x1024) ![lo, 0] S256x1024.size (inb2816 lo h)).toLoadRect (harg10.unread x8)) (ffnRunA.sl.r c arg2 harg2 arg3 harg3 arg6 harg6 x0 x1 x4)) (View.readAt (Elt F) arg11.view (Rect.unit ![0, 0] S1x1024.size inb_S1x1024_S1x1024_0_0).toLoadRect (harg11.unread x9)) := rfl
  have er : ffnRunA.sl.r c arg2 harg2 arg3 harg3 arg6 harg6 x0 x1 x4 = (k0_pay6 x0 x1 x4) := by
    unfold ffnRunA.sl.r; rw [readAt_whole, readAt_whole, readAt_whole]
  have h6 : (fun lo h => arg14.view.readCov (ffnRunA.sl.HS0_2 c arg2 harg2 arg3 harg3 arg4 harg4 arg5 harg5 arg6 harg6 arg7 harg7 arg8 harg8 arg15 x0 x1 x2 x3 x4 x5 x6) (Rect.unit (s := S520x5632) ![6, lo] S512x256.size (inb520 6 lo (by decide) h)).toLoadRect) = rowsAt (bufRows (k0_pay4 x2 x3 x4 x5 x6) (k0_pay7 x0 x1 x4 x5 x6)) 6 (by decide) := by
    funext lo h i
    have h0 : (i 0).val < 512 := (i 0).isLt
    have h1 : (i 1).val < 256 := (i 1).isLt
    refine (readAt_two arg14.view _ 6 lo 512 256 _ i (by omega) (by omega)).trans ?_
    rw [piecesA (hc0 := hc0) (hc1 := hc1)]
    exact read_two arg14.view _ _ _ _ (by show 6 ≤ 6 + (i 0).val; omega)
  have h7 : (fun lo h => arg14.view.readCov (ffnRunA.sl.HS0_2 c arg2 harg2 arg3 harg3 arg4 harg4 arg5 harg5 arg6 harg6 arg7 harg7 arg8 harg8 arg15 x0 x1 x2 x3 x4 x5 x6) (Rect.unit (s := S520x5632) ![7, lo] S512x256.size (inb520 7 lo (by decide) h)).toLoadRect) = rowsAt (bufRows (k0_pay4 x2 x3 x4 x5 x6) (k0_pay7 x0 x1 x4 x5 x6)) 7 (by decide) := by
    funext lo h i
    have h0 : (i 0).val < 512 := (i 0).isLt
    have h1 : (i 1).val < 256 := (i 1).isLt
    refine (readAt_two arg14.view _ 7 lo 512 256 _ i (by omega) (by omega)).trans ?_
    rw [piecesA (hc0 := hc0) (hc1 := hc1)]
    exact read_two arg14.view _ _ _ _ (by show 6 ≤ 7 + (i 0).val; omega)
  have h8 : (fun lo h => arg14.view.readCov (ffnRunA.sl.HS0_2 c arg2 harg2 arg3 harg3 arg4 harg4 arg5 harg5 arg6 harg6 arg7 harg7 arg8 harg8 arg15 x0 x1 x2 x3 x4 x5 x6) (Rect.unit (s := S520x5632) ![8, lo] S512x256.size (inb520 8 lo (by decide) h)).toLoadRect) = rowsAt (bufRows (k0_pay4 x2 x3 x4 x5 x6) (k0_pay7 x0 x1 x4 x5 x6)) 8 (by decide) := by
    funext lo h i
    have h0 : (i 0).val < 512 := (i 0).isLt
    have h1 : (i 1).val < 256 := (i 1).isLt
    refine (readAt_two arg14.view _ 8 lo 512 256 _ i (by omega) (by omega)).trans ?_
    rw [piecesA (hc0 := hc0) (hc1 := hc1)]
    exact read_two arg14.view _ _ _ _ (by show 6 ≤ 8 + (i 0).val; omega)
  have c0 : (fun lo h => View.readAt (Elt F) arg9.view (Rect.unit (s := S3x5632) ![0, lo] S1x256.size (inb3 0 lo (by decide) h)).toLoadRect (harg9.unread x7)) = tapAt x7 0 (by decide) := by
    funext lo h i
    have h0 : (i 0).val < 1 := (i 0).isLt
    have h1 : (i 1).val < 256 := (i 1).isLt
    refine (readAt_two arg9.view _ 0 lo 1 256 _ i (by omega) (by omega)).trans ?_
    rw [harg9.read_unread]
    unfold tapAt
    congr 1
    funext a
    apply Fin.ext
    match a with
    | ⟨0, _⟩ => show 0 + (i 0).val = 0; omega
    | ⟨1, _⟩ => rfl
  have c1 : (fun lo h => View.readAt (Elt F) arg9.view (Rect.unit (s := S3x5632) ![1, lo] S1x256.size (inb3 1 lo (by decide) h)).toLoadRect (harg9.unread x7)) = tapAt x7 1 (by decide) := by
    funext lo h i
    have h0 : (i 0).val < 1 := (i 0).isLt
    have h1 : (i 1).val < 256 := (i 1).isLt
    refine (readAt_two arg9.view _ 1 lo 1 256 _ i (by omega) (by omega)).trans ?_
    rw [harg9.read_unread]
    unfold tapAt
    congr 1
    funext a
    apply Fin.ext
    match a with
    | ⟨0, _⟩ => show 1 + (i 0).val = 1; omega
    | ⟨1, _⟩ => rfl
  have c2 : (fun lo h => View.readAt (Elt F) arg9.view (Rect.unit (s := S3x5632) ![2, lo] S1x256.size (inb3 2 lo (by decide) h)).toLoadRect (harg9.unread x7)) = tapAt x7 2 (by decide) := by
    funext lo h i
    have h0 : (i 0).val < 1 := (i 0).isLt
    have h1 : (i 1).val < 256 := (i 1).isLt
    refine (readAt_two arg9.view _ 2 lo 1 256 _ i (by omega) (by omega)).trans ?_
    rw [harg9.read_unread]
    unfold tapAt
    congr 1
    funext a
    apply Fin.ext
    match a with
    | ⟨0, _⟩ => show 2 + (i 0).val = 2; omega
    | ⟨1, _⟩ => rfl
  have ed : (fun lo h => View.readAt (Elt F) arg10.view (Rect.unit (s := S2816x1024) ![lo, 0] S256x1024.size (inb2816 lo h)).toLoadRect (harg10.unread x8)) = downAt x8 := by
    funext lo h i
    have h0 : (i 0).val < 256 := (i 0).isLt
    have h1 : (i 1).val < 1024 := (i 1).isLt
    refine (readAt_two arg10.view _ lo 0 256 1024 _ i (by omega) (by omega)).trans ?_
    rw [harg10.read_unread]
    unfold downAt
    congr 1
    funext a
    apply Fin.ext
    match a with
    | ⟨0, _⟩ => rfl
    | ⟨1, _⟩ => show 0 + (i 1).val = (i 1).val; omega
  rw [e, h6, h7, h8, c0, c1, c2, ed, er, readAt_whole]
  rfl

/-- The last two rows of the block. -/
theorem lastA : (ffnRunA.sl.v514 c arg2 harg2 arg3 harg3 arg4 harg4 arg5 harg5 arg6 harg6 arg7 harg7 arg8 harg8 arg14 arg15 x0 x1 x2 x3 x4 x5 x6) = lastRows (k0_pay7 x0 x1 x4 x5 x6) := by
  funext i
  have h0 : (i 0).val < 2 := (i 0).isLt
  have h1 : (i 1).val < 5632 := (i 1).isLt
  unfold ffnRunA.sl.v514
  refine (readAt_two arg14.view _ 518 0 2 5632 _ i (by omega) (by omega)).trans ?_
  rw [piecesA (hc0 := hc0) (hc1 := hc1)]
  refine (read_two arg14.view _ _ _ _ (by show 6 ≤ 518 + (i 0).val; omega)).trans ?_
  unfold bufRows lastRows
  rw [dif_neg (show ¬ (518 + (i 0).val < 8) by omega)]
  congr 1
  funext a
  apply Fin.ext
  match a with
  | ⟨0, _⟩ => show 518 + (i 0).val - 8 = (i 0).val + 510; omega
  | ⟨1, _⟩ => show 0 + (i 1).val = (i 1).val; omega

/-- The pieces of the block of results. -/
theorem runA_out : (ffnRunA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).1 = [⟨Rect.unit ![0, 0] ![512, 1024] inb_S512x1024_S512x1024_0_0, ffnOut (k0_pay6 x0 x1 x4) (bufRows (k0_pay4 x2 x3 x4 x5 x6) (k0_pay7 x0 x1 x4 x5 x6)) x7 x8 x9⟩] := by
  rw [← outA (hc0 := hc0) (hc1 := hc1)]; rfl

/-- The pieces of the last rows' window. -/
theorem runA_last : (ffnRunA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).2.1 = [⟨Rect.unit ![0, 0, 0] ![1, 2, 5632] inb_S1x2x5632_S1x2x5632_0_0_0, k0_pay3 (lastRows (k0_pay7 x0 x1 x4 x5 x6))⟩] := by
  rw [← lastA (hc0 := hc0) (hc1 := hc1)]; rfl

/-- The pieces of the scratch. -/
theorem runA_scratch : ∃ L, (ffnRunA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).2.2.1 = ⟨Rect.unit ![6, 0] ![2, 5632] inb_S520x5632_S2x5632_6_0, lastRows (k0_pay7 x0 x1 x4 x5 x6)⟩ :: L := by
  refine ⟨(ffnRunA.sl.HS0_2 c arg2 harg2 arg3 harg3 arg4 harg4 arg5 harg5 arg6 harg6 arg7 harg7 arg8 harg8 arg15 x0 x1 x2 x3 x4 x5 x6), ?_⟩
  have e : (ffnRunA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).2.2.1 = ⟨Rect.unit ![6, 0] ![2, 5632] inb_S520x5632_S2x5632_6_0, k0_pay2 (ffnRunA.sl.v514 c arg2 harg2 arg3 harg3 arg4 harg4 arg5 harg5 arg6 harg6 arg7 harg7 arg8 harg8 arg14 arg15 x0 x1 x2 x3 x4 x5 x6)⟩ :: (ffnRunA.sl.HS0_2 c arg2 harg2 arg3 harg3 arg4 harg4 arg5 harg5 arg6 harg6 arg7 harg7 arg8 harg8 arg15 x0 x1 x2 x3 x4 x5 x6) := rfl
  rw [e, pay2_eq, lastA (hc0 := hc0) (hc1 := hc1)]

/-- The pieces of the kept rows. -/
theorem runA_lead : (ffnRunA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).2.2.2.1 = [⟨Rect.unit ![0, 0] S2x5632.size inb_S2x5632_S2x5632_0_0, (k0_pay4 x2 x3 x4 x5 x6)⟩] := by
  have e : (ffnRunA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0).2.2.2.1 = ffnRunA.sl.HS1_1 c arg4 harg4 arg5 harg5 arg6 harg6 arg7 harg7 arg8 harg8 x2 x3 x4 x5 x6 := rfl
  rw [e]; unfold ffnRunA.sl.HS1_1; rw [readAt_whole, readAt_whole, readAt_whole, readAt_whole, readAt_whole]

end

section
variable (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S16x1024 .f32) (harg4 : arg4.IsWhole) (arg5 : Memref sig .tc .vmem S16x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x5632 .f32) (harg13 : arg13.IsWhole) (arg14 : Memref sig .tc .vmem S520x5632 .f32) (harg14 : arg14.IsWhole) (arg15 : Memref sig .tc .vmem S2x5632 .f32) (harg15 : arg15.IsWhole) (hc0 : ¬cond0_0 i) (hc1 : ¬cond0_1 i)
    (x0 : Vec F S512x1024 .f32) (x1 : Vec F S512x1024 .bf16) (x2 : Vec F S16x1024 .f32) (x3 : Vec F S16x1024 .bf16) (x4 : Vec F S1024x1024 .bf16) (x5 : Vec F S1x1024 .f32) (x6 : Vec F S1024x5632 .bf16) (x7 : Vec F S3x5632 .f32) (x8 : Vec F S2816x1024 .bf16) (x9 : Vec F S1x1024 .f32) (xs0 : Vec F S520x5632 .f32) (xs1 : Vec F S2x5632 .f32)
include hc0 hc1

/-- The pieces of the scratch. -/
theorem piecesB : (ffnRunB.sl.HS0_1 c arg2 harg2 arg3 harg3 arg6 harg6 arg7 harg7 arg8 harg8 x0 x1 x4 x5 x6) = [⟨Rect.unit ![8, 0] S512x5632.size inb_S520x5632_S512x5632_8_0, (k0_pay7 x0 x1 x4 x5 x6)⟩] := by
  have e : ffnRunB.sl.r_1 c arg2 harg2 arg3 harg3 arg6 harg6 arg7 harg7 arg8 harg8 x0 x1 x4 x5 x6 = (k0_pay7 x0 x1 x4 x5 x6) := by
    unfold ffnRunB.sl.r_1; rw [readAt_whole, readAt_whole, readAt_whole, readAt_whole, readAt_whole]
  unfold ffnRunB.sl.HS0_1; rw [e, pay8_eq]

set_option maxHeartbeats 400000 in
/-- The block of results. -/
theorem outB : k0_pay1 (ffnRunB.sl.r_31 c arg11 harg11 x9) (ffnRunB.sl.r_32 c arg2 harg2 arg3 harg3 arg6 harg6 arg7 harg7 arg8 harg8 arg9 harg9 arg10 harg10 arg14 harg14 x0 x1 x4 x5 x6 x7 x8 xs0) = ffnOut (k0_pay6 x0 x1 x4) (bufRows (midRows xs0) (k0_pay7 x0 x1 x4 x5 x6)) x7 x8 x9 := by
  have e : k0_pay1 (ffnRunB.sl.r_31 c arg11 harg11 x9) (ffnRunB.sl.r_32 c arg2 harg2 arg3 harg3 arg6 harg6 arg7 harg7 arg8 harg8 arg9 harg9 arg10 harg10 arg14 harg14 x0 x1 x4 x5 x6 x7 x8 xs0) = normOut (chunksR (fun lo h => View.readAt (Elt F) arg14.view (Rect.unit (s := S520x5632) ![6, lo] S512x256.size (inb520 6 lo (by decide) h)).toLoadRect (arg14.view.writes (Elt F) (harg14.unread xs0) (ffnRunB.sl.HS0_1 c arg2 harg2 arg3 harg3 arg6 harg6 arg7 harg7 arg8 harg8 x0 x1 x4 x5 x6))) (fun lo h => View.readAt (Elt F) arg14.view (Rect.unit (s := S520x5632) ![7, lo] S512x256.size (inb520 7 lo (by decide) h)).toLoadRect (arg14.view.writes (Elt F) (harg14.unread xs0) (ffnRunB.sl.HS0_1 c arg2 harg2 arg3 harg3 arg6 harg6 arg7 harg7 arg8 harg8 x0 x1 x4 x5 x6))) (fun lo h => arg14.view.readCov (ffnRunB.sl.HS0_1 c arg2 harg2 arg3 harg3 arg6 harg6 arg7 harg7 arg8 harg8 x0 x1 x4 x5 x6) (Rect.unit (s := S520x5632) ![8, lo] S512x256.size (inb520 8 lo (by decide) h)).toLoadRect)
      (fun lo h => View.readAt (Elt F) arg9.view (Rect.unit (s := S3x5632) ![0, lo] S1x256.size (inb3 0 lo (by decide) h)).toLoadRect (harg9.unread x7)) (fun lo h => View.readAt (Elt F) arg9.view (Rect.unit (s := S3x5632) ![1, lo] S1x256.size (inb3 1 lo (by decide) h)).toLoadRect (harg9.unread x7)) (fun lo h => View.readAt (Elt F) arg9.view (Rect.unit (s := S3x5632) ![2, lo] S1x256.size (inb3 2 lo (by decide) h)).toLoadRect (harg9.unread x7)) (fun lo h => View.readAt (Elt F) arg10.view (Rect.unit (s := S2816x1024) ![lo, 0] S256x1024.size (inb2816 lo h)).toLoadRect (harg10.unread x8)) (ffnRunB.sl.r c arg2 harg2 arg3 harg3 arg6 harg6 x0 x1 x4)) (View.readAt (Elt F) arg11.view (Rect.unit ![0, 0] S1x1024.size inb_S1x1024_S1x1024_0_0).toLoadRect (harg11.unread x9)) := rfl
  have er : ffnRunB.sl.r c arg2 harg2 arg3 harg3 arg6 harg6 x0 x1 x4 = (k0_pay6 x0 x1 x4) := by
    unfold ffnRunB.sl.r; rw [readAt_whole, readAt_whole, readAt_whole]
  have h6 : (fun lo h => View.readAt (Elt F) arg14.view (Rect.unit (s := S520x5632) ![6, lo] S512x256.size (inb520 6 lo (by decide) h)).toLoadRect (arg14.view.writes (Elt F) (harg14.unread xs0) (ffnRunB.sl.HS0_1 c arg2 harg2 arg3 harg3 arg6 harg6 arg7 harg7 arg8 harg8 x0 x1 x4 x5 x6))) = rowsAt (bufRows (midRows xs0) (k0_pay7 x0 x1 x4 x5 x6)) 6 (by decide) := by
    funext lo h i
    have h0 : (i 0).val < 512 := (i 0).isLt
    have h1 : (i 1).val < 256 := (i 1).isLt
    refine (readAt_two arg14.view _ 6 lo 512 256 _ i (by omega) (by omega)).trans ?_
    rw [piecesB (hc0 := hc0) (hc1 := hc1)]
    exact read_over arg14.view _ xs0 (harg14.read_unread xs0) _ _ (by show 6 ≤ 6 + (i 0).val; omega)
  have h7 : (fun lo h => View.readAt (Elt F) arg14.view (Rect.unit (s := S520x5632) ![7, lo] S512x256.size (inb520 7 lo (by decide) h)).toLoadRect (arg14.view.writes (Elt F) (harg14.unread xs0) (ffnRunB.sl.HS0_1 c arg2 harg2 arg3 harg3 arg6 harg6 arg7 harg7 arg8 harg8 x0 x1 x4 x5 x6))) = rowsAt (bufRows (midRows xs0) (k0_pay7 x0 x1 x4 x5 x6)) 7 (by decide) := by
    funext lo h i
    have h0 : (i 0).val < 512 := (i 0).isLt
    have h1 : (i 1).val < 256 := (i 1).isLt
    refine (readAt_two arg14.view _ 7 lo 512 256 _ i (by omega) (by omega)).trans ?_
    rw [piecesB (hc0 := hc0) (hc1 := hc1)]
    exact read_over arg14.view _ xs0 (harg14.read_unread xs0) _ _ (by show 6 ≤ 7 + (i 0).val; omega)
  have h8 : (fun lo h => arg14.view.readCov (ffnRunB.sl.HS0_1 c arg2 harg2 arg3 harg3 arg6 harg6 arg7 harg7 arg8 harg8 x0 x1 x4 x5 x6) (Rect.unit (s := S520x5632) ![8, lo] S512x256.size (inb520 8 lo (by decide) h)).toLoadRect) = rowsAt (bufRows (midRows xs0) (k0_pay7 x0 x1 x4 x5 x6)) 8 (by decide) := by
    funext lo h i
    have h0 : (i 0).val < 512 := (i 0).isLt
    have h1 : (i 1).val < 256 := (i 1).isLt
    refine (readAt_two arg14.view _ 8 lo 512 256 _ i (by omega) (by omega)).trans ?_
    rw [piecesB (hc0 := hc0) (hc1 := hc1)]
    exact read_one arg14.view _ (midRows xs0) _ _ (by show 8 ≤ 8 + (i 0).val; omega)
  have c0 : (fun lo h => View.readAt (Elt F) arg9.view (Rect.unit (s := S3x5632) ![0, lo] S1x256.size (inb3 0 lo (by decide) h)).toLoadRect (harg9.unread x7)) = tapAt x7 0 (by decide) := by
    funext lo h i
    have h0 : (i 0).val < 1 := (i 0).isLt
    have h1 : (i 1).val < 256 := (i 1).isLt
    refine (readAt_two arg9.view _ 0 lo 1 256 _ i (by omega) (by omega)).trans ?_
    rw [harg9.read_unread]
    unfold tapAt
    congr 1
    funext a
    apply Fin.ext
    match a with
    | ⟨0, _⟩ => show 0 + (i 0).val = 0; omega
    | ⟨1, _⟩ => rfl
  have c1 : (fun lo h => View.readAt (Elt F) arg9.view (Rect.unit (s := S3x5632) ![1, lo] S1x256.size (inb3 1 lo (by decide) h)).toLoadRect (harg9.unread x7)) = tapAt x7 1 (by decide) := by
    funext lo h i
    have h0 : (i 0).val < 1 := (i 0).isLt
    have h1 : (i 1).val < 256 := (i 1).isLt
    refine (readAt_two arg9.view _ 1 lo 1 256 _ i (by omega) (by omega)).trans ?_
    rw [harg9.read_unread]
    unfold tapAt
    congr 1
    funext a
    apply Fin.ext
    match a with
    | ⟨0, _⟩ => show 1 + (i 0).val = 1; omega
    | ⟨1, _⟩ => rfl
  have c2 : (fun lo h => View.readAt (Elt F) arg9.view (Rect.unit (s := S3x5632) ![2, lo] S1x256.size (inb3 2 lo (by decide) h)).toLoadRect (harg9.unread x7)) = tapAt x7 2 (by decide) := by
    funext lo h i
    have h0 : (i 0).val < 1 := (i 0).isLt
    have h1 : (i 1).val < 256 := (i 1).isLt
    refine (readAt_two arg9.view _ 2 lo 1 256 _ i (by omega) (by omega)).trans ?_
    rw [harg9.read_unread]
    unfold tapAt
    congr 1
    funext a
    apply Fin.ext
    match a with
    | ⟨0, _⟩ => show 2 + (i 0).val = 2; omega
    | ⟨1, _⟩ => rfl
  have ed : (fun lo h => View.readAt (Elt F) arg10.view (Rect.unit (s := S2816x1024) ![lo, 0] S256x1024.size (inb2816 lo h)).toLoadRect (harg10.unread x8)) = downAt x8 := by
    funext lo h i
    have h0 : (i 0).val < 256 := (i 0).isLt
    have h1 : (i 1).val < 1024 := (i 1).isLt
    refine (readAt_two arg10.view _ lo 0 256 1024 _ i (by omega) (by omega)).trans ?_
    rw [harg10.read_unread]
    unfold downAt
    congr 1
    funext a
    apply Fin.ext
    match a with
    | ⟨0, _⟩ => rfl
    | ⟨1, _⟩ => show 0 + (i 1).val = (i 1).val; omega
  rw [e, h6, h7, h8, c0, c1, c2, ed, er, readAt_whole]
  rfl

/-- The last two rows of the block. -/
theorem lastB : (ffnRunB.sl.v514 c arg2 harg2 arg3 harg3 arg6 harg6 arg7 harg7 arg8 harg8 arg14 x0 x1 x4 x5 x6) = lastRows (k0_pay7 x0 x1 x4 x5 x6) := by
  funext i
  have h0 : (i 0).val < 2 := (i 0).isLt
  have h1 : (i 1).val < 5632 := (i 1).isLt
  unfold ffnRunB.sl.v514
  refine (readAt_two arg14.view _ 518 0 2 5632 _ i (by omega) (by omega)).trans ?_
  rw [piecesB (hc0 := hc0) (hc1 := hc1)]
  refine (read_one arg14.view _ (lastRows (k0_pay7 x0 x1 x4 x5 x6)) _ _ (by show 8 ≤ 518 + (i 0).val; omega)).trans ?_
  unfold bufRows lastRows
  rw [dif_neg (show ¬ (518 + (i 0).val < 8) by omega)]
  congr 1
  funext a
  apply Fin.ext
  match a with
  | ⟨0, _⟩ => show 518 + (i 0).val - 8 = (i 0).val + 510; omega
  | ⟨1, _⟩ => show 0 + (i 1).val = (i 1).val; omega

/-- The pieces of the block of results. -/
theorem runB_out : (ffnRunB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 = [⟨Rect.unit ![0, 0] ![512, 1024] inb_S512x1024_S512x1024_0_0, ffnOut (k0_pay6 x0 x1 x4) (bufRows (midRows xs0) (k0_pay7 x0 x1 x4 x5 x6)) x7 x8 x9⟩] := by
  rw [← outB (hc0 := hc0) (hc1 := hc1)]; rfl

/-- The pieces of the last rows' window. -/
theorem runB_last : (ffnRunB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 = [⟨Rect.unit ![0, 0, 0] ![1, 2, 5632] inb_S1x2x5632_S1x2x5632_0_0_0, k0_pay3 (lastRows (k0_pay7 x0 x1 x4 x5 x6))⟩] := by
  rw [← lastB (hc0 := hc0) (hc1 := hc1)]; rfl

/-- The pieces of the scratch. -/
theorem runB_scratch : ∃ L, (ffnRunB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 = ⟨Rect.unit ![6, 0] ![2, 5632] inb_S520x5632_S2x5632_6_0, lastRows (k0_pay7 x0 x1 x4 x5 x6)⟩ :: L := by
  refine ⟨(ffnRunB.sl.HS0_1 c arg2 harg2 arg3 harg3 arg6 harg6 arg7 harg7 arg8 harg8 x0 x1 x4 x5 x6), ?_⟩
  have e : (ffnRunB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 = ⟨Rect.unit ![6, 0] ![2, 5632] inb_S520x5632_S2x5632_6_0, k0_pay2 (ffnRunB.sl.v514 c arg2 harg2 arg3 harg3 arg6 harg6 arg7 harg7 arg8 harg8 arg14 x0 x1 x4 x5 x6)⟩ :: (ffnRunB.sl.HS0_1 c arg2 harg2 arg3 harg3 arg6 harg6 arg7 harg7 arg8 harg8 x0 x1 x4 x5 x6) := rfl
  rw [e, pay2_eq, lastB (hc0 := hc0) (hc1 := hc1)]

end

section
variable (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S16x1024 .f32) (harg4 : arg4.IsWhole) (arg5 : Memref sig .tc .vmem S16x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x5632 .f32) (harg13 : arg13.IsWhole) (arg14 : Memref sig .tc .vmem S520x5632 .f32) (harg14 : arg14.IsWhole) (arg15 : Memref sig .tc .vmem S2x5632 .f32) (harg15 : arg15.IsWhole) (hc0 : ¬cond0_0 i) (hc1 : cond0_1 i)
    (x0 : Vec F S512x1024 .f32) (x1 : Vec F S512x1024 .bf16) (x2 : Vec F S16x1024 .f32) (x3 : Vec F S16x1024 .bf16) (x4 : Vec F S1024x1024 .bf16) (x5 : Vec F S1x1024 .f32) (x6 : Vec F S1024x5632 .bf16) (x7 : Vec F S3x5632 .f32) (x8 : Vec F S2816x1024 .bf16) (x9 : Vec F S1x1024 .f32) (xs0 : Vec F S520x5632 .f32) (xs1 : Vec F S2x5632 .f32)
include hc0 hc1

/-- The pieces of the scratch. -/
theorem piecesC : (ffnRunC.sl.HS0_2 c arg2 harg2 arg3 harg3 arg6 harg6 arg7 harg7 arg8 harg8 arg15 harg15 x0 x1 x4 x5 x6 xs1) = [⟨Rect.unit ![8, 0] S512x5632.size inb_S520x5632_S512x5632_8_0, (k0_pay7 x0 x1 x4 x5 x6)⟩, ⟨Rect.unit ![6, 0] S2x5632.size inb_S520x5632_S2x5632_6_0, xs1⟩] := by
  have e : ffnRunC.sl.r_1 c arg2 harg2 arg3 harg3 arg6 harg6 arg7 harg7 arg8 harg8 x0 x1 x4 x5 x6 = (k0_pay7 x0 x1 x4 x5 x6) := by
    unfold ffnRunC.sl.r_1; rw [readAt_whole, readAt_whole, readAt_whole, readAt_whole, readAt_whole]
  unfold ffnRunC.sl.HS0_2; rw [e, pay5_eq, readAt_whole, pay8_eq]

set_option maxHeartbeats 400000 in
/-- The block of results. -/
theorem outC : k0_pay1 (ffnRunC.sl.r_31 c arg11 harg11 x9) (ffnRunC.sl.r_32 c arg2 harg2 arg3 harg3 arg6 harg6 arg7 harg7 arg8 harg8 arg9 harg9 arg10 harg10 arg14 arg15 harg15 x0 x1 x4 x5 x6 x7 x8 xs1) = ffnOut (k0_pay6 x0 x1 x4) (bufRows xs1 (k0_pay7 x0 x1 x4 x5 x6)) x7 x8 x9 := by
  have e : k0_pay1 (ffnRunC.sl.r_31 c arg11 harg11 x9) (ffnRunC.sl.r_32 c arg2 harg2 arg3 harg3 arg6 harg6 arg7 harg7 arg8 harg8 arg9 harg9 arg10 harg10 arg14 arg15 harg15 x0 x1 x4 x5 x6 x7 x8 xs1) = normOut (chunksR (fun lo h => arg14.view.readCov (ffnRunC.sl.HS0_2 c arg2 harg2 arg3 harg3 arg6 harg6 arg7 harg7 arg8 harg8 arg15 harg15 x0 x1 x4 x5 x6 xs1) (Rect.unit (s := S520x5632) ![6, lo] S512x256.size (inb520 6 lo (by decide) h)).toLoadRect) (fun lo h => arg14.view.readCov (ffnRunC.sl.HS0_2 c arg2 harg2 arg3 harg3 arg6 harg6 arg7 harg7 arg8 harg8 arg15 harg15 x0 x1 x4 x5 x6 xs1) (Rect.unit (s := S520x5632) ![7, lo] S512x256.size (inb520 7 lo (by decide) h)).toLoadRect) (fun lo h => arg14.view.readCov (ffnRunC.sl.HS0_2 c arg2 harg2 arg3 harg3 arg6 harg6 arg7 harg7 arg8 harg8 arg15 harg15 x0 x1 x4 x5 x6 xs1) (Rect.unit (s := S520x5632) ![8, lo] S512x256.size (inb520 8 lo (by decide) h)).toLoadRect)
      (fun lo h => View.readAt (Elt F) arg9.view (Rect.unit (s := S3x5632) ![0, lo] S1x256.size (inb3 0 lo (by decide) h)).toLoadRect (harg9.unread x7)) (fun lo h => View.readAt (Elt F) arg9.view (Rect.unit (s := S3x5632) ![1, lo] S1x256.size (inb3 1 lo (by decide) h)).toLoadRect (harg9.unread x7)) (fun lo h => View.readAt (Elt F) arg9.view (Rect.unit (s := S3x5632) ![2, lo] S1x256.size (inb3 2 lo (by decide) h)).toLoadRect (harg9.unread x7)) (fun lo h => View.readAt (Elt F) arg10.view (Rect.unit (s := S2816x1024) ![lo, 0] S256x1024.size (inb2816 lo h)).toLoadRect (harg10.unread x8)) (ffnRunC.sl.r c arg2 harg2 arg3 harg3 arg6 harg6 x0 x1 x4)) (View.readAt (Elt F) arg11.view (Rect.unit ![0, 0] S1x1024.size inb_S1x1024_S1x1024_0_0).toLoadRect (harg11.unread x9)) := rfl
  have er : ffnRunC.sl.r c arg2 harg2 arg3 harg3 arg6 harg6 x0 x1 x4 = (k0_pay6 x0 x1 x4) := by
    unfold ffnRunC.sl.r; rw [readAt_whole, readAt_whole, readAt_whole]
  have h6 : (fun lo h => arg14.view.readCov (ffnRunC.sl.HS0_2 c arg2 harg2 arg3 harg3 arg6 harg6 arg7 harg7 arg8 harg8 arg15 harg15 x0 x1 x4 x5 x6 xs1) (Rect.unit (s := S520x5632) ![6, lo] S512x256.size (inb520 6 lo (by decide) h)).toLoadRect) = rowsAt (bufRows xs1 (k0_pay7 x0 x1 x4 x5 x6)) 6 (by decide) := by
    funext lo h i
    have h0 : (i 0).val < 512 := (i 0).isLt
    have h1 : (i 1).val < 256 := (i 1).isLt
    refine (readAt_two arg14.view _ 6 lo 512 256 _ i (by omega) (by omega)).trans ?_
    rw [piecesC (hc0 := hc0) (hc1 := hc1)]
    exact read_two arg14.view _ _ _ _ (by show 6 ≤ 6 + (i 0).val; omega)
  have h7 : (fun lo h => arg14.view.readCov (ffnRunC.sl.HS0_2 c arg2 harg2 arg3 harg3 arg6 harg6 arg7 harg7 arg8 harg8 arg15 harg15 x0 x1 x4 x5 x6 xs1) (Rect.unit (s := S520x5632) ![7, lo] S512x256.size (inb520 7 lo (by decide) h)).toLoadRect) = rowsAt (bufRows xs1 (k0_pay7 x0 x1 x4 x5 x6)) 7 (by decide) := by
    funext lo h i
    have h0 : (i 0).val < 512 := (i 0).isLt
    have h1 : (i 1).val < 256 := (i 1).isLt
    refine (readAt_two arg14.view _ 7 lo 512 256 _ i (by omega) (by omega)).trans ?_
    rw [piecesC (hc0 := hc0) (hc1 := hc1)]
    exact read_two arg14.view _ _ _ _ (by show 6 ≤ 7 + (i 0).val; omega)
  have h8 : (fun lo h => arg14.view.readCov (ffnRunC.sl.HS0_2 c arg2 harg2 arg3 harg3 arg6 harg6 arg7 harg7 arg8 harg8 arg15 harg15 x0 x1 x4 x5 x6 xs1) (Rect.unit (s := S520x5632) ![8, lo] S512x256.size (inb520 8 lo (by decide) h)).toLoadRect) = rowsAt (bufRows xs1 (k0_pay7 x0 x1 x4 x5 x6)) 8 (by decide) := by
    funext lo h i
    have h0 : (i 0).val < 512 := (i 0).isLt
    have h1 : (i 1).val < 256 := (i 1).isLt
    refine (readAt_two arg14.view _ 8 lo 512 256 _ i (by omega) (by omega)).trans ?_
    rw [piecesC (hc0 := hc0) (hc1 := hc1)]
    exact read_two arg14.view _ _ _ _ (by show 6 ≤ 8 + (i 0).val; omega)
  have c0 : (fun lo h => View.readAt (Elt F) arg9.view (Rect.unit (s := S3x5632) ![0, lo] S1x256.size (inb3 0 lo (by decide) h)).toLoadRect (harg9.unread x7)) = tapAt x7 0 (by decide) := by
    funext lo h i
    have h0 : (i 0).val < 1 := (i 0).isLt
    have h1 : (i 1).val < 256 := (i 1).isLt
    refine (readAt_two arg9.view _ 0 lo 1 256 _ i (by omega) (by omega)).trans ?_
    rw [harg9.read_unread]
    unfold tapAt
    congr 1
    funext a
    apply Fin.ext
    match a with
    | ⟨0, _⟩ => show 0 + (i 0).val = 0; omega
    | ⟨1, _⟩ => rfl
  have c1 : (fun lo h => View.readAt (Elt F) arg9.view (Rect.unit (s := S3x5632) ![1, lo] S1x256.size (inb3 1 lo (by decide) h)).toLoadRect (harg9.unread x7)) = tapAt x7 1 (by decide) := by
    funext lo h i
    have h0 : (i 0).val < 1 := (i 0).isLt
    have h1 : (i 1).val < 256 := (i 1).isLt
    refine (readAt_two arg9.view _ 1 lo 1 256 _ i (by omega) (by omega)).trans ?_
    rw [harg9.read_unread]
    unfold tapAt
    congr 1
    funext a
    apply Fin.ext
    match a with
    | ⟨0, _⟩ => show 1 + (i 0).val = 1; omega
    | ⟨1, _⟩ => rfl
  have c2 : (fun lo h => View.readAt (Elt F) arg9.view (Rect.unit (s := S3x5632) ![2, lo] S1x256.size (inb3 2 lo (by decide) h)).toLoadRect (harg9.unread x7)) = tapAt x7 2 (by decide) := by
    funext lo h i
    have h0 : (i 0).val < 1 := (i 0).isLt
    have h1 : (i 1).val < 256 := (i 1).isLt
    refine (readAt_two arg9.view _ 2 lo 1 256 _ i (by omega) (by omega)).trans ?_
    rw [harg9.read_unread]
    unfold tapAt
    congr 1
    funext a
    apply Fin.ext
    match a with
    | ⟨0, _⟩ => show 2 + (i 0).val = 2; omega
    | ⟨1, _⟩ => rfl
  have ed : (fun lo h => View.readAt (Elt F) arg10.view (Rect.unit (s := S2816x1024) ![lo, 0] S256x1024.size (inb2816 lo h)).toLoadRect (harg10.unread x8)) = downAt x8 := by
    funext lo h i
    have h0 : (i 0).val < 256 := (i 0).isLt
    have h1 : (i 1).val < 1024 := (i 1).isLt
    refine (readAt_two arg10.view _ lo 0 256 1024 _ i (by omega) (by omega)).trans ?_
    rw [harg10.read_unread]
    unfold downAt
    congr 1
    funext a
    apply Fin.ext
    match a with
    | ⟨0, _⟩ => rfl
    | ⟨1, _⟩ => show 0 + (i 1).val = (i 1).val; omega
  rw [e, h6, h7, h8, c0, c1, c2, ed, er, readAt_whole]
  rfl

/-- The last two rows of the block. -/
theorem lastC : (ffnRunC.sl.v514 c arg2 harg2 arg3 harg3 arg6 harg6 arg7 harg7 arg8 harg8 arg14 arg15 harg15 x0 x1 x4 x5 x6 xs1) = lastRows (k0_pay7 x0 x1 x4 x5 x6) := by
  funext i
  have h0 : (i 0).val < 2 := (i 0).isLt
  have h1 : (i 1).val < 5632 := (i 1).isLt
  unfold ffnRunC.sl.v514
  refine (readAt_two arg14.view _ 518 0 2 5632 _ i (by omega) (by omega)).trans ?_
  rw [piecesC (hc0 := hc0) (hc1 := hc1)]
  refine (read_two arg14.view _ _ _ _ (by show 6 ≤ 518 + (i 0).val; omega)).trans ?_
  unfold bufRows lastRows
  rw [dif_neg (show ¬ (518 + (i 0).val < 8) by omega)]
  congr 1
  funext a
  apply Fin.ext
  match a with
  | ⟨0, _⟩ => show 518 + (i 0).val - 8 = (i 0).val + 510; omega
  | ⟨1, _⟩ => show 0 + (i 1).val = (i 1).val; omega

/-- The pieces of the block of results. -/
theorem runC_out : (ffnRunC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 = [⟨Rect.unit ![0, 0] ![512, 1024] inb_S512x1024_S512x1024_0_0, ffnOut (k0_pay6 x0 x1 x4) (bufRows xs1 (k0_pay7 x0 x1 x4 x5 x6)) x7 x8 x9⟩] := by
  rw [← outC (hc0 := hc0) (hc1 := hc1)]; rfl

/-- The pieces of the last rows' window. -/
theorem runC_last : (ffnRunC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 = [⟨Rect.unit ![0, 0, 0] ![1, 2, 5632] inb_S1x2x5632_S1x2x5632_0_0_0, k0_pay3 (lastRows (k0_pay7 x0 x1 x4 x5 x6))⟩] := by
  rw [← lastC (hc0 := hc0) (hc1 := hc1)]; rfl

/-- The pieces of the scratch. -/
theorem runC_scratch : ∃ L, (ffnRunC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 = ⟨Rect.unit ![6, 0] ![2, 5632] inb_S520x5632_S2x5632_6_0, lastRows (k0_pay7 x0 x1 x4 x5 x6)⟩ :: L := by
  refine ⟨(ffnRunC.sl.HS0_2 c arg2 harg2 arg3 harg3 arg6 harg6 arg7 harg7 arg8 harg8 arg15 harg15 x0 x1 x4 x5 x6 xs1), ?_⟩
  have e : (ffnRunC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 = ⟨Rect.unit ![6, 0] ![2, 5632] inb_S520x5632_S2x5632_6_0, k0_pay2 (ffnRunC.sl.v514 c arg2 harg2 arg3 harg3 arg6 harg6 arg7 harg7 arg8 harg8 arg14 arg15 harg15 x0 x1 x4 x5 x6 xs1)⟩ :: (ffnRunC.sl.HS0_2 c arg2 harg2 arg3 harg3 arg6 harg6 arg7 harg7 arg8 harg8 arg15 harg15 x0 x1 x4 x5 x6 xs1) := rfl
  rw [e, pay2_eq, lastC (hc0 := hc0) (hc1 := hc1)]

end

end Cert.KernelIdeal.Hand

end
-- ==== Proof.FfnBody.lean ====
/-
The body at every point, what the two scratch operands hold between points, and the run of the whole program: what it
leaves in the result windows is a function of the arguments.
-/
module

public import proofs.«01_k».proof.Proof.FfnVals
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The up projection of point `t`'s block. -/
def upAt (c : Dev nD) (t : Fin cfg0.N) : FVec F S512x5632 .f32 :=
  k0_pay7 (iblk m c 0 t) (iblk m c 1 t) (iblk m c 4 t) (iblk m c 5 t) (iblk m c 6 t)

/-- The last two rows of the leading tokens' up projection. -/
def leadAt (c : Dev nD) (t : Fin cfg0.N) : FVec F S2x5632 .f32 :=
  k0_pay4 (iblk m c 2 t) (iblk m c 3 t) (iblk m c 4 t) (iblk m c 5 t) (iblk m c 6 t)

/-- The first point. -/
def point0 : Fin cfg0.N := ⟨0, by have : cfg0.N = 32 := N_0; omega⟩

/-- The point before. -/
def pointPred (t : Fin cfg0.N) : Fin cfg0.N := ⟨t.val - 1, lt_of_le_of_lt (Nat.sub_le _ _) t.isLt⟩

/-- The two rows before point `t`'s block. -/
def tailIn (c : Dev nD) (t : Fin cfg0.N) : FVec F S2x5632 .f32 :=
  if t.val % 4 = 0 then leadAt m c point0 else lastRows (upAt m c (pointPred t))

/-- The block of results of point `t`. -/
def yAt (c : Dev nD) (t : Fin cfg0.N) : FVec F S512x1024 .f32 :=
  ffnOut (k0_pay6 (iblk m c 0 t) (iblk m c 1 t) (iblk m c 4 t)) (bufRows (tailIn m c t) (upAt m c t)) (iblk m c 7 t) (iblk m c 8 t) (iblk m c 9 t)

/-- The block of last rows of point `t`. -/
def cfAt (c : Dev nD) (t : Fin cfg0.N) : FVec F S1x2x5632 .f32 := k0_pay3 (lastRows (upAt m c t))

/-! ## The invariant -/

/-- Before the first point anything; afterwards the first scratch's two carried rows and the whole second scratch are named. -/
def PhiS (c : Dev nD) : (n : ℕ) → n ≤ cfg0.N → sProp 𝕄
  | 0, _ => Pipeline.ΦA spec0 c
  | n + 1, hn => iprop(iprop((∃ d, iprop(⌜midRows d = lastRows (upAt m c ⟨n, hn⟩)⌝ ∗ owns (c : Thread nD τ) scM0_0 fullShare d)) ∗ owns (c : Thread nD τ) scM0_1 fullShare (leadAt m c point0)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, iprop(⌜midRows d = lastRows (upAt m c ⟨n, hn⟩)⌝ ∗ owns (c : Thread nD τ) scM0_0 fullShare d)) ∗ owns (c : Thread nD τ) scM0_1 fullShare (leadAt m c point0)) ∗ (∃ r, prngReg c r)) := rfl

theorem PhiS_pos (c : Dev nD) (n : ℕ) (h : n ≤ cfg0.N) (hz : n ≠ 0) :
    PhiS m c n h = iprop(iprop((∃ d, iprop(⌜midRows d = lastRows (upAt m c ⟨n - 1, by omega⟩)⌝ ∗ owns (c : Thread nD τ) scM0_0 fullShare d)) ∗ owns (c : Thread nD τ) scM0_1 fullShare (leadAt m c point0)) ∗ (∃ r, prngReg c r)) := by
  cases n with
  | zero => exact absurd rfl hz
  | succ n => rfl

/-! ## The pipeline's data -/

/-- The proof data: after the body each input's buffer at its block, the outputs at the closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yAt m c t
    | ⟨11, _⟩ => cfAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = yAt m c t := by dsimp only [dats]
theorem after0_11 (c : Dev nD) (t : Fin cfg0.N) : (dats m 0 c).after 11 t = cfAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- A whole piece is what is read. -/
theorem read_whole2 {a b : ℕ} {e : EltTy} (v : View sig .tc .vmem ⟨2, ![a, b]⟩ e) (f : v.ty.Contents (Elt F)) (inb) (w : Vec F ⟨2, ![a, b]⟩ e) (L) (hL : L = [⟨Rect.unit ![0, 0] ![a, b] inb, w⟩]) :
    v.read (Elt F) (v.writes (Elt F) f L) = w := by
  subst hL; exact View.read_writes_full (s := ⟨2, ![a, b]⟩) v f inb w []

theorem read_whole3 {a b d : ℕ} {e : EltTy} (v : View sig .tc .vmem ⟨3, ![a, b, d]⟩ e) (f : v.ty.Contents (Elt F)) (inb) (w : Vec F ⟨3, ![a, b, d]⟩ e) (L) (hL : L = [⟨Rect.unit ![0, 0, 0] ![a, b, d] inb, w⟩]) :
    v.read (Elt F) (v.writes (Elt F) f L) = w := by
  subst hL; exact View.read_writes_full (s := ⟨3, ![a, b, d]⟩) v f inb w []

/-- The carried rows after the body's last store. -/
theorem midRows_read (v : View sig .tc .vmem S520x5632 .f32) (f : v.ty.Contents (Elt F)) (w : Vec F S2x5632 .f32) (L)
    (hL : ∃ L', L = ⟨Rect.unit ![6, 0] ![2, 5632] inb_S520x5632_S2x5632_6_0, w⟩ :: L') :
    midRows (v.read (Elt F) (v.writes (Elt F) f L)) = w := by
  obtain ⟨L', rfl⟩ := hL; exact midRows_store v f w L'

set_option maxHeartbeats 4000000 in
/-- The first point. -/
theorem sound_A (c : Dev nD) (t : Fin cfg0.N) (hz : t.val = 0) :
    bodyPre m c t ⊢ wp frame (wpE (defs₀ (F := F)) Variants.none c none) Set.univ (bodyAt0 t) (fun _ => bodyPost m c t) := by
  have h0 : t.val % 32 = 0 := by omega
  have h1 : t.val % 4 = 0 := by omega
  have ht0 : t = point0 := Fin.ext hz
  have htl : tailIn m c t = k0_pay4 (iblk m c 2 t) (iblk m c 3 t) (iblk m c 4 t) (iblk m c 5 t) (iblk m c 6 t) := by
    unfold tailIn; rw [if_pos h1, ht0]; rfl
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  rw [PhiS_castSucc m c t, PhiS_zero m c _ _ hz, PhiA0_eq]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((ffnRunA c (grid0.coords t) _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) e0).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, ⟨%f10, H10⟩, ⟨%f11, H11⟩, HS0, ⟨%f1, HS1⟩⟩
  isplitl [HS0 HS1 Hg]
  · isplitl [HS0 HS1]
    · isplitl [HS0]
      · iexists _; isplitr
        swap
        · unfold owns; iexists _; isplitr
          swap; · iexact HS0
          ipureintro; rfl
        ipureintro; exact midRows_read _ _ _ _ (runA_scratch ..)
      unfold owns; iexists _; isplitr
      swap; · iexact HS1
      ipureintro; exact (read_whole2 _ _ _ _ _ (runA_lead ..)).trans (by rw [ht0]; rfl)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact (read_whole2 _ _ _ _ _ (runA_out ..)).trans ((by unfold yAt; rw [htl]; rfl))
  unfold owns; iexists _; isplitr
  swap; · iexact H11
  ipureintro; exact read_whole3 _ _ _ _ _ (runA_last ..)

set_option maxHeartbeats 4000000 in
/-- A later sequence's first point. -/
theorem sound_C (c : Dev nD) (t : Fin cfg0.N) (hz : t.val ≠ 0) (h1 : t.val % 4 = 0) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have h0 : ¬ t.val % 32 = 0 := by omega
  have htl : tailIn m c t = leadAt m c point0 := by unfold tailIn; rw [if_pos h1]
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  rw [PhiS_castSucc m c t, PhiS_pos m c _ _ hz]
  iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((ffnRunC c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) e0 (leadAt m c point0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, ⟨%f10, H10⟩, ⟨%f11, H11⟩, HS0, HS1⟩
  isplitl [HS0 HS1 Hg]
  · isplitl [HS0 HS1]
    · isplitl [HS0]
      · iexists _; isplitr
        swap
        · unfold owns; iexists _; isplitr
          swap; · iexact HS0
          ipureintro; rfl
        ipureintro; exact midRows_read _ _ _ _ (runC_scratch ..)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact (read_whole2 _ _ _ _ _ (runC_out ..)).trans ((by unfold yAt; rw [htl]; rfl))
  unfold owns; iexists _; isplitr
  swap; · iexact H11
  ipureintro; exact read_whole3 _ _ _ _ _ (runC_last ..)

set_option maxHeartbeats 4000000 in
/-- The other points. -/
theorem sound_B (c : Dev nD) (t : Fin cfg0.N) (h1 : ¬ t.val % 4 = 0) :
    bodyPre m c t ⊢ wp frame (wpE (defs₀ (F := F)) Variants.none c none) Set.univ (bodyAt0 t) (fun _ => bodyPost m c t) := by
  have hz : t.val ≠ 0 := by omega
  have h0 : ¬ t.val % 32 = 0 := by omega
  have htl : tailIn m c t = lastRows (upAt m c (pointPred t)) := by unfold tailIn; rw [if_neg h1]
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  rw [PhiS_castSucc m c t, PhiS_pos m c _ _ hz]
  iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((ffnRunB c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) e0 (leadAt m c point0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, ⟨%f10, H10⟩, ⟨%f11, H11⟩, HS0, HS1⟩
  isplitl [HS0 HS1 Hg]
  · isplitl [HS0 HS1]
    · isplitl [HS0]
      · iexists _; isplitr
        swap
        · unfold owns; iexists _; isplitr
          swap; · iexact HS0
          ipureintro; rfl
        ipureintro; exact midRows_read _ _ _ _ (runB_scratch ..)
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact (read_whole2 _ _ _ _ _ (runB_out ..)).trans ((by unfold yAt; rw [htl, he0]; rfl))
  unfold owns; iexists _; isplitr
  swap; · iexact H11
  ipureintro; exact read_whole3 _ _ _ _ _ (runB_last ..)

/-- Every point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 4 = 0
  · by_cases hz : t.val = 0
    · exact sound_A m c t hz
    · exact sound_C m c t hz h1
  · exact sound_B m c t h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨⟨%e0, %he0, HS0⟩, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution ends with the windows' arrays at the closed forms and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.FfnMath.lean ====
/-
The layer's out projection, normalization and convolutional feed-forward on rows of extended reals: one row's value
from the rows it reads.
-/
module

public import Idealize.ShloMosaic.Lib.Pointwise

@[expose] public section

noncomputable section

namespace Cert.FfnMath

open Idealize.ShloMosaic

/-- A row. -/
abbrev Row (n : ℕ) := Fin n → EReal

/-- The factor a normalization scales a row by. -/
def scaleOf (x : Row 1024) : EReal :=
  Ideal.rsqrt (Ideal.div (∑ k, x k * x k) (Ideal.ofBits FTy.f32 1149239296#32) + Ideal.ofBits FTy.f32 897988541#32)

/-- A normalized row. -/
def normRow (x w : Row 1024) : Row 1024 := fun c => x c * scaleOf x * w c

/-- A row of the residual with the mixer's row projected onto it. -/
def x1Row (x mx : Row 1024) (wo : Fin 1024 → Row 1024) : Row 1024 := fun c => x c + ∑ k, mx k * wo k c

/-- A row of the up projection. -/
def upRow (y : Row 1024) (wu : Fin 1024 → Row 5632) : Row 5632 := fun c => ∑ k, y k * wu k c

/-- A row of the convolution of three successive rows. -/
def convRow (a0 a1 a2 : Row 5632) (cw : Fin 3 → Row 5632) : Row 5632 :=
  fun c => a0 c * cw 0 c + a1 c * cw 1 c + a2 c * cw 2 c

/-- The gated activation of a row. -/
def actRow (u : Row 5632) : Row 2816 := fun k =>
  u ⟨k.val, by omega⟩ * Ideal.logistic (u ⟨k.val, by omega⟩) * u ⟨2816 + k.val, by omega⟩

/-- A row with the down projection added to it. -/
def x2Row (x1 : Row 1024) (a : Row 2816) (wd : Fin 2816 → Row 1024) : Row 1024 := fun c => x1 c + ∑ k, a k * wd k c

/-- A sum of eleven terms, one after another. -/
theorem sum_eleven (a : EReal) (g : Fin 11 → EReal) :
    a + ∑ j, g j = a + g 0 + g 1 + g 2 + g 3 + g 4 + g 5 + g 6 + g 7 + g 8 + g 9 + g 10 := by
  simp only [Fin.sum_univ_castSucc, Fin.sum_univ_zero, zero_add, ← add_assoc]
  rfl

/-- The down projection in eleven tiles of 256 terms. -/
theorem x2Row_tiles (x1 : Row 1024) (a : Row 2816) (wd : Fin 2816 → Row 1024) (c : Fin 1024) :
    x2Row x1 a wd c = x1 c + (∑ k : Fin 256, a ⟨0 + k.val, by omega⟩ * wd ⟨0 + k.val, by omega⟩ c)
      + (∑ k : Fin 256, a ⟨256 + k.val, by omega⟩ * wd ⟨256 + k.val, by omega⟩ c)
      + (∑ k : Fin 256, a ⟨512 + k.val, by omega⟩ * wd ⟨512 + k.val, by omega⟩ c)
      + (∑ k : Fin 256, a ⟨768 + k.val, by omega⟩ * wd ⟨768 + k.val, by omega⟩ c)
      + (∑ k : Fin 256, a ⟨1024 + k.val, by omega⟩ * wd ⟨1024 + k.val, by omega⟩ c)
      + (∑ k : Fin 256, a ⟨1280 + k.val, by omega⟩ * wd ⟨1280 + k.val, by omega⟩ c)
      + (∑ k : Fin 256, a ⟨1536 + k.val, by omega⟩ * wd ⟨1536 + k.val, by omega⟩ c)
      + (∑ k : Fin 256, a ⟨1792 + k.val, by omega⟩ * wd ⟨1792 + k.val, by omega⟩ c)
      + (∑ k : Fin 256, a ⟨2048 + k.val, by omega⟩ * wd ⟨2048 + k.val, by omega⟩ c)
      + (∑ k : Fin 256, a ⟨2304 + k.val, by omega⟩ * wd ⟨2304 + k.val, by omega⟩ c)
      + (∑ k : Fin 256, a ⟨2560 + k.val, by omega⟩ * wd ⟨2560 + k.val, by omega⟩ c) := by
  unfold x2Row
  rw [Fin.sum_univ_tiles 11 256 (by norm_num), sum_eleven]
  rfl

section
variable (XM MM : Fin 16 → Row 1024) (X MX : Fin 8 → Fin 2048 → Row 1024)
  (wo : Fin 1024 → Row 1024) (nw : Row 1024) (wu : Fin 1024 → Row 5632) (cw : Fin 3 → Row 5632)
  (wd : Fin 2816 → Row 1024) (nf : Row 1024)

/-- Sequence `b` with the sixteen leading rows before it. -/
def seqRow (A : Fin 16 → Row 1024) (B : Fin 8 → Fin 2048 → Row 1024) (b : Fin 8) (p : ℕ) (hp : p < 2064) : Row 1024 :=
  if h : p < 16 then A ⟨p, h⟩ else B b ⟨p - 16, by omega⟩

/-- Position `p`'s row after the out projection. -/
def seqX1 (b : Fin 8) (p : ℕ) (hp : p < 2064) : Row 1024 := x1Row (seqRow XM X b p hp) (seqRow MM MX b p hp) wo

/-- Position `p`'s row of the up projection. -/
def seqUp (b : Fin 8) (p : ℕ) (hp : p < 2064) : Row 5632 := upRow (normRow (seqX1 XM MM X MX wo b p hp) nw) wu

/-- Position `16 + s`'s row of the result. -/
def seqOut (b : Fin 8) (s : ℕ) (hs : s < 2048) : Row 1024 :=
  normRow (x2Row (seqX1 XM MM X MX wo b (16 + s) (by omega))
    (actRow (convRow (seqUp XM MM X MX wo nw wu b (14 + s) (by omega)) (seqUp XM MM X MX wo nw wu b (15 + s) (by omega))
      (seqUp XM MM X MX wo nw wu b (16 + s) (by omega)) cw)) wd) nf

end

end Cert.FfnMath
-- ==== Proof.FfnRows.lean ====
/-
The blocks of the first program read row by row, at the extended reals.
-/
module

public import proofs.«01_k».proof.Proof.FfnBody
public import proofs.«01_k».proof.Proof.FfnMath

@[expose] public section

set_option maxRecDepth 16384

noncomputable section

namespace Cert.KernelIdeal.Hand

open Cert.KernelIdeal Cert.KernelIdeal.Gen Cert.FfnMath
open Idealize.ShloMosaic

theorem pay6_row (x : Vec Ideal S512x1024 .f32) (mx : Vec Ideal S512x1024 .bf16) (wo : Vec Ideal S1024x1024 .bf16) (r : Fin 512) (c : Fin 1024) :
    k0_pay6 (F := Ideal) x mx wo (ix2 r c) = x1Row (fun k => x (ix2 r k)) (fun k => mx (ix2 r k)) (fun k l => wo (ix2 k l)) c := by
  pointwise [k0_pay6]
  rfl

theorem pay7_row (x : Vec Ideal S512x1024 .f32) (mx : Vec Ideal S512x1024 .bf16) (wo : Vec Ideal S1024x1024 .bf16) (nw : Vec Ideal S1x1024 .f32)
    (wu : Vec Ideal S1024x5632 .bf16) (r : Fin 512) (c : Fin 5632) :
    k0_pay7 (F := Ideal) x mx wo nw wu (ix2 r c)
      = upRow (normRow (x1Row (fun k => x (ix2 r k)) (fun k => mx (ix2 r k)) (fun k l => wo (ix2 k l))) (fun k => nw (ix2 0 k))) (fun k l => wu (ix2 k l)) c := by
  pointwise [k0_pay7]
  simp only [pay6_row]
  rfl

theorem pay4_row (x : Vec Ideal S16x1024 .f32) (mx : Vec Ideal S16x1024 .bf16) (wo : Vec Ideal S1024x1024 .bf16) (nw : Vec Ideal S1x1024 .f32)
    (wu : Vec Ideal S1024x5632 .bf16) (r : Fin 2) (c : Fin 5632) :
    k0_pay4 (F := Ideal) x mx wo nw wu (ix2 r c)
      = upRow (normRow (x1Row (fun k => x (ix2 ⟨14 + r.val, by omega⟩ k)) (fun k => mx (ix2 ⟨14 + r.val, by omega⟩ k)) (fun k l => wo (ix2 k l))) (fun k => nw (ix2 0 k)))
          (fun k l => wu (ix2 k l)) c := by
  pointwise [k0_pay4]
  rfl

theorem normOut_row (x : FVec Ideal S512x1024 .f32) (w : Vec Ideal S1x1024 .f32) (r : Fin 512) (c : Fin 1024) :
    normOut (F := Ideal) x w (ix2 r c) = normRow (fun k => x (ix2 r k)) (fun k => w (ix2 0 k)) c := by
  pointwise [normOut]
  rfl

section
variable (B : Vec Ideal S520x5632 .f32) (cw : Vec Ideal S3x5632 .f32) (dw : Vec Ideal S2816x1024 .bf16)

/-- Row `r` of the convolution. -/
def convOf (r : Fin 512) : Row 5632 :=
  convRow (fun k => B (ix2 ⟨6 + r.val, by omega⟩ k)) (fun k => B (ix2 ⟨7 + r.val, by omega⟩ k)) (fun k => B (ix2 ⟨8 + r.val, by omega⟩ k))
    (fun j k => cw (ix2 j k))

theorem convR_row (lo : ℕ) (h : lo + 256 ≤ 5632) (r : Fin 512) (k : Fin 256) :
    convR (F := Ideal) (rowsAt B 6 (by decide)) (rowsAt B 7 (by decide)) (rowsAt B 8 (by decide))
      (tapAt cw 0 (by decide)) (tapAt cw 1 (by decide)) (tapAt cw 2 (by decide)) lo h (ix2 r k)
      = convOf B cw r ⟨lo + k.val, by omega⟩ := by
  pointwise [convR, conv3]
  rfl

theorem chunkR_row (acc : FVec Ideal S512x1024 .f32) (lo : ℕ) (h : lo + 256 ≤ 2816) (r : Fin 512) (c : Fin 1024) :
    chunkR (F := Ideal) (rowsAt B 6 (by decide)) (rowsAt B 7 (by decide)) (rowsAt B 8 (by decide))
      (tapAt cw 0 (by decide)) (tapAt cw 1 (by decide)) (tapAt cw 2 (by decide)) (downAt dw) acc lo h (ix2 r c)
      = acc (ix2 r c) + ∑ k : Fin 256, actRow (convOf B cw r) ⟨lo + k.val, by omega⟩ * dw (ix2 ⟨lo + k.val, by omega⟩ c) := by
  unfold chunkR
  pointwise [chunkAdd]
  simp only [convR_row]
  unfold actRow
  simp only [Nat.add_assoc]
  rfl

theorem chunksR_row (x1 : FVec Ideal S512x1024 .f32) (r : Fin 512) (c : Fin 1024) :
    chunksR (F := Ideal) (rowsAt B 6 (by decide)) (rowsAt B 7 (by decide)) (rowsAt B 8 (by decide))
      (tapAt cw 0 (by decide)) (tapAt cw 1 (by decide)) (tapAt cw 2 (by decide)) (downAt dw) x1 (ix2 r c)
      = x2Row (fun k => x1 (ix2 r k)) (actRow (convOf B cw r)) (fun k l => dw (ix2 k l)) c := by
  unfold chunksR
  simp only [chunkR_row]
  rw [x2Row_tiles]

theorem ffnOut_row (x1 : FVec Ideal S512x1024 .f32) (nf : Vec Ideal S1x1024 .f32) (r : Fin 512) (c : Fin 1024) :
    ffnOut (F := Ideal) x1 B cw dw nf (ix2 r c)
      = normRow (x2Row (fun k => x1 (ix2 r k)) (actRow (convOf B cw r)) (fun k l => dw (ix2 k l))) (fun k => nf (ix2 0 k)) c := by
  unfold ffnOut
  rw [normOut_row]
  simp only [chunksR_row]

end

end Cert.KernelIdeal.Hand
-- ==== Proof.FfnRef.lean ====
/-
The reference of the first program read row by row, at the extended reals.
-/
module

public import proofs.«01_k».proof.Proof.Gen.ReferenceIdeal.Read
public import proofs.«01_k».proof.Proof.FfnMath

@[expose] public section

set_option maxRecDepth 16384

noncomputable section

namespace Cert.ReferenceIdeal.Rows

open Cert.ReferenceIdeal Cert.ReferenceIdeal.Gen Cert.ReferenceIdeal.Read Cert.FfnMath
open Idealize.ShloMosaic

variable (x0 : Vec Ideal S8x2048x1024 .f32) (x1 : Vec Ideal S8x2048x1024 .bf16) (x2 : Vec Ideal S16x1024 .f32) (x3 : Vec Ideal S1x16x1024 .bf16) (x4 : Vec Ideal S1x1024x1024 .f32)
  (x5 : Vec Ideal S1x1024 .f32) (x6 : Vec Ideal S1x1024x5632 .f32) (x7 : Vec Ideal S1x3x5632 .f32) (x8 : Vec Ideal S1x2816x1024 .f32) (x9 : Vec Ideal S1024 .f32)

/-- The leading rows. -/
def aXM (r : Fin 16) : Row 1024 := fun k => x2 (ix2 r k)
def aMM (r : Fin 16) : Row 1024 := fun k => x3 (ix3 0 r k)
/-- The rows of the sequences. -/
def aX (b : Fin 8) (s : Fin 2048) : Row 1024 := fun k => x0 (ix3 b s k)
def aMX (b : Fin 8) (s : Fin 2048) : Row 1024 := fun k => x1 (ix3 b s k)
/-- The weights. -/
def aWo (k : Fin 1024) : Row 1024 := fun l => x4 (ix3 0 k l)
def aNw : Row 1024 := fun k => x5 (ix2 0 k)
def aWu (k : Fin 1024) : Row 5632 := fun l => x6 (ix3 0 k l)
def aCw (j : Fin 3) : Row 5632 := fun l => x7 (ix3 0 j l)
def aWd (k : Fin 2816) : Row 1024 := fun l => x8 (ix3 0 k l)
def aNf : Row 1024 := fun k => x9 (ix1 k)

theorem v2_row (b : Fin 8) (p : Fin 2064) (c : Fin 1024) :
    val_main_v2 (F := Ideal) x0 x2 (ix3 b p c) = seqRow (aXM x2) (aX x0) b p.val p.isLt c := by
  unfold seqRow
  pointwise [val_main_v2, val_main_v1, val_main_v0]
  split <;> rfl

theorem v6_row (b : Fin 8) (p : Fin 2064) (c : Fin 1024) :
    val_main_v6 (F := Ideal) x1 x3 (ix3 b p c) = seqRow (aMM x3) (aMX x1) b p.val p.isLt c := by
  unfold seqRow
  pointwise [val_main_v6, val_main_v5, val_main_v4, val_main_v3]
  split <;> rfl

theorem v14_row (b : Fin 8) (p : Fin 2064) (c : Fin 1024) :
    val_main_v14 (F := Ideal) x0 x1 x2 x3 x4 (ix3 b p c) = seqX1 (aXM x2) (aMM x3) (aX x0) (aMX x1) (aWo x4) b p.val p.isLt c := by
  pointwise [val_main_v14, val_main_v13, val_main_v8]
  simp only [v2_row, v6_row]
  rfl

theorem v27_row (b : Fin 8) (p : Fin 2064) (c : Fin 1024) :
    val_main_v27 (F := Ideal) x0 x1 x2 x3 x4 x5 (ix3 b p c)
      = normRow (seqX1 (aXM x2) (aMM x3) (aX x0) (aMX x1) (aWo x4) b p.val p.isLt) (aNw x5) c := by
  pointwise [val_main_v27, val_main_v26, val_main_v25, val_main_v24, val_main_v23, val_main_v22, val_main_v21, val_main_v20, val_main_cst_2, val_main_v19, val_main_v18, val_main_cst_1, val_main_v17, val_main_v16, val_main_cst_0, val_main_v15, val_main_v9]
  simp only [v14_row]
  rfl

theorem v28_row (b : Fin 8) (p : Fin 2064) (c : Fin 5632) :
    val_main_v28 (F := Ideal) x0 x1 x2 x3 x4 x5 x6 (ix3 b p c)
      = seqUp (aXM x2) (aMM x3) (aX x0) (aMX x1) (aWo x4) (aNw x5) (aWu x6) b p.val p.isLt c := by
  pointwise [val_main_v28, val_main_v10]
  simp only [v27_row]
  rfl

theorem v29_row (b : Fin 8) (p : Fin 2064) (q : Fin 2066) (hq : q.val = p.val + 2) (c : Fin 5632) :
    val_main_v29 (F := Ideal) x0 x1 x2 x3 x4 x5 x6 (ix3 b q c)
      = seqUp (aXM x2) (aMM x3) (aX x0) (aMX x1) (aWo x4) (aNw x5) (aWu x6) b p.val p.isLt c := by
  pointwise [val_main_v29]
  rw [dif_neg (by omega)]
  have e : (⟨q.val - 2, by omega⟩ : Fin 2064) = p := Fin.ext (by show q.val - 2 = p.val; omega)
  rw [e, v28_row]

theorem v49_row (b : Fin 8) (s : Fin 2048) (p : Fin 2064) (hp : p.val = 16 + s.val) (c : Fin 5632) :
    val_main_v49 (F := Ideal) x0 x1 x2 x3 x4 x5 x6 x7 (ix3 b p c)
      = convRow (seqUp (aXM x2) (aMM x3) (aX x0) (aMX x1) (aWo x4) (aNw x5) (aWu x6) b (14 + s.val) (by omega))
          (seqUp (aXM x2) (aMM x3) (aX x0) (aMX x1) (aWo x4) (aNw x5) (aWu x6) b (15 + s.val) (by omega))
          (seqUp (aXM x2) (aMM x3) (aX x0) (aMX x1) (aWo x4) (aNw x5) (aWu x6) b (16 + s.val) (by omega)) (aCw x7) c := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v11]
  have e0 := v29_row x0 x1 x2 x3 x4 x5 x6 b ⟨14 + s.val, by omega⟩ ⟨p.val, by omega⟩ (by show p.val = 14 + s.val + 2; omega) c
  have e1 := v29_row x0 x1 x2 x3 x4 x5 x6 b ⟨15 + s.val, by omega⟩ ⟨1 + p.val, by omega⟩ (by show 1 + p.val = 15 + s.val + 2; omega) c
  have e2 := v29_row x0 x1 x2 x3 x4 x5 x6 b ⟨16 + s.val, by omega⟩ ⟨2 + p.val, by omega⟩ (by show 2 + p.val = 16 + s.val + 2; omega) c
  rw [e0, e1, e2]
  rfl

theorem one_lit : Ideal.ofBits FTy.f32 1065353216#32 = 1 := by simp [Ideal.ofBits, Ideal.ieee, -EReal.coe_mul]; norm_num

theorem v54_row (b : Fin 8) (s : Fin 2048) (p : Fin 2064) (hp : p.val = 16 + s.val) (c : Fin 2816) :
    val_main_v54 (F := Ideal) x0 x1 x2 x3 x4 x5 x6 x7 (ix3 b p c)
      = actRow (convRow (seqUp (aXM x2) (aMM x3) (aX x0) (aMX x1) (aWo x4) (aNw x5) (aWu x6) b (14 + s.val) (by omega))
          (seqUp (aXM x2) (aMM x3) (aX x0) (aMX x1) (aWo x4) (aNw x5) (aWu x6) b (15 + s.val) (by omega))
          (seqUp (aXM x2) (aMM x3) (aX x0) (aMX x1) (aWo x4) (aNw x5) (aWu x6) b (16 + s.val) (by omega)) (aCw x7)) c := by
  pointwise [val_main_v54, val_main_v53, val_main_call0_v5, val_main_call0_v4, val_main_call0_cst_0, val_main_call0_v3, val_main_call0_v2, val_main_call0_cst, val_main_call0_v1, val_main_call0_v0, val_main_v52, val_main_v51]
  simp only [v49_row x0 x1 x2 x3 x4 x5 x6 x7 b s p hp, one_lit]
  rfl

theorem v57_row (b : Fin 8) (s : Fin 2048) (c : Fin 1024) :
    val_main_v57 (F := Ideal) x0 x1 x2 x3 x4 x5 x6 x7 x8 (ix3 b s c)
      = x2Row (seqX1 (aXM x2) (aMM x3) (aX x0) (aMX x1) (aWo x4) b (16 + s.val) (by omega))
        (actRow (convRow (seqUp (aXM x2) (aMM x3) (aX x0) (aMX x1) (aWo x4) (aNw x5) (aWu x6) b (14 + s.val) (by omega))
          (seqUp (aXM x2) (aMM x3) (aX x0) (aMX x1) (aWo x4) (aNw x5) (aWu x6) b (15 + s.val) (by omega))
          (seqUp (aXM x2) (aMM x3) (aX x0) (aMX x1) (aWo x4) (aNw x5) (aWu x6) b (16 + s.val) (by omega)) (aCw x7))) (aWd x8) c := by
  pointwise [val_main_v57, val_main_v56, val_main_v55, val_main_v12]
  simp only [v14_row, v54_row x0 x1 x2 x3 x4 x5 x6 x7 b s ⟨16 + s.val, by omega⟩ rfl]
  rfl

theorem v70_row (b : Fin 8) (s : Fin 2048) (c : Fin 1024) :
    val_main_v70 (F := Ideal) x0 x1 x2 x3 x4 x5 x6 x7 x8 x9 (ix3 b s c)
      = seqOut (aXM x2) (aMM x3) (aX x0) (aMX x1) (aWo x4) (aNw x5) (aWu x6) (aCw x7) (aWd x8) (aNf x9) b s.val s.isLt c := by
  pointwise [val_main_v70, val_main_v69, val_main_v68, val_main_v67, val_main_v66, val_main_v65, val_main_v64, val_main_v63, val_main_cst_5, val_main_v62, val_main_v61, val_main_cst_4, val_main_v60, val_main_v59, val_main_cst_3, val_main_v58]
  simp only [v57_row]
  rfl

theorem v71_row (b : Fin 8) (s : Fin 2048) (c : Fin 1024) (R : Fin 16384) (hR : R.val = 2048 * b.val + s.val) :
    val_main_v71 (F := Ideal) x0 x1 x2 x3 x4 x5 x6 x7 x8 x9 (ix2 R c)
      = seqOut (aXM x2) (aMM x3) (aX x0) (aMX x1) (aWo x4) (aNw x5) (aWu x6) (aCw x7) (aWd x8) (aNf x9) b s.val s.isLt c := by
  rw [val_main_v71_apply]
  have e : idx_main_v71 (ix2 R c) = ix3 b s c := by
    have hb := b.isLt; have hs := s.isLt; have hc := c.isLt
    funext a
    apply Fin.ext
    match a with
    | ⟨0, _⟩ => show (R.val * 1024 + c.val) / 2097152 = b.val; omega
    | ⟨1, _⟩ => show (R.val * 1024 + c.val) / 1024 % 2048 = s.val; omega
    | ⟨2, _⟩ => show (R.val * 1024 + c.val) % 1024 = c.val; omega
  rw [e, v70_row]

theorem v50_row (b : Fin 8) (k : Fin 2) (c : Fin 5632) :
    val_main_v50 (F := Ideal) x0 x1 x2 x3 x4 x5 x6 (ix3 b k c)
      = seqUp (aXM x2) (aMM x3) (aX x0) (aMX x1) (aWo x4) (aNw x5) (aWu x6) b (2062 + k.val) (by omega) c := by
  pointwise [val_main_v50]
  exact v29_row x0 x1 x2 x3 x4 x5 x6 b ⟨2062 + k.val, by omega⟩ ⟨2064 + k.val, by omega⟩ (by show 2064 + k.val = 2062 + k.val + 2; omega) c

end Cert.ReferenceIdeal.Rows
-- ==== Proof.FfnValue.lean ====
/-
The result arrays of the first program, and its claim against the reference.
-/
module

public import proofs.«01_k».proof.Proof.FfnRows
public import proofs.«01_k».proof.Proof.FfnRef
public import Idealize.ShloMosaic.Lib.Pipeline.ValueKit.Point

@[expose] public section

set_option maxRecDepth 16384

noncomputable section

namespace Cert.KernelIdeal.Hand

open Cert.KernelIdeal Cert.KernelIdeal.Gen Cert.FfnMath
open Idealize.ShloMosaic Idealize.ShloMosaic.TcCoe Idealize.SL.Sem
open Idealize.ShloMosaic.Pipeline (Dat Cfg Window)

variable (m : (ℓ : Loc nD τ sig) → Buf (Elt Ideal) ℓ)

/-! ## The arrays the region finds -/

theorem V_v0 (c : Dev nD) : V m c main_v0 = shapeCast S16384x1024 (m ((c : Thread nD τ).loc main_arg0)) shapeCasts_S8x2048x1024_S16384x1024 := by
  show StableHlo.after hostOps0 _ (Proc.devRef .tc main_v0) = _
  after_results
  rfl
theorem V_v1 (c : Dev nD) : V m c main_v1 = shapeCast S16384x1024 (m ((c : Thread nD τ).loc main_arg1)) shapeCasts_S8x2048x1024_S16384x1024 := by
  show StableHlo.after hostOps0 _ (Proc.devRef .tc main_v1) = _
  after_results
  rfl
theorem V_v12 (c : Dev nD) : V m c main_v12 = shapeCast S16x1024 (m ((c : Thread nD τ).loc main_arg3)) shapeCasts_S1x16x1024_S16x1024 := by
  show StableHlo.after hostOps0 _ (Proc.devRef .tc main_v12) = _
  after_results
  rfl
theorem V_v3 (c : Dev nD) : V m c main_v3 = truncf (F := Ideal) .bf16 (shapeCast S1024x1024 (m ((c : Thread nD τ).loc main_arg4)) shapeCasts_S1x1024x1024_S1024x1024) bitsLt_bf16_f32 := by
  show StableHlo.after hostOps0 _ (Proc.devRef .tc main_v3) = _
  after_results
  rfl
theorem V_v9 (c : Dev nD) : V m c main_v9 = shapeCast S1x1024 (shapeCast S1024 (m ((c : Thread nD τ).loc main_arg5)) shapeCasts_S1x1024_S1024) shapeCasts_S1024_S1x1024 := by
  show StableHlo.after hostOps0 _ (Proc.devRef .tc main_v9) = _
  after_results
  rfl
theorem V_v5 (c : Dev nD) : V m c main_v5 = truncf (F := Ideal) .bf16 (shapeCast S1024x5632 (m ((c : Thread nD τ).loc main_arg6)) shapeCasts_S1x1024x5632_S1024x5632) bitsLt_bf16_f32 := by
  show StableHlo.after hostOps0 _ (Proc.devRef .tc main_v5) = _
  after_results
  rfl
theorem V_v10 (c : Dev nD) : V m c main_v10 = shapeCast S3x5632 (m ((c : Thread nD τ).loc main_arg7)) shapeCasts_S1x3x5632_S3x5632 := by
  show StableHlo.after hostOps0 _ (Proc.devRef .tc main_v10) = _
  after_results
  rfl
theorem V_v7 (c : Dev nD) : V m c main_v7 = truncf (F := Ideal) .bf16 (shapeCast S2816x1024 (m ((c : Thread nD τ).loc main_arg8)) shapeCasts_S1x2816x1024_S2816x1024) bitsLt_bf16_f32 := by
  show StableHlo.after hostOps0 _ (Proc.devRef .tc main_v7) = _
  after_results
  rfl
theorem V_v11 (c : Dev nD) : V m c main_v11 = shapeCast S1x1024 (m ((c : Thread nD τ).loc main_arg9)) shapeCasts_S1024_S1x1024 := by
  show StableHlo.after hostOps0 _ (Proc.devRef .tc main_v11) = _
  after_results
  rfl

/-- The sequences laid one after another, at a row. -/
theorem rows_apply {e : EltTy} (x : Vec Ideal S8x2048x1024 e) (R : Fin 16384) (b : Fin 8) (s : Fin 2048) (k : Fin 1024) (h : R.val = 2048 * b.val + s.val) :
    shapeCast S16384x1024 x shapeCasts_S8x2048x1024_S16384x1024 (ix2 R k) = x (ix3 b s k) := by
  refine shapeCast_apply x shapeCasts_S8x2048x1024_S16384x1024 (ix2 R k) (ix3 b s k) ?_
  rewrite [Shape.rowMajor_val_three, Shape.rowMajor_val_two]
  show (b.val * 2048 + s.val) * 1024 + k.val = R.val * 1024 + k.val
  omega

theorem meta_apply (x : Vec Ideal S1x16x1024 .bf16) (r : Fin 16) (k : Fin 1024) :
    shapeCast S16x1024 x shapeCasts_S1x16x1024_S16x1024 (ix2 r k) = x (ix3 0 r k) := by pointwise
theorem wo_apply (x : Vec Ideal S1x1024x1024 .f32) (k l : Fin 1024) :
    truncf (F := Ideal) .bf16 (shapeCast S1024x1024 x shapeCasts_S1x1024x1024_S1024x1024) bitsLt_bf16_f32 (ix2 k l) = x (ix3 0 k l) := by pointwise
theorem nw_apply (x : Vec Ideal S1x1024 .f32) (k : Fin 1024) :
    shapeCast S1x1024 (shapeCast S1024 x shapeCasts_S1x1024_S1024) shapeCasts_S1024_S1x1024 (ix2 0 k) = x (ix2 0 k) := by pointwise
theorem wu_apply (x : Vec Ideal S1x1024x5632 .f32) (k : Fin 1024) (l : Fin 5632) :
    truncf (F := Ideal) .bf16 (shapeCast S1024x5632 x shapeCasts_S1x1024x5632_S1024x5632) bitsLt_bf16_f32 (ix2 k l) = x (ix3 0 k l) := by pointwise
theorem cw_apply (x : Vec Ideal S1x3x5632 .f32) (k : Fin 3) (l : Fin 5632) :
    shapeCast S3x5632 x shapeCasts_S1x3x5632_S3x5632 (ix2 k l) = x (ix3 0 k l) := by pointwise
theorem wd_apply (x : Vec Ideal S1x2816x1024 .f32) (k : Fin 2816) (l : Fin 1024) :
    truncf (F := Ideal) .bf16 (shapeCast S2816x1024 x shapeCasts_S1x2816x1024_S2816x1024) bitsLt_bf16_f32 (ix2 k l) = x (ix3 0 k l) := by pointwise
theorem nf_apply (x : Vec Ideal S1024 .f32) (k : Fin 1024) :
    shapeCast S1x1024 x shapeCasts_S1024_S1x1024 (ix2 0 k) = x (ix1 k) := by pointwise

/-- Where each window's block lies. -/
theorem idx_tab : ∀ t : Fin cfg0.N,
    win0_0.index t (0 : Fin 2) = t.val ∧ win0_0.index t (1 : Fin 2) = 0 ∧ win0_1.index t (0 : Fin 2) = t.val ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 2) = 0 ∧ win0_8.index t (1 : Fin 2) = 0 ∧ win0_9.index t (0 : Fin 2) = 0 ∧ win0_9.index t (1 : Fin 2) = 0
    ∧ win0_10.index t (0 : Fin 2) = t.val ∧ win0_10.index t (1 : Fin 2) = 0
    ∧ win0_11.index t (0 : Fin 3) = t.val / 4 ∧ win0_11.index t (1 : Fin 3) = 0 ∧ win0_11.index t (2 : Fin 3) = 0 :=
  (by decide +kernel : ∀ t : Fin grid0.N, _)

/-! ## The blocks -/

theorem iblk0_apply (c : Dev nD) (t : Fin cfg0.N) (r : Fin 512) (k : Fin 1024) (b : Fin 8) (s : Fin 2048) (h : 512 * t.val + r.val = 2048 * b.val + s.val) :
    iblk m c 0 t (ix2 r k) = m ((c : Thread nD τ).loc main_arg0) (ix3 b s k) := by
  have h0 := (idx_tab t).1
  have h1 := (idx_tab t).2.1
  rw [← rows_apply (m ((c : Thread nD τ).loc main_arg0)) ⟨512 * t.val + r.val, by omega⟩ b s k h, ← V_v0]
  blk_ext [iblk, h0, h1]

theorem iblk1_apply (c : Dev nD) (t : Fin cfg0.N) (r : Fin 512) (k : Fin 1024) (b : Fin 8) (s : Fin 2048) (h : 512 * t.val + r.val = 2048 * b.val + s.val) :
    iblk m c 1 t (ix2 r k) = m ((c : Thread nD τ).loc main_arg1) (ix3 b s k) := by
  have h0 := (idx_tab t).2.2.1
  have h1 := (idx_tab t).2.2.2.1
  rw [← rows_apply (m ((c : Thread nD τ).loc main_arg1)) ⟨512 * t.val + r.val, by omega⟩ b s k h, ← V_v1]
  blk_ext [iblk, h0, h1]

theorem iblk2_apply (c : Dev nD) (t : Fin cfg0.N) (i : Fin 16) (k : Fin 1024) :
    iblk m c 2 t (ix2 i k) = m ((c : Thread nD τ).loc main_arg2) (ix2 i k) := by
  have h0 := (idx_tab t).2.2.2.2.1
  have h1 := (idx_tab t).2.2.2.2.2.1
  have e : V m c main_arg2 (ix2 i k) = m ((c : Thread nD τ).loc main_arg2) (ix2 i k) :=
    congrFun (V_main_arg2 m c) (ix2 i k)
  rw [← e]
  blk_ext [iblk, h0, h1]

theorem iblk3_apply (c : Dev nD) (t : Fin cfg0.N) (i : Fin 16) (k : Fin 1024) :
    iblk m c 3 t (ix2 i k) = m ((c : Thread nD τ).loc main_arg3) (ix3 0 i k) := by
  have h0 := (idx_tab t).2.2.2.2.2.2.1
  have h1 := (idx_tab t).2.2.2.2.2.2.2.1
  have e : V m c main_v12 (ix2 i k) = m ((c : Thread nD τ).loc main_arg3) (ix3 0 i k) :=
    (congrFun (V_v12 m c) (ix2 i k)).trans (meta_apply (m ((c : Thread nD τ).loc main_arg3)) i k)
  rw [← e]
  blk_ext [iblk, h0, h1]

theorem iblk4_apply (c : Dev nD) (t : Fin cfg0.N) (i : Fin 1024) (k : Fin 1024) :
    iblk m c 4 t (ix2 i k) = m ((c : Thread nD τ).loc main_arg4) (ix3 0 i k) := by
  have h0 := (idx_tab t).2.2.2.2.2.2.2.2.1
  have h1 := (idx_tab t).2.2.2.2.2.2.2.2.2.1
  have e : V m c main_v3 (ix2 i k) = m ((c : Thread nD τ).loc main_arg4) (ix3 0 i k) :=
    (congrFun (V_v3 m c) (ix2 i k)).trans (wo_apply (m ((c : Thread nD τ).loc main_arg4)) i k)
  rw [← e]
  blk_ext [iblk, h0, h1]

theorem iblk5_apply (c : Dev nD) (t : Fin cfg0.N) (k : Fin 1024) :
    iblk m c 5 t (ix2 0 k) = m ((c : Thread nD τ).loc main_arg5) (ix2 0 k) := by
  have h0 := (idx_tab t).2.2.2.2.2.2.2.2.2.2.1
  have h1 := (idx_tab t).2.2.2.2.2.2.2.2.2.2.2.1
  have e : V m c main_v9 (ix2 0 k) = m ((c : Thread nD τ).loc main_arg5) (ix2 0 k) :=
    (congrFun (V_v9 m c) (ix2 0 k)).trans (nw_apply (m ((c : Thread nD τ).loc main_arg5)) k)
  rw [← e]
  blk_ext [iblk, h0, h1]

theorem iblk6_apply (c : Dev nD) (t : Fin cfg0.N) (i : Fin 1024) (k : Fin 5632) :
    iblk m c 6 t (ix2 i k) = m ((c : Thread nD τ).loc main_arg6) (ix3 0 i k) := by
  have h0 := (idx_tab t).2.2.2.2.2.2.2.2.2.2.2.2.1
  have h1 := (idx_tab t).2.2.2.2.2.2.2.2.2.2.2.2.2.1
  have e : V m c main_v5 (ix2 i k) = m ((c : Thread nD τ).loc main_arg6) (ix3 0 i k) :=
    (congrFun (V_v5 m c) (ix2 i k)).trans (wu_apply (m ((c : Thread nD τ).loc main_arg6)) i k)
  rw [← e]
  blk_ext [iblk, h0, h1]

theorem iblk7_apply (c : Dev nD) (t : Fin cfg0.N) (i : Fin 3) (k : Fin 5632) :
    iblk m c 7 t (ix2 i k) = m ((c : Thread nD τ).loc main_arg7) (ix3 0 i k) := by
  have h0 := (idx_tab t).2.2.2.2.2.2.2.2.2.2.2.2.2.2.1
  have h1 := (idx_tab t).2.2.2.2.2.2.2.2.2.2.2.2.2.2.2.1
  have e : V m c main_v10 (ix2 i k) = m ((c : Thread nD τ).loc main_arg7) (ix3 0 i k) :=
    (congrFun (V_v10 m c) (ix2 i k)).trans (cw_apply (m ((c : Thread nD τ).loc main_arg7)) i k)
  rw [← e]
  blk_ext [iblk, h0, h1]

theorem iblk8_apply (c : Dev nD) (t : Fin cfg0.N) (i : Fin 2816) (k : Fin 1024) :
    iblk m c 8 t (ix2 i k) = m ((c : Thread nD τ).loc main_arg8) (ix3 0 i k) := by
  have h0 := (idx_tab t).2.2.2.2.2.2.2.2.2.2.2.2.2.2.2.2.1
  have h1 := (idx_tab t).2.2.2.2.2.2.2.2.2.2.2.2.2.2.2.2.2.1
  have e : V m c main_v7 (ix2 i k) = m ((c : Thread nD τ).loc main_arg8) (ix3 0 i k) :=
    (congrFun (V_v7 m c) (ix2 i k)).trans (wd_apply (m ((c : Thread nD τ).loc main_arg8)) i k)
  rw [← e]
  blk_ext [iblk, h0, h1]

theorem iblk9_apply (c : Dev nD) (t : Fin cfg0.N) (k : Fin 1024) :
    iblk m c 9 t (ix2 0 k) = m ((c : Thread nD τ).loc main_arg9) (ix1 k) := by
  have h0 := (idx_tab t).2.2.2.2.2.2.2.2.2.2.2.2.2.2.2.2.2.2.1
  have h1 := (idx_tab t).2.2.2.2.2.2.2.2.2.2.2.2.2.2.2.2.2.2.2.1
  have e : V m c main_v11 (ix2 0 k) = m ((c : Thread nD τ).loc main_arg9) (ix1 k) :=
    (congrFun (V_v11 m c) (ix2 0 k)).trans (nf_apply (m ((c : Thread nD τ).loc main_arg9)) k)
  rw [← e]
  blk_ext [iblk, h0, h1]

end Cert.KernelIdeal.Hand
-- ==== Proof.FfnFinal.lean ====
/-
The result arrays of the first program: each row is the layer's row at its position.
-/
module

public import proofs.«01_k».proof.Proof.FfnValue

@[expose] public section

set_option maxRecDepth 16384

noncomputable section

namespace Cert.KernelIdeal.Hand

open Cert.KernelIdeal Cert.KernelIdeal.Gen Cert.FfnMath Cert.ReferenceIdeal.Rows
open Idealize.ShloMosaic Idealize.ShloMosaic.TcCoe Idealize.SL.Sem
open Idealize.ShloMosaic.Pipeline (Dat Cfg Window)

variable (m : (ℓ : Loc nD τ sig) → Buf (Elt Ideal) ℓ)

/-! ## The layer's rows at the arrays as launched -/

def sX1 (c : Dev nD) (b : Fin 8) (p : ℕ) (hp : p < 2064) : Row 1024 :=
  seqX1 (aXM (m ((c : Thread nD τ).loc main_arg2))) (aMM (m ((c : Thread nD τ).loc main_arg3))) (aX (m ((c : Thread nD τ).loc main_arg0)))
    (aMX (m ((c : Thread nD τ).loc main_arg1))) (aWo (m ((c : Thread nD τ).loc main_arg4))) b p hp

def sUp (c : Dev nD) (b : Fin 8) (p : ℕ) (hp : p < 2064) : Row 5632 :=
  seqUp (aXM (m ((c : Thread nD τ).loc main_arg2))) (aMM (m ((c : Thread nD τ).loc main_arg3))) (aX (m ((c : Thread nD τ).loc main_arg0)))
    (aMX (m ((c : Thread nD τ).loc main_arg1))) (aWo (m ((c : Thread nD τ).loc main_arg4))) (aNw (m ((c : Thread nD τ).loc main_arg5)))
    (aWu (m ((c : Thread nD τ).loc main_arg6))) b p hp

def sOut (c : Dev nD) (b : Fin 8) (s : ℕ) (hs : s < 2048) : Row 1024 :=
  seqOut (aXM (m ((c : Thread nD τ).loc main_arg2))) (aMM (m ((c : Thread nD τ).loc main_arg3))) (aX (m ((c : Thread nD τ).loc main_arg0)))
    (aMX (m ((c : Thread nD τ).loc main_arg1))) (aWo (m ((c : Thread nD τ).loc main_arg4))) (aNw (m ((c : Thread nD τ).loc main_arg5)))
    (aWu (m ((c : Thread nD τ).loc main_arg6))) (aCw (m ((c : Thread nD τ).loc main_arg7))) (aWd (m ((c : Thread nD τ).loc main_arg8)))
    (aNf (m ((c : Thread nD τ).loc main_arg9))) b s hs

/-! ## The weights' blocks -/

theorem wo_rows (c : Dev nD) (t : Fin cfg0.N) : (fun k l => iblk m c 4 t (ix2 k l)) = aWo (m ((c : Thread nD τ).loc main_arg4)) :=
  funext fun k => funext fun l => iblk4_apply m c t k l
theorem nw_rows (c : Dev nD) (t : Fin cfg0.N) : (fun k => iblk m c 5 t (ix2 0 k)) = aNw (m ((c : Thread nD τ).loc main_arg5)) :=
  funext fun k => iblk5_apply m c t k
theorem wu_rows (c : Dev nD) (t : Fin cfg0.N) : (fun k l => iblk m c 6 t (ix2 k l)) = aWu (m ((c : Thread nD τ).loc main_arg6)) :=
  funext fun k => funext fun l => iblk6_apply m c t k l
theorem cw_rows (c : Dev nD) (t : Fin cfg0.N) : (fun k l => iblk m c 7 t (ix2 k l)) = aCw (m ((c : Thread nD τ).loc main_arg7)) :=
  funext fun k => funext fun l => iblk7_apply m c t k l
theorem wd_rows (c : Dev nD) (t : Fin cfg0.N) : (fun k l => iblk m c 8 t (ix2 k l)) = aWd (m ((c : Thread nD τ).loc main_arg8)) :=
  funext fun k => funext fun l => iblk8_apply m c t k l
theorem nf_rows (c : Dev nD) (t : Fin cfg0.N) : (fun k => iblk m c 9 t (ix2 0 k)) = aNf (m ((c : Thread nD τ).loc main_arg9)) :=
  funext fun k => iblk9_apply m c t k

/-! ## The rows -/

theorem x_rows (c : Dev nD) (t : Fin cfg0.N) (r : Fin 512) (b : Fin 8) (p : ℕ) (hp : p < 2064) (hq : 16 ≤ p) (h : 512 * t.val + r.val + 16 = 2048 * b.val + p) :
    (fun k => iblk m c 0 t (ix2 r k)) = seqRow (aXM (m ((c : Thread nD τ).loc main_arg2))) (aX (m ((c : Thread nD τ).loc main_arg0))) b p hp := by
  unfold seqRow
  rw [dif_neg (by omega)]
  exact funext fun k => iblk0_apply m c t r k b ⟨p - 16, by omega⟩ (by show 512 * t.val + r.val = 2048 * b.val + (p - 16); omega)

theorem mx_rows (c : Dev nD) (t : Fin cfg0.N) (r : Fin 512) (b : Fin 8) (p : ℕ) (hp : p < 2064) (hq : 16 ≤ p) (h : 512 * t.val + r.val + 16 = 2048 * b.val + p) :
    (fun k => iblk m c 1 t (ix2 r k)) = seqRow (aMM (m ((c : Thread nD τ).loc main_arg3))) (aMX (m ((c : Thread nD τ).loc main_arg1))) b p hp := by
  unfold seqRow
  rw [dif_neg (by omega)]
  exact funext fun k => iblk1_apply m c t r k b ⟨p - 16, by omega⟩ (by show 512 * t.val + r.val = 2048 * b.val + (p - 16); omega)

theorem x1_row (c : Dev nD) (t : Fin cfg0.N) (r : Fin 512) (b : Fin 8) (p : ℕ) (hp : p < 2064) (hq : 16 ≤ p) (h : 512 * t.val + r.val + 16 = 2048 * b.val + p) (k : Fin 1024) :
    k0_pay6 (F := Ideal) (iblk m c 0 t) (iblk m c 1 t) (iblk m c 4 t) (ix2 r k) = sX1 m c b p hp k := by
  rw [pay6_row]
  erw [x_rows m c t r b p hp hq h, mx_rows m c t r b p hp hq h, wo_rows m c t]
  rfl

theorem upAt_row (c : Dev nD) (t : Fin cfg0.N) (r : Fin 512) (b : Fin 8) (p : ℕ) (hp : p < 2064) (hq : 16 ≤ p) (h : 512 * t.val + r.val + 16 = 2048 * b.val + p) (k : Fin 5632) :
    upAt m c t (ix2 r k) = sUp m c b p hp k := by
  unfold upAt
  rw [pay7_row]
  erw [x_rows m c t r b p hp hq h, mx_rows m c t r b p hp hq h, wo_rows m c t, nw_rows m c t, wu_rows m c t]
  rfl

theorem leadAt_row (c : Dev nD) (t : Fin cfg0.N) (r : Fin 2) (b : Fin 8) (p : ℕ) (hp : p < 2064) (h : p = 14 + r.val) (k : Fin 5632) :
    leadAt m c t (ix2 r k) = sUp m c b p hp k := by
  subst h
  have e2 : (fun k => iblk m c 2 t (ix2 (⟨14 + r.val, by omega⟩ : Fin 16) k)) = seqRow (aXM (m ((c : Thread nD τ).loc main_arg2))) (aX (m ((c : Thread nD τ).loc main_arg0))) b (14 + r.val) hp := by
    unfold seqRow
    rw [dif_pos (by omega)]
    exact funext fun k => iblk2_apply m c t ⟨14 + r.val, by omega⟩ k
  have e3 : (fun k => iblk m c 3 t (ix2 (⟨14 + r.val, by omega⟩ : Fin 16) k)) = seqRow (aMM (m ((c : Thread nD τ).loc main_arg3))) (aMX (m ((c : Thread nD τ).loc main_arg1))) b (14 + r.val) hp := by
    unfold seqRow
    rw [dif_pos (by omega)]
    exact funext fun k => iblk3_apply m c t ⟨14 + r.val, by omega⟩ k
  unfold leadAt
  rw [pay4_row]
  erw [e2, e3, wo_rows m c t, nw_rows m c t, wu_rows m c t]
  rfl

theorem tailIn_row (c : Dev nD) (t : Fin cfg0.N) (r : Fin 2) (b : Fin 8) (hb : b.val = t.val / 4) (p : ℕ) (hp : p < 2064)
    (h : 512 * t.val + 14 + r.val = 2048 * b.val + p) (k : Fin 5632) : tailIn m c t (ix2 r k) = sUp m c b p hp k := by
  unfold tailIn
  by_cases h0 : t.val % 4 = 0
  · rw [if_pos h0]
    exact leadAt_row m c point0 r b p hp (by omega) k
  · rw [if_neg h0]
    exact upAt_row m c (pointPred t) ⟨r.val + 510, by omega⟩ b p hp (by omega) (by show 512 * (t.val - 1) + (r.val + 510) + 16 = 2048 * b.val + p; omega) k

theorem buf_row (c : Dev nD) (t : Fin cfg0.N) (j : Fin 520) (hj : 6 ≤ j.val) (b : Fin 8) (hb : b.val = t.val / 4) (p : ℕ) (hp : p < 2064)
    (h : 512 * t.val + j.val + 8 = 2048 * b.val + p) (k : Fin 5632) : bufRows (tailIn m c t) (upAt m c t) (ix2 j k) = sUp m c b p hp k := by
  unfold bufRows
  by_cases h8 : j.val < 8
  · rw [dif_pos (show ((ix2 j k : S520x5632.Idx) 0).val < 8 from h8)]
    exact tailIn_row m c t ⟨j.val - 6, by omega⟩ b hb p hp (by show 512 * t.val + 14 + (j.val - 6) = 2048 * b.val + p; omega) k
  · rw [dif_neg (show ¬ ((ix2 j k : S520x5632.Idx) 0).val < 8 from h8)]
    exact upAt_row m c t ⟨j.val - 8, by omega⟩ b p hp (by omega) (by show 512 * t.val + (j.val - 8) + 16 = 2048 * b.val + p; omega) k

theorem yAt_row (c : Dev nD) (t : Fin cfg0.N) (r : Fin 512) (b : Fin 8) (s : ℕ) (hs : s < 2048) (h : 512 * t.val + r.val = 2048 * b.val + s) (k : Fin 1024) :
    yAt m c t (ix2 r k) = sOut m c b s hs k := by
  have hb : b.val = t.val / 4 := by omega
  have e1 : (fun k => k0_pay6 (F := Ideal) (iblk m c 0 t) (iblk m c 1 t) (iblk m c 4 t) (ix2 r k)) = sX1 m c b (16 + s) (by omega) :=
    funext fun k => x1_row m c t r b (16 + s) (by omega) (by omega) (by omega) k
  have e6 : (fun k => bufRows (tailIn m c t) (upAt m c t) (ix2 (⟨6 + r.val, by omega⟩ : Fin 520) k)) = sUp m c b (14 + s) (by omega) :=
    funext fun k => buf_row m c t ⟨6 + r.val, by omega⟩ (by show 6 ≤ 6 + r.val; omega) b hb (14 + s) (by omega) (by show 512 * t.val + (6 + r.val) + 8 = 2048 * b.val + (14 + s); omega) k
  have e7 : (fun k => bufRows (tailIn m c t) (upAt m c t) (ix2 (⟨7 + r.val, by omega⟩ : Fin 520) k)) = sUp m c b (15 + s) (by omega) :=
    funext fun k => buf_row m c t ⟨7 + r.val, by omega⟩ (by show 6 ≤ 7 + r.val; omega) b hb (15 + s) (by omega) (by show 512 * t.val + (7 + r.val) + 8 = 2048 * b.val + (15 + s); omega) k
  have e8 : (fun k => bufRows (tailIn m c t) (upAt m c t) (ix2 (⟨8 + r.val, by omega⟩ : Fin 520) k)) = sUp m c b (16 + s) (by omega) :=
    funext fun k => buf_row m c t ⟨8 + r.val, by omega⟩ (by show 6 ≤ 8 + r.val; omega) b hb (16 + s) (by omega) (by show 512 * t.val + (8 + r.val) + 8 = 2048 * b.val + (16 + s); omega) k
  unfold yAt
  rw [ffnOut_row]
  unfold convOf
  rw [e1, e6, e7, e8]
  erw [cw_rows m c t, wd_rows m c t, nf_rows m c t]
  rfl

theorem cfAt_row (c : Dev nD) (t : Fin cfg0.N) (b : Fin 8) (hb : t.val = 4 * b.val + 3) (r : Fin 2) (k : Fin 5632) :
    cfAt m c t (ix3 0 r k) = sUp m c b (2062 + r.val) (by omega) k := by
  have e : k0_pay3 (F := Ideal) (lastRows (upAt m c t)) (ix3 0 r k) = lastRows (upAt m c t) (ix2 r k) := by
    generalize lastRows (upAt m c t) = y
    pointwise [k0_pay3]
  unfold cfAt
  rw [e]
  exact upAt_row m c t ⟨r.val + 510, by omega⟩ b (2062 + r.val) (by omega) (by omega) (by show 512 * t.val + (r.val + 510) + 16 = 2048 * b.val + (2062 + r.val); omega) k

/-! ## The arrays -/

/-- The rows of results, as the reference states them. -/
def G10 (c : Dev nD) : Vec Ideal S16384x1024 .f32 :=
  Cert.ReferenceIdeal.Read.val_main_v71 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The last two rows of each sequence's up projection, as the reference states them. -/
def G11 (c : Dev nD) : Vec Ideal S8x2x5632 .f32 :=
  Cert.ReferenceIdeal.Read.val_main_v50 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem G10_row (c : Dev nD) (R : Fin 16384) (b : Fin 8) (s : ℕ) (hs : s < 2048) (h : R.val = 2048 * b.val + s) (k : Fin 1024) :
    G10 m c (ix2 R k) = sOut m c b s hs k :=
  v71_row _ _ _ _ _ _ _ _ _ _ b ⟨s, hs⟩ k R h

theorem G11_row (c : Dev nD) (b : Fin 8) (r : Fin 2) (k : Fin 5632) : G11 m c (ix3 b r k) = sUp m c b (2062 + r.val) (by omega) k :=
  v50_row _ _ _ _ _ _ _ b r k

theorem point10 (c : Dev nD) (t : Fin cfg0.N) (y : S512x1024.Idx) (i : S16384x1024.Idx) (h0 : (i 0).val = 512 * t.val + (y 0).val) (h1 : (i 1).val = (y 1).val) :
    yAt m c t y = G10 m c i := by
  have ey : y = ix2 (y 0) (y 1) := by funext a; match a with | ⟨0, _⟩ => rfl | ⟨1, _⟩ => rfl
  have hr : (y 0).val < 512 := (y 0).isLt
  have ht : t.val < 32 := lt_of_lt_of_eq t.isLt N_0
  have ei : i = ix2 (i 0) (y 1) := by funext a; match a with | ⟨0, _⟩ => rfl | ⟨1, _⟩ => exact Fin.ext h1
  rw [ey, ei]
  exact (yAt_row m c t (y 0) ⟨t.val / 4, by omega⟩ (512 * (t.val % 4) + (y 0).val) (by omega)
      (by show 512 * t.val + (y 0).val = 2048 * (t.val / 4) + (512 * (t.val % 4) + (y 0).val); omega) (y 1)).trans
    (G10_row m c (i 0) ⟨t.val / 4, by omega⟩ (512 * (t.val % 4) + (y 0).val) (by omega)
      (by show (i 0).val = 2048 * (t.val / 4) + (512 * (t.val % 4) + (y 0).val); omega) (y 1)).symm

theorem point11 (c : Dev nD) (t : Fin cfg0.N) (ht : t.val % 4 = 3) (y : S1x2x5632.Idx) (i : S8x2x5632.Idx) (h0 : (i 0).val = t.val / 4) (h1 : (i 1).val = (y 1).val)
    (h2 : (i 2).val = (y 2).val) : cfAt m c t y = G11 m c i := by
  have ey : y = ix3 0 (y 1) (y 2) := by
    funext a; match a with | ⟨0, _⟩ => exact Subsingleton.elim (α := Fin 1) _ _ | ⟨1, _⟩ => rfl | ⟨2, _⟩ => rfl
  have ei : i = ix3 (i 0) (y 1) (y 2) := by
    funext a; match a with | ⟨0, _⟩ => rfl | ⟨1, _⟩ => exact Fin.ext h1 | ⟨2, _⟩ => exact Fin.ext h2
  rw [ey, ei]
  exact (cfAt_row m c t (i 0) (by rw [h0]; omega) (y 1) (y 2)).trans (G11_row m c (i 0) (y 1) (y 2)).symm

theorem flush11 : ∀ t : Fin cfg0.N, win0_11.flush t = true → t.val % 4 = 3 :=
  (by decide +kernel : ∀ t : Fin grid0.N, win0_11.flush t = true → t.val % 4 = 3)

theorem final10 (c : Dev nD) : (dats m 0 c).arrAt 10 cfg0.N = G10 m c := by
  refine (dats m 0 c).arrAt_eq_of_covers 10 _ (by decide +kernel) fun t hf y => ?_
  have h0 := (idx_tab t).2.2.2.2.2.2.2.2.2.2.2.2.2.2.2.2.2.2.2.2.1
  have h1 := (idx_tab t).2.2.2.2.2.2.2.2.2.2.2.2.2.2.2.2.2.2.2.2.2.1
  rw [after0_10]
  refine point10 m c t _ _ ?_ ?_
  · blk_simp [h0, h1]
    exact congrArg (· + (y 0).val) (Nat.mul_comm t.val 512)
  · blk_simp [h0, h1]

theorem final11 (c : Dev nD) : (dats m 0 c).arrAt 11 cfg0.N = G11 m c := by
  refine (dats m 0 c).arrAt_eq_of_covers 11 _ (by decide +kernel) fun t hf y => ?_
  have h0 := (idx_tab t).2.2.2.2.2.2.2.2.2.2.2.2.2.2.2.2.2.2.2.2.2.2.1
  have h1 := (idx_tab t).2.2.2.2.2.2.2.2.2.2.2.2.2.2.2.2.2.2.2.2.2.2.2.1
  have h2 := (idx_tab t).2.2.2.2.2.2.2.2.2.2.2.2.2.2.2.2.2.2.2.2.2.2.2.2
  rw [after0_11]
  refine point11 m c t (flush11 t hf) _ _ ?_ ?_ ?_ <;> blk_simp [h0, h1, h2]

end Cert.KernelIdeal.Hand
-- ==== Proof.FfnSame.lean ====
/-
The program as dumped and its idealized twin have the same text (no operation was rewritten), so a
statement about the runs of one is a statement about the runs of the other.
-/
module

public import proofs.«01_k».proof.Defs
public import proofs.«01_k».proof.Proof.Gen.Kernel
public import proofs.«01_k».proof.Proof.Gen.KernelIdeal

@[expose] public section

set_option maxRecDepth 16384

noncomputable section

namespace Cert.SameText

open Idealize.ShloMosaic

attribute [local instance] Cert.Kernel.Gen.facts Cert.KernelIdeal.Gen.facts

theorem body_same : Cert.Kernel.cc0_out_ffn (F := Bits) = Cert.KernelIdeal.cc0_out_ffn (F := Bits)  := rfl
theorem window0_same : Cert.Kernel.win0_0 = Cert.KernelIdeal.win0_0 := rfl
theorem window1_same : Cert.Kernel.win0_1 = Cert.KernelIdeal.win0_1 := rfl
theorem window2_same : Cert.Kernel.win0_2 = Cert.KernelIdeal.win0_2 := rfl
theorem window3_same : Cert.Kernel.win0_3 = Cert.KernelIdeal.win0_3 := rfl
theorem window4_same : Cert.Kernel.win0_4 = Cert.KernelIdeal.win0_4 := rfl
theorem window5_same : Cert.Kernel.win0_5 = Cert.KernelIdeal.win0_5 := rfl
theorem window6_same : Cert.Kernel.win0_6 = Cert.KernelIdeal.win0_6 := rfl
theorem window7_same : Cert.Kernel.win0_7 = Cert.KernelIdeal.win0_7 := rfl
theorem window8_same : Cert.Kernel.win0_8 = Cert.KernelIdeal.win0_8 := rfl
theorem window9_same : Cert.Kernel.win0_9 = Cert.KernelIdeal.win0_9 := rfl
theorem window10_same : Cert.Kernel.win0_10 = Cert.KernelIdeal.win0_10 := rfl
theorem window11_same : Cert.Kernel.win0_11 = Cert.KernelIdeal.win0_11 := rfl
theorem window_same : Cert.Kernel.win0 = Cert.KernelIdeal.win0 := rfl
theorem table_same : Cert.Kernel.defs₀ (F := Bits) = Cert.KernelIdeal.defs₀ (F := Bits) := by
  refine congrArg (Defs.onTc (nD := 1) (τ := Cert.Kernel.τ) (sig := Cert.Kernel.sig) (Val := Elt Bits) (Λ := Cert.Kernel.Λ₀)) ?_
  funext l a
  obtain ⟨l, hl⟩ := l
  cases l with
  | zero =>
    obtain ⟨t, s⟩ := a
    with_unfolding_all rfl
  | succ n => exact absurd hl (by omega)
theorem pipe_same : Cert.Kernel.pcfgs (F := Bits) = Cert.KernelIdeal.pcfgs (F := Bits) := rfl
theorem defs_same : Cert.Kernel.defs (F := Bits) = Cert.KernelIdeal.defs (F := Bits) :=
  congrArg (Pipeline.defs (Cert.Kernel.pcfgs (F := Bits))) table_same

end Cert.SameText
-- ==== Proof.FfnClaim.lean ====
/-
The claims about the first program: its arguments end unchanged, and its results are the reference's.
-/
module

public import proofs.«01_k».proof.Defs
public import proofs.«01_k».proof.Proof.FfnFinal
public import proofs.«01_k».proof.Proof.FfnSame
public import proofs.«01_k».proof.Proof.Gen.Kernel
public import Idealize.ShloMosaic.Adequacy

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- Over any floats: the arguments end unchanged and every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

theorem frame_ideal : Cert.quiescent_KernelIdeal (hKernelIdeal := Gen.facts) := fun m ρ _ => frame_any m ρ

theorem frame_kernel : Cert.quiescent_Kernel (hKernel := Cert.Kernel.Gen.facts) := by
  intro m ρ _
  have h := frame_any (F := Bits) m ρ
  rw [← Cert.SameText.defs_same] at h
  exact h

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

/-- The run with the result arrays named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v13_0) = G10 m c ∧ r.2.mem ((c : Thread nD τ).loc main_v13_1) = G11 m c) :=
  (θ_run defs _ _).mono (fun r h c => ⟨((h.1 c).1 10).trans (final10 m c), ((h.1 c).1 11).trans (final11 m c)⟩) (run_main_quiescent m ρ)

theorem algebraic : Cert.algebraic_KernelIdeal_ReferenceIdeal (hKernelIdeal := Gen.facts) (hReferenceIdeal := Cert.ReferenceIdeal.Gen.facts) := by
  intro m g m' g' _ hag
  refine ⟨G10 m, G11 m, ?_, ?_⟩
  · exact (θ_run defs _ _).mono (fun r h c => ⟨(h.1 c).1, (h.1 c).2, h.2.1 c⟩) (θ_run_and (run_values m g) (frame_any m g))
  · refine (θ_run Cert.ReferenceIdeal.defs _ _).mono (fun r h c => ⟨(h c).1.trans ?_, (h c).2.1.trans ?_, (h c).2.2⟩) (Cert.ReferenceIdeal.Value.run m' g')
    · refine (Cert.ReferenceIdeal.Read.val_main_v71_eq (launchContents m' c)).trans ?_
      show Cert.ReferenceIdeal.Read.val_main_v71 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      obtain ⟨a0, a1, a2, a3, a4, a5, a6, a7, a8, a9⟩ := hag c
      rw [a0, a1, a2, a3, a4, a5, a6, a7, a8, a9]
      rfl
    · refine (Cert.ReferenceIdeal.Read.val_main_v50_eq (launchContents m' c)).trans ?_
      show Cert.ReferenceIdeal.Read.val_main_v50 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      obtain ⟨a0, a1, a2, a3, a4, a5, a6, a7, a8, a9⟩ := hag c
      rw [a0, a1, a2, a3, a4, a5, a6]
      rfl

end Cert.KernelIdeal.Hand
-- ==== Proof.SmpClean.lean ====
/-
What a run of the second program's body leaves, in closed form: the functions it is stated with.
-/
module

public import proofs.«01_k».proof.Proof.Gen.Kernel2Ideal.Frame
public import Idealize.ShloMosaic.Lib.ValueIdxCore
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.ValueIdx
open Idealize.ShloMosaic.Pipeline (Dat Cfg Window)

variable {F : FTy → Type} [FloatOps F]

/-! ## The functions -/

/-- The scratch: the 128 rows of the state and the block's rows after them. -/
def bufRows (T : Vec F S128x5632 .f32) (u : Vec F S256x5632 .f32) : Vec F S384x5632 .f32 :=
  fun j => if h : (j 0).val < 128 then T (ix2 ⟨(j 0).val, h⟩ (j 1))
    else u (ix2 ⟨(j 0).val - 128, by have : (j 0).val < 384 := (j 0).isLt; omega⟩ (j 1))

/-- The last 128 rows of a block. -/
def lastRows (u : Vec F S256x5632 .f32) : Vec F S128x5632 .f32 :=
  fun i => u (ix2 ⟨(i 0).val + 128, by have : (i 0).val < 128 := (i 0).isLt; omega⟩ (i 1))

/-- 256 rows of the scratch from row `k` on, 256 columns from `lo` on. -/
def rowsAt (B : Vec F S384x5632 .f32) (k : ℕ) (hk : k ≤ 128) (lo : ℕ) (h : lo + 256 ≤ 5632) : Vec F S256x256 .f32 :=
  fun i => B (ix2 ⟨k + (i 0).val, by have : (i 0).val < 256 := (i 0).isLt; omega⟩ ⟨lo + (i 1).val, by have : (i 1).val < 256 := (i 1).isLt; omega⟩)

/-- One tap's 256 weights from `lo` on. -/
def tapAt (w : Vec F S3x5632 .f32) (k : ℕ) (hk : k < 3) (lo : ℕ) (h : lo + 256 ≤ 5632) : Vec F S1x256 .f32 :=
  fun i => w (ix2 ⟨k, hk⟩ ⟨lo + (i 1).val, by have : (i 1).val < 256 := (i 1).isLt; omega⟩)

/-- 256 rows of the down projection from `lo` on. -/
def downAt (w : Vec F S2816x1024 .bf16) (lo : ℕ) (h : lo + 256 ≤ 2816) : Vec F S256x1024 .bf16 :=
  fun i => w (ix2 ⟨lo + (i 0).val, by have : (i 0).val < 256 := (i 0).isLt; omega⟩ (i 1))

/-- The three taps on three shifted blocks. -/
def conv3 (a0 a1 a2 : Vec F S256x256 .f32) (c0 c1 c2 : Vec F S1x256 .f32) : FVec F S256x256 .f32 :=
  addf (addf (mulf a0 (broadcastTo S256x256 (shapeCast S1x256 c0 shapeCasts_S1x256_S1x256) broadcasts_S1x256_S256x256))
      (mulf a1 (broadcastTo S256x256 (shapeCast S1x256 c1 shapeCasts_S1x256_S1x256) broadcasts_S1x256_S256x256)))
    (mulf a2 (broadcastTo S256x256 (shapeCast S1x256 c2 shapeCasts_S1x256_S1x256) broadcasts_S1x256_S256x256))

/-- One chunk's term added to what was accumulated before it. -/
def chunkAdd (acc : FVec F S256x1024 .f32) (g v : FVec F S256x256 .f32) (d : Vec F S256x1024 .bf16) : FVec F S256x1024 .f32 :=
  addf acc (matmul dot_S256x256_S256x1024_S256x1024_1_0_0_1_n_n none
    (truncf .bf16 (mulf (mulf g (logistic g)) v) bitsLt_bf16_f32)
    (shapeCast S256x1024 d shapeCasts_S256x1024_S256x1024) (constant S256x1024 .f32 0x00000000#32))

/-- The last normalization. -/
def normOut (x : FVec F S256x1024 .f32) (w : FVec F S1x1024 .f32) : FVec F S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 w shapeCasts_S1x1024_S1x1024) broadcasts_S1x1024_S256x1024)

section
variable (R0 R1 R2 : (lo : ℕ) → lo + 256 ≤ 5632 → Vec F S256x256 .f32) (C0 C1 C2 : (lo : ℕ) → lo + 256 ≤ 5632 → Vec F S1x256 .f32)
  (D : (lo : ℕ) → lo + 256 ≤ 2816 → Vec F S256x1024 .bf16)

/-- The convolution of one chunk of columns, from the chunk's reads. -/
def convR (lo : ℕ) (h : lo + 256 ≤ 5632) : FVec F S256x256 .f32 := conv3 (R0 lo h) (R1 lo h) (R2 lo h) (C0 lo h) (C1 lo h) (C2 lo h)

/-- One chunk's term, from the chunk's reads. -/
def chunkR (acc : FVec F S256x1024 .f32) (lo : ℕ) (h : lo + 256 ≤ 2816) : FVec F S256x1024 .f32 :=
  chunkAdd acc (convR R0 R1 R2 C0 C1 C2 lo (by omega)) (convR R0 R1 R2 C0 C1 C2 (2816 + lo) (by omega)) (D lo h)

/-- The eleven chunks. -/
def chunksR (x1 : FVec F S256x1024 .f32) : FVec F S256x1024 .f32 :=
  chunkR R0 R1 R2 C0 C1 C2 D (chunkR R0 R1 R2 C0 C1 C2 D (chunkR R0 R1 R2 C0 C1 C2 D (chunkR R0 R1 R2 C0 C1 C2 D (chunkR R0 R1 R2 C0 C1 C2 D (chunkR R0 R1 R2 C0 C1 C2 D (chunkR R0 R1 R2 C0 C1 C2 D (chunkR R0 R1 R2 C0 C1 C2 D (chunkR R0 R1 R2 C0 C1 C2 D (chunkR R0 R1 R2 C0 C1 C2 D (chunkR R0 R1 R2 C0 C1 C2 D x1 0 (by decide)) 256 (by decide)) 512 (by decide)) 768 (by decide)) 1024 (by decide)) 1280 (by decide)) 1536 (by decide)) 1792 (by decide)) 2048 (by decide)) 2304 (by decide)) 2560 (by decide)
end

/-- The block of results, from the block after the out projection, the scratch and the weights. -/
def ffnOut (x1 : FVec F S256x1024 .f32) (B : Vec F S384x5632 .f32) (cw : Vec F S3x5632 .f32) (dw : Vec F S2816x1024 .bf16)
    (nf : Vec F S1x1024 .f32) : FVec F S256x1024 .f32 :=
  normOut (chunksR (rowsAt B 0 (by decide)) (rowsAt B 64 (by decide)) (rowsAt B 128 (by decide))
    (tapAt cw 0 (by decide)) (tapAt cw 1 (by decide)) (tapAt cw 2 (by decide)) (downAt dw) x1) nf

/-! ## The reads -/

/-- A whole memref's contents read over a rectangle. -/
theorem readAt_two {κ : Kind} {sp : Space} {n m : ℕ} {e : EltTy} (v : View sig κ sp ⟨2, ![n, m]⟩ e) (f : v.ty.Contents (Elt F))
    (k lo a b : ℕ) (inb) (i : (Rect.unit (s := ⟨2, ![n, m]⟩) ![k, lo] ![a, b] inb).shape.Idx) (hk : k + (i 0).val < n) (hl : lo + (i 1).val < m) :
    v.readAt (Elt F) (Rect.unit (s := ⟨2, ![n, m]⟩) ![k, lo] ![a, b] inb).toLoadRect f i = v.read (Elt F) f (ix2 ⟨k + (i 0).val, hk⟩ ⟨lo + (i 1).val, hl⟩) := by
  show v.read (Elt F) f ((Rect.unit (s := ⟨2, ![n, m]⟩) ![k, lo] ![a, b] inb).emb i) = _
  congr 1
  funext x
  apply Fin.ext
  match x with
  | ⟨0, _⟩ => show k + 1 * (i 0).val = k + (i 0).val; omega
  | ⟨1, _⟩ => show lo + 1 * (i 1).val = lo + (i 1).val; omega

/-- The whole of a whole memref's contents. -/
theorem readAt_whole {κ : Kind} {sp : Space} {s : Shape} {e : EltTy} (m : Memref sig κ sp s e) (h : m.IsWhole) (X : Vec F s e)
    {off : Fin s.rank → ℕ} (inb) : View.readAt (Elt F) m.view (Rect.unit off s.size inb).toLoadRect (h.unread X) = X :=
  (View.readAt_full _ _ _).trans (h.read_unread X)

/-- The two pieces over anything. -/
theorem read_two (v : View sig .tc .vmem S384x5632 .f32) (f : v.ty.Contents (Elt F)) (T : Vec F S128x5632 .f32) (u : Vec F S256x5632 .f32)
    (j : S384x5632.Idx) :
    v.read (Elt F) (v.writes (Elt F) f [⟨Rect.unit ![128, 0] S256x5632.size inb_S384x5632_S256x5632_128_0, u⟩,
      ⟨Rect.unit ![0, 0] S128x5632.size inb_S384x5632_S128x5632_0_0, T⟩]) j = bufRows T u j := by
  have h0 : (j 0).val < 384 := (j 0).isLt
  have h1 : (j 1).val < 5632 := (j 1).isLt
  rw [View.read_writes_cons_put v f inb_S384x5632_S256x5632_128_0 u _ rfl, View.read_writes_cons_put v f inb_S384x5632_S128x5632_0_0 T _ rfl]
  unfold bufRows VecWindow.put
  by_cases h : (j 0).val < 128
  · rw [dif_neg (fun hh => by have := (hh 0).1; simp at this; omega), dif_pos h, dif_pos (by
      intro a
      match a with
      | ⟨0, _⟩ => exact ⟨Nat.zero_le _, by show (j 0).val < 0 + 128; omega⟩
      | ⟨1, _⟩ => exact ⟨Nat.zero_le _, by show (j 1).val < 0 + 5632; omega⟩)]
    congr 1
    funext a
    apply Fin.ext
    match a with
    | ⟨0, _⟩ => show (j 0).val - 0 = (j 0).val; omega
    | ⟨1, _⟩ => show (j 1).val - 0 = (j 1).val; omega
  · rw [dif_neg h, dif_pos (by
      intro a
      match a with
      | ⟨0, _⟩ => exact ⟨by show 128 ≤ (j 0).val; omega, by show (j 0).val < 128 + 256; omega⟩
      | ⟨1, _⟩ => exact ⟨Nat.zero_le _, by show (j 1).val < 0 + 5632; omega⟩)]
    congr 1
    funext a
    apply Fin.ext
    match a with
    | ⟨0, _⟩ => rfl
    | ⟨1, _⟩ => show (j 1).val - 0 = (j 1).val; omega

end Cert.Kernel2Ideal.Hand
-- ==== Proof.SmpVals.lean ====
/-
What a run of the second program's body leaves in each result's block.
-/
module

public import proofs.«01_k».proof.Proof.SmpClean
public import Idealize.ShloMosaic.Lib.Pipeline.Value
public import Idealize.ShloMosaic.Lib.ValueIdxCore
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.ValueIdx
open Idealize.ShloMosaic.Pipeline (Dat Cfg Window)

variable {F : FTy → Type} [FloatOps F]

/-! ## The bounds -/

/-- 256 rows and 256 columns of the scratch. -/
theorem inb384 (k lo : ℕ) (hk : k ≤ 128) (h : lo + 256 ≤ 5632) : ∀ a, (![k, lo] : Fin 2 → ℕ) a + S256x256.size a ≤ S384x5632.size a := fun a =>
  match a with
  | ⟨0, _⟩ => by show k + 256 ≤ 384; omega
  | ⟨1, _⟩ => h

/-- 256 weights of a tap. -/
theorem inb3 (k lo : ℕ) (hk : k < 3) (h : lo + 256 ≤ 5632) : ∀ a, (![k, lo] : Fin 2 → ℕ) a + S1x256.size a ≤ S3x5632.size a := fun a =>
  match a with
  | ⟨0, _⟩ => by show k + 1 ≤ 3; omega
  | ⟨1, _⟩ => h

/-- 256 rows of the down projection. -/
theorem inb2816 (lo : ℕ) (h : lo + 256 ≤ 2816) : ∀ a, (![lo, 0] : Fin 2 → ℕ) a + S256x1024.size a ≤ S2816x1024.size a := fun a =>
  match a with
  | ⟨0, _⟩ => h
  | ⟨1, _⟩ => (by show 0 + 1024 ≤ 1024; omega)

/-! ## The run -/

section
variable (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x128x5632 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x128x5632 .f32) (harg12 : arg12.IsWhole) (arg13 : Memref sig .tc .vmem S384x5632 .f32) (harg13 : arg13.IsWhole) (hc0 : cond0_0 i)
    (x0 : Vec F S256x1024 .f32) (x1 : Vec F S256x1024 .bf16) (x2 : Vec F S1x128x5632 .f32) (x3 : Vec F S1024x1024 .bf16) (x4 : Vec F S1x1024 .f32) (x5 : Vec F S1024x5632 .bf16) (x6 : Vec F S3x5632 .f32) (x7 : Vec F S2816x1024 .bf16) (x8 : Vec F S1x1024 .f32)
include hc0

/-- The pieces of the scratch. -/
theorem pieces : (kernelRun0_A.sl.HS0_2 c arg2 harg2 arg3 harg3 arg4 harg4 arg5 harg5 arg6 harg6 arg7 harg7 x0 x1 x2 x3 x4 x5) = [⟨Rect.unit ![128, 0] S256x5632.size inb_S384x5632_S256x5632_128_0, (k0_pay5 x0 x1 x3 x4 x5)⟩, ⟨Rect.unit ![0, 0] S128x5632.size inb_S384x5632_S128x5632_0_0, (k0_pay3 x2)⟩] := by
  unfold kernelRun0_A.sl.HS0_2
  rw [readAt_whole, readAt_whole, readAt_whole, readAt_whole, readAt_whole, readAt_whole]

set_option maxHeartbeats 400000 in
/-- The block of results. -/
theorem out_eq : k0_pay33 (kernelRun0_A.sl.r_28 c arg2 harg2 arg3 harg3 arg4 harg4 arg5 harg5 arg6 harg6 arg7 harg7 arg8 harg8 arg9 harg9 arg13 x0 x1 x2 x3 x4 x5 x6 x7) (kernelRun0_A.sl.r_29 c arg2 harg2 arg3 harg3 arg4 harg4 arg5 harg5 arg6 harg6 arg7 harg7 arg8 harg8 arg13 x0 x1 x2 x3 x4 x5 x6) (kernelRun0_A.sl.v471 c arg2 harg2 arg3 harg3 arg4 harg4 arg5 harg5 arg6 harg6 arg7 harg7 arg13 x0 x1 x2 x3 x4 x5) (View.readAt (Elt F) arg8.view (Rect.unit (s := S3x5632) ![0, 5376] S1x256.size inb_S3x5632_S1x256_0_5376).toLoadRect (harg8.unread x6)) (kernelRun0_A.sl.v476 c arg2 harg2 arg3 harg3 arg4 harg4 arg5 harg5 arg6 harg6 arg7 harg7 arg13 x0 x1 x2 x3 x4 x5) (View.readAt (Elt F) arg8.view (Rect.unit (s := S3x5632) ![1, 5376] S1x256.size inb_S3x5632_S1x256_1_5376).toLoadRect (harg8.unread x6)) (kernelRun0_A.sl.v482 c arg2 harg2 arg3 harg3 arg4 harg4 arg5 harg5 arg6 harg6 arg7 harg7 arg13 x0 x1 x2 x3 x4 x5) (View.readAt (Elt F) arg8.view (Rect.unit (s := S3x5632) ![2, 5376] S1x256.size inb_S3x5632_S1x256_2_5376).toLoadRect (harg8.unread x6)) (View.readAt (Elt F) arg9.view (Rect.unit (s := S2816x1024) ![2560, 0] S256x1024.size inb_S2816x1024_S256x1024_2560_0).toLoadRect (harg9.unread x7)) (View.readAt (Elt F) arg10.view (Rect.unit (s := S1x1024) ![0, 0] S1x1024.size inb_S1x1024_S1x1024_0_0).toLoadRect (harg10.unread x8)) = ffnOut (k0_pay4 x0 x1 x3) (bufRows (k0_pay3 x2) (k0_pay5 x0 x1 x3 x4 x5)) x6 x7 x8 := by
  have e : k0_pay33 (kernelRun0_A.sl.r_28 c arg2 harg2 arg3 harg3 arg4 harg4 arg5 harg5 arg6 harg6 arg7 harg7 arg8 harg8 arg9 harg9 arg13 x0 x1 x2 x3 x4 x5 x6 x7) (kernelRun0_A.sl.r_29 c arg2 harg2 arg3 harg3 arg4 harg4 arg5 harg5 arg6 harg6 arg7 harg7 arg8 harg8 arg13 x0 x1 x2 x3 x4 x5 x6) (kernelRun0_A.sl.v471 c arg2 harg2 arg3 harg3 arg4 harg4 arg5 harg5 arg6 harg6 arg7 harg7 arg13 x0 x1 x2 x3 x4 x5) (View.readAt (Elt F) arg8.view (Rect.unit (s := S3x5632) ![0, 5376] S1x256.size inb_S3x5632_S1x256_0_5376).toLoadRect (harg8.unread x6)) (kernelRun0_A.sl.v476 c arg2 harg2 arg3 harg3 arg4 harg4 arg5 harg5 arg6 harg6 arg7 harg7 arg13 x0 x1 x2 x3 x4 x5) (View.readAt (Elt F) arg8.view (Rect.unit (s := S3x5632) ![1, 5376] S1x256.size inb_S3x5632_S1x256_1_5376).toLoadRect (harg8.unread x6)) (kernelRun0_A.sl.v482 c arg2 harg2 arg3 harg3 arg4 harg4 arg5 harg5 arg6 harg6 arg7 harg7 arg13 x0 x1 x2 x3 x4 x5) (View.readAt (Elt F) arg8.view (Rect.unit (s := S3x5632) ![2, 5376] S1x256.size inb_S3x5632_S1x256_2_5376).toLoadRect (harg8.unread x6)) (View.readAt (Elt F) arg9.view (Rect.unit (s := S2816x1024) ![2560, 0] S256x1024.size inb_S2816x1024_S256x1024_2560_0).toLoadRect (harg9.unread x7)) (View.readAt (Elt F) arg10.view (Rect.unit (s := S1x1024) ![0, 0] S1x1024.size inb_S1x1024_S1x1024_0_0).toLoadRect (harg10.unread x8)) = normOut (chunksR (fun lo h => arg13.view.readCov (kernelRun0_A.sl.HS0_2 c arg2 harg2 arg3 harg3 arg4 harg4 arg5 harg5 arg6 harg6 arg7 harg7 x0 x1 x2 x3 x4 x5) (Rect.unit (s := S384x5632) ![0, lo] S256x256.size (inb384 0 lo (by decide) h)).toLoadRect) (fun lo h => arg13.view.readCov (kernelRun0_A.sl.HS0_2 c arg2 harg2 arg3 harg3 arg4 harg4 arg5 harg5 arg6 harg6 arg7 harg7 x0 x1 x2 x3 x4 x5) (Rect.unit (s := S384x5632) ![64, lo] S256x256.size (inb384 64 lo (by decide) h)).toLoadRect) (fun lo h => arg13.view.readCov (kernelRun0_A.sl.HS0_2 c arg2 harg2 arg3 harg3 arg4 harg4 arg5 harg5 arg6 harg6 arg7 harg7 x0 x1 x2 x3 x4 x5) (Rect.unit (s := S384x5632) ![128, lo] S256x256.size (inb384 128 lo (by decide) h)).toLoadRect)
      (fun lo h => View.readAt (Elt F) arg8.view (Rect.unit (s := S3x5632) ![0, lo] S1x256.size (inb3 0 lo (by decide) h)).toLoadRect (harg8.unread x6)) (fun lo h => View.readAt (Elt F) arg8.view (Rect.unit (s := S3x5632) ![1, lo] S1x256.size (inb3 1 lo (by decide) h)).toLoadRect (harg8.unread x6)) (fun lo h => View.readAt (Elt F) arg8.view (Rect.unit (s := S3x5632) ![2, lo] S1x256.size (inb3 2 lo (by decide) h)).toLoadRect (harg8.unread x6)) (fun lo h => View.readAt (Elt F) arg9.view (Rect.unit (s := S2816x1024) ![lo, 0] S256x1024.size (inb2816 lo h)).toLoadRect (harg9.unread x7)) (kernelRun0_A.sl.r c arg2 harg2 arg3 harg3 arg5 harg5 x0 x1 x3)) (View.readAt (Elt F) arg10.view (Rect.unit ![0, 0] S1x1024.size inb_S1x1024_S1x1024_0_0).toLoadRect (harg10.unread x8)) := rfl
  have er : (kernelRun0_A.sl.r c arg2 harg2 arg3 harg3 arg5 harg5 x0 x1 x3) = (k0_pay4 x0 x1 x3) := by
    unfold kernelRun0_A.sl.r; rw [readAt_whole, readAt_whole, readAt_whole]
  have h0 : (fun lo h => arg13.view.readCov (kernelRun0_A.sl.HS0_2 c arg2 harg2 arg3 harg3 arg4 harg4 arg5 harg5 arg6 harg6 arg7 harg7 x0 x1 x2 x3 x4 x5) (Rect.unit (s := S384x5632) ![0, lo] S256x256.size (inb384 0 lo (by decide) h)).toLoadRect) = rowsAt (bufRows (k0_pay3 x2) (k0_pay5 x0 x1 x3 x4 x5)) 0 (by decide) := by
    funext lo h i
    have h0 : (i 0).val < 256 := (i 0).isLt
    have h1 : (i 1).val < 256 := (i 1).isLt
    refine (readAt_two arg13.view _ 0 lo 256 256 _ i (by omega) (by omega)).trans ?_
    rw [pieces (hc0 := hc0)]
    exact read_two arg13.view _ _ _ _
  have h64 : (fun lo h => arg13.view.readCov (kernelRun0_A.sl.HS0_2 c arg2 harg2 arg3 harg3 arg4 harg4 arg5 harg5 arg6 harg6 arg7 harg7 x0 x1 x2 x3 x4 x5) (Rect.unit (s := S384x5632) ![64, lo] S256x256.size (inb384 64 lo (by decide) h)).toLoadRect) = rowsAt (bufRows (k0_pay3 x2) (k0_pay5 x0 x1 x3 x4 x5)) 64 (by decide) := by
    funext lo h i
    have h0 : (i 0).val < 256 := (i 0).isLt
    have h1 : (i 1).val < 256 := (i 1).isLt
    refine (readAt_two arg13.view _ 64 lo 256 256 _ i (by omega) (by omega)).trans ?_
    rw [pieces (hc0 := hc0)]
    exact read_two arg13.view _ _ _ _
  have h128 : (fun lo h => arg13.view.readCov (kernelRun0_A.sl.HS0_2 c arg2 harg2 arg3 harg3 arg4 harg4 arg5 harg5 arg6 harg6 arg7 harg7 x0 x1 x2 x3 x4 x5) (Rect.unit (s := S384x5632) ![128, lo] S256x256.size (inb384 128 lo (by decide) h)).toLoadRect) = rowsAt (bufRows (k0_pay3 x2) (k0_pay5 x0 x1 x3 x4 x5)) 128 (by decide) := by
    funext lo h i
    have h0 : (i 0).val < 256 := (i 0).isLt
    have h1 : (i 1).val < 256 := (i 1).isLt
    refine (readAt_two arg13.view _ 128 lo 256 256 _ i (by omega) (by omega)).trans ?_
    rw [pieces (hc0 := hc0)]
    exact read_two arg13.view _ _ _ _
  have c0 : (fun lo h => View.readAt (Elt F) arg8.view (Rect.unit (s := S3x5632) ![0, lo] S1x256.size (inb3 0 lo (by decide) h)).toLoadRect (harg8.unread x6)) = tapAt x6 0 (by decide) := by
    funext lo h i
    have h0 : (i 0).val < 1 := (i 0).isLt
    have h1 : (i 1).val < 256 := (i 1).isLt
    refine (readAt_two arg8.view _ 0 lo 1 256 _ i (by omega) (by omega)).trans ?_
    rw [harg8.read_unread]
    unfold tapAt
    congr 1
    funext a
    apply Fin.ext
    match a with
    | ⟨0, _⟩ => show 0 + (i 0).val = 0; omega
    | ⟨1, _⟩ => rfl
  have c1 : (fun lo h => View.readAt (Elt F) arg8.view (Rect.unit (s := S3x5632) ![1, lo] S1x256.size (inb3 1 lo (by decide) h)).toLoadRect (harg8.unread x6)) = tapAt x6 1 (by decide) := by
    funext lo h i
    have h0 : (i 0).val < 1 := (i 0).isLt
    have h1 : (i 1).val < 256 := (i 1).isLt
    refine (readAt_two arg8.view _ 1 lo 1 256 _ i (by omega) (by omega)).trans ?_
    rw [harg8.read_unread]
    unfold tapAt
    congr 1
    funext a
    apply Fin.ext
    match a with
    | ⟨0, _⟩ => show 1 + (i 0).val = 1; omega
    | ⟨1, _⟩ => rfl
  have c2 : (fun lo h => View.readAt (Elt F) arg8.view (Rect.unit (s := S3x5632) ![2, lo] S1x256.size (inb3 2 lo (by decide) h)).toLoadRect (harg8.unread x6)) = tapAt x6 2 (by decide) := by
    funext lo h i
    have h0 : (i 0).val < 1 := (i 0).isLt
    have h1 : (i 1).val < 256 := (i 1).isLt
    refine (readAt_two arg8.view _ 2 lo 1 256 _ i (by omega) (by omega)).trans ?_
    rw [harg8.read_unread]
    unfold tapAt
    congr 1
    funext a
    apply Fin.ext
    match a with
    | ⟨0, _⟩ => show 2 + (i 0).val = 2; omega
    | ⟨1, _⟩ => rfl
  have ed : (fun lo h => View.readAt (Elt F) arg9.view (Rect.unit (s := S2816x1024) ![lo, 0] S256x1024.size (inb2816 lo h)).toLoadRect (harg9.unread x7)) = downAt x7 := by
    funext lo h i
    have h0 : (i 0).val < 256 := (i 0).isLt
    have h1 : (i 1).val < 1024 := (i 1).isLt
    refine (readAt_two arg9.view _ lo 0 256 1024 _ i (by omega) (by omega)).trans ?_
    rw [harg9.read_unread]
    unfold downAt
    congr 1
    funext a
    apply Fin.ext
    match a with
    | ⟨0, _⟩ => rfl
    | ⟨1, _⟩ => show 0 + (i 1).val = (i 1).val; omega
  rw [e, h0, h64, h128, c0, c1, c2, ed, er, readAt_whole]
  rfl

/-- The last 128 rows of the block. -/
theorem last_eq : (kernelRun0_A.sl.v c arg2 harg2 arg3 harg3 arg4 harg4 arg5 harg5 arg6 harg6 arg7 harg7 arg13 x0 x1 x2 x3 x4 x5) = lastRows (k0_pay5 x0 x1 x3 x4 x5) := by
  funext i
  have h0 : (i 0).val < 128 := (i 0).isLt
  have h1 : (i 1).val < 5632 := (i 1).isLt
  unfold kernelRun0_A.sl.v
  refine (readAt_two arg13.view _ 256 0 128 5632 _ i (by omega) (by omega)).trans ?_
  rw [pieces (hc0 := hc0)]
  refine (read_two arg13.view _ _ _ _).trans ?_
  unfold bufRows lastRows
  rw [dif_neg (show ¬ (256 + (i 0).val < 128) by omega)]
  congr 1
  funext a
  apply Fin.ext
  match a with
  | ⟨0, _⟩ => show 256 + (i 0).val - 128 = (i 0).val + 128; omega
  | ⟨1, _⟩ => show 0 + (i 1).val = (i 1).val; omega

/-- The pieces of the block of results. -/
theorem run_out : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 = [⟨Rect.unit ![0, 0] S256x1024.size inb_S256x1024_S256x1024_0_0, ffnOut (k0_pay4 x0 x1 x3) (bufRows (k0_pay3 x2) (k0_pay5 x0 x1 x3 x4 x5)) x6 x7 x8⟩] := by
  rw [← out_eq (hc0 := hc0)]; rfl

/-- The pieces of the last rows' window. -/
theorem run_last : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 = [⟨Rect.unit ![0, 0, 0] S1x128x5632.size inb_S1x128x5632_S1x128x5632_0_0_0, k0_pay2 (lastRows (k0_pay5 x0 x1 x3 x4 x5))⟩] := by
  rw [← last_eq (hc0 := hc0)]; rfl

/-- The block of results, read back. -/
theorem out9_eq : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = ffnOut (k0_pay4 x0 x1 x3) (bufRows (k0_pay3 x2) (k0_pay5 x0 x1 x3 x4 x5)) x6 x7 x8 := by
  unfold out0_A_9
  rw [run_out]
  exact View.read_writes_full _ _ _ _ _

/-- The last rows' window, read back. -/
theorem out10_eq : out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 (lastRows (k0_pay5 x0 x1 x3 x4 x5)) := by
  unfold out0_A_10
  rw [run_last]
  exact View.read_writes_full _ _ _ _ _

end

/-! ## The points -/

variable (m : (ℓ : Loc nD τ sig) → Buf (Elt F) ℓ)

/-- The up projection of a point's block. -/
def upAt (c : Dev nD) (t : Fin cfg0.N) : Vec F S256x5632 .f32 := k0_pay5 (iblk m c 0 t) (iblk m c 1 t) (iblk m c 3 t) (iblk m c 4 t) (iblk m c 5 t)

/-- The state's rows of a point's block. -/
def tailAt (c : Dev nD) (t : Fin cfg0.N) : Vec F S128x5632 .f32 := k0_pay3 (iblk m c 2 t)

/-- The block of results of a point. -/
def yAt (c : Dev nD) (t : Fin cfg0.N) : Vec F S256x1024 .f32 :=
  ffnOut (k0_pay4 (iblk m c 0 t) (iblk m c 1 t) (iblk m c 3 t)) (bufRows (tailAt m c t) (upAt m c t)) (iblk m c 6 t) (iblk m c 7 t) (iblk m c 8 t)

/-- The last rows of a point. -/
def cfAt (c : Dev nD) (t : Fin cfg0.N) : Vec F S1x128x5632 .f32 := k0_pay2 (lastRows (upAt m c t))

theorem outs_1 (c : Dev nD) (t : Fin cfg0.N) : (outsAt0 m c t).1 = yAt m c t := by
  unfold outsAt0
  dsimp only
  rw [out9_eq]
  rfl

theorem outs_2 (c : Dev nD) (t : Fin cfg0.N) : (outsAt0 m c t).2 = cfAt m c t := by
  unfold outsAt0
  dsimp only
  rw [out10_eq]
  rfl

end Cert.Kernel2Ideal.Hand
-- ==== Proof.SmpRows.lean ====
/-
The blocks of the second program read row by row, at the extended reals.
-/
module

public import proofs.«01_k».proof.Proof.SmpVals
public import proofs.«01_k».proof.Proof.FfnMath

@[expose] public section

set_option maxRecDepth 16384

noncomputable section

namespace Cert.Kernel2Ideal.Hand

open Cert.Kernel2Ideal Cert.Kernel2Ideal.Gen Cert.FfnMath
open Idealize.ShloMosaic

theorem pay4_row (x : Vec Ideal S256x1024 .f32) (mx : Vec Ideal S256x1024 .bf16) (wo : Vec Ideal S1024x1024 .bf16) (r : Fin 256) (c : Fin 1024) :
    k0_pay4 (F := Ideal) x mx wo (ix2 r c) = x1Row (fun k => x (ix2 r k)) (fun k => mx (ix2 r k)) (fun k l => wo (ix2 k l)) c := by
  pointwise [k0_pay4]
  rfl

theorem pay5_row (x : Vec Ideal S256x1024 .f32) (mx : Vec Ideal S256x1024 .bf16) (wo : Vec Ideal S1024x1024 .bf16) (nw : Vec Ideal S1x1024 .f32)
    (wu : Vec Ideal S1024x5632 .bf16) (r : Fin 256) (c : Fin 5632) :
    k0_pay5 (F := Ideal) x mx wo nw wu (ix2 r c)
      = upRow (normRow (x1Row (fun k => x (ix2 r k)) (fun k => mx (ix2 r k)) (fun k l => wo (ix2 k l))) (fun k => nw (ix2 0 k))) (fun k l => wu (ix2 k l)) c := by
  pointwise [k0_pay5]
  simp only [pay4_row]
  rfl

theorem normOut_row (x : FVec Ideal S256x1024 .f32) (w : Vec Ideal S1x1024 .f32) (r : Fin 256) (c : Fin 1024) :
    normOut (F := Ideal) x w (ix2 r c) = normRow (fun k => x (ix2 r k)) (fun k => w (ix2 0 k)) c := by
  pointwise [normOut]
  rfl

section
variable (B : Vec Ideal S384x5632 .f32) (cw : Vec Ideal S3x5632 .f32) (dw : Vec Ideal S2816x1024 .bf16)

/-- Row `r` of the convolution. -/
def convOf (r : Fin 256) : Row 5632 :=
  convRow (fun k => B (ix2 ⟨0 + r.val, by omega⟩ k)) (fun k => B (ix2 ⟨64 + r.val, by omega⟩ k)) (fun k => B (ix2 ⟨128 + r.val, by omega⟩ k))
    (fun j k => cw (ix2 j k))

theorem convR_row (lo : ℕ) (h : lo + 256 ≤ 5632) (r : Fin 256) (k : Fin 256) :
    convR (F := Ideal) (rowsAt B 0 (by decide)) (rowsAt B 64 (by decide)) (rowsAt B 128 (by decide))
      (tapAt cw 0 (by decide)) (tapAt cw 1 (by decide)) (tapAt cw 2 (by decide)) lo h (ix2 r k)
      = convOf B cw r ⟨lo + k.val, by omega⟩ := by
  pointwise [convR, conv3]
  rfl

theorem chunkR_row (acc : FVec Ideal S256x1024 .f32) (lo : ℕ) (h : lo + 256 ≤ 2816) (r : Fin 256) (c : Fin 1024) :
    chunkR (F := Ideal) (rowsAt B 0 (by decide)) (rowsAt B 64 (by decide)) (rowsAt B 128 (by decide))
      (tapAt cw 0 (by decide)) (tapAt cw 1 (by decide)) (tapAt cw 2 (by decide)) (downAt dw) acc lo h (ix2 r c)
      = acc (ix2 r c) + ∑ k : Fin 256, actRow (convOf B cw r) ⟨lo + k.val, by omega⟩ * dw (ix2 ⟨lo + k.val, by omega⟩ c) := by
  unfold chunkR
  pointwise [chunkAdd]
  simp only [convR_row]
  unfold actRow
  simp only [Nat.add_assoc]
  rfl

theorem chunksR_row (x1 : FVec Ideal S256x1024 .f32) (r : Fin 256) (c : Fin 1024) :
    chunksR (F := Ideal) (rowsAt B 0 (by decide)) (rowsAt B 64 (by decide)) (rowsAt B 128 (by decide))
      (tapAt cw 0 (by decide)) (tapAt cw 1 (by decide)) (tapAt cw 2 (by decide)) (downAt dw) x1 (ix2 r c)
      = x2Row (fun k => x1 (ix2 r k)) (actRow (convOf B cw r)) (fun k l => dw (ix2 k l)) c := by
  unfold chunksR
  simp only [chunkR_row]
  rw [x2Row_tiles]

theorem ffnOut_row (x1 : FVec Ideal S256x1024 .f32) (nf : Vec Ideal S1x1024 .f32) (r : Fin 256) (c : Fin 1024) :
    ffnOut (F := Ideal) x1 B cw dw nf (ix2 r c)
      = normRow (x2Row (fun k => x1 (ix2 r k)) (actRow (convOf B cw r)) (fun k l => dw (ix2 k l))) (fun k => nf (ix2 0 k)) c := by
  unfold ffnOut
  rw [normOut_row]
  simp only [chunksR_row]

end

end Cert.Kernel2Ideal.Hand
-- ==== Proof.SmpRef.lean ====
/-
The reference of the second program read row by row, at the extended reals.
-/
module

public import proofs.«01_k».proof.Proof.Gen.Reference2Ideal.Read
public import proofs.«01_k».proof.Proof.FfnMath

@[expose] public section

set_option maxRecDepth 16384

noncomputable section

namespace Cert.Reference2Ideal.Rows

open Cert.Reference2Ideal Cert.Reference2Ideal.Gen Cert.Reference2Ideal.Read Cert.FfnMath
open Idealize.ShloMosaic

variable (x0 : Vec Ideal S128x4x1024 .f32) (x1 : Vec Ideal S128x4x1024 .bf16) (x2 : Vec Ideal S1x128x2x5632 .f32) (x3 : Vec Ideal S1x1024x1024 .f32)
  (x4 : Vec Ideal S1x1024 .f32) (x5 : Vec Ideal S1x1024x5632 .f32) (x6 : Vec Ideal S1x3x5632 .f32) (x7 : Vec Ideal S1x2816x1024 .f32) (x8 : Vec Ideal S1024 .f32)

/-- The rows of the sequences. -/
def aX (n : Fin 128) (s : Fin 4) : Row 1024 := fun k => x0 (ix3 n s k)
def aMX (n : Fin 128) (s : Fin 4) : Row 1024 := fun k => x1 (ix3 n s k)
/-- The two rows each sequence's state holds. -/
def aSt (n : Fin 128) (i : Fin 2) : Row 5632 := fun k => x2 (ix4 0 n i k)
/-- The weights. -/
def aWo (k : Fin 1024) : Row 1024 := fun l => x3 (ix3 0 k l)
def aNw : Row 1024 := fun k => x4 (ix2 0 k)
def aWu (k : Fin 1024) : Row 5632 := fun l => x5 (ix3 0 k l)
def aCw (j : Fin 3) : Row 5632 := fun l => x6 (ix3 0 j l)
def aWd (k : Fin 2816) : Row 1024 := fun l => x7 (ix3 0 k l)
def aNf : Row 1024 := fun k => x8 (ix1 k)

/-- Step `s`'s row after the out projection. -/
def stX1 (n : Fin 128) (s : Fin 4) : Row 1024 := x1Row (aX x0 n s) (aMX x1 n s) (aWo x3)

/-- The state's rows and the steps' rows of the up projection after them. -/
def stUp (n : Fin 128) (p : ℕ) (hp : p < 6) : Row 5632 :=
  if h : p < 2 then aSt x2 n ⟨p, h⟩ else upRow (normRow (stX1 x0 x1 x3 n ⟨p - 2, by omega⟩) (aNw x4)) (aWu x5)

/-- Step `s`'s row of the result. -/
def stOut (n : Fin 128) (s : Fin 4) : Row 1024 :=
  normRow (x2Row (stX1 x0 x1 x3 n s)
    (actRow (convRow (stUp x0 x1 x2 x3 x4 x5 n (0 + s.val) (by omega)) (stUp x0 x1 x2 x3 x4 x5 n (1 + s.val) (by omega))
      (stUp x0 x1 x2 x3 x4 x5 n (2 + s.val) (by omega)) (aCw x6))) (aWd x7)) (aNf x8)

theorem v8_row (n : Fin 128) (s : Fin 4) (c : Fin 1024) :
    val_main_v8 (F := Ideal) x0 x1 x3 (ix3 n s c) = stX1 x0 x1 x3 n s c := by
  pointwise [val_main_v8, val_main_v7, val_main_v2, val_main_v0]
  rfl

theorem v21_row (n : Fin 128) (s : Fin 4) (c : Fin 1024) :
    val_main_v21 (F := Ideal) x0 x1 x3 x4 (ix3 n s c) = normRow (stX1 x0 x1 x3 n s) (aNw x4) c := by
  pointwise [val_main_v21, val_main_v20, val_main_v19, val_main_v18, val_main_v17, val_main_v16, val_main_v15, val_main_v14, val_main_v13, val_main_v12, val_main_v11, val_main_v10, val_main_v9, val_main_cst, val_main_cst_0, val_main_cst_1, val_main_v3]
  simp only [v8_row]
  rfl

theorem v22_row (n : Fin 128) (s : Fin 4) (c : Fin 5632) :
    val_main_v22 (F := Ideal) x0 x1 x3 x4 x5 (ix3 n s c) = upRow (normRow (stX1 x0 x1 x3 n s) (aNw x4)) (aWu x5) c := by
  pointwise [val_main_v22, val_main_v4]
  simp only [v21_row]
  rfl

theorem v1_row (n : Fin 128) (i : Fin 2) (c : Fin 5632) :
    val_main_v1 (F := Ideal) x2 (ix3 n i c) = aSt x2 n i c := by
  pointwise [val_main_v1]
  rfl

theorem v23_row (n : Fin 128) (p : Fin 6) (c : Fin 5632) :
    val_main_v23 (F := Ideal) x0 x1 x2 x3 x4 x5 (ix3 n p c) = stUp x0 x1 x2 x3 x4 x5 n p.val p.isLt c := by
  unfold stUp
  pointwise [val_main_v23]
  simp only [v1_row, v22_row]
  split <;> rfl

theorem v43_row (n : Fin 128) (s : Fin 4) (c : Fin 5632) :
    val_main_v43 (F := Ideal) x0 x1 x2 x3 x4 x5 x6 (ix3 n s c)
      = convRow (stUp x0 x1 x2 x3 x4 x5 n (0 + s.val) (by omega)) (stUp x0 x1 x2 x3 x4 x5 n (1 + s.val) (by omega))
          (stUp x0 x1 x2 x3 x4 x5 n (2 + s.val) (by omega)) (aCw x6) c := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v5]
  simp only [v23_row]
  unfold convRow
  simp only [Nat.zero_add]
  rfl

theorem one_lit : Ideal.ofBits FTy.f32 1065353216#32 = 1 := by simp [Ideal.ofBits, Ideal.ieee, -EReal.coe_mul]; norm_num

theorem v48_row (n : Fin 128) (s : Fin 4) (c : Fin 2816) :
    val_main_v48 (F := Ideal) x0 x1 x2 x3 x4 x5 x6 (ix3 n s c)
      = actRow (convRow (stUp x0 x1 x2 x3 x4 x5 n (0 + s.val) (by omega)) (stUp x0 x1 x2 x3 x4 x5 n (1 + s.val) (by omega))
          (stUp x0 x1 x2 x3 x4 x5 n (2 + s.val) (by omega)) (aCw x6)) c := by
  pointwise [val_main_v48, val_main_v47, val_main_call0_v5, val_main_call0_v4, val_main_call0_cst_0, val_main_call0_v3, val_main_call0_v2, val_main_call0_cst, val_main_call0_v1, val_main_call0_v0, val_main_v46, val_main_v45]
  simp only [v43_row, one_lit]
  rfl

theorem v50_row (n : Fin 128) (s : Fin 4) (c : Fin 1024) :
    val_main_v50 (F := Ideal) x0 x1 x2 x3 x4 x5 x6 x7 (ix3 n s c)
      = x2Row (stX1 x0 x1 x3 n s)
        (actRow (convRow (stUp x0 x1 x2 x3 x4 x5 n (0 + s.val) (by omega)) (stUp x0 x1 x2 x3 x4 x5 n (1 + s.val) (by omega))
          (stUp x0 x1 x2 x3 x4 x5 n (2 + s.val) (by omega)) (aCw x6))) (aWd x7) c := by
  pointwise [val_main_v50, val_main_v49, val_main_v6]
  simp only [v8_row, v48_row]
  rfl

theorem v63_row (n : Fin 128) (s : Fin 4) (c : Fin 1024) :
    val_main_v63 (F := Ideal) x0 x1 x2 x3 x4 x5 x6 x7 x8 (ix3 n s c) = stOut x0 x1 x2 x3 x4 x5 x6 x7 x8 n s c := by
  pointwise [val_main_v63, val_main_v62, val_main_v61, val_main_v60, val_main_v59, val_main_v58, val_main_v57, val_main_v56, val_main_v55, val_main_v54, val_main_v53, val_main_v52, val_main_v51, val_main_cst_2, val_main_cst_3, val_main_cst_4]
  simp only [v50_row]
  rfl

theorem v44_row (n : Fin 128) (i : Fin 2) (c : Fin 5632) :
    val_main_v44 (F := Ideal) x0 x1 x2 x3 x4 x5 (ix3 n i c) = stUp x0 x1 x2 x3 x4 x5 n (4 + i.val) (by omega) c := by
  pointwise [val_main_v44]
  simp only [v23_row]

end Cert.Reference2Ideal.Rows
-- ==== Proof.SmpValue.lean ====
/-
The arrays the second program's region finds, and the blocks its points read of them.
-/
module

public import proofs.«01_k».proof.Proof.SmpRows
public import proofs.«01_k».proof.Proof.SmpRef
public import Idealize.ShloMosaic.Lib.Pipeline.ValueKit.Point

@[expose] public section

set_option maxRecDepth 16384

noncomputable section

namespace Cert.Kernel2Ideal.Hand

open Cert.Kernel2Ideal Cert.Kernel2Ideal.Gen Cert.FfnMath
open Idealize.ShloMosaic Idealize.ShloMosaic.TcCoe Idealize.SL.Sem
open Idealize.ShloMosaic.Pipeline (Dat Cfg Window)

/-! ## The arrangement of the rows -/

/-- The rows grouped by 64 sequences, each group's rows step by step. -/
def stepsIn {e : EltTy} (x : Vec Ideal S128x4x1024 e) : Vec Ideal S512x1024 e :=
  shapeCast S512x1024 (transpose S2x4x64x1024 [0, 2, 1, 3] (shapeCast S2x64x4x1024 x shapeCasts_S128x4x1024_S2x64x4x1024)
    transposes_S2x64x4x1024_S2x4x64x1024_0_2_1_3) shapeCasts_S2x4x64x1024_S512x1024

/-- The state's rows grouped likewise. -/
def stateIn (x : Vec Ideal S1x128x2x5632 .f32) : Vec Ideal S2x128x5632 .f32 :=
  shapeCast S2x128x5632 (transpose S2x2x64x5632 [0, 2, 1, 3] (shapeCast S2x64x2x5632 (shapeCast S128x2x5632 x shapeCasts_S1x128x2x5632_S128x2x5632)
    shapeCasts_S128x2x5632_S2x64x2x5632) transposes_S2x64x2x5632_S2x2x64x5632_0_2_1_3) shapeCasts_S2x2x64x5632_S2x128x5632

/-- The grouped rows back in the sequences' order. -/
def stepsOut (x : Vec Ideal S512x1024 .f32) : Vec Ideal S128x4x1024 .f32 :=
  shapeCast S128x4x1024 (transpose S2x64x4x1024 [0, 2, 1, 3] (shapeCast S2x4x64x1024 x shapeCasts_S512x1024_S2x4x64x1024)
    transposes_S2x4x64x1024_S2x64x4x1024_0_2_1_3) shapeCasts_S2x64x4x1024_S128x4x1024

/-- The grouped last rows back in the sequences' order. -/
def stateOut (x : Vec Ideal S2x128x5632 .f32) : Vec Ideal S128x2x5632 .f32 :=
  shapeCast S128x2x5632 (transpose S2x64x2x5632 [0, 2, 1, 3] (shapeCast S2x2x64x5632 x shapeCasts_S2x128x5632_S2x2x64x5632)
    transposes_S2x2x64x5632_S2x64x2x5632_0_2_1_3) shapeCasts_S2x64x2x5632_S128x2x5632

theorem stepsIn_apply {e : EltTy} (x : Vec Ideal S128x4x1024 e) (g : Fin 2) (s : Fin 4) (q : Fin 64) (k : Fin 1024) (R : Fin 512) (n : Fin 128)
    (hR : R.val = 256 * g.val + 64 * s.val + q.val) (hn : n.val = 64 * g.val + q.val) : stepsIn x (ix2 R k) = x (ix3 n s k) := by
  unfold stepsIn
  refine (shapeCast_apply _ shapeCasts_S2x4x64x1024_S512x1024 (ix2 R k) (ix4 g s q k) ?_).trans ?_
  · rewrite [Shape.rowMajor_val_four, Shape.rowMajor_val_two]
    show ((g.val * 4 + s.val) * 64 + q.val) * 1024 + k.val = R.val * 1024 + k.val
    omega
  refine Eq.trans ?_ (shapeCast_apply x shapeCasts_S128x4x1024_S2x64x4x1024 (ix4 g q s k) (ix3 n s k) ?_)
  · pointwise
  · rewrite [Shape.rowMajor_val_four, Shape.rowMajor_val_three]
    show (n.val * 4 + s.val) * 1024 + k.val = ((g.val * 64 + q.val) * 4 + s.val) * 1024 + k.val
    omega

theorem stateIn_apply (x : Vec Ideal S1x128x2x5632 .f32) (g : Fin 2) (i : Fin 2) (q : Fin 64) (k : Fin 5632) (r : Fin 128) (n : Fin 128)
    (hr : r.val = 64 * i.val + q.val) (hn : n.val = 64 * g.val + q.val) : stateIn x (ix3 g r k) = x (ix4 0 n i k) := by
  unfold stateIn
  refine (shapeCast_apply _ shapeCasts_S2x2x64x5632_S2x128x5632 (ix3 g r k) (ix4 g i q k) ?_).trans ?_
  · rewrite [Shape.rowMajor_val_four, Shape.rowMajor_val_three]
    show ((g.val * 2 + i.val) * 64 + q.val) * 5632 + k.val = (g.val * 128 + r.val) * 5632 + k.val
    omega
  refine Eq.trans ?_ ((shapeCast_apply _ shapeCasts_S128x2x5632_S2x64x2x5632 (ix4 g q i k) (ix3 n i k) ?_).trans
    (shapeCast_apply x shapeCasts_S1x128x2x5632_S128x2x5632 (ix3 n i k) (ix4 0 n i k) ?_))
  · pointwise
  · rewrite [Shape.rowMajor_val_four, Shape.rowMajor_val_three]
    show (n.val * 2 + i.val) * 5632 + k.val = ((g.val * 64 + q.val) * 2 + i.val) * 5632 + k.val
    omega
  · rewrite [Shape.rowMajor_val_four, Shape.rowMajor_val_three]
    show ((0 * 128 + n.val) * 2 + i.val) * 5632 + k.val = (n.val * 2 + i.val) * 5632 + k.val
    omega

theorem stepsOut_apply (x : Vec Ideal S512x1024 .f32) (g : Fin 2) (s : Fin 4) (q : Fin 64) (k : Fin 1024) (R : Fin 512) (n : Fin 128)
    (hR : R.val = 256 * g.val + 64 * s.val + q.val) (hn : n.val = 64 * g.val + q.val) : stepsOut x (ix3 n s k) = x (ix2 R k) := by
  unfold stepsOut
  refine (shapeCast_apply _ shapeCasts_S2x64x4x1024_S128x4x1024 (ix3 n s k) (ix4 g q s k) ?_).trans ?_
  · rewrite [Shape.rowMajor_val_four, Shape.rowMajor_val_three]
    show ((g.val * 64 + q.val) * 4 + s.val) * 1024 + k.val = (n.val * 4 + s.val) * 1024 + k.val
    omega
  refine Eq.trans ?_ (shapeCast_apply x shapeCasts_S512x1024_S2x4x64x1024 (ix4 g s q k) (ix2 R k) ?_)
  · pointwise
  · rewrite [Shape.rowMajor_val_four, Shape.rowMajor_val_two]
    show R.val * 1024 + k.val = ((g.val * 4 + s.val) * 64 + q.val) * 1024 + k.val
    omega

theorem stateOut_apply (x : Vec Ideal S2x128x5632 .f32) (g : Fin 2) (i : Fin 2) (q : Fin 64) (k : Fin 5632) (r : Fin 128) (n : Fin 128)
    (hr : r.val = 64 * i.val + q.val) (hn : n.val = 64 * g.val + q.val) : stateOut x (ix3 n i k) = x (ix3 g r k) := by
  unfold stateOut
  refine (shapeCast_apply _ shapeCasts_S2x64x2x5632_S128x2x5632 (ix3 n i k) (ix4 g q i k) ?_).trans ?_
  · rewrite [Shape.rowMajor_val_four, Shape.rowMajor_val_three]
    show ((g.val * 64 + q.val) * 2 + i.val) * 5632 + k.val = (n.val * 2 + i.val) * 5632 + k.val
    omega
  refine Eq.trans ?_ (shapeCast_apply x shapeCasts_S2x128x5632_S2x2x64x5632 (ix4 g i q k) (ix3 g r k) ?_)
  · pointwise
  · rewrite [Shape.rowMajor_val_four, Shape.rowMajor_val_three]
    show (g.val * 128 + r.val) * 5632 + k.val = ((g.val * 2 + i.val) * 64 + q.val) * 5632 + k.val
    omega

variable (m : (ℓ : Loc nD τ sig) → Buf (Elt Ideal) ℓ)

/-! ## The arrays the region finds -/

theorem V_v1 (c : Dev nD) : V m c main_v1 = truncf (F := Ideal) .bf16 (shapeCast S1024x1024 (m ((c : Thread nD τ).loc main_arg3)) shapeCasts_S1x1024x1024_S1024x1024) bitsLt_bf16_f32 := by
  show StableHlo.after hostOps0 _ (Proc.devRef .tc main_v1) = _
  after_results
  rfl
theorem V_v3 (c : Dev nD) : V m c main_v3 = truncf (F := Ideal) .bf16 (shapeCast S1024x5632 (m ((c : Thread nD τ).loc main_arg5)) shapeCasts_S1x1024x5632_S1024x5632) bitsLt_bf16_f32 := by
  show StableHlo.after hostOps0 _ (Proc.devRef .tc main_v3) = _
  after_results
  rfl
theorem V_v5 (c : Dev nD) : V m c main_v5 = truncf (F := Ideal) .bf16 (shapeCast S2816x1024 (m ((c : Thread nD τ).loc main_arg7)) shapeCasts_S1x2816x1024_S2816x1024) bitsLt_bf16_f32 := by
  show StableHlo.after hostOps0 _ (Proc.devRef .tc main_v5) = _
  after_results
  rfl
theorem V_v7 (c : Dev nD) : V m c main_v7 = shapeCast S1x1024 (shapeCast S1024 (m ((c : Thread nD τ).loc main_arg4)) shapeCasts_S1x1024_S1024) shapeCasts_S1024_S1x1024 := by
  show StableHlo.after hostOps0 _ (Proc.devRef .tc main_v7) = _
  after_results
  rfl
theorem V_v8 (c : Dev nD) : V m c main_v8 = shapeCast S3x5632 (m ((c : Thread nD τ).loc main_arg6)) shapeCasts_S1x3x5632_S3x5632 := by
  show StableHlo.after hostOps0 _ (Proc.devRef .tc main_v8) = _
  after_results
  rfl
theorem V_v9 (c : Dev nD) : V m c main_v9 = shapeCast S1x1024 (m ((c : Thread nD τ).loc main_arg8)) shapeCasts_S1024_S1x1024 := by
  show StableHlo.after hostOps0 _ (Proc.devRef .tc main_v9) = _
  after_results
  rfl
theorem V_v12 (c : Dev nD) : V m c main_v12 = stepsIn (m ((c : Thread nD τ).loc main_arg0)) := by
  show StableHlo.after hostOps0 _ (Proc.devRef .tc main_v12) = _
  after_results
  rfl
theorem V_v15 (c : Dev nD) : V m c main_v15 = stepsIn (m ((c : Thread nD τ).loc main_arg1)) := by
  show StableHlo.after hostOps0 _ (Proc.devRef .tc main_v15) = _
  after_results
  rfl
theorem V_v19 (c : Dev nD) : V m c main_v19 = stateIn (m ((c : Thread nD τ).loc main_arg2)) := by
  show StableHlo.after hostOps0 _ (Proc.devRef .tc main_v19) = _
  after_results
  rfl

theorem wo_apply (x : Vec Ideal S1x1024x1024 .f32) (k l : Fin 1024) :
    truncf (F := Ideal) .bf16 (shapeCast S1024x1024 x shapeCasts_S1x1024x1024_S1024x1024) bitsLt_bf16_f32 (ix2 k l) = x (ix3 0 k l) := by pointwise
theorem nw_apply (x : Vec Ideal S1x1024 .f32) (k : Fin 1024) :
    shapeCast S1x1024 (shapeCast S1024 x shapeCasts_S1x1024_S1024) shapeCasts_S1024_S1x1024 (ix2 0 k) = x (ix2 0 k) := by pointwise
theorem wu_apply (x : Vec Ideal S1x1024x5632 .f32) (k : Fin 1024) (l : Fin 5632) :
    truncf (F := Ideal) .bf16 (shapeCast S1024x5632 x shapeCasts_S1x1024x5632_S1024x5632) bitsLt_bf16_f32 (ix2 k l) = x (ix3 0 k l) := by pointwise
theorem cw_apply (x : Vec Ideal S1x3x5632 .f32) (k : Fin 3) (l : Fin 5632) :
    shapeCast S3x5632 x shapeCasts_S1x3x5632_S3x5632 (ix2 k l) = x (ix3 0 k l) := by pointwise
theorem wd_apply (x : Vec Ideal S1x2816x1024 .f32) (k : Fin 2816) (l : Fin 1024) :
    truncf (F := Ideal) .bf16 (shapeCast S2816x1024 x shapeCasts_S1x2816x1024_S2816x1024) bitsLt_bf16_f32 (ix2 k l) = x (ix3 0 k l) := by pointwise
theorem nf_apply (x : Vec Ideal S1024 .f32) (k : Fin 1024) :
    shapeCast S1x1024 x shapeCasts_S1024_S1x1024 (ix2 0 k) = x (ix1 k) := by pointwise

/-- Where each window's block lies. -/
theorem idx_tab : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 3) = t.val
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0
    ∧ win0_10.index t (0 : Fin 3) = t.val
    ∧ win0_10.index t (1 : Fin 3) = 0
    ∧ win0_10.index t (2 : Fin 3) = 0 :=
  (by decide +kernel : ∀ t : Fin grid0.N, _)

/-! ## The blocks -/

theorem iblk0_apply (c : Dev nD) (t : Fin cfg0.N) (r : Fin 256) (k : Fin 1024) (g : Fin 2) (s : Fin 4) (q : Fin 64) (n : Fin 128) (hg : g.val = t.val)
    (hr : r.val = 64 * s.val + q.val) (hn : n.val = 64 * g.val + q.val) : iblk m c 0 t (ix2 r k) = m ((c : Thread nD τ).loc main_arg0) (ix3 n s k) := by
  have h0 := (idx_tab t).1
  have h1 := (idx_tab t).2.1
  have e : V m c main_v12 (ix2 (⟨256 * t.val + r.val, by omega⟩ : Fin 512) k) = m ((c : Thread nD τ).loc main_arg0) (ix3 n s k) :=
    (congrFun (V_v12 m c) _).trans (stepsIn_apply (m ((c : Thread nD τ).loc main_arg0)) g s q k ⟨256 * t.val + r.val, by omega⟩ n
      (by show 256 * t.val + r.val = 256 * g.val + 64 * s.val + q.val; omega) hn)
  rw [← e]
  blk_ext [iblk, h0, h1]

theorem iblk1_apply (c : Dev nD) (t : Fin cfg0.N) (r : Fin 256) (k : Fin 1024) (g : Fin 2) (s : Fin 4) (q : Fin 64) (n : Fin 128) (hg : g.val = t.val)
    (hr : r.val = 64 * s.val + q.val) (hn : n.val = 64 * g.val + q.val) : iblk m c 1 t (ix2 r k) = m ((c : Thread nD τ).loc main_arg1) (ix3 n s k) := by
  have h0 := (idx_tab t).2.2.1
  have h1 := (idx_tab t).2.2.2.1
  have e : V m c main_v15 (ix2 (⟨256 * t.val + r.val, by omega⟩ : Fin 512) k) = m ((c : Thread nD τ).loc main_arg1) (ix3 n s k) :=
    (congrFun (V_v15 m c) _).trans (stepsIn_apply (m ((c : Thread nD τ).loc main_arg1)) g s q k ⟨256 * t.val + r.val, by omega⟩ n
      (by show 256 * t.val + r.val = 256 * g.val + 64 * s.val + q.val; omega) hn)
  rw [← e]
  blk_ext [iblk, h0, h1]

theorem iblk2_apply (c : Dev nD) (t : Fin cfg0.N) (r : Fin 128) (k : Fin 5632) (g : Fin 2) (i : Fin 2) (q : Fin 64) (n : Fin 128) (hg : g.val = t.val)
    (hr : r.val = 64 * i.val + q.val) (hn : n.val = 64 * g.val + q.val) : iblk m c 2 t (ix3 0 r k) = m ((c : Thread nD τ).loc main_arg2) (ix4 0 n i k) := by
  have h0 := (idx_tab t).2.2.2.2.1
  have h1 := (idx_tab t).2.2.2.2.2.1
  have h2 := (idx_tab t).2.2.2.2.2.2.1
  have e : V m c main_v19 (ix3 g r k) = m ((c : Thread nD τ).loc main_arg2) (ix4 0 n i k) :=
    (congrFun (V_v19 m c) _).trans (stateIn_apply (m ((c : Thread nD τ).loc main_arg2)) g i q k r n hr hn)
  rw [← e]
  blk_ext [iblk, h0, h1, h2, hg]

theorem iblk3_apply (c : Dev nD) (t : Fin cfg0.N) (i : Fin 1024) (k : Fin 1024) :
    iblk m c 3 t (ix2 i k) = m ((c : Thread nD τ).loc main_arg3) (ix3 0 i k) := by
  have h0 := (idx_tab t).2.2.2.2.2.2.2.1
  have h1 := (idx_tab t).2.2.2.2.2.2.2.2.1
  have e : V m c main_v1 (ix2 i k) = m ((c : Thread nD τ).loc main_arg3) (ix3 0 i k) :=
    (congrFun (V_v1 m c) (ix2 i k)).trans (wo_apply (m ((c : Thread nD τ).loc main_arg3)) i k)
  rw [← e]
  blk_ext [iblk, h0, h1]

theorem iblk4_apply (c : Dev nD) (t : Fin cfg0.N) (k : Fin 1024) :
    iblk m c 4 t (ix2 0 k) = m ((c : Thread nD τ).loc main_arg4) (ix2 0 k) := by
  have h0 := (idx_tab t).2.2.2.2.2.2.2.2.2.1
  have h1 := (idx_tab t).2.2.2.2.2.2.2.2.2.2.1
  have e : V m c main_v7 (ix2 0 k) = m ((c : Thread nD τ).loc main_arg4) (ix2 0 k) :=
    (congrFun (V_v7 m c) (ix2 0 k)).trans (nw_apply (m ((c : Thread nD τ).loc main_arg4)) k)
  rw [← e]
  blk_ext [iblk, h0, h1]

theorem iblk5_apply (c : Dev nD) (t : Fin cfg0.N) (i : Fin 1024) (k : Fin 5632) :
    iblk m c 5 t (ix2 i k) = m ((c : Thread nD τ).loc main_arg5) (ix3 0 i k) := by
  have h0 := (idx_tab t).2.2.2.2.2.2.2.2.2.2.2.1
  have h1 := (idx_tab t).2.2.2.2.2.2.2.2.2.2.2.2.1
  have e : V m c main_v3 (ix2 i k) = m ((c : Thread nD τ).loc main_arg5) (ix3 0 i k) :=
    (congrFun (V_v3 m c) (ix2 i k)).trans (wu_apply (m ((c : Thread nD τ).loc main_arg5)) i k)
  rw [← e]
  blk_ext [iblk, h0, h1]

theorem iblk6_apply (c : Dev nD) (t : Fin cfg0.N) (i : Fin 3) (k : Fin 5632) :
    iblk m c 6 t (ix2 i k) = m ((c : Thread nD τ).loc main_arg6) (ix3 0 i k) := by
  have h0 := (idx_tab t).2.2.2.2.2.2.2.2.2.2.2.2.2.1
  have h1 := (idx_tab t).2.2.2.2.2.2.2.2.2.2.2.2.2.2.1
  have e : V m c main_v8 (ix2 i k) = m ((c : Thread nD τ).loc main_arg6) (ix3 0 i k) :=
    (congrFun (V_v8 m c) (ix2 i k)).trans (cw_apply (m ((c : Thread nD τ).loc main_arg6)) i k)
  rw [← e]
  blk_ext [iblk, h0, h1]

theorem iblk7_apply (c : Dev nD) (t : Fin cfg0.N) (i : Fin 2816) (k : Fin 1024) :
    iblk m c 7 t (ix2 i k) = m ((c : Thread nD τ).loc main_arg7) (ix3 0 i k) := by
  have h0 := (idx_tab t).2.2.2.2.2.2.2.2.2.2.2.2.2.2.2.1
  have h1 := (idx_tab t).2.2.2.2.2.2.2.2.2.2.2.2.2.2.2.2.1
  have e : V m c main_v5 (ix2 i k) = m ((c : Thread nD τ).loc main_arg7) (ix3 0 i k) :=
    (congrFun (V_v5 m c) (ix2 i k)).trans (wd_apply (m ((c : Thread nD τ).loc main_arg7)) i k)
  rw [← e]
  blk_ext [iblk, h0, h1]

theorem iblk8_apply (c : Dev nD) (t : Fin cfg0.N) (k : Fin 1024) :
    iblk m c 8 t (ix2 0 k) = m ((c : Thread nD τ).loc main_arg8) (ix1 k) := by
  have h0 := (idx_tab t).2.2.2.2.2.2.2.2.2.2.2.2.2.2.2.2.2.1
  have h1 := (idx_tab t).2.2.2.2.2.2.2.2.2.2.2.2.2.2.2.2.2.2.1
  have e : V m c main_v9 (ix2 0 k) = m ((c : Thread nD τ).loc main_arg8) (ix1 k) :=
    (congrFun (V_v9 m c) (ix2 0 k)).trans (nf_apply (m ((c : Thread nD τ).loc main_arg8)) k)
  rw [← e]
  blk_ext [iblk, h0, h1]

end Cert.Kernel2Ideal.Hand
-- ==== Proof.SmpFinal.lean ====
/-
The result arrays of the second program: each row is the layer's row of its sequence and step.
-/
module

public import proofs.«01_k».proof.Proof.SmpValue

@[expose] public section

set_option maxRecDepth 16384

noncomputable section

namespace Cert.Kernel2Ideal.Hand

open Cert.Kernel2Ideal Cert.Kernel2Ideal.Gen Cert.FfnMath Cert.Reference2Ideal.Rows
open Idealize.ShloMosaic Idealize.ShloMosaic.TcCoe Idealize.SL.Sem
open Idealize.ShloMosaic.Pipeline (Dat Cfg Window)

variable (m : (ℓ : Loc nD τ sig) → Buf (Elt Ideal) ℓ)

/-! ## The layer's rows at the arrays as launched -/

def sX1 (c : Dev nD) (n : Fin 128) (s : Fin 4) : Row 1024 := stX1 (m ((c : Thread nD τ).loc main_arg0)) (m ((c : Thread nD τ).loc main_arg1)) (m ((c : Thread nD τ).loc main_arg3)) n s

def sUp (c : Dev nD) (n : Fin 128) (p : ℕ) (hp : p < 6) : Row 5632 := stUp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n p hp

def sOut (c : Dev nD) (n : Fin 128) (s : Fin 4) : Row 1024 := stOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) n s

/-! ## The weights' blocks -/

theorem wo_rows (c : Dev nD) (t : Fin cfg0.N) : (fun k l => iblk m c 3 t (ix2 k l)) = aWo (m ((c : Thread nD τ).loc main_arg3)) :=
  funext fun k => funext fun l => iblk3_apply m c t k l
theorem nw_rows (c : Dev nD) (t : Fin cfg0.N) : (fun k => iblk m c 4 t (ix2 0 k)) = aNw (m ((c : Thread nD τ).loc main_arg4)) :=
  funext fun k => iblk4_apply m c t k
theorem wu_rows (c : Dev nD) (t : Fin cfg0.N) : (fun k l => iblk m c 5 t (ix2 k l)) = aWu (m ((c : Thread nD τ).loc main_arg5)) :=
  funext fun k => funext fun l => iblk5_apply m c t k l
theorem cw_rows (c : Dev nD) (t : Fin cfg0.N) : (fun k l => iblk m c 6 t (ix2 k l)) = aCw (m ((c : Thread nD τ).loc main_arg6)) :=
  funext fun k => funext fun l => iblk6_apply m c t k l
theorem wd_rows (c : Dev nD) (t : Fin cfg0.N) : (fun k l => iblk m c 7 t (ix2 k l)) = aWd (m ((c : Thread nD τ).loc main_arg7)) :=
  funext fun k => funext fun l => iblk7_apply m c t k l
theorem nf_rows (c : Dev nD) (t : Fin cfg0.N) : (fun k => iblk m c 8 t (ix2 0 k)) = aNf (m ((c : Thread nD τ).loc main_arg8)) :=
  funext fun k => iblk8_apply m c t k

/-! ## The rows -/

theorem point_lt (t : Fin cfg0.N) : t.val < 2 := lt_of_lt_of_eq t.isLt N_0

theorem x_rows (c : Dev nD) (t : Fin cfg0.N) (r : Fin 256) (s : Fin 4) (q : Fin 64) (n : Fin 128) (hr : r.val = 64 * s.val + q.val) (hn : n.val = 64 * t.val + q.val) :
    (fun k => iblk m c 0 t (ix2 r k)) = aX (m ((c : Thread nD τ).loc main_arg0)) n s :=
  funext fun k => iblk0_apply m c t r k ⟨t.val, point_lt t⟩ s q n rfl hr hn

theorem mx_rows (c : Dev nD) (t : Fin cfg0.N) (r : Fin 256) (s : Fin 4) (q : Fin 64) (n : Fin 128) (hr : r.val = 64 * s.val + q.val) (hn : n.val = 64 * t.val + q.val) :
    (fun k => iblk m c 1 t (ix2 r k)) = aMX (m ((c : Thread nD τ).loc main_arg1)) n s :=
  funext fun k => iblk1_apply m c t r k ⟨t.val, point_lt t⟩ s q n rfl hr hn

theorem x1_row (c : Dev nD) (t : Fin cfg0.N) (r : Fin 256) (s : Fin 4) (q : Fin 64) (n : Fin 128) (hr : r.val = 64 * s.val + q.val) (hn : n.val = 64 * t.val + q.val) (k : Fin 1024) :
    k0_pay4 (F := Ideal) (iblk m c 0 t) (iblk m c 1 t) (iblk m c 3 t) (ix2 r k) = sX1 m c n s k := by
  rw [pay4_row]
  erw [x_rows m c t r s q n hr hn, mx_rows m c t r s q n hr hn, wo_rows m c t]
  rfl

theorem upAt_row (c : Dev nD) (t : Fin cfg0.N) (r : Fin 256) (s : Fin 4) (q : Fin 64) (n : Fin 128) (hr : r.val = 64 * s.val + q.val) (hn : n.val = 64 * t.val + q.val) (p : ℕ) (hp : p < 6) (hs : p = s.val + 2) (k : Fin 5632) :
    upAt m c t (ix2 r k) = sUp m c n p hp k := by
  subst hs
  unfold upAt
  rw [pay5_row]
  erw [x_rows m c t r s q n hr hn, mx_rows m c t r s q n hr hn, wo_rows m c t, nw_rows m c t, wu_rows m c t]
  unfold sUp stUp
  rw [dif_neg (by omega)]
  rfl

theorem pay3_row (x : Vec Ideal S1x128x5632 .f32) (r : Fin 128) (k : Fin 5632) : k0_pay3 (F := Ideal) x (ix2 r k) = x (ix3 0 r k) := by
  pointwise [k0_pay3]

theorem tailAt_row (c : Dev nD) (t : Fin cfg0.N) (r : Fin 128) (i : Fin 2) (q : Fin 64) (n : Fin 128) (hr : r.val = 64 * i.val + q.val) (hn : n.val = 64 * t.val + q.val)
    (p : ℕ) (hp : p < 6) (hs : p = i.val) (k : Fin 5632) : tailAt m c t (ix2 r k) = sUp m c n p hp k := by
  subst hs
  unfold tailAt
  refine (pay3_row _ r k).trans ?_
  refine (iblk2_apply m c t r k ⟨t.val, point_lt t⟩ i q n rfl hr hn).trans ?_
  unfold sUp stUp
  rw [dif_pos (by omega)]
  rfl

theorem buf_row (c : Dev nD) (t : Fin cfg0.N) (j : Fin 384) (q : Fin 64) (n : Fin 128) (p : ℕ) (hp : p < 6) (hj : j.val = 64 * p + q.val) (hn : n.val = 64 * t.val + q.val)
    (k : Fin 5632) : bufRows (tailAt m c t) (upAt m c t) (ix2 j k) = sUp m c n p hp k := by
  have hq := q.isLt
  unfold bufRows
  by_cases h : j.val < 128
  · rw [dif_pos (show ((ix2 j k : S384x5632.Idx) 0).val < 128 from h)]
    exact tailAt_row m c t ⟨j.val, h⟩ ⟨p, by omega⟩ q n hj hn p hp rfl k
  · rw [dif_neg (show ¬ ((ix2 j k : S384x5632.Idx) 0).val < 128 from h)]
    exact upAt_row m c t ⟨j.val - 128, by omega⟩ ⟨p - 2, by omega⟩ q n (by show j.val - 128 = 64 * (p - 2) + q.val; omega) hn p hp (by show p = p - 2 + 2; omega) k

theorem yAt_row (c : Dev nD) (t : Fin cfg0.N) (r : Fin 256) (s : Fin 4) (q : Fin 64) (n : Fin 128) (hr : r.val = 64 * s.val + q.val) (hn : n.val = 64 * t.val + q.val) (k : Fin 1024) :
    yAt m c t (ix2 r k) = sOut m c n s k := by
  have e1 : (fun k => k0_pay4 (F := Ideal) (iblk m c 0 t) (iblk m c 1 t) (iblk m c 3 t) (ix2 r k)) = sX1 m c n s :=
    funext fun k => x1_row m c t r s q n hr hn k
  have e0 : (fun k => bufRows (tailAt m c t) (upAt m c t) (ix2 (⟨0 + r.val, by omega⟩ : Fin 384) k)) = sUp m c n (0 + s.val) (by omega) :=
    funext fun k => buf_row m c t ⟨0 + r.val, by omega⟩ q n (0 + s.val) (by omega) (by show 0 + r.val = 64 * (0 + s.val) + q.val; omega) hn k
  have e2 : (fun k => bufRows (tailAt m c t) (upAt m c t) (ix2 (⟨64 + r.val, by omega⟩ : Fin 384) k)) = sUp m c n (1 + s.val) (by omega) :=
    funext fun k => buf_row m c t ⟨64 + r.val, by omega⟩ q n (1 + s.val) (by omega) (by show 64 + r.val = 64 * (1 + s.val) + q.val; omega) hn k
  have e3 : (fun k => bufRows (tailAt m c t) (upAt m c t) (ix2 (⟨128 + r.val, by omega⟩ : Fin 384) k)) = sUp m c n (2 + s.val) (by omega) :=
    funext fun k => buf_row m c t ⟨128 + r.val, by omega⟩ q n (2 + s.val) (by omega) (by show 128 + r.val = 64 * (2 + s.val) + q.val; omega) hn k
  unfold yAt
  rw [ffnOut_row]
  unfold convOf
  rw [e1, e0, e2, e3]
  erw [cw_rows m c t, wd_rows m c t, nf_rows m c t]
  rfl

theorem cfAt_row (c : Dev nD) (t : Fin cfg0.N) (r : Fin 128) (i : Fin 2) (q : Fin 64) (n : Fin 128) (hr : r.val = 64 * i.val + q.val) (hn : n.val = 64 * t.val + q.val)
    (k : Fin 5632) : cfAt m c t (ix3 0 r k) = sUp m c n (4 + i.val) (by omega) k := by
  have e : k0_pay2 (F := Ideal) (lastRows (upAt m c t)) (ix3 0 r k) = lastRows (upAt m c t) (ix2 r k) := by
    generalize lastRows (upAt m c t) = y
    pointwise [k0_pay2]
  unfold cfAt
  rw [e]
  exact upAt_row m c t ⟨r.val + 128, by omega⟩ ⟨2 + i.val, by omega⟩ q n (by show r.val + 128 = 64 * (2 + i.val) + q.val; omega) hn (4 + i.val) (by omega)
    (by show 4 + i.val = 2 + i.val + 2; omega) k

/-! ## The region's arrays -/

/-- The rows of results, grouped. -/
def H9 (c : Dev nD) : Vec Ideal S512x1024 .f32 := fun j =>
  sOut m c ⟨64 * ((j 0).val / 256) + (j 0).val % 64, by have : (j 0).val < 512 := (j 0).isLt; omega⟩ ⟨(j 0).val % 256 / 64, by omega⟩ (j 1)

/-- The last rows of the up projection, grouped. -/
def H10 (c : Dev nD) : Vec Ideal S2x128x5632 .f32 := fun j =>
  sUp m c ⟨64 * (j 0).val + (j 1).val % 64, by have : (j 0).val < 2 := (j 0).isLt; omega⟩ (4 + (j 1).val / 64) (by have : (j 1).val < 128 := (j 1).isLt; omega) (j 2)

theorem sOut_congr (c : Dev nD) (n n' : Fin 128) (s s' : Fin 4) (k k' : Fin 1024) (hn : n.val = n'.val) (hs : s.val = s'.val) (hk : k.val = k'.val) :
    sOut m c n s k = sOut m c n' s' k' := by
  rw [Fin.ext hn, Fin.ext hs, Fin.ext hk]

theorem sUp_congr (c : Dev nD) (n n' : Fin 128) (p p' : ℕ) (hp : p < 6) (hp' : p' < 6) (k k' : Fin 5632) (hn : n.val = n'.val) (hs : p = p') (hk : k.val = k'.val) :
    sUp m c n p hp k = sUp m c n' p' hp' k' := by
  subst hs
  rw [Fin.ext hn, Fin.ext hk]

theorem point9 (c : Dev nD) (t : Fin cfg0.N) (y : S256x1024.Idx) (i : S512x1024.Idx) (h0 : (i 0).val = 256 * t.val + (y 0).val) (h1 : (i 1).val = (y 1).val) :
    yAt m c t y = H9 m c i := by
  have ey : y = ix2 (y 0) (y 1) := by funext a; match a with | ⟨0, _⟩ => rfl | ⟨1, _⟩ => rfl
  have hr : (y 0).val < 256 := (y 0).isLt
  have ht := point_lt t
  rw [ey]
  refine (yAt_row m c t (y 0) ⟨(y 0).val / 64, by omega⟩ ⟨(y 0).val % 64, by omega⟩ ⟨64 * t.val + (y 0).val % 64, by omega⟩
      (by show (y 0).val = 64 * ((y 0).val / 64) + (y 0).val % 64; omega) rfl (y 1)).trans ?_
  unfold H9
  exact sOut_congr m c _ _ _ _ _ _ (by show 64 * t.val + (y 0).val % 64 = 64 * ((i 0).val / 256) + (i 0).val % 64; omega)
    (by show (y 0).val / 64 = (i 0).val % 256 / 64; omega) h1.symm

theorem point10 (c : Dev nD) (t : Fin cfg0.N) (y : S1x128x5632.Idx) (i : S2x128x5632.Idx) (h0 : (i 0).val = t.val) (h1 : (i 1).val = (y 1).val)
    (h2 : (i 2).val = (y 2).val) : cfAt m c t y = H10 m c i := by
  have ey : y = ix3 0 (y 1) (y 2) := by
    funext a; match a with | ⟨0, _⟩ => exact Subsingleton.elim (α := Fin 1) _ _ | ⟨1, _⟩ => rfl | ⟨2, _⟩ => rfl
  have hr : (y 1).val < 128 := (y 1).isLt
  have ht := point_lt t
  rw [ey]
  refine (cfAt_row m c t (y 1) ⟨(y 1).val / 64, by omega⟩ ⟨(y 1).val % 64, by omega⟩ ⟨64 * t.val + (y 1).val % 64, by omega⟩
      (by show (y 1).val = 64 * ((y 1).val / 64) + (y 1).val % 64; omega) rfl (y 2)).trans ?_
  unfold H10
  exact sUp_congr m c _ _ _ _ _ _ _ _ (by show 64 * t.val + (y 1).val % 64 = 64 * (i 0).val + (i 1).val % 64; rw [h0, h1])
    (by show 4 + (y 1).val / 64 = 4 + (i 1).val / 64; rw [h1]) h2.symm

theorem final9 (c : Dev nD) : (dats m 0 c).arrAt 9 cfg0.N = H9 m c := by
  refine (dats m 0 c).arrAt_eq_of_covers 9 _ (by decide +kernel) fun t hf y => ?_
  have h0 := (idx_tab t).2.2.2.2.2.2.2.2.2.2.2.2.2.2.2.2.2.2.2.1
  have h1 := (idx_tab t).2.2.2.2.2.2.2.2.2.2.2.2.2.2.2.2.2.2.2.2.1
  rw [after0_9, outs_1]
  refine point9 m c t _ _ ?_ ?_
  · blk_simp [h0, h1]
    exact congrArg (· + (y 0).val) (Nat.mul_comm t.val 256)
  · blk_simp [h0, h1]

theorem final10 (c : Dev nD) : (dats m 0 c).arrAt 10 cfg0.N = H10 m c := by
  refine (dats m 0 c).arrAt_eq_of_covers 10 _ (by decide +kernel) fun t hf y => ?_
  have h0 := (idx_tab t).2.2.2.2.2.2.2.2.2.2.2.2.2.2.2.2.2.2.2.2.2.1
  have h1 := (idx_tab t).2.2.2.2.2.2.2.2.2.2.2.2.2.2.2.2.2.2.2.2.2.2.1
  have h2 := (idx_tab t).2.2.2.2.2.2.2.2.2.2.2.2.2.2.2.2.2.2.2.2.2.2.2
  rw [after0_10, outs_2]
  refine point10 m c t _ _ ?_ ?_ ?_ <;> blk_simp [h0, h1, h2]

/-! ## The results -/

/-- The result's rows, as the reference states them. -/
def G23 (c : Dev nD) : Vec Ideal S128x4x1024 .f32 :=
  Cert.Reference2Ideal.Read.val_main_v63 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The last two rows of each sequence's up projection, as the reference states them. -/
def G26 (c : Dev nD) : Vec Ideal S128x2x5632 .f32 :=
  Cert.Reference2Ideal.Read.val_main_v44 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem steps_eq (c : Dev nD) : stepsOut (H9 m c) = G23 m c := by
  funext j
  have ej : j = ix3 (j 0) (j 1) (j 2) := by funext a; match a with | ⟨0, _⟩ => rfl | ⟨1, _⟩ => rfl | ⟨2, _⟩ => rfl
  have h0 : (j 0).val < 128 := (j 0).isLt
  have h1 : (j 1).val < 4 := (j 1).isLt
  rw [ej]
  refine (stepsOut_apply (H9 m c) ⟨(j 0).val / 64, by omega⟩ (j 1) ⟨(j 0).val % 64, by omega⟩ (j 2)
    ⟨256 * ((j 0).val / 64) + 64 * (j 1).val + (j 0).val % 64, by omega⟩ (j 0) rfl (by show (j 0).val = 64 * ((j 0).val / 64) + (j 0).val % 64; omega)).trans ?_
  refine Eq.trans ?_ (v63_row _ _ _ _ _ _ _ _ _ (j 0) (j 1) (j 2)).symm
  unfold H9
  exact sOut_congr m c _ _ _ _ _ _
    (by show 64 * ((256 * ((j 0).val / 64) + 64 * (j 1).val + (j 0).val % 64) / 256) + (256 * ((j 0).val / 64) + 64 * (j 1).val + (j 0).val % 64) % 64 = (j 0).val; omega)
    (by show (256 * ((j 0).val / 64) + 64 * (j 1).val + (j 0).val % 64) % 256 / 64 = (j 1).val; omega) rfl

theorem state_eq (c : Dev nD) : stateOut (H10 m c) = G26 m c := by
  funext j
  have ej : j = ix3 (j 0) (j 1) (j 2) := by funext a; match a with | ⟨0, _⟩ => rfl | ⟨1, _⟩ => rfl | ⟨2, _⟩ => rfl
  have h0 : (j 0).val < 128 := (j 0).isLt
  have h1 : (j 1).val < 2 := (j 1).isLt
  rw [ej]
  refine (stateOut_apply (H10 m c) ⟨(j 0).val / 64, by omega⟩ (j 1) ⟨(j 0).val % 64, by omega⟩ (j 2)
    ⟨64 * (j 1).val + (j 0).val % 64, by omega⟩ (j 0) rfl (by show (j 0).val = 64 * ((j 0).val / 64) + (j 0).val % 64; omega)).trans ?_
  refine Eq.trans ?_ (v44_row _ _ _ _ _ _ (j 0) (j 1) (j 2)).symm
  unfold H10
  exact sUp_congr m c _ _ _ _ _ _ _ _
    (by show 64 * ((j 0).val / 64) + (64 * (j 1).val + (j 0).val % 64) % 64 = (j 0).val; omega)
    (by show 4 + (64 * (j 1).val + (j 0).val % 64) / 64 = 4 + (j 1).val; omega) rfl

theorem tail23 (c : Dev nD) : Pipeline.afterTail₀ cfgs (dats m) 0 (V0 m) [hostOps1] c main_v23 = G23 m c := by
  refine Eq.trans ?_ (steps_eq m c)
  rw [← final9 m c]
  unfold Pipeline.afterTail₀
  after_results
  exact congrArg stepsOut (Pipeline.withArrays_arr spec0 (by decide) c (V0 m c) (fun w => (dats m 0 c).arrAt w cfg0.N) 9)

theorem tail26 (c : Dev nD) : Pipeline.afterTail₀ cfgs (dats m) 0 (V0 m) [hostOps1] c main_v26 = G26 m c := by
  refine Eq.trans ?_ (state_eq m c)
  rw [← final10 m c]
  unfold Pipeline.afterTail₀
  after_results
  exact congrArg stateOut (Pipeline.withArrays_arr spec0 (by decide) c (V0 m c) (fun w => (dats m 0 c).arrAt w cfg0.N) 10)

end Cert.Kernel2Ideal.Hand
-- ==== Proof.SmpClaim.lean ====
/-
The claim about the second program's results: they are the reference's.
-/
module

public import proofs.«01_k».proof.Defs
public import proofs.«01_k».proof.Proof.SmpFinal
public import Idealize.ShloMosaic.Adequacy

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem Idealize.ShloMosaic.StableHlo

/-- The run with the results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v23) = G23 m c ∧ r.2.mem ((c : Thread nD τ).loc main_v26) = G26 m c) :=
  (θ_run defs _ _).mono (fun r h c => ⟨((h c).2 main_v23 (Pipeline.mem_restRefs_of main_v23 (by decide) (by decide))).trans (tail23 m c),
    ((h c).2 main_v26 (Pipeline.mem_restRefs_of main_v26 (by decide) (by decide))).trans (tail26 m c)⟩) (run_main m ρ)

theorem algebraic : Cert.algebraic_Kernel2Ideal_Reference2Ideal (hKernel2Ideal := Gen.facts) (hReference2Ideal := Cert.Reference2Ideal.Gen.facts) := by
  intro m g m' g' _ hag
  refine ⟨G23 m, G26 m, ?_, ?_⟩
  · exact (θ_run defs _ _).mono (fun r h c => ⟨(h.1 c).1, (h.1 c).2, h.2 c⟩) (θ_run_and (run_values m g) (unchanged m g))
  · refine (θ_run Cert.Reference2Ideal.defs _ _).mono (fun r h c => ⟨(h c).1.trans ?_, (h c).2.1.trans ?_, (h c).2.2⟩) (Cert.Reference2Ideal.Value.run m' g')
    · refine (Cert.Reference2Ideal.Read.val_main_v63_eq m' c).trans ?_
      show Cert.Reference2Ideal.Read.val_main_v63 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) = _
      obtain ⟨a0, a1, a2, a3, a4, a5, a6, a7, a8⟩ := hag c
      rw [a0, a1, a2, a3, a4, a5, a6, a7, a8]
      rfl
    · refine (Cert.Reference2Ideal.Read.val_main_v44_eq _ _ _ _ _ _).trans ?_
      show Cert.Reference2Ideal.Read.val_main_v44 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
      obtain ⟨a0, a1, a2, a3, a4, a5, a6, a7, a8⟩ := hag c
      rw [a0, a1, a2, a3, a4, a5]
      rfl

end Cert.Kernel2Ideal.Hand
-- ==== Proof.RetMath.lean ====
/-
Retention of one head over a chunk of sixteen steps, on extended reals: the rotation of queries and keys, the decays,
the outputs and the state, and the normalized and gated outputs.
-/
module

public import Idealize.ShloMosaic.Lib.Pointwise

@[expose] public section

noncomputable section

namespace Cert.RetMath

open Idealize.ShloMosaic

/-- A row. -/
abbrev Row (n : ℕ) := Fin n → EReal

/-- An integer as a float. -/
def num (n : ℕ) : EReal := FloatOps.sitofp (F := Ideal) FTy.f32 (BitVec.ofNat 32 n)

/-- The angle of a step and a pair of columns. -/
def ang (t k : ℕ) : EReal :=
  num t * Ideal.pow (Ideal.ofBits FTy.f32 1176256512#32) (Ideal.div (-num k) (Ideal.ofBits FTy.f32 1115684864#32))

/-- A head's row rotated for a step. -/
def rotAt (t : ℕ) (x : Row 128) : Row 128 := fun d =>
  if h : d.val < 64 then x d * Ideal.cos (ang t d.val) - x ⟨64 + d.val, by omega⟩ * Ideal.sin (ang t d.val)
  else x ⟨d.val - 64, by omega⟩ * Ideal.sin (ang t (d.val - 64)) + x d * Ideal.cos (ang t (d.val - 64))

/-- The logarithm of a head's decay. -/
def lg (h : Fin 4) : EReal :=
  Ideal.log1p (-Ideal.pow (Ideal.ofBits FTy.f32 1073741824#32) (Ideal.ofBits FTy.f32 3231711232#32 - num h.val))

/-- The decay from step `s` to step `t`. -/
def decAt (h : Fin 4) (t s : ℕ) : EReal :=
  Ideal.exp (if 0 ≤ num t - num s then lg h * (num t - num s) else Ideal.ofBits FTy.f32 4286578688#32)

/-- The decay from the start to step `t`. -/
def qdAt (h : Fin 4) (t : ℕ) : EReal := Ideal.exp (lg h * (num t + 1))

/-- The decay from step `t` to the end. -/
def kdAt (h : Fin 4) (t : ℕ) : EReal := Ideal.exp (lg h * (Ideal.ofBits FTy.f32 1097859072#32 - num t))

/-- The decay over the chunk. -/
def cdAt (h : Fin 4) : EReal := Ideal.exp (lg h * Ideal.ofBits FTy.f32 1098907648#32)

section
variable (q k v : Fin 16 → Row 128)

/-- The outputs, from the decays between steps, the decays of the queries and the state. -/
def outRow (dec : Fin 16 → Fin 16 → EReal) (qd : Fin 16 → Row 128) (S : Fin 128 → Row 128) (t : Fin 16) : Row 128 := fun d =>
  (∑ s, (∑ e, q t e * k s e) * dec t s * v s d) + ∑ e, q t e * qd t e * S e d

/-- The state after the chunk. -/
def stateRow (kd : Fin 16 → Row 128) (cd : Row 128) (S : Fin 128 → Row 128) (e : Fin 128) : Row 128 := fun d =>
  cd d * S e d + ∑ t, k t e * kd t e * v t d
end

/-- A row's mean. -/
def meanOf (o : Row 128) : EReal := Ideal.div (∑ d, o d) (Ideal.ofBits FTy.f32 1124073472#32)

/-- A row less its mean. -/
def cenOf (o : Row 128) : Row 128 := fun d => o d - meanOf o

/-- A row's variance. -/
def varOf (o : Row 128) : EReal := Ideal.div (∑ d, cenOf o d * cenOf o d) (Ideal.ofBits FTy.f32 1124073472#32)

/-- A row normalized, weighted and gated. -/
def gateRow (o w g : Row 128) : Row 128 := fun d =>
  cenOf o d * Ideal.rsqrt (varOf o + Ideal.ofBits FTy.f32 897988541#32) * w d * (g d * Ideal.logistic (g d))

/-- Head `h`'s columns of a row from `o` on. -/
def headCols (P : Row 4224) (o : ℕ) (ho : o ≤ 1536) (h : Fin 4) : Row 128 := fun d => P ⟨o + 128 * h.val + d.val, by omega⟩

section
variable (P : Fin 16 → Row 4224)

def qHead (h : Fin 4) (t : Fin 16) : Row 128 := rotAt t.val (headCols (P t) 0 (by decide) h)
def kHead (h : Fin 4) (t : Fin 16) : Row 128 := fun d => rotAt t.val (headCols (P t) 512 (by decide) h) d * Ideal.ofBits FTy.f32 1035273459#32
def vHead (h : Fin 4) (t : Fin 16) : Row 128 := headCols (P t) 1024 (by decide) h
def gHead (h : Fin 4) (t : Fin 16) : Row 128 := headCols (P t) 1536 (by decide) h

/-- Head `h`'s outputs over the sixteen steps, from no state. -/
def oHead (h : Fin 4) (t : Fin 16) : Row 128 :=
  outRow (qHead P h) (kHead P h) (vHead P h) (fun t s => decAt h t.val s.val) (fun t _ => qdAt h t.val) (fun _ _ => 0) t

/-- Head `h`'s state after the sixteen steps. -/
def sHead (h : Fin 4) (e : Fin 128) : Row 128 :=
  stateRow (kHead P h) (vHead P h) (fun t _ => kdAt h t.val) (fun _ => cdAt h) (fun _ _ => 0) e

/-- Head `h`'s normalized and gated outputs. -/
def yHead (w : Fin 4 → Row 128) (h : Fin 4) (t : Fin 16) : Row 128 := gateRow (oHead P h t) (w h) (gHead P h t)
end

/-! ## The decays' two spellings -/

theorem lit16 : Ideal.ofBits FTy.f32 1098907648#32 = ((16 : ℝ) : EReal) := by simp [Ideal.ofBits, Ideal.ieee, -EReal.coe_mul]; norm_num
theorem lit15 : Ideal.ofBits FTy.f32 1097859072#32 = ((15 : ℝ) : EReal) := by simp [Ideal.ofBits, Ideal.ieee, -EReal.coe_mul]; norm_num
theorem litBot : Ideal.ofBits FTy.f32 4286578688#32 = ⊥ := by simp [Ideal.ofBits, Ideal.ieee, -EReal.coe_mul]

theorem num_lt (t : Fin 16) : num t.val = ((t.val : ℝ) : EReal) := by
  have h : (BitVec.ofNat 32 t.val).toInt = (t.val : ℤ) := by revert t; decide
  unfold num
  show ((((BitVec.ofNat 32 t.val).toInt : ℤ) : ℝ) : EReal) = _
  rw [h]; norm_cast

theorem dec_eq (h : Fin 4) (t s : ℕ) :
    (if 0 ≤ num t - num s then Ideal.exp (lg h * max (num t - num s) 0) else 0) = decAt h t s := by
  unfold decAt
  split_ifs with hd
  · rw [max_eq_left hd]
  · rw [litBot]; rfl

theorem kd_eq (h : Fin 4) (t : Fin 16) :
    (if num t.val < Ideal.ofBits FTy.f32 1098907648#32 then
      Ideal.exp (lg h * min (Ideal.ofBits FTy.f32 1098907648#32 - 1 - num t.val) (Ideal.ofBits FTy.f32 1098907648#32)) else 0) = kdAt h t.val := by
  have ht : (t.val : ℝ) < 16 := by exact_mod_cast t.isLt
  have h0 : (0 : ℝ) ≤ t.val := Nat.cast_nonneg _
  have e : ((16 : ℝ) : EReal) - 1 = ((15 : ℝ) : EReal) := by norm_cast
  unfold kdAt
  rw [num_lt, lit16, lit15, if_pos (by exact_mod_cast ht), e, min_eq_left]
  rw [← EReal.coe_sub]
  exact EReal.coe_le_coe_iff.mpr (by linarith)

end Cert.RetMath
-- ==== Proof.RetRow.lean ====
/-
One retention head of the third program's body: what its operations leave, row by row.
-/
module

public import proofs.«01_k».proof.Proof.Gen.Kernel3Ideal.Frame
public import proofs.«01_k».proof.Proof.RetMath
public import Idealize.ShloMosaic.Lib.Pointwise
public import Idealize.ShloMosaic.Lib.ValueIdxCore

@[expose] public section

set_option maxRecDepth 16384

noncomputable section

namespace Cert.Kernel3Ideal.Hand

open Cert.Kernel3Ideal Cert.Kernel3Ideal.Gen Cert.RetMath
open Idealize.ShloMosaic Idealize.ShloMosaic.TcCoe

section
variable {F : FTy → Type} [FloatOps F]

/-- A head's outputs before their normalization. -/
def outHead (co si q k v : Vec F S16x128 .f32) (di : Vec F S1x16x16 .f32) (qd : Vec F S1x16x128 .f32) (S : Vec F S1x1x128x128 .f32) : FVec F S16x128 .f32 :=
  k0_pay35 (k0_pay21 v (k0_pay19 (k0_pay10 co si q) (k0_pay11 co si k)) (k0_pay20 di)) (k0_pay33 (k0_pay10 co si q) qd) (k0_pay34 S)
    (constant S16x128 .f32 0x00000000#32)

/-- A head's outputs, normalized and gated. -/
def mixHead (co si q k v g : Vec F S16x128 .f32) (di : Vec F S1x16x16 .f32) (qd : Vec F S1x16x128 .f32) (S : Vec F S1x1x128x128 .f32)
    (w : Vec F S1x128 .f32) : FVec F S1x16x128 .bf16 :=
  k0_pay51 (k0_pay43 (outHead co si q k v di qd S)) (k0_pay47 (outHead co si q k v di qd S)) g w

/-- A head's state afterwards. -/
def stHead (co si k v : Vec F S16x128 .f32) (kd : Vec F S1x16x128 .f32) (S : Vec F S1x1x128x128 .f32) (cd : Vec F S1x1x128 .f32) :
    FVec F S1x1x128x128 .f32 :=
  k0_pay52 (k0_pay39 (k0_pay25 v (k0_pay11 co si k) kd) (k0_pay29 S) cd)
end

/-- The rows of a block. -/
def rw2 {n m : ℕ} (x : Vec Ideal ⟨2, ![n, m]⟩ .f32) : Fin n → Row m := fun t d => x (ix2 t d)

/-- A block's rows rotated by two tables. -/
def rotB (co si x : Fin 16 → Row 128) : Fin 16 → Row 128 := fun t d =>
  x t d * co t d + x t ⟨(d.val + 128 - 64) % 128, Nat.mod_lt _ (by decide)⟩ * si t d

theorem outHead_apply (co si q k v : Vec Ideal S16x128 .f32) (di : Vec Ideal S1x16x16 .f32) (qd : Vec Ideal S1x16x128 .f32) (S : Vec Ideal S1x1x128x128 .f32)
    (t : Fin 16) (d : Fin 128) :
    outHead (F := Ideal) co si q k v di qd S (ix2 t d)
      = outRow (rotB (rw2 co) (rw2 si) (rw2 q)) (fun t d => rotB (rw2 co) (rw2 si) (rw2 k) t d * Ideal.ofBits FTy.f32 1035273459#32) (rw2 v)
          (fun t s => di (ix3 0 t s)) (fun t d => qd (ix3 0 t d)) (fun e d => S (ix4 0 0 e d)) t d := by
  pointwise [outHead, k0_pay35, k0_pay21, k0_pay19, k0_pay10, k0_pay11, k0_pay20, k0_pay33, k0_pay34, k0_pay29, k0_pay6, k0_pay7]
  rfl

theorem mixHead_apply (co si q k v g : Vec Ideal S16x128 .f32) (di : Vec Ideal S1x16x16 .f32) (qd : Vec Ideal S1x16x128 .f32) (S : Vec Ideal S1x1x128x128 .f32)
    (w : Vec Ideal S1x128 .f32) (t : Fin 16) (d : Fin 128) :
    mixHead (F := Ideal) co si q k v g di qd S w (ix3 0 t d)
      = gateRow (fun d => outHead (F := Ideal) co si q k v di qd S (ix2 t d)) (fun d => w (ix2 0 d)) (rw2 g t) d := by
  unfold mixHead
  generalize outHead (F := Ideal) co si q k v di qd S = o
  pointwise [k0_pay51, k0_pay43, k0_pay47]
  rfl

theorem stHead_apply (co si k v : Vec Ideal S16x128 .f32) (kd : Vec Ideal S1x16x128 .f32) (S : Vec Ideal S1x1x128x128 .f32) (cd : Vec Ideal S1x1x128 .f32)
    (e d : Fin 128) :
    stHead (F := Ideal) co si k v kd S cd (ix4 0 0 e d)
      = stateRow (fun t d => rotB (rw2 co) (rw2 si) (rw2 k) t d * Ideal.ofBits FTy.f32 1035273459#32) (rw2 v)
          (fun t d => kd (ix3 0 t d)) (fun d => cd (ix3 0 0 d)) (fun e d => S (ix4 0 0 e d)) e d := by
  pointwise [stHead, k0_pay52, k0_pay39, k0_pay25, k0_pay11, k0_pay29, k0_pay6, k0_pay7]
  rfl

end Cert.Kernel3Ideal.Hand
-- ==== Proof.RetTabs.lean ====
/-
The tables that the third program's host lines prepare for its region.
-/
module

public import proofs.«01_k».proof.Proof.Gen.Kernel3Ideal.Frame
public import Idealize.ShloMosaic.Lib.ValueIdxCore
public import Idealize.ShloMosaic.Lib.Pointwise
public import proofs.«01_k».proof.Proof.RetMath

@[expose] public section

set_option maxRecDepth 16384

noncomputable section

namespace Cert.Kernel3Ideal.Hand

open Cert.Kernel3Ideal Cert.Kernel3Ideal.Gen Cert.RetMath
open Idealize.ShloMosaic Idealize.ShloMosaic.TcCoe Idealize.SL.Sem
open Idealize.ShloMosaic.Pipeline (Dat Cfg Window)

/-! ## The tables -/

/-- The inverse frequencies, once per half of a head. -/
def invfT : Vec Ideal S64 .f32 :=
  Host.powf (broadcastInDim S64 ![] bcast_S_S64 (constant (F := Ideal) S_ .f32 0x461C4000#32))
    (Host.divf (Host.negf (sitofp (F := Ideal) .f32 (iotaInDim S64 32 0))) (broadcastInDim S64 ![] bcast_S_S64 (constant (F := Ideal) S_ .f32 0x42800000#32)))

/-- The positions of the rows. -/
def posT : IVec S2072x128 32 :=
  select (cmpi .sge (iotaInDim S2072x128 32 0) (broadcastInDim S2072x128 ![] bcast_S_S2072x128 (constantI S_ 32 2064#32)))
    (addi (iotaInDim S2072x128 32 0) (broadcastInDim S2072x128 ![] bcast_S_S2072x128 (constantI S_ 32 14320#32)))
    (select (cmpi .sge (iotaInDim S2072x128 32 0) (broadcastInDim S2072x128 ![] bcast_S_S2072x128 (constantI S_ 32 2048#32)))
      (addi (iotaInDim S2072x128 32 0) (broadcastInDim S2072x128 ![] bcast_S_S2072x128 (constantI S_ 32 4294965248#32)))
      (addi (iotaInDim S2072x128 32 0) (broadcastInDim S2072x128 ![] bcast_S_S2072x128 (constantI S_ 32 16#32))))

/-- The angles. -/
def angT : Vec Ideal S2072x128 .f32 :=
  mulf (F := Ideal) (φ := .f32) (sitofp (F := Ideal) .f32 posT) (broadcastInDim S2072x128 ![0, 1] bcast_S1x128_S2072x128_0_1
    (shapeCast S1x128 (concatenate S128 0 [⟨S64, invfT⟩, ⟨S64, invfT⟩] concatenates_S64_S64_S128_d0) shapeCasts_S128_S1x128))

/-- The sines, negated over the first half of a head. -/
def sinT : Vec Ideal S2072x128 .f32 :=
  select (cmpi .slt (iotaInDim S2072x128 32 1) (broadcastInDim S2072x128 ![] bcast_S_S2072x128 (constantI S_ 32 64#32)))
    (Host.negf (F := Ideal) (φ := .f32) (Host.sin (F := Ideal) (φ := .f32) angT)) (Host.sin (F := Ideal) (φ := .f32) angT)

/-- The logarithms of the decays. -/
def lgT : Vec Ideal S4x1 .f32 :=
  broadcastInDim S4x1 ![0] bcast_S4_S4x1_0 (Host.log1p (F := Ideal) (φ := .f32) (Host.negf (F := Ideal) (φ := .f32) (Host.powf (F := Ideal) (φ := .f32) (broadcastInDim S4 ![] bcast_S_S4 (constant (F := Ideal) S_ .f32 0x40000000#32))
    (subf (F := Ideal) (φ := .f32) (broadcastInDim S4 ![] bcast_S_S4 (constant (F := Ideal) S_ .f32 0xC0A00000#32)) (sitofp (F := Ideal) .f32 (iotaInDim S4 32 0))))))

/-- The steps of a chunk. -/
def idxT : Vec Ideal S16 .f32 := sitofp (F := Ideal) .f32 (iotaInDim S16 32 0)

/-- The differences of two steps. -/
def diffT : Vec Ideal S16x16 .f32 :=
  subf (F := Ideal) (φ := .f32) (broadcastInDim S16x16 ![0, 1] bcast_S16x1_S16x16_0_1 (broadcastInDim S16x1 ![0] bcast_S16_S16x1_0 idxT))
    (broadcastInDim S16x16 ![0, 1] bcast_S1x16_S16x16_0_1 (broadcastInDim S1x16 ![1] bcast_S16_S1x16_1 idxT))

/-- The decay from one step of a chunk to another. -/
def dintT : Vec Ideal S4x16x16 .f32 :=
  select (broadcastInDim S4x16x16 ![0, 1, 2] bcast_S1x16x16_S4x16x16_0_1_2 (cmpf (F := Ideal) (φ := .f32) .oge (broadcastInDim S1x16x16 ![1, 2] bcast_S16x16_S1x16x16_1_2 diffT)
      (broadcastInDim S1x16x16 ![] bcast_S_S1x16x16 (constant (F := Ideal) S_ .f32 0x00000000#32))))
    (Host.exp (F := Ideal) (φ := .f32) (mulf (F := Ideal) (φ := .f32) (broadcastInDim S4x16x16 ![0, 1, 2] bcast_S4x1x1_S4x16x16_0_1_2 (broadcastInDim S4x1x1 ![0, 1] bcast_S4x1_S4x1x1_0_1 lgT))
      (broadcastInDim S4x16x16 ![0, 1, 2] bcast_S1x16x16_S4x16x16_0_1_2 (maximumf (F := Ideal) (φ := .f32) (broadcastInDim S1x16x16 ![1, 2] bcast_S16x16_S1x16x16_1_2 diffT)
        (broadcastInDim S1x16x16 ![] bcast_S_S1x16x16 (constant (F := Ideal) S_ .f32 0x00000000#32))))))
    (broadcastInDim S4x16x16 ![] bcast_S_S4x16x16 (constant (F := Ideal) S_ .f32 0x00000000#32))

/-- The decay from the chunk's start to a step. -/
def qdecT : Vec Ideal S4x16x128 .f32 :=
  broadcastInDim S4x16x128 ![0, 1, 2] bcast_S4x16x1_S4x16x128_0_1_2 (broadcastInDim S4x16x1 ![0, 1] bcast_S4x16_S4x16x1_0_1
    (Host.exp (F := Ideal) (φ := .f32) (mulf (F := Ideal) (φ := .f32) (broadcastInDim S4x16 ![0, 1] bcast_S4x1_S4x16_0_1 lgT) (broadcastInDim S4x16 ![0, 1] bcast_S1x16_S4x16_0_1
      (broadcastInDim S1x16 ![1] bcast_S16_S1x16_1 (addf (F := Ideal) (φ := .f32) idxT (broadcastInDim S16 ![] bcast_S_S16 (constant (F := Ideal) S_ .f32 0x3F800000#32))))))))

/-- The decay from a step to the chunk's end. -/
def kdecT : Vec Ideal S4x16x128 .f32 :=
  broadcastInDim S4x16x128 ![0, 1, 2] bcast_S4x16x1_S4x16x128_0_1_2 (broadcastInDim S4x16x1 ![0, 1] bcast_S4x16_S4x16x1_0_1
    (select (broadcastInDim S4x16 ![0, 1] bcast_S1x16_S4x16_0_1 (cmpf (F := Ideal) (φ := .f32) .olt (broadcastInDim S1x16 ![1] bcast_S16_S1x16_1 idxT)
        (broadcastInDim S1x16 ![] bcast_S_S1x16 (constant (F := Ideal) S_ .f32 0x41800000#32))))
      (Host.exp (F := Ideal) (φ := .f32) (mulf (F := Ideal) (φ := .f32) (broadcastInDim S4x16 ![0, 1] bcast_S4x1_S4x16_0_1 lgT) (broadcastInDim S4x16 ![0, 1] bcast_S1x16_S4x16_0_1
        (broadcastInDim S1x16 ![1] bcast_S16_S1x16_1 (minimumf (F := Ideal) (φ := .f32)
          (subf (F := Ideal) (φ := .f32) (broadcastInDim S16 ![] bcast_S_S16 (subf (F := Ideal) (φ := .f32) (constant (F := Ideal) S_ .f32 0x41800000#32) (constant (F := Ideal) S_ .f32 0x3F800000#32))) idxT)
          (broadcastInDim S16 ![] bcast_S_S16 (constant (F := Ideal) S_ .f32 0x41800000#32)))))))
      (broadcastInDim S4x16 ![] bcast_S_S4x16 (constant (F := Ideal) S_ .f32 0x00000000#32))))

/-- The decay over a chunk. -/
def cdecT : Vec Ideal S4x1x128 .f32 :=
  broadcastInDim S4x1x128 ![0, 1, 2] bcast_S4x1x1_S4x1x128_0_1_2 (broadcastInDim S4x1x1 ![0, 1] bcast_S4x1_S4x1x1_0_1
    (Host.exp (F := Ideal) (φ := .f32) (mulf (F := Ideal) (φ := .f32) lgT (broadcastInDim S4x1 ![] bcast_S_S4x1 (constant (F := Ideal) S_ .f32 0x41800000#32)))))

variable (m : (ℓ : Loc nD τ sig) → Buf (Elt Ideal) ℓ)

theorem V_v8 (c : Dev nD) : V m c main_v8 = shapeCast S4x128 (shapeCast S512 (m ((c : Thread nD τ).loc main_arg4)) shapeCasts_S1x512_S512) shapeCasts_S512_S4x128 := by
  show StableHlo.after _ _ (Proc.devRef .tc main_v8) = _
  simp only [List.flatten_cons, List.flatten_nil, List.cons_append, List.nil_append, List.append_nil]
  after_results
  rfl

theorem V_v41 (c : Dev nD) : V m c main_v41 = sinT := by
  show StableHlo.after _ _ (Proc.devRef .tc main_v41) = _
  simp only [List.flatten_cons, List.flatten_nil, List.cons_append, List.nil_append, List.append_nil]
  after_results
  rfl

theorem V_v37 (c : Dev nD) : V m c main_v37 = Host.cos (F := Ideal) (φ := .f32) angT := by
  show StableHlo.after _ _ (Proc.devRef .tc main_v37) = _
  simp only [List.flatten_cons, List.flatten_nil, List.cons_append, List.nil_append, List.append_nil]
  after_results
  rfl

theorem V_v42 (c : Dev nD) : V m c main_v42 = broadcastInDim S1x4x128x128 ![] bcast_S_S1x4x128x128 (constant (F := Ideal) S_ .f32 0x00000000#32) := by
  show StableHlo.after _ _ (Proc.devRef .tc main_v42) = _
  simp only [List.flatten_cons, List.flatten_nil, List.cons_append, List.nil_append, List.append_nil]
  after_results

theorem V_v43 (c : Dev nD) : V m c main_v43 = broadcastInDim S1x3x1536 ![] bcast_S_S1x3x1536 (constant (F := Ideal) S_ .f32 0x00000000#32) := by
  show StableHlo.after _ _ (Proc.devRef .tc main_v43) = _
  simp only [List.flatten_cons, List.flatten_nil, List.cons_append, List.nil_append, List.append_nil]
  after_results

theorem V_v69 (c : Dev nD) : V m c main_v69 = dintT := by
  show StableHlo.after _ _ (Proc.devRef .tc main_v69) = _
  simp only [List.flatten_cons, List.flatten_nil, List.cons_append, List.nil_append, List.append_nil]
  after_results
  rfl

theorem V_v95 (c : Dev nD) : V m c main_v95 = qdecT := by
  show StableHlo.after _ _ (Proc.devRef .tc main_v95) = _
  simp only [List.flatten_cons, List.flatten_nil, List.cons_append, List.nil_append, List.append_nil]
  after_results
  rfl

theorem V_v97 (c : Dev nD) : V m c main_v97 = kdecT := by
  show StableHlo.after _ _ (Proc.devRef .tc main_v97) = _
  simp only [List.flatten_cons, List.flatten_nil, List.cons_append, List.nil_append, List.append_nil]
  after_results
  rfl

theorem V_v99 (c : Dev nD) : V m c main_v99 = cdecT := by
  show StableHlo.after _ _ (Proc.devRef .tc main_v99) = _
  simp only [List.flatten_cons, List.flatten_nil, List.cons_append, List.nil_append, List.append_nil]
  after_results
  rfl

theorem V_arg0 (c : Dev nD) : V m c main_arg0 = m ((c : Thread nD τ).loc main_arg0) := by
  show StableHlo.after _ _ (Proc.devRef .tc main_arg0) = _
  simp only [List.flatten_cons, List.flatten_nil, List.cons_append, List.nil_append, List.append_nil]
  after_results

/-! ## The tables at an index -/

theorem pos_apply : ∀ t : Fin 16, Scalar.select (IntOp.cmpi CmpIPredicate.sge (BitVec.ofNat 32 (2048 + t.val)) 2064#32)
    (IntOp.addi (BitVec.ofNat 32 (2048 + t.val)) 14320#32)
    (Scalar.select (IntOp.cmpi CmpIPredicate.sge (BitVec.ofNat 32 (2048 + t.val)) 2048#32)
      (IntOp.addi (BitVec.ofNat 32 (2048 + t.val)) 4294965248#32) (IntOp.addi (BitVec.ofNat 32 (2048 + t.val)) 16#32)) = BitVec.ofNat 32 t.val := by
  decide +kernel

theorem half_apply : ∀ d : Fin 128, IntOp.cmpi CmpIPredicate.slt (BitVec.ofNat 32 d.val) 64#32 = if d.val < 64 then 1#1 else 0#1 := by
  decide +kernel

theorem ang_apply (t : Fin 16) (d : Fin 128) :
    angT (ix2 (⟨2048 + t.val, by omega⟩ : Fin 2072) d) = ang t.val (if d.val < 64 then d.val else d.val - 64) := by
  pointwise [angT, posT, invfT]
  rw [pos_apply]
  unfold ang num
  split_ifs <;> rfl

theorem cos_apply (t : Fin 16) (d : Fin 128) :
    Host.cos (F := Ideal) (φ := .f32) angT (ix2 (⟨2048 + t.val, by omega⟩ : Fin 2072) d) = Ideal.cos (ang t.val (if d.val < 64 then d.val else d.val - 64)) := by
  rw [← ang_apply]
  pointwise

theorem sin_apply (t : Fin 16) (d : Fin 128) :
    sinT (ix2 (⟨2048 + t.val, by omega⟩ : Fin 2072) d)
      = if d.val < 64 then -Ideal.sin (ang t.val d.val) else Ideal.sin (ang t.val (d.val - 64)) := by
  pointwise [sinT]
  rw [half_apply, ang_apply]
  split_ifs <;> rfl

theorem dint_apply (h : Fin 4) (t s : Fin 16) : dintT (ix3 h t s) = decAt h t.val s.val := by
  rw [← dec_eq]
  pointwise [dintT, lgT, diffT, idxT]
  rfl

theorem qdec_apply (h : Fin 4) (t : Fin 16) (d : Fin 128) : qdecT (ix3 h t d) = qdAt h t.val := by
  pointwise [qdecT, lgT, idxT]
  rfl

theorem kdec_apply (h : Fin 4) (t : Fin 16) (d : Fin 128) : kdecT (ix3 h t d) = kdAt h t.val := by
  rw [← kd_eq]
  pointwise [kdecT, lgT, idxT]
  rfl

theorem cdec_apply (h : Fin 4) (d : Fin 128) : cdecT (ix3 h 0 d) = cdAt h := by
  pointwise [cdecT, lgT]
  rfl

/-- The rotation by the tables' rows. -/
theorem rot_apply (t : Fin 16) (x : Row 128) (d : Fin 128) (y : EReal) (hy : y = x (if h : d.val < 64 then ⟨64 + d.val, by omega⟩ else ⟨d.val - 64, by omega⟩)) :
    x d * Ideal.cos (ang t.val (if d.val < 64 then d.val else d.val - 64))
      + y * (if d.val < 64 then -Ideal.sin (ang t.val d.val) else Ideal.sin (ang t.val (d.val - 64))) = rotAt t.val x d := by
  subst hy
  unfold rotAt
  by_cases h : d.val < 64
  · simp only [dif_pos h, if_pos h]
    rw [mul_neg, sub_eq_add_neg]
  · simp only [dif_neg h, if_neg h]
    rw [add_comm]

end Cert.Kernel3Ideal.Hand
-- ==== Proof.RetVals.lean ====
/-
What a run of the third program's body leaves in the results' blocks: the retention heads' columns, their states and
the convolution's last rows.
-/
module

public import proofs.«01_k».proof.Proof.RetRow
public import proofs.«01_k».proof.Proof.RetTabs
public import Idealize.ShloMosaic.Lib.Pipeline.Value
public import Idealize.ShloMosaic.Lib.ValueIdxCore
public import Idealize.ShloMosaic.Lib.VecWindow

@[expose] public section

set_option maxRecDepth 16384

noncomputable section

namespace Cert.Kernel3Ideal.Hand

open Cert.Kernel3Ideal Cert.Kernel3Ideal.Gen Cert.RetMath
open Idealize.ShloMosaic Idealize.ShloMosaic.TcCoe
open Idealize.ShloMosaic.Pipeline (Dat Cfg Window)

variable {F : FTy → Type} [FloatOps F]

/-! ## Reads -/

theorem rd2 {κ : Kind} {sp : Space} {n m : ℕ} {e : EltTy} (M : Memref sig κ sp ⟨2, ![n, m]⟩ e) (hM : M.IsWhole) (X : Vec F ⟨2, ![n, m]⟩ e)
    (k lo a b : ℕ) (inb) (i : Fin a) (j : Fin b) (hk : k + i.val < n) (hl : lo + j.val < m) :
    View.readAt (Elt F) M.view (Rect.unit (s := ⟨2, ![n, m]⟩) ![k, lo] ![a, b] inb).toLoadRect (hM.unread X) (ix2 i j) = X (ix2 ⟨k + i.val, hk⟩ ⟨lo + j.val, hl⟩) := by
  show M.view.read (Elt F) (hM.unread X) ((Rect.unit (s := ⟨2, ![n, m]⟩) ![k, lo] ![a, b] inb).emb (ix2 i j)) = _
  rw [hM.read_unread]
  congr 1
  funext x
  apply Fin.ext
  match x with
  | ⟨0, _⟩ => show k + 1 * i.val = k + i.val; omega
  | ⟨1, _⟩ => show lo + 1 * j.val = lo + j.val; omega

theorem rd3 {κ : Kind} {sp : Space} {n m l : ℕ} {e : EltTy} (M : Memref sig κ sp ⟨3, ![n, m, l]⟩ e) (hM : M.IsWhole) (X : Vec F ⟨3, ![n, m, l]⟩ e)
    (k a b d : ℕ) (inb) (i : Fin a) (j : Fin b) (p : Fin d) (hk : k + i.val < n) (hj : j.val < m) (hp : p.val < l) :
    View.readAt (Elt F) M.view (Rect.unit (s := ⟨3, ![n, m, l]⟩) ![k, 0, 0] ![a, b, d] inb).toLoadRect (hM.unread X) (ix3 i j p) = X (ix3 ⟨k + i.val, hk⟩ ⟨j.val, hj⟩ ⟨p.val, hp⟩) := by
  show M.view.read (Elt F) (hM.unread X) ((Rect.unit (s := ⟨3, ![n, m, l]⟩) ![k, 0, 0] ![a, b, d] inb).emb (ix3 i j p)) = _
  rw [hM.read_unread]
  congr 1
  funext x
  apply Fin.ext
  match x with
  | ⟨0, _⟩ => show k + 1 * i.val = k + i.val; omega
  | ⟨1, _⟩ => show 0 + 1 * j.val = j.val; omega
  | ⟨2, _⟩ => show 0 + 1 * p.val = p.val; omega

/-- One head's square of what a whole block was written with. -/
theorem rdS (M : Memref sig .tc .vmem S1x4x128x128 .f32) (X : Vec F S1x4x128x128 .f32) (inbw) (k : ℕ) (inb) (e d : Fin 128) (hk : k < 4) :
    M.view.readCov [(⟨Rect.unit ![0, 0, 0, 0] S1x4x128x128.size inbw, X⟩ : View.Piece (Elt F) S1x4x128x128 .f32)]
      (Rect.unit (s := S1x4x128x128) ![0, k, 0, 0] S1x1x128x128.size inb).toLoadRect (ix4 0 0 e d) = X (ix4 0 ⟨k, hk⟩ e d) := by
  show M.view.read (Elt F) (M.view.writes (Elt F) M.view.junk [(⟨Rect.unit ![0, 0, 0, 0] S1x4x128x128.size inbw, X⟩ : View.Piece (Elt F) S1x4x128x128 .f32)])
    ((Rect.unit (s := S1x4x128x128) ![0, k, 0, 0] S1x1x128x128.size inb).emb (ix4 0 0 e d)) = _
  rw [View.read_writes_full]
  congr 1
  funext x
  apply Fin.ext
  match x with
  | ⟨0, _⟩ => rfl
  | ⟨1, _⟩ => show k + 1 * 0 = k; omega
  | ⟨2, _⟩ => show 0 + 1 * e.val = e.val; omega
  | ⟨3, _⟩ => show 0 + 1 * d.val = d.val; omega

/-! ## Windows put -/

theorem put3_ne {α : Type} (x : S1x16x1024.Idx → α) (lo : ℕ) (w) (t : Fin 16) (j : Fin 1024) (h : j.val < lo) :
    VecWindow.put x ![0, 0, lo] S1x16x128.size w (ix3 0 t j) = x (ix3 0 t j) := by
  unfold VecWindow.put
  rw [dif_neg (fun hh => by have : lo ≤ j.val := (hh 2).1; omega)]

theorem put3_eq {α : Type} (x : S1x16x1024.Idx → α) (lo : ℕ) (w : S1x16x128.Idx → α) (t : Fin 16) (d : Fin 128) (h : lo + d.val < 1024) :
    VecWindow.put x ![0, 0, lo] S1x16x128.size w (ix3 0 t ⟨lo + d.val, h⟩) = w (ix3 0 t d) := by
  unfold VecWindow.put
  rw [dif_pos (by
    intro a
    match a with
    | ⟨0, _⟩ => exact ⟨Nat.zero_le _, by show 0 < 0 + 1; omega⟩
    | ⟨1, _⟩ => exact ⟨Nat.zero_le _, by show t.val < 0 + 16; omega⟩
    | ⟨2, _⟩ => exact ⟨by show lo ≤ lo + d.val; omega, by show lo + d.val < lo + 128; omega⟩)]
  congr 1
  funext a
  apply Fin.ext
  match a with
  | ⟨0, _⟩ => rfl
  | ⟨1, _⟩ => show t.val - 0 = t.val; omega
  | ⟨2, _⟩ => show lo + d.val - lo = d.val; omega

theorem put4_ne {α : Type} (x : S1x4x128x128.Idx → α) (k : ℕ) (w) (h : Fin 4) (e d : Fin 128) (hk : h.val < k) :
    VecWindow.put x ![0, k, 0, 0] S1x1x128x128.size w (ix4 0 h e d) = x (ix4 0 h e d) := by
  unfold VecWindow.put
  rw [dif_neg (fun hh => by have : k ≤ h.val := (hh 1).1; omega)]

theorem put4_eq {α : Type} (x : S1x4x128x128.Idx → α) (k : ℕ) (w : S1x1x128x128.Idx → α) (hk : k < 4) (e d : Fin 128) :
    VecWindow.put x ![0, k, 0, 0] S1x1x128x128.size w (ix4 0 ⟨k, hk⟩ e d) = w (ix4 0 0 e d) := by
  unfold VecWindow.put
  rw [dif_pos (by
    intro a
    match a with
    | ⟨0, _⟩ => exact ⟨Nat.zero_le _, by show 0 < 0 + 1; omega⟩
    | ⟨1, _⟩ => exact ⟨Nat.le_refl _, by show k < k + 1; omega⟩
    | ⟨2, _⟩ => exact ⟨Nat.zero_le _, by show e.val < 0 + 128; omega⟩
    | ⟨3, _⟩ => exact ⟨Nat.zero_le _, by show d.val < 0 + 128; omega⟩)]
  congr 1
  funext a
  apply Fin.ext
  match a with
  | ⟨0, _⟩ => rfl
  | ⟨1, _⟩ => show k - k = 0; omega
  | ⟨2, _⟩ => show e.val - 0 = e.val; omega
  | ⟨3, _⟩ => show d.val - 0 = d.val; omega

theorem putB_eq {α : Type} (x : S1x24x1536.Idx → α) (w : S1x16x1536.Idx → α) (i : Fin 3) (j : Fin 1536) :
    VecWindow.put x ![0, 8, 0] S1x16x1536.size w (ix3 0 ⟨21 + i.val, by omega⟩ j) = w (ix3 0 ⟨13 + i.val, by omega⟩ j) := by
  unfold VecWindow.put
  rw [dif_pos (by
    intro a
    match a with
    | ⟨0, _⟩ => exact ⟨Nat.zero_le _, by show 0 < 0 + 1; omega⟩
    | ⟨1, _⟩ => exact ⟨by show 8 ≤ 21 + i.val; omega, by show 21 + i.val < 8 + 16; omega⟩
    | ⟨2, _⟩ => exact ⟨Nat.zero_le _, by show j.val < 0 + 1536; omega⟩)]
  congr 1
  funext a
  apply Fin.ext
  match a with
  | ⟨0, _⟩ => rfl
  | ⟨1, _⟩ => show 21 + i.val - 8 = 13 + i.val; omega
  | ⟨2, _⟩ => show j.val - 0 = j.val; omega

/-! ## The run -/

section
variable (c : Dev nD) (i : grid0.Coords) (arg2 : Memref sig .tc .vmem S16x4224 .f32) (harg2 : arg2.IsWhole) (arg3 : Memref sig .tc .vmem S1x4x128x128 .f32) (harg3 : arg3.IsWhole) (arg4 : Memref sig .tc .vmem S1x4x128x128 .f32) (harg4 : arg4.IsWhole) (arg5 : Memref sig .tc .vmem S1x3x1536 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x16 .bf16) (harg8 : arg8.IsWhole) (arg9 : Memref sig .tc .vmem S4x16x16 .f32) (harg9 : arg9.IsWhole) (arg10 : Memref sig .tc .vmem S4x16x128 .f32) (harg10 : arg10.IsWhole) (arg11 : Memref sig .tc .vmem S4x16x128 .f32) (harg11 : arg11.IsWhole) (arg12 : Memref sig .tc .vmem S4x1x128 .f32) (harg12 : arg12.IsWhole) (arg13 : Memref sig .tc .vmem S4x1536 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S4x128 .f32) (harg16 : arg16.IsWhole) (arg17 : Memref sig .tc .vmem S1x128 .f32) (harg17 : arg17.IsWhole) (arg18 : Memref sig .tc .vmem S1x16x1024 .bf16) (harg18 : arg18.IsWhole) (arg19 : Memref sig .tc .vmem S1x4x128x128 .f32) (harg19 : arg19.IsWhole) (arg20 : Memref sig .tc .vmem S1x4x128x128 .f32) (harg20 : arg20.IsWhole) (arg21 : Memref sig .tc .vmem S1x3x1536 .f32) (harg21 : arg21.IsWhole) (arg22 : Memref sig .tc .vmem S1x24x1536 .f32) (harg22 : arg22.IsWhole) (hc0 : cond0_0 i)
    (x0 : Vec F S16x4224 .f32) (x1 : Vec F S1x4x128x128 .f32) (x2 : Vec F S1x4x128x128 .f32) (x3 : Vec F S1x3x1536 .f32) (x4 : Vec F S16x128 .f32) (x5 : Vec F S16x128 .f32) (x6 : Vec F S16x16 .bf16) (x7 : Vec F S4x16x16 .f32) (x8 : Vec F S4x16x128 .f32) (x9 : Vec F S4x16x128 .f32) (x10 : Vec F S4x1x128 .f32) (x11 : Vec F S4x1536 .f32) (x12 : Vec F S1x128 .f32) (x13 : Vec F S1x128 .f32) (x14 : Vec F S4x128 .f32) (x15 : Vec F S1x128 .f32)
include hc0

/-- The pieces of the mixer's block. -/
theorem run16 : ∃ w7 w6 w5 w4 : FVec F S1x16x128 .bf16, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1 = [⟨Rect.unit (s := S1x16x1024) ![0, 0, 896] S1x16x128.size inb_S1x16x1024_S1x16x128_0_0_896, w7⟩,
    ⟨Rect.unit (s := S1x16x1024) ![0, 0, 768] S1x16x128.size inb_S1x16x1024_S1x16x128_0_0_768, w6⟩,
    ⟨Rect.unit (s := S1x16x1024) ![0, 0, 640] S1x16x128.size inb_S1x16x1024_S1x16x128_0_0_640, w5⟩,
    ⟨Rect.unit (s := S1x16x1024) ![0, 0, 512] S1x16x128.size inb_S1x16x1024_S1x16x128_0_0_512, w4⟩,
    ⟨Rect.unit (s := S1x16x1024) ![0, 0, 384] S1x16x128.size inb_S1x16x1024_S1x16x128_0_0_384, mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 384] S16x128.size inb_S16x4224_S16x128_0_384).toLoadRect (harg2.unread x0)) (View.readAt (Elt F) arg2.view (Rect.unit (s := S16x4224) ![0, 896] S16x128.size inb_S16x4224_S16x128_0_896).toLoadRect (harg2.unread x0)) (View.readAt (Elt F) arg2.view (Rect.unit (s := S16x4224) ![0, 1408] S16x128.size inb_S16x4224_S16x128_0_1408).toLoadRect (harg2.unread x0)) (View.readAt (Elt F) arg2.view (Rect.unit (s := S16x4224) ![0, 1920] S16x128.size inb_S16x4224_S16x128_0_1920).toLoadRect (harg2.unread x0)) (View.readAt (Elt F) arg9.view (Rect.unit (s := S4x16x16) ![3, 0, 0] S1x16x16.size inb_S4x16x16_S1x16x16_3_0_0).toLoadRect (harg9.unread x7)) (View.readAt (Elt F) arg10.view (Rect.unit (s := S4x16x128) ![3, 0, 0] S1x16x128.size inb_S4x16x128_S1x16x128_3_0_0).toLoadRect (harg10.unread x8)) (arg19.view.readCov (kernelRun0_A.sl.H17_1 c arg3 harg3 x1) (Rect.unit (s := S1x4x128x128) ![0, 3, 0, 0] S1x1x128x128.size inb_S1x4x128x128_S1x1x128x128_0_3_0_0).toLoadRect) (View.readAt (Elt F) arg16.view (Rect.unit (s := S4x128) ![3, 0] S1x128.size inb_S4x128_S1x128_3_0).toLoadRect (harg16.unread x14))⟩,
    ⟨Rect.unit (s := S1x16x1024) ![0, 0, 256] S1x16x128.size inb_S1x16x1024_S1x16x128_0_0_256, mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 256] S16x128.size inb_S16x4224_S16x128_0_256).toLoadRect (harg2.unread x0)) (View.readAt (Elt F) arg2.view (Rect.unit (s := S16x4224) ![0, 768] S16x128.size inb_S16x4224_S16x128_0_768).toLoadRect (harg2.unread x0)) (View.readAt (Elt F) arg2.view (Rect.unit (s := S16x4224) ![0, 1280] S16x128.size inb_S16x4224_S16x128_0_1280).toLoadRect (harg2.unread x0)) (View.readAt (Elt F) arg2.view (Rect.unit (s := S16x4224) ![0, 1792] S16x128.size inb_S16x4224_S16x128_0_1792).toLoadRect (harg2.unread x0)) (View.readAt (Elt F) arg9.view (Rect.unit (s := S4x16x16) ![2, 0, 0] S1x16x16.size inb_S4x16x16_S1x16x16_2_0_0).toLoadRect (harg9.unread x7)) (View.readAt (Elt F) arg10.view (Rect.unit (s := S4x16x128) ![2, 0, 0] S1x16x128.size inb_S4x16x128_S1x16x128_2_0_0).toLoadRect (harg10.unread x8)) (arg19.view.readCov (kernelRun0_A.sl.H17_1 c arg3 harg3 x1) (Rect.unit (s := S1x4x128x128) ![0, 2, 0, 0] S1x1x128x128.size inb_S1x4x128x128_S1x1x128x128_0_2_0_0).toLoadRect) (View.readAt (Elt F) arg16.view (Rect.unit (s := S4x128) ![2, 0] S1x128.size inb_S4x128_S1x128_2_0).toLoadRect (harg16.unread x14))⟩,
    ⟨Rect.unit (s := S1x16x1024) ![0, 0, 128] S1x16x128.size inb_S1x16x1024_S1x16x128_0_0_128, mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 128] S16x128.size inb_S16x4224_S16x128_0_128).toLoadRect (harg2.unread x0)) (View.readAt (Elt F) arg2.view (Rect.unit (s := S16x4224) ![0, 640] S16x128.size inb_S16x4224_S16x128_0_640).toLoadRect (harg2.unread x0)) (View.readAt (Elt F) arg2.view (Rect.unit (s := S16x4224) ![0, 1152] S16x128.size inb_S16x4224_S16x128_0_1152).toLoadRect (harg2.unread x0)) (View.readAt (Elt F) arg2.view (Rect.unit (s := S16x4224) ![0, 1664] S16x128.size inb_S16x4224_S16x128_0_1664).toLoadRect (harg2.unread x0)) (View.readAt (Elt F) arg9.view (Rect.unit (s := S4x16x16) ![1, 0, 0] S1x16x16.size inb_S4x16x16_S1x16x16_1_0_0).toLoadRect (harg9.unread x7)) (View.readAt (Elt F) arg10.view (Rect.unit (s := S4x16x128) ![1, 0, 0] S1x16x128.size inb_S4x16x128_S1x16x128_1_0_0).toLoadRect (harg10.unread x8)) (arg19.view.readCov (kernelRun0_A.sl.H17_1 c arg3 harg3 x1) (Rect.unit (s := S1x4x128x128) ![0, 1, 0, 0] S1x1x128x128.size inb_S1x4x128x128_S1x1x128x128_0_1_0_0).toLoadRect) (View.readAt (Elt F) arg16.view (Rect.unit (s := S4x128) ![1, 0] S1x128.size inb_S4x128_S1x128_1_0).toLoadRect (harg16.unread x14))⟩,
    ⟨Rect.unit (s := S1x16x1024) ![0, 0, 0] S1x16x128.size inb_S1x16x1024_S1x16x128_0_0_0, mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 0] S16x128.size inb_S16x4224_S16x128_0_0).toLoadRect (harg2.unread x0)) (View.readAt (Elt F) arg2.view (Rect.unit (s := S16x4224) ![0, 512] S16x128.size inb_S16x4224_S16x128_0_512).toLoadRect (harg2.unread x0)) (View.readAt (Elt F) arg2.view (Rect.unit (s := S16x4224) ![0, 1024] S16x128.size inb_S16x4224_S16x128_0_1024).toLoadRect (harg2.unread x0)) (View.readAt (Elt F) arg2.view (Rect.unit (s := S16x4224) ![0, 1536] S16x128.size inb_S16x4224_S16x128_0_1536).toLoadRect (harg2.unread x0)) (View.readAt (Elt F) arg9.view (Rect.unit (s := S4x16x16) ![0, 0, 0] S1x16x16.size inb_S4x16x16_S1x16x16_0_0_0).toLoadRect (harg9.unread x7)) (View.readAt (Elt F) arg10.view (Rect.unit (s := S4x16x128) ![0, 0, 0] S1x16x128.size inb_S4x16x128_S1x16x128_0_0_0).toLoadRect (harg10.unread x8)) (arg19.view.readCov (kernelRun0_A.sl.H17_1 c arg3 harg3 x1) (Rect.unit (s := S1x4x128x128) ![0, 0, 0, 0] S1x1x128x128.size inb_S1x4x128x128_S1x1x128x128_0_0_0_0).toLoadRect) (View.readAt (Elt F) arg16.view (Rect.unit (s := S4x128) ![0, 0] S1x128.size inb_S4x128_S1x128_0_0).toLoadRect (harg16.unread x14))⟩] :=
  ⟨_, _, _, _, rfl⟩

/-- The pieces of the states' block. -/
theorem run17 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.1 = [⟨Rect.unit (s := S1x4x128x128) ![0, 3, 0, 0] S1x1x128x128.size inb_S1x4x128x128_S1x1x128x128_0_3_0_0, stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 896] S16x128.size inb_S16x4224_S16x128_0_896).toLoadRect (harg2.unread x0)) (View.readAt (Elt F) arg2.view (Rect.unit (s := S16x4224) ![0, 1408] S16x128.size inb_S16x4224_S16x128_0_1408).toLoadRect (harg2.unread x0)) (View.readAt (Elt F) arg11.view (Rect.unit (s := S4x16x128) ![3, 0, 0] S1x16x128.size inb_S4x16x128_S1x16x128_3_0_0).toLoadRect (harg11.unread x9)) (arg19.view.readCov (kernelRun0_A.sl.H17_1 c arg3 harg3 x1) (Rect.unit (s := S1x4x128x128) ![0, 3, 0, 0] S1x1x128x128.size inb_S1x4x128x128_S1x1x128x128_0_3_0_0).toLoadRect) (View.readAt (Elt F) arg12.view (Rect.unit (s := S4x1x128) ![3, 0, 0] S1x1x128.size inb_S4x1x128_S1x1x128_3_0_0).toLoadRect (harg12.unread x10))⟩,
    ⟨Rect.unit (s := S1x4x128x128) ![0, 2, 0, 0] S1x1x128x128.size inb_S1x4x128x128_S1x1x128x128_0_2_0_0, stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 768] S16x128.size inb_S16x4224_S16x128_0_768).toLoadRect (harg2.unread x0)) (View.readAt (Elt F) arg2.view (Rect.unit (s := S16x4224) ![0, 1280] S16x128.size inb_S16x4224_S16x128_0_1280).toLoadRect (harg2.unread x0)) (View.readAt (Elt F) arg11.view (Rect.unit (s := S4x16x128) ![2, 0, 0] S1x16x128.size inb_S4x16x128_S1x16x128_2_0_0).toLoadRect (harg11.unread x9)) (arg19.view.readCov (kernelRun0_A.sl.H17_1 c arg3 harg3 x1) (Rect.unit (s := S1x4x128x128) ![0, 2, 0, 0] S1x1x128x128.size inb_S1x4x128x128_S1x1x128x128_0_2_0_0).toLoadRect) (View.readAt (Elt F) arg12.view (Rect.unit (s := S4x1x128) ![2, 0, 0] S1x1x128.size inb_S4x1x128_S1x1x128_2_0_0).toLoadRect (harg12.unread x10))⟩,
    ⟨Rect.unit (s := S1x4x128x128) ![0, 1, 0, 0] S1x1x128x128.size inb_S1x4x128x128_S1x1x128x128_0_1_0_0, stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 640] S16x128.size inb_S16x4224_S16x128_0_640).toLoadRect (harg2.unread x0)) (View.readAt (Elt F) arg2.view (Rect.unit (s := S16x4224) ![0, 1152] S16x128.size inb_S16x4224_S16x128_0_1152).toLoadRect (harg2.unread x0)) (View.readAt (Elt F) arg11.view (Rect.unit (s := S4x16x128) ![1, 0, 0] S1x16x128.size inb_S4x16x128_S1x16x128_1_0_0).toLoadRect (harg11.unread x9)) (arg19.view.readCov (kernelRun0_A.sl.H17_1 c arg3 harg3 x1) (Rect.unit (s := S1x4x128x128) ![0, 1, 0, 0] S1x1x128x128.size inb_S1x4x128x128_S1x1x128x128_0_1_0_0).toLoadRect) (View.readAt (Elt F) arg12.view (Rect.unit (s := S4x1x128) ![1, 0, 0] S1x1x128.size inb_S4x1x128_S1x1x128_1_0_0).toLoadRect (harg12.unread x10))⟩,
    ⟨Rect.unit (s := S1x4x128x128) ![0, 0, 0, 0] S1x1x128x128.size inb_S1x4x128x128_S1x1x128x128_0_0_0_0, stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 512] S16x128.size inb_S16x4224_S16x128_0_512).toLoadRect (harg2.unread x0)) (View.readAt (Elt F) arg2.view (Rect.unit (s := S16x4224) ![0, 1024] S16x128.size inb_S16x4224_S16x128_0_1024).toLoadRect (harg2.unread x0)) (View.readAt (Elt F) arg11.view (Rect.unit (s := S4x16x128) ![0, 0, 0] S1x16x128.size inb_S4x16x128_S1x16x128_0_0_0).toLoadRect (harg11.unread x9)) (arg19.view.readCov (kernelRun0_A.sl.H17_1 c arg3 harg3 x1) (Rect.unit (s := S1x4x128x128) ![0, 0, 0, 0] S1x1x128x128.size inb_S1x4x128x128_S1x1x128x128_0_0_0_0).toLoadRect) (View.readAt (Elt F) arg12.view (Rect.unit (s := S4x1x128) ![0, 0, 0] S1x1x128.size inb_S4x1x128_S1x1x128_0_0_0).toLoadRect (harg12.unread x10))⟩,
    ⟨Rect.unit ![0, 0, 0, 0] S1x4x128x128.size inb_S1x4x128x128_S1x4x128x128_0_0_0_0, k0_pay3 (View.readAt (Elt F) arg3.view (Rect.unit ![0, 0, 0, 0] S1x4x128x128.size inb_S1x4x128x128_S1x4x128x128_0_0_0_0).toLoadRect (harg3.unread x1))⟩] := rfl

/-- The piece of the convolution's last rows. -/
theorem run19 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.1 = [⟨Rect.unit ![0, 0, 0] S1x3x1536.size inb_S1x3x1536_S1x3x1536_0_0_0, k0_pay72 (k0_pay70 (kernelRun0_A.sl.v359 c arg2 harg2 arg5 harg5 arg22 x0 x3))⟩] := rfl

theorem out16_0 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨0 + d.val, by omega⟩)
    = mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 0] S16x128.size inb_S16x4224_S16x128_0_0).toLoadRect (harg2.unread x0)) (View.readAt (Elt F) arg2.view (Rect.unit (s := S16x4224) ![0, 512] S16x128.size inb_S16x4224_S16x128_0_512).toLoadRect (harg2.unread x0)) (View.readAt (Elt F) arg2.view (Rect.unit (s := S16x4224) ![0, 1024] S16x128.size inb_S16x4224_S16x128_0_1024).toLoadRect (harg2.unread x0)) (View.readAt (Elt F) arg2.view (Rect.unit (s := S16x4224) ![0, 1536] S16x128.size inb_S16x4224_S16x128_0_1536).toLoadRect (harg2.unread x0)) (View.readAt (Elt F) arg9.view (Rect.unit (s := S4x16x16) ![0, 0, 0] S1x16x16.size inb_S4x16x16_S1x16x16_0_0_0).toLoadRect (harg9.unread x7)) (View.readAt (Elt F) arg10.view (Rect.unit (s := S4x16x128) ![0, 0, 0] S1x16x128.size inb_S4x16x128_S1x16x128_0_0_0).toLoadRect (harg10.unread x8)) (arg19.view.readCov (kernelRun0_A.sl.H17_1 c arg3 harg3 x1) (Rect.unit (s := S1x4x128x128) ![0, 0, 0, 0] S1x1x128x128.size inb_S1x4x128x128_S1x1x128x128_0_0_0_0).toLoadRect) (View.readAt (Elt F) arg16.view (Rect.unit (s := S4x128) ![0, 0] S1x128.size inb_S4x128_S1x128_0_0).toLoadRect (harg16.unread x14)) (ix3 0 t d) := by
  intro t d
  have hd := d.isLt
  obtain ⟨w7, w6, w5, w4, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 0 + d.val < 896; omega)]
  rw [View.read_writes_cons_put _ _ _ _ _ rfl, put3_ne _ 768 _ _ _ (by show 0 + d.val < 768; omega)]
  rw [View.read_writes_cons_put _ _ _ _ _ rfl, put3_ne _ 640 _ _ _ (by show 0 + d.val < 640; omega)]
  rw [View.read_writes_cons_put _ _ _ _ _ rfl, put3_ne _ 512 _ _ _ (by show 0 + d.val < 512; omega)]
  rw [View.read_writes_cons_put _ _ _ _ _ rfl, put3_ne _ 384 _ _ _ (by show 0 + d.val < 384; omega)]
  rw [View.read_writes_cons_put _ _ _ _ _ rfl, put3_ne _ 256 _ _ _ (by show 0 + d.val < 256; omega)]
  rw [View.read_writes_cons_put _ _ _ _ _ rfl, put3_ne _ 128 _ _ _ (by show 0 + d.val < 128; omega)]
  rw [View.read_writes_cons_put _ _ _ _ _ rfl]
  exact put3_eq _ 0 _ t d (by omega)

theorem out16_1 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨128 + d.val, by omega⟩)
    = mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 128] S16x128.size inb_S16x4224_S16x128_0_128).toLoadRect (harg2.unread x0)) (View.readAt (Elt F) arg2.view (Rect.unit (s := S16x4224) ![0, 640] S16x128.size inb_S16x4224_S16x128_0_640).toLoadRect (harg2.unread x0)) (View.readAt (Elt F) arg2.view (Rect.unit (s := S16x4224) ![0, 1152] S16x128.size inb_S16x4224_S16x128_0_1152).toLoadRect (harg2.unread x0)) (View.readAt (Elt F) arg2.view (Rect.unit (s := S16x4224) ![0, 1664] S16x128.size inb_S16x4224_S16x128_0_1664).toLoadRect (harg2.unread x0)) (View.readAt (Elt F) arg9.view (Rect.unit (s := S4x16x16) ![1, 0, 0] S1x16x16.size inb_S4x16x16_S1x16x16_1_0_0).toLoadRect (harg9.unread x7)) (View.readAt (Elt F) arg10.view (Rect.unit (s := S4x16x128) ![1, 0, 0] S1x16x128.size inb_S4x16x128_S1x16x128_1_0_0).toLoadRect (harg10.unread x8)) (arg19.view.readCov (kernelRun0_A.sl.H17_1 c arg3 harg3 x1) (Rect.unit (s := S1x4x128x128) ![0, 1, 0, 0] S1x1x128x128.size inb_S1x4x128x128_S1x1x128x128_0_1_0_0).toLoadRect) (View.readAt (Elt F) arg16.view (Rect.unit (s := S4x128) ![1, 0] S1x128.size inb_S4x128_S1x128_1_0).toLoadRect (harg16.unread x14)) (ix3 0 t d) := by
  intro t d
  have hd := d.isLt
  obtain ⟨w7, w6, w5, w4, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 128 + d.val < 896; omega)]
  rw [View.read_writes_cons_put _ _ _ _ _ rfl, put3_ne _ 768 _ _ _ (by show 128 + d.val < 768; omega)]
  rw [View.read_writes_cons_put _ _ _ _ _ rfl, put3_ne _ 640 _ _ _ (by show 128 + d.val < 640; omega)]
  rw [View.read_writes_cons_put _ _ _ _ _ rfl, put3_ne _ 512 _ _ _ (by show 128 + d.val < 512; omega)]
  rw [View.read_writes_cons_put _ _ _ _ _ rfl, put3_ne _ 384 _ _ _ (by show 128 + d.val < 384; omega)]
  rw [View.read_writes_cons_put _ _ _ _ _ rfl, put3_ne _ 256 _ _ _ (by show 128 + d.val < 256; omega)]
  rw [View.read_writes_cons_put _ _ _ _ _ rfl]
  exact put3_eq _ 128 _ t d (by omega)

theorem out16_2 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨256 + d.val, by omega⟩)
    = mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 256] S16x128.size inb_S16x4224_S16x128_0_256).toLoadRect (harg2.unread x0)) (View.readAt (Elt F) arg2.view (Rect.unit (s := S16x4224) ![0, 768] S16x128.size inb_S16x4224_S16x128_0_768).toLoadRect (harg2.unread x0)) (View.readAt (Elt F) arg2.view (Rect.unit (s := S16x4224) ![0, 1280] S16x128.size inb_S16x4224_S16x128_0_1280).toLoadRect (harg2.unread x0)) (View.readAt (Elt F) arg2.view (Rect.unit (s := S16x4224) ![0, 1792] S16x128.size inb_S16x4224_S16x128_0_1792).toLoadRect (harg2.unread x0)) (View.readAt (Elt F) arg9.view (Rect.unit (s := S4x16x16) ![2, 0, 0] S1x16x16.size inb_S4x16x16_S1x16x16_2_0_0).toLoadRect (harg9.unread x7)) (View.readAt (Elt F) arg10.view (Rect.unit (s := S4x16x128) ![2, 0, 0] S1x16x128.size inb_S4x16x128_S1x16x128_2_0_0).toLoadRect (harg10.unread x8)) (arg19.view.readCov (kernelRun0_A.sl.H17_1 c arg3 harg3 x1) (Rect.unit (s := S1x4x128x128) ![0, 2, 0, 0] S1x1x128x128.size inb_S1x4x128x128_S1x1x128x128_0_2_0_0).toLoadRect) (View.readAt (Elt F) arg16.view (Rect.unit (s := S4x128) ![2, 0] S1x128.size inb_S4x128_S1x128_2_0).toLoadRect (harg16.unread x14)) (ix3 0 t d) := by
  intro t d
  have hd := d.isLt
  obtain ⟨w7, w6, w5, w4, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 256 + d.val < 896; omega)]
  rw [View.read_writes_cons_put _ _ _ _ _ rfl, put3_ne _ 768 _ _ _ (by show 256 + d.val < 768; omega)]
  rw [View.read_writes_cons_put _ _ _ _ _ rfl, put3_ne _ 640 _ _ _ (by show 256 + d.val < 640; omega)]
  rw [View.read_writes_cons_put _ _ _ _ _ rfl, put3_ne _ 512 _ _ _ (by show 256 + d.val < 512; omega)]
  rw [View.read_writes_cons_put _ _ _ _ _ rfl, put3_ne _ 384 _ _ _ (by show 256 + d.val < 384; omega)]
  rw [View.read_writes_cons_put _ _ _ _ _ rfl]
  exact put3_eq _ 256 _ t d (by omega)

theorem out16_3 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨384 + d.val, by omega⟩)
    = mixHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 384] S16x128.size inb_S16x4224_S16x128_0_384).toLoadRect (harg2.unread x0)) (View.readAt (Elt F) arg2.view (Rect.unit (s := S16x4224) ![0, 896] S16x128.size inb_S16x4224_S16x128_0_896).toLoadRect (harg2.unread x0)) (View.readAt (Elt F) arg2.view (Rect.unit (s := S16x4224) ![0, 1408] S16x128.size inb_S16x4224_S16x128_0_1408).toLoadRect (harg2.unread x0)) (View.readAt (Elt F) arg2.view (Rect.unit (s := S16x4224) ![0, 1920] S16x128.size inb_S16x4224_S16x128_0_1920).toLoadRect (harg2.unread x0)) (View.readAt (Elt F) arg9.view (Rect.unit (s := S4x16x16) ![3, 0, 0] S1x16x16.size inb_S4x16x16_S1x16x16_3_0_0).toLoadRect (harg9.unread x7)) (View.readAt (Elt F) arg10.view (Rect.unit (s := S4x16x128) ![3, 0, 0] S1x16x128.size inb_S4x16x128_S1x16x128_3_0_0).toLoadRect (harg10.unread x8)) (arg19.view.readCov (kernelRun0_A.sl.H17_1 c arg3 harg3 x1) (Rect.unit (s := S1x4x128x128) ![0, 3, 0, 0] S1x1x128x128.size inb_S1x4x128x128_S1x1x128x128_0_3_0_0).toLoadRect) (View.readAt (Elt F) arg16.view (Rect.unit (s := S4x128) ![3, 0] S1x128.size inb_S4x128_S1x128_3_0).toLoadRect (harg16.unread x14)) (ix3 0 t d) := by
  intro t d
  have hd := d.isLt
  obtain ⟨w7, w6, w5, w4, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 384 + d.val < 896; omega)]
  rw [View.read_writes_cons_put _ _ _ _ _ rfl, put3_ne _ 768 _ _ _ (by show 384 + d.val < 768; omega)]
  rw [View.read_writes_cons_put _ _ _ _ _ rfl, put3_ne _ 640 _ _ _ (by show 384 + d.val < 640; omega)]
  rw [View.read_writes_cons_put _ _ _ _ _ rfl, put3_ne _ 512 _ _ _ (by show 384 + d.val < 512; omega)]
  rw [View.read_writes_cons_put _ _ _ _ _ rfl]
  exact put3_eq _ 384 _ t d (by omega)

theorem out17_0 (e d : Fin 128) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨0, by decide⟩ e d)
    = stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 512] S16x128.size inb_S16x4224_S16x128_0_512).toLoadRect (harg2.unread x0)) (View.readAt (Elt F) arg2.view (Rect.unit (s := S16x4224) ![0, 1024] S16x128.size inb_S16x4224_S16x128_0_1024).toLoadRect (harg2.unread x0)) (View.readAt (Elt F) arg11.view (Rect.unit (s := S4x16x128) ![0, 0, 0] S1x16x128.size inb_S4x16x128_S1x16x128_0_0_0).toLoadRect (harg11.unread x9)) (arg19.view.readCov (kernelRun0_A.sl.H17_1 c arg3 harg3 x1) (Rect.unit (s := S1x4x128x128) ![0, 0, 0, 0] S1x1x128x128.size inb_S1x4x128x128_S1x1x128x128_0_0_0_0).toLoadRect) (View.readAt (Elt F) arg12.view (Rect.unit (s := S4x1x128) ![0, 0, 0] S1x1x128.size inb_S4x1x128_S1x1x128_0_0_0).toLoadRect (harg12.unread x10)) (ix4 0 0 e d) := by
  unfold out0_A_17
  rw [run17]
  rw [View.read_writes_cons_put _ _ _ _ _ rfl, put4_ne _ 3 _ _ _ _ (by show 0 < 3; omega)]
  rw [View.read_writes_cons_put _ _ _ _ _ rfl, put4_ne _ 2 _ _ _ _ (by show 0 < 2; omega)]
  rw [View.read_writes_cons_put _ _ _ _ _ rfl, put4_ne _ 1 _ _ _ _ (by show 0 < 1; omega)]
  rw [View.read_writes_cons_put _ _ _ _ _ rfl]
  exact put4_eq _ 0 _ (by decide) e d

theorem out17_1 (e d : Fin 128) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨1, by decide⟩ e d)
    = stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 640] S16x128.size inb_S16x4224_S16x128_0_640).toLoadRect (harg2.unread x0)) (View.readAt (Elt F) arg2.view (Rect.unit (s := S16x4224) ![0, 1152] S16x128.size inb_S16x4224_S16x128_0_1152).toLoadRect (harg2.unread x0)) (View.readAt (Elt F) arg11.view (Rect.unit (s := S4x16x128) ![1, 0, 0] S1x16x128.size inb_S4x16x128_S1x16x128_1_0_0).toLoadRect (harg11.unread x9)) (arg19.view.readCov (kernelRun0_A.sl.H17_1 c arg3 harg3 x1) (Rect.unit (s := S1x4x128x128) ![0, 1, 0, 0] S1x1x128x128.size inb_S1x4x128x128_S1x1x128x128_0_1_0_0).toLoadRect) (View.readAt (Elt F) arg12.view (Rect.unit (s := S4x1x128) ![1, 0, 0] S1x1x128.size inb_S4x1x128_S1x1x128_1_0_0).toLoadRect (harg12.unread x10)) (ix4 0 0 e d) := by
  unfold out0_A_17
  rw [run17]
  rw [View.read_writes_cons_put _ _ _ _ _ rfl, put4_ne _ 3 _ _ _ _ (by show 1 < 3; omega)]
  rw [View.read_writes_cons_put _ _ _ _ _ rfl, put4_ne _ 2 _ _ _ _ (by show 1 < 2; omega)]
  rw [View.read_writes_cons_put _ _ _ _ _ rfl]
  exact put4_eq _ 1 _ (by decide) e d

theorem out17_2 (e d : Fin 128) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨2, by decide⟩ e d)
    = stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 768] S16x128.size inb_S16x4224_S16x128_0_768).toLoadRect (harg2.unread x0)) (View.readAt (Elt F) arg2.view (Rect.unit (s := S16x4224) ![0, 1280] S16x128.size inb_S16x4224_S16x128_0_1280).toLoadRect (harg2.unread x0)) (View.readAt (Elt F) arg11.view (Rect.unit (s := S4x16x128) ![2, 0, 0] S1x16x128.size inb_S4x16x128_S1x16x128_2_0_0).toLoadRect (harg11.unread x9)) (arg19.view.readCov (kernelRun0_A.sl.H17_1 c arg3 harg3 x1) (Rect.unit (s := S1x4x128x128) ![0, 2, 0, 0] S1x1x128x128.size inb_S1x4x128x128_S1x1x128x128_0_2_0_0).toLoadRect) (View.readAt (Elt F) arg12.view (Rect.unit (s := S4x1x128) ![2, 0, 0] S1x1x128.size inb_S4x1x128_S1x1x128_2_0_0).toLoadRect (harg12.unread x10)) (ix4 0 0 e d) := by
  unfold out0_A_17
  rw [run17]
  rw [View.read_writes_cons_put _ _ _ _ _ rfl, put4_ne _ 3 _ _ _ _ (by show 2 < 3; omega)]
  rw [View.read_writes_cons_put _ _ _ _ _ rfl]
  exact put4_eq _ 2 _ (by decide) e d

theorem out17_3 (e d : Fin 128) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨3, by decide⟩ e d)
    = stHead (View.readAt (Elt F) arg6.view (Rect.unit (s := S16x128) ![0, 0] S16x128.size inb_S16x128_S16x128_0_0).toLoadRect (harg6.unread x4)) (View.readAt (Elt F) arg7.view (Rect.unit (s := S16x128) ![0, 0] S16x128.size inb_S16x128_S16x128_0_0).toLoadRect (harg7.unread x5)) (View.readAt (Elt F) arg2.view (Rect.unit (s := S16x4224) ![0, 896] S16x128.size inb_S16x4224_S16x128_0_896).toLoadRect (harg2.unread x0)) (View.readAt (Elt F) arg2.view (Rect.unit (s := S16x4224) ![0, 1408] S16x128.size inb_S16x4224_S16x128_0_1408).toLoadRect (harg2.unread x0)) (View.readAt (Elt F) arg11.view (Rect.unit (s := S4x16x128) ![3, 0, 0] S1x16x128.size inb_S4x16x128_S1x16x128_3_0_0).toLoadRect (harg11.unread x9)) (arg19.view.readCov (kernelRun0_A.sl.H17_1 c arg3 harg3 x1) (Rect.unit (s := S1x4x128x128) ![0, 3, 0, 0] S1x1x128x128.size inb_S1x4x128x128_S1x1x128x128_0_3_0_0).toLoadRect) (View.readAt (Elt F) arg12.view (Rect.unit (s := S4x1x128) ![3, 0, 0] S1x1x128.size inb_S4x1x128_S1x1x128_3_0_0).toLoadRect (harg12.unread x10)) (ix4 0 0 e d) := by
  unfold out0_A_17
  rw [run17]
  rw [View.read_writes_cons_put _ _ _ _ _ rfl]
  exact put4_eq _ 3 _ (by decide) e d

theorem out19_eq (a : Fin 3) (b : Fin 1536) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 a b) = x0 (ix2 ⟨13 + a.val, by omega⟩ ⟨2048 + b.val, by omega⟩) := by
  have ha := a.isLt
  have hb := b.isLt
  unfold out0_A_19
  rw [run19]
  refine (congrFun (View.read_writes_full _ _ _ _ _) (ix3 0 a b)).trans ?_
  have e : k0_pay72 (k0_pay70 (kernelRun0_A.sl.v359 c arg2 harg2 arg5 harg5 arg22 x0 x3)) (ix3 0 a b) = (kernelRun0_A.sl.v359 c arg2 harg2 arg5 harg5 arg22 x0 x3) (ix3 0 a b) := by
    pointwise [k0_pay72, k0_pay70]
  refine e.trans ?_
  unfold kernelRun0_A.sl.v359
  have e2 : ∀ L : List (View.Piece (Elt F) S1x24x1536 .f32), arg22.view.readCov L (Rect.unit (s := S1x24x1536) ![0, 21, 0] S1x3x1536.size inb_S1x24x1536_S1x3x1536_0_21_0).toLoadRect (ix3 0 a b)
      = arg22.view.read (Elt F) (arg22.view.writes (Elt F) arg22.view.junk L) (ix3 0 ⟨21 + a.val, by omega⟩ b) := by
    intro L
    show arg22.view.read (Elt F) (arg22.view.writes (Elt F) arg22.view.junk L) ((Rect.unit (s := S1x24x1536) ![0, 21, 0] S1x3x1536.size inb_S1x24x1536_S1x3x1536_0_21_0).emb (ix3 0 a b)) = _
    congr 1
    funext x
    apply Fin.ext
    match x with
    | ⟨0, _⟩ => rfl
    | ⟨1, _⟩ => show 21 + 1 * a.val = 21 + a.val; omega
    | ⟨2, _⟩ => show 0 + 1 * b.val = b.val; omega
  rw [e2]
  unfold kernelRun0_A.sl.HS0_2
  rw [View.read_writes_cons_put _ _ _ _ _ rfl, putB_eq]
  have e3 : ∀ u : Vec F S16x1536 .f32, k0_pay65 u (ix3 0 ⟨13 + a.val, by omega⟩ b) = u (ix2 ⟨13 + a.val, by omega⟩ b) := by
    intro u
    pointwise [k0_pay65]
  rw [e3]
  refine (rd2 arg2 harg2 x0 0 2048 16 1536 _ ⟨13 + a.val, by omega⟩ b (by show 0 + (13 + a.val) < 16; omega) (by omega)).trans ?_
  congr 1
  funext x
  apply Fin.ext
  match x with
  | ⟨0, _⟩ => show 0 + (13 + a.val) = 13 + a.val; omega
  | ⟨1, _⟩ => rfl

end

/-! ## A head from its tables -/

section
variable (P : Fin 16 → Row 4224) (h : Fin 4)

theorem rot_row (co si q : Vec Ideal S16x128 .f32) (o : ℕ) (ho : o ≤ 1536)
    (hco : ∀ (t : Fin 16) (d : Fin 128), co (ix2 t d) = Ideal.cos (ang t.val (if d.val < 64 then d.val else d.val - 64)))
    (hsi : ∀ (t : Fin 16) (d : Fin 128), si (ix2 t d) = if d.val < 64 then -Ideal.sin (ang t.val d.val) else Ideal.sin (ang t.val (d.val - 64)))
    (hq : ∀ (t : Fin 16) (d : Fin 128), q (ix2 t d) = headCols (P t) o ho h d) :
    rotB (rw2 co) (rw2 si) (rw2 q) = fun t => rotAt t.val (headCols (P t) o ho h) := by
  funext t d
  unfold rotB rw2
  rw [hq, hq, hco, hsi]
  refine rot_apply t _ d _ (congrArg _ ?_)
  apply Fin.ext
  have := d.isLt
  split_ifs with hd
  · show (d.val + 128 - 64) % 128 = 64 + d.val
    omega
  · show (d.val + 128 - 64) % 128 = d.val - 64
    omega

theorem mix_row (w : Fin 4 → Row 128) (co si q k v g : Vec Ideal S16x128 .f32) (di : Vec Ideal S1x16x16 .f32) (qd : Vec Ideal S1x16x128 .f32)
    (S : Vec Ideal S1x1x128x128 .f32) (ww : Vec Ideal S1x128 .f32)
    (hco : ∀ (t : Fin 16) (d : Fin 128), co (ix2 t d) = Ideal.cos (ang t.val (if d.val < 64 then d.val else d.val - 64)))
    (hsi : ∀ (t : Fin 16) (d : Fin 128), si (ix2 t d) = if d.val < 64 then -Ideal.sin (ang t.val d.val) else Ideal.sin (ang t.val (d.val - 64)))
    (hq : ∀ (t : Fin 16) (d : Fin 128), q (ix2 t d) = headCols (P t) 0 (by decide) h d)
    (hk : ∀ (t : Fin 16) (d : Fin 128), k (ix2 t d) = headCols (P t) 512 (by decide) h d)
    (hv : ∀ (t : Fin 16) (d : Fin 128), v (ix2 t d) = headCols (P t) 1024 (by decide) h d)
    (hg : ∀ (t : Fin 16) (d : Fin 128), g (ix2 t d) = headCols (P t) 1536 (by decide) h d)
    (hdi : ∀ t s : Fin 16, di (ix3 0 t s) = decAt h t.val s.val)
    (hqd : ∀ (t : Fin 16) (d : Fin 128), qd (ix3 0 t d) = qdAt h t.val)
    (hS : ∀ e d : Fin 128, S (ix4 0 0 e d) = 0)
    (hw : ∀ d : Fin 128, ww (ix2 0 d) = w h d) (t : Fin 16) (d : Fin 128) :
    mixHead (F := Ideal) co si q k v g di qd S ww (ix3 0 t d) = yHead P w h t d := by
  rw [mixHead_apply]
  unfold yHead
  have e : (fun d => outHead (F := Ideal) co si q k v di qd S (ix2 t d)) = oHead P h t := by
    funext d
    rw [outHead_apply, rot_row P h co si q 0 (by decide) hco hsi hq, rot_row P h co si k 512 (by decide) hco hsi hk]
    have ev : rw2 v = vHead P h := by funext t d; exact hv t d
    have ed : (fun t s : Fin 16 => di (ix3 0 t s)) = fun t s => decAt h t.val s.val := by funext t s; exact hdi t s
    have eq : (fun (t : Fin 16) (d : Fin 128) => qd (ix3 0 t d)) = fun t _ => qdAt h t.val := by funext t d; exact hqd t d
    have eS : (fun e d : Fin 128 => S (ix4 0 0 e d)) = fun _ _ => 0 := by funext e d; exact hS e d
    rw [ev, ed, eq, eS]
    rfl
  have ew : (fun d => ww (ix2 0 d)) = w h := by funext d; exact hw d
  have eg : rw2 g t = gHead P h t := by funext d; exact hg t d
  rw [e, ew, eg]

theorem st_row (co si k v : Vec Ideal S16x128 .f32) (kd : Vec Ideal S1x16x128 .f32) (S : Vec Ideal S1x1x128x128 .f32) (cd : Vec Ideal S1x1x128 .f32)
    (hco : ∀ (t : Fin 16) (d : Fin 128), co (ix2 t d) = Ideal.cos (ang t.val (if d.val < 64 then d.val else d.val - 64)))
    (hsi : ∀ (t : Fin 16) (d : Fin 128), si (ix2 t d) = if d.val < 64 then -Ideal.sin (ang t.val d.val) else Ideal.sin (ang t.val (d.val - 64)))
    (hk : ∀ (t : Fin 16) (d : Fin 128), k (ix2 t d) = headCols (P t) 512 (by decide) h d)
    (hv : ∀ (t : Fin 16) (d : Fin 128), v (ix2 t d) = headCols (P t) 1024 (by decide) h d)
    (hkd : ∀ (t : Fin 16) (d : Fin 128), kd (ix3 0 t d) = kdAt h t.val)
    (hS : ∀ e d : Fin 128, S (ix4 0 0 e d) = 0)
    (hcd : ∀ d : Fin 128, cd (ix3 0 0 d) = cdAt h) (e d : Fin 128) :
    stHead (F := Ideal) co si k v kd S cd (ix4 0 0 e d) = sHead P h e d := by
  rw [stHead_apply, rot_row P h co si k 512 (by decide) hco hsi hk]
  have ev : rw2 v = vHead P h := by funext t d; exact hv t d
  have ek : (fun (t : Fin 16) (d : Fin 128) => kd (ix3 0 t d)) = fun t _ => kdAt h t.val := by funext t d; exact hkd t d
  have eS : (fun e d : Fin 128 => S (ix4 0 0 e d)) = fun _ _ => 0 := by funext e d; exact hS e d
  have ec : (fun d : Fin 128 => cd (ix3 0 0 d)) = fun _ => cdAt h := by funext d; exact hcd d
  rw [ev, ek, eS, ec]
  rfl
end

end Cert.Kernel3Ideal.Hand
-- ==== Proof.RetRef.lean ====
/-
The reference of the third program read head by head, at the extended reals.
-/
module

public import proofs.«01_k».proof.Proof.Gen.Reference3Ideal.Read
public import proofs.«01_k».proof.Proof.RetMath

@[expose] public section

set_option maxRecDepth 16384

noncomputable section

namespace Cert.Reference3Ideal.Rows

open Cert.Reference3Ideal Cert.Reference3Ideal.Gen Cert.Reference3Ideal.Read Cert.RetMath
open Idealize.ShloMosaic

variable (x0 : Vec Ideal S528x4224 .f32) (x4 : Vec Ideal S1x512 .f32)

/-- The sixteen meta rows of the projection. -/
def aP (t : Fin 16) : Row 4224 := fun k => x0 (ix2 ⟨512 + t.val, by omega⟩ k)
/-- The heads' weights of the normalization. -/
def aW (h : Fin 4) : Row 128 := fun d => x4 (ix2 0 ⟨128 * h.val + d.val, by omega⟩)

theorem v38_row (h : Fin 4) (t : Fin 16) (d : Fin 128) :
    val_main_v38 (F := Ideal) x0 (ix4 0 h t d) = qHead (aP x0) h t d := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0, val_main_cst, val_main_cst_0]
  have e : ∀ a b : Fin 4224, a.val = b.val → x0 (ix2 (⟨512 + t.val, by omega⟩ : Fin 528) a) = x0 (ix2 (⟨512 + t.val, by omega⟩ : Fin 528) b) :=
    fun a b hab => by rw [Fin.ext hab]
  have hd := d.isLt
  unfold qHead rotAt headCols aP
  split_ifs with h64
  · exact (congrArg₂ (· - ·) (congrArg₂ (· * ·) (e _ _ (by dsimp only; omega)) rfl) (congrArg₂ (· * ·) (e _ _ (by dsimp only; omega)) rfl))
  · exact (congrArg₂ (· + ·) (congrArg₂ (· * ·) (e _ _ (by dsimp only; omega)) rfl) (congrArg₂ (· * ·) (e _ _ (by dsimp only; omega)) rfl))
  · exact absurd rfl ‹¬ _›

theorem v69_row (h : Fin 4) (t : Fin 16) (d : Fin 128) :
    val_main_v69 (F := Ideal) x0 (ix4 0 h t d) = rotAt t.val (headCols (aP x0 t) 512 (by decide) h) d := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v7, val_main_v3, val_main_v1, val_main_v0, val_main_cst_1, val_main_cst_2]
  have e : ∀ a b : Fin 4224, a.val = b.val → x0 (ix2 (⟨512 + t.val, by omega⟩ : Fin 528) a) = x0 (ix2 (⟨512 + t.val, by omega⟩ : Fin 528) b) :=
    fun a b hab => by rw [Fin.ext hab]
  have hd := d.isLt
  unfold rotAt headCols aP
  split_ifs with h64
  · exact (congrArg₂ (· - ·) (congrArg₂ (· * ·) (e _ _ (by dsimp only; omega)) rfl) (congrArg₂ (· * ·) (e _ _ (by dsimp only; omega)) rfl))
  · exact (congrArg₂ (· + ·) (congrArg₂ (· * ·) (e _ _ (by dsimp only; omega)) rfl) (congrArg₂ (· * ·) (e _ _ (by dsimp only; omega)) rfl))
  · exact absurd rfl ‹¬ _›

theorem v71_row (h : Fin 4) (t : Fin 16) (d : Fin 128) :
    val_main_v71 (F := Ideal) x0 (ix4 0 h t d) = kHead (aP x0) h t d := by
  pointwise [val_main_v71, val_main_v70, val_main_cst_3]
  simp only [v69_row]
  rfl

theorem v73_row (h : Fin 4) (t : Fin 16) (d : Fin 128) :
    val_main_v73 (F := Ideal) x0 (ix4 0 h t d) = vHead (aP x0) h t d := by
  pointwise [val_main_v73, val_main_v72, val_main_v4, val_main_v1, val_main_v0]
  unfold vHead headCols aP
  congr 2
  apply Fin.ext
  dsimp only
  omega

theorem v98_row (h : Fin 4) (t s : Fin 16) : val_main_v98 (F := Ideal) (ix3 h t s) = decAt h t.val s.val := by
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_cst_5, val_main_cst_6, val_main_cst_7, val_main_cst_8, val_main_call0_v2, val_main_call0_v1, val_main_call0_v0]
  rfl

theorem v106_row (h : Fin 4) (t : Fin 16) : val_main_v106 (F := Ideal) (ix4 0 h t 0) = qdAt h t.val := by
  pointwise [val_main_v106, val_main_v105, val_main_v104, val_main_v103, val_main_v102, val_main_v101, val_main_v100, val_main_v99, val_main_cst_9, val_main_v83, val_main_v82, val_main_v81, val_main_v80, val_main_v79, val_main_v78, val_main_v77, val_main_v76, val_main_v75, val_main_cst_5, val_main_cst_6]
  rfl

theorem v114_row (h : Fin 4) (t : Fin 16) : val_main_v114 (F := Ideal) (ix4 0 h t 0) = kdAt h t.val := by
  pointwise [val_main_v114, val_main_v113, val_main_v112, val_main_v111, val_main_v110, val_main_v109, val_main_v108, val_main_v107, val_main_cst_10, val_main_v83, val_main_v82, val_main_v81, val_main_v80, val_main_v79, val_main_v78, val_main_v77, val_main_v76, val_main_v75, val_main_cst_5, val_main_cst_6]
  rfl

theorem v118_row (h : Fin 4) : val_main_v118 (F := Ideal) (ix4 0 h 0 0) = cdAt h := by
  pointwise [val_main_v118, val_main_v117, val_main_v116, val_main_v115, val_main_cst_11, val_main_v81, val_main_v80, val_main_v79, val_main_v78, val_main_v77, val_main_v76, val_main_v75, val_main_cst_5, val_main_cst_6]
  rfl

theorem v129_row (h : Fin 4) (t : Fin 16) (d : Fin 128) :
    val_main_v129 (F := Ideal) x0 (ix4 0 h t d) = oHead (aP x0) h t d := by
  pointwise [val_main_v129, val_main_v128, val_main_v127, val_main_v126, val_main_v122, val_main_v121, val_main_v120, val_main_v119, val_main_v74, val_main_cst_4]
  simp only [v38_row, v71_row, v73_row, v98_row, v106_row]
  rfl

theorem v132_row (h : Fin 4) (e d : Fin 128) :
    val_main_v132 (F := Ideal) x0 (ix4 0 h e d) = sHead (aP x0) h e d := by
  pointwise [val_main_v132, val_main_v131, val_main_v130, val_main_v125, val_main_v124, val_main_v123, val_main_v74, val_main_cst_4]
  simp only [v71_row, v73_row, v114_row, v118_row]
  rfl

theorem v133_row (h : Fin 4) (t : Fin 16) (d : Fin 128) :
    val_main_v133 (F := Ideal) x0 (ix4 0 t h d) = oHead (aP x0) h t d := by
  pointwise [val_main_v133]
  simp only [v129_row]

theorem v154_row (h : Fin 4) (t : Fin 16) (d : Fin 128) :
    val_main_v154 (F := Ideal) x0 x4 (ix4 0 t h d)
      = cenOf (oHead (aP x0) h t) d * Ideal.rsqrt (varOf (oHead (aP x0) h t) + Ideal.ofBits FTy.f32 897988541#32) * aW x4 h d := by
  pointwise [val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_cst_12, val_main_cst_13, val_main_cst_14, val_main_cst_15, val_main_cst_16]
  simp only [v133_row]
  have e : x4 (ix2 0 (⟨h.val * 128 + d.val, by omega⟩ : Fin 512)) = aW x4 h d :=
    congrArg (fun k => x4 (ix2 0 k)) (Fin.ext (by show h.val * 128 + d.val = 128 * h.val + d.val; omega))
  exact congrArg₂ (· * ·) rfl e

theorem v160_row (h : Fin 4) (t : Fin 16) (d : Fin 128) :
    val_main_v160 (F := Ideal) x0 x4 (ix3 0 t (⟨128 * h.val + d.val, by omega⟩ : Fin 512)) = yHead (aP x0) (aW x4) h t d := by
  pointwise [val_main_v160, val_main_v157, val_main_v156, val_main_v155, val_main_call1_v5, val_main_call1_v4, val_main_call1_cst_0, val_main_call1_v3, val_main_call1_v2, val_main_call1_cst, val_main_call1_v1, val_main_call1_v0, val_main_v5, val_main_v1, val_main_v0]
  simp only [v154_row]
  have e : x0 (ix2 (⟨512 + t.val, by omega⟩ : Fin 528) (⟨1536 + (128 * h.val + d.val), by omega⟩ : Fin 4224)) = gHead (aP x0) h t d :=
    congrArg (fun k => x0 (ix2 (⟨512 + t.val, by omega⟩ : Fin 528) k)) (Fin.ext (by show 1536 + (128 * h.val + d.val) = 1536 + 128 * h.val + d.val; omega))
  rw [e]
  rfl

theorem v161_row (i : Fin 3) (k : Fin 1536) :
    val_main_v161 (F := Ideal) x0 (ix3 0 i k) = aP x0 ⟨13 + i.val, by omega⟩ ⟨2048 + k.val, by omega⟩ := by
  pointwise [val_main_v161, val_main_v159, val_main_v158, val_main_cst_17, val_main_v6, val_main_v1, val_main_v0]
  rw [dif_neg (by omega)]
  exact congrArg (fun r => x0 (ix2 r (⟨2048 + k.val, by omega⟩ : Fin 4224))) (Fin.ext (by show 512 + (16 + i.val - 3) = 512 + (13 + i.val); omega))

end Cert.Reference3Ideal.Rows
-- ==== Proof.RetValue.lean ====
/-
The blocks the third program's one point reads, and the arrays it leaves.
-/
module

public import proofs.«01_k».proof.Proof.RetVals
public import proofs.«01_k».proof.Proof.RetTabs
public import proofs.«01_k».proof.Proof.RetRef
public import Idealize.ShloMosaic.Lib.Pipeline.ValueKit.Point

@[expose] public section

set_option maxRecDepth 16384

noncomputable section

namespace Cert.Kernel3Ideal.Hand

open Cert.Kernel3Ideal Cert.Kernel3Ideal.Gen Cert.RetMath Cert.Reference3Ideal.Rows
open Idealize.ShloMosaic Idealize.ShloMosaic.TcCoe Idealize.SL.Sem
open Idealize.ShloMosaic.Pipeline (Dat Cfg Window)

variable (m : (ℓ : Loc nD τ sig) → Buf (Elt Ideal) ℓ)

/-- Where each window's block lies. -/
theorem idx_tab : ∀ t : Fin cfg0.N,
    win0_0.index t (0 : Fin 2) = 32
    ∧ win0_0.index t (1 : Fin 2) = 0
    ∧ win0_1.index t (0 : Fin 4) = 0
    ∧ win0_1.index t (1 : Fin 4) = 0
    ∧ win0_1.index t (2 : Fin 4) = 0
    ∧ win0_1.index t (3 : Fin 4) = 0
    ∧ win0_4.index t (0 : Fin 2) = 128
    ∧ win0_4.index t (1 : Fin 2) = 0
    ∧ win0_5.index t (0 : Fin 2) = 128
    ∧ win0_5.index t (1 : Fin 2) = 0
    ∧ win0_7.index t (0 : Fin 3) = 0
    ∧ win0_7.index t (1 : Fin 3) = 0
    ∧ win0_7.index t (2 : Fin 3) = 0
    ∧ win0_8.index t (0 : Fin 3) = 0
    ∧ win0_8.index t (1 : Fin 3) = 0
    ∧ win0_8.index t (2 : Fin 3) = 0
    ∧ win0_9.index t (0 : Fin 3) = 0
    ∧ win0_9.index t (1 : Fin 3) = 0
    ∧ win0_9.index t (2 : Fin 3) = 0
    ∧ win0_10.index t (0 : Fin 3) = 0
    ∧ win0_10.index t (1 : Fin 3) = 0
    ∧ win0_10.index t (2 : Fin 3) = 0
    ∧ win0_14.index t (0 : Fin 2) = 0
    ∧ win0_14.index t (1 : Fin 2) = 0
    ∧ win0_16.index t (0 : Fin 3) = 0
    ∧ win0_16.index t (1 : Fin 3) = 0
    ∧ win0_16.index t (2 : Fin 3) = 0
    ∧ win0_17.index t (0 : Fin 4) = 0
    ∧ win0_17.index t (1 : Fin 4) = 0
    ∧ win0_17.index t (2 : Fin 4) = 0
    ∧ win0_17.index t (3 : Fin 4) = 0
    ∧ win0_19.index t (0 : Fin 3) = 0
    ∧ win0_19.index t (1 : Fin 3) = 0
    ∧ win0_19.index t (2 : Fin 3) = 0 :=
  (by decide +kernel : ∀ t : Fin grid0.N, _)

/-! ## The blocks -/

theorem iblk0_apply (c : Dev nD) (t : Fin cfg0.N) (r : Fin 16) (k : Fin 4224) :
    iblk m c 0 t (ix2 r k) = aP (m ((c : Thread nD τ).loc main_arg0)) r k := by
  have h0 := (idx_tab t).1
  have h1 := (idx_tab t).2.1
  have e : V m c main_arg0 (ix2 (⟨512 + r.val, by omega⟩ : Fin 528) k) = aP (m ((c : Thread nD τ).loc main_arg0)) r k :=
    congrFun (V_arg0 m c) _
  rw [← e]
  blk_ext [iblk, h0, h1]

theorem X04_apply (c : Dev nD) (t : Fin cfg0.N) (r : Fin 16) (d : Fin 128) :
    X0_4 m c t (ix2 r d) = Ideal.cos (ang r.val (if d.val < 64 then d.val else d.val - 64)) := by
  have h0 := (idx_tab t).2.2.2.2.2.2.1
  have h1 := (idx_tab t).2.2.2.2.2.2.2.1
  have e : V m c main_v37 (ix2 (⟨2048 + r.val, by omega⟩ : Fin 2072) d) = _ := (congrFun (V_v37 m c) _).trans (cos_apply r d)
  rw [← e]
  unfold X0_4 Pipeline.Window.fill
  rw [dif_pos (moved0_4 t (ix2 r d))]
  blk_ext [iblk, h0, h1]

theorem X05_apply (c : Dev nD) (t : Fin cfg0.N) (r : Fin 16) (d : Fin 128) :
    X0_5 m c t (ix2 r d) = if d.val < 64 then -Ideal.sin (ang r.val d.val) else Ideal.sin (ang r.val (d.val - 64)) := by
  have h0 := (idx_tab t).2.2.2.2.2.2.2.2.1
  have h1 := (idx_tab t).2.2.2.2.2.2.2.2.2.1
  have e : V m c main_v41 (ix2 (⟨2048 + r.val, by omega⟩ : Fin 2072) d) = _ := (congrFun (V_v41 m c) _).trans (sin_apply r d)
  rw [← e]
  unfold X0_5 Pipeline.Window.fill
  rw [dif_pos (moved0_5 t (ix2 r d))]
  blk_ext [iblk, h0, h1]

theorem zeroS_apply (i : S1x4x128x128.Idx) : broadcastInDim S1x4x128x128 ![] bcast_S_S1x4x128x128 (constant (F := Ideal) S_ .f32 0x00000000#32) i = 0 := by
  pointwise

theorem iblk1_apply (c : Dev nD) (t : Fin cfg0.N) (h : Fin 4) (e d : Fin 128) : iblk m c 1 t (ix4 0 h e d) = (0 : EReal) := by
  have h0 := (idx_tab t).2.2.1
  have h1 := (idx_tab t).2.2.2.1
  have h2 := (idx_tab t).2.2.2.2.1
  have h3 := (idx_tab t).2.2.2.2.2.1
  have e : V m c main_v42 (ix4 0 h e d) = (0 : EReal) := (congrFun (V_v42 m c) _).trans (zeroS_apply _)
  rw [← e]
  blk_ext [iblk, h0, h1, h2, h3]

theorem w_apply (x : Vec Ideal S1x512 .f32) (h : Fin 4) (d : Fin 128) :
    shapeCast S4x128 (shapeCast S512 x shapeCasts_S1x512_S512) shapeCasts_S512_S4x128 (ix2 h d) = aW x h d := by
  pointwise [aW]
  exact congrArg (fun q => x (ix2 0 q)) (Fin.ext (by show h.val * 128 + d.val = 128 * h.val + d.val; omega))

theorem iblk14_apply (c : Dev nD) (t : Fin cfg0.N) (h : Fin 4) (d : Fin 128) :
    iblk m c 14 t (ix2 h d) = aW (m ((c : Thread nD τ).loc main_arg4)) h d := by
  have h0 := (idx_tab t).2.2.2.2.2.2.2.2.2.2.2.2.2.2.2.2.2.2.2.2.2.2.1
  have h1 := (idx_tab t).2.2.2.2.2.2.2.2.2.2.2.2.2.2.2.2.2.2.2.2.2.2.2.1
  have e : V m c main_v8 (ix2 h d) = _ := (congrFun (V_v8 m c) _).trans (w_apply _ h d)
  rw [← e]
  blk_ext [iblk, h0, h1]

theorem iblk7_apply (c : Dev nD) (p : Fin cfg0.N) (h : Fin 4) (t s : Fin 16) : iblk m c 7 p (ix3 h t s) = decAt h t.val s.val := by
  have h0 := (idx_tab p).2.2.2.2.2.2.2.2.2.2.1
  have h1 := (idx_tab p).2.2.2.2.2.2.2.2.2.2.2.1
  have h2 := (idx_tab p).2.2.2.2.2.2.2.2.2.2.2.2.1
  have e : V m c main_v69 (ix3 h t s) = _ := (congrFun (V_v69 m c) _).trans (dint_apply h t s)
  rw [← e]
  blk_ext [iblk, h0, h1, h2]

theorem iblk8_apply (c : Dev nD) (p : Fin cfg0.N) (h : Fin 4) (t : Fin 16) (d : Fin 128) : iblk m c 8 p (ix3 h t d) = qdAt h t.val := by
  have h0 := (idx_tab p).2.2.2.2.2.2.2.2.2.2.2.2.2.1
  have h1 := (idx_tab p).2.2.2.2.2.2.2.2.2.2.2.2.2.2.1
  have h2 := (idx_tab p).2.2.2.2.2.2.2.2.2.2.2.2.2.2.2.1
  have e : V m c main_v95 (ix3 h t d) = _ := (congrFun (V_v95 m c) _).trans (qdec_apply h t d)
  rw [← e]
  blk_ext [iblk, h0, h1, h2]

theorem iblk9_apply (c : Dev nD) (p : Fin cfg0.N) (h : Fin 4) (t : Fin 16) (d : Fin 128) : iblk m c 9 p (ix3 h t d) = kdAt h t.val := by
  have h0 := (idx_tab p).2.2.2.2.2.2.2.2.2.2.2.2.2.2.2.2.1
  have h1 := (idx_tab p).2.2.2.2.2.2.2.2.2.2.2.2.2.2.2.2.2.1
  have h2 := (idx_tab p).2.2.2.2.2.2.2.2.2.2.2.2.2.2.2.2.2.2.1
  have e : V m c main_v97 (ix3 h t d) = _ := (congrFun (V_v97 m c) _).trans (kdec_apply h t d)
  rw [← e]
  blk_ext [iblk, h0, h1, h2]

theorem iblk10_apply (c : Dev nD) (p : Fin cfg0.N) (h : Fin 4) (d : Fin 128) : iblk m c 10 p (ix3 h 0 d) = cdAt h := by
  have h0 := (idx_tab p).2.2.2.2.2.2.2.2.2.2.2.2.2.2.2.2.2.2.2.1
  have h1 := (idx_tab p).2.2.2.2.2.2.2.2.2.2.2.2.2.2.2.2.2.2.2.2.1
  have h2 := (idx_tab p).2.2.2.2.2.2.2.2.2.2.2.2.2.2.2.2.2.2.2.2.2.1
  have e : V m c main_v99 (ix3 h 0 d) = _ := (congrFun (V_v99 m c) _).trans (cdec_apply h d)
  rw [← e]
  blk_ext [iblk, h0, h1, h2]

end Cert.Kernel3Ideal.Hand
-- ==== Proof.RetPoint.lean ====
/-
What the third program's one point leaves, in the layer's rows.
-/
module

public import proofs.«01_k».proof.Proof.RetValue

@[expose] public section

set_option maxRecDepth 16384

noncomputable section

namespace Cert.Kernel3Ideal.Hand

open Cert.Kernel3Ideal Cert.Kernel3Ideal.Gen Cert.RetMath Cert.Reference3Ideal.Rows
open Idealize.ShloMosaic Idealize.ShloMosaic.TcCoe Idealize.SL.Sem
open Idealize.ShloMosaic.Pipeline (Dat Cfg Window)

/-! ## Reads at an index -/

section
variable {F : FTy → Type} [FloatOps F]

theorem rd2' {κ : Kind} {sp : Space} {n m : ℕ} {e : EltTy} (M : Memref sig κ sp ⟨2, ![n, m]⟩ e) (hM : M.IsWhole) (X : Vec F ⟨2, ![n, m]⟩ e)
    (k lo a b : ℕ) (inb) (i : Fin a) (j : Fin b) (p : Fin n) (q : Fin m) (hp : p.val = k + i.val) (hq : q.val = lo + j.val) :
    View.readAt (Elt F) M.view (Rect.unit (s := ⟨2, ![n, m]⟩) ![k, lo] ![a, b] inb).toLoadRect (hM.unread X) (ix2 i j) = X (ix2 p q) := by
  obtain ⟨p, hp'⟩ := p
  obtain ⟨q, hq'⟩ := q
  have ep : p = k + i.val := hp
  have eq : q = lo + j.val := hq
  subst ep eq
  exact rd2 M hM X k lo a b inb i j hp' hq'

theorem rd3' {κ : Kind} {sp : Space} {n m l : ℕ} {e : EltTy} (M : Memref sig κ sp ⟨3, ![n, m, l]⟩ e) (hM : M.IsWhole) (X : Vec F ⟨3, ![n, m, l]⟩ e)
    (k a : ℕ) (inb) (i : Fin a) (j : Fin m) (q : Fin l) (p : Fin n) (hp : p.val = k + i.val) :
    View.readAt (Elt F) M.view (Rect.unit (s := ⟨3, ![n, m, l]⟩) ![k, 0, 0] ![a, m, l] inb).toLoadRect (hM.unread X) (ix3 i j q) = X (ix3 p j q) := by
  obtain ⟨p, hp'⟩ := p
  have ep : p = k + i.val := hp
  subst ep
  exact rd3 M hM X k a m l inb i j q hp' j.isLt q.isLt

theorem pay3_apply (X : Vec F S1x4x128x128 .f32) : k0_pay3 X = X := by
  unfold k0_pay3
  exact shapeCast_self _ _

theorem readAt_whole {κ : Kind} {sp : Space} {s : Shape} {e : EltTy} (M : Memref sig κ sp s e) (h : M.IsWhole) (X : Vec F s e)
    {off : Fin s.rank → ℕ} (inb) : View.readAt (Elt F) M.view (Rect.unit off s.size inb).toLoadRect (h.unread X) = X :=
  (View.readAt_full _ _ _).trans (h.read_unread X)

/-- A head's square of the state staged. -/
theorem rdH (c : Dev nD) (A : Memref sig .tc .vmem S1x4x128x128 .f32) (hA : A.IsWhole) (M : Memref sig .tc .vmem S1x4x128x128 .f32) (X : Vec F S1x4x128x128 .f32)
    (k : ℕ) (inb) (e d : Fin 128) (hk : k < 4) :
    M.view.readCov (kernelRun0_A.sl.H17_1 c A hA X) (Rect.unit (s := S1x4x128x128) ![0, k, 0, 0] S1x1x128x128.size inb).toLoadRect (ix4 0 0 e d) = X (ix4 0 ⟨k, hk⟩ e d) := by
  unfold kernelRun0_A.sl.H17_1
  rw [readAt_whole, pay3_apply]
  exact rdS M X _ k inb e d hk
end

variable (m : (ℓ : Loc nD τ sig) → Buf (Elt Ideal) ℓ)

/-! ## The point -/

theorem mix_at_0 (c : Dev nD) (p : Fin cfg0.N) (t : Fin 16) (d : Fin 128) :
    (outsAt0 m c p).1 (ix3 0 t ⟨0 + d.val, by omega⟩) = yHead (aP (m ((c : Thread nD τ).loc main_arg0))) (aW (m ((c : Thread nD τ).loc main_arg4))) ⟨0, by decide⟩ t d := by
  unfold outsAt0
  dsimp only
  refine (out16_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  apply mix_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 0 16 128 _ r e r ⟨0 + e.val, by omega⟩ (by omega) rfl).trans (iblk0_apply m c p r _)
  · intro r e
    exact (rd2' _ _ _ 0 512 16 128 _ r e r ⟨512 + e.val, by omega⟩ (by omega) rfl).trans (iblk0_apply m c p r _)
  · intro r e
    exact (rd2' _ _ _ 0 1024 16 128 _ r e r ⟨1024 + e.val, by omega⟩ (by omega) rfl).trans (iblk0_apply m c p r _)
  · intro r e
    exact (rd2' _ _ _ 0 1536 16 128 _ r e r ⟨1536 + e.val, by omega⟩ (by omega) rfl).trans (iblk0_apply m c p r _)
  · intro r e
    exact (rd3' _ _ _ 0 1 _ 0 r e ⟨0, by decide⟩ rfl).trans (iblk7_apply m c p ⟨0, by decide⟩ r e)
  · intro r e
    exact (rd3' _ _ _ 0 1 _ 0 r e ⟨0, by decide⟩ rfl).trans (iblk8_apply m c p ⟨0, by decide⟩ r e)
  · intro e d
    exact (rdH c _ _ _ _ 0 _ e d (by decide)).trans (iblk1_apply m c p ⟨0, by decide⟩ e d)
  · intro e
    exact (rd2' _ _ _ 0 0 1 128 _ 0 e ⟨0, by decide⟩ e rfl (by omega)).trans (iblk14_apply m c p ⟨0, by decide⟩ e)

theorem mix_at_1 (c : Dev nD) (p : Fin cfg0.N) (t : Fin 16) (d : Fin 128) :
    (outsAt0 m c p).1 (ix3 0 t ⟨128 + d.val, by omega⟩) = yHead (aP (m ((c : Thread nD τ).loc main_arg0))) (aW (m ((c : Thread nD τ).loc main_arg4))) ⟨1, by decide⟩ t d := by
  unfold outsAt0
  dsimp only
  refine (out16_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  apply mix_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 128 16 128 _ r e r ⟨128 + e.val, by omega⟩ (by omega) rfl).trans (iblk0_apply m c p r _)
  · intro r e
    exact (rd2' _ _ _ 0 640 16 128 _ r e r ⟨640 + e.val, by omega⟩ (by omega) rfl).trans (iblk0_apply m c p r _)
  · intro r e
    exact (rd2' _ _ _ 0 1152 16 128 _ r e r ⟨1152 + e.val, by omega⟩ (by omega) rfl).trans (iblk0_apply m c p r _)
  · intro r e
    exact (rd2' _ _ _ 0 1664 16 128 _ r e r ⟨1664 + e.val, by omega⟩ (by omega) rfl).trans (iblk0_apply m c p r _)
  · intro r e
    exact (rd3' _ _ _ 1 1 _ 0 r e ⟨1, by decide⟩ rfl).trans (iblk7_apply m c p ⟨1, by decide⟩ r e)
  · intro r e
    exact (rd3' _ _ _ 1 1 _ 0 r e ⟨1, by decide⟩ rfl).trans (iblk8_apply m c p ⟨1, by decide⟩ r e)
  · intro e d
    exact (rdH c _ _ _ _ 1 _ e d (by decide)).trans (iblk1_apply m c p ⟨1, by decide⟩ e d)
  · intro e
    exact (rd2' _ _ _ 1 0 1 128 _ 0 e ⟨1, by decide⟩ e rfl (by omega)).trans (iblk14_apply m c p ⟨1, by decide⟩ e)

theorem mix_at_2 (c : Dev nD) (p : Fin cfg0.N) (t : Fin 16) (d : Fin 128) :
    (outsAt0 m c p).1 (ix3 0 t ⟨256 + d.val, by omega⟩) = yHead (aP (m ((c : Thread nD τ).loc main_arg0))) (aW (m ((c : Thread nD τ).loc main_arg4))) ⟨2, by decide⟩ t d := by
  unfold outsAt0
  dsimp only
  refine (out16_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  apply mix_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 256 16 128 _ r e r ⟨256 + e.val, by omega⟩ (by omega) rfl).trans (iblk0_apply m c p r _)
  · intro r e
    exact (rd2' _ _ _ 0 768 16 128 _ r e r ⟨768 + e.val, by omega⟩ (by omega) rfl).trans (iblk0_apply m c p r _)
  · intro r e
    exact (rd2' _ _ _ 0 1280 16 128 _ r e r ⟨1280 + e.val, by omega⟩ (by omega) rfl).trans (iblk0_apply m c p r _)
  · intro r e
    exact (rd2' _ _ _ 0 1792 16 128 _ r e r ⟨1792 + e.val, by omega⟩ (by omega) rfl).trans (iblk0_apply m c p r _)
  · intro r e
    exact (rd3' _ _ _ 2 1 _ 0 r e ⟨2, by decide⟩ rfl).trans (iblk7_apply m c p ⟨2, by decide⟩ r e)
  · intro r e
    exact (rd3' _ _ _ 2 1 _ 0 r e ⟨2, by decide⟩ rfl).trans (iblk8_apply m c p ⟨2, by decide⟩ r e)
  · intro e d
    exact (rdH c _ _ _ _ 2 _ e d (by decide)).trans (iblk1_apply m c p ⟨2, by decide⟩ e d)
  · intro e
    exact (rd2' _ _ _ 2 0 1 128 _ 0 e ⟨2, by decide⟩ e rfl (by omega)).trans (iblk14_apply m c p ⟨2, by decide⟩ e)

theorem mix_at_3 (c : Dev nD) (p : Fin cfg0.N) (t : Fin 16) (d : Fin 128) :
    (outsAt0 m c p).1 (ix3 0 t ⟨384 + d.val, by omega⟩) = yHead (aP (m ((c : Thread nD τ).loc main_arg0))) (aW (m ((c : Thread nD τ).loc main_arg4))) ⟨3, by decide⟩ t d := by
  unfold outsAt0
  dsimp only
  refine (out16_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  apply mix_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 384 16 128 _ r e r ⟨384 + e.val, by omega⟩ (by omega) rfl).trans (iblk0_apply m c p r _)
  · intro r e
    exact (rd2' _ _ _ 0 896 16 128 _ r e r ⟨896 + e.val, by omega⟩ (by omega) rfl).trans (iblk0_apply m c p r _)
  · intro r e
    exact (rd2' _ _ _ 0 1408 16 128 _ r e r ⟨1408 + e.val, by omega⟩ (by omega) rfl).trans (iblk0_apply m c p r _)
  · intro r e
    exact (rd2' _ _ _ 0 1920 16 128 _ r e r ⟨1920 + e.val, by omega⟩ (by omega) rfl).trans (iblk0_apply m c p r _)
  · intro r e
    exact (rd3' _ _ _ 3 1 _ 0 r e ⟨3, by decide⟩ rfl).trans (iblk7_apply m c p ⟨3, by decide⟩ r e)
  · intro r e
    exact (rd3' _ _ _ 3 1 _ 0 r e ⟨3, by decide⟩ rfl).trans (iblk8_apply m c p ⟨3, by decide⟩ r e)
  · intro e d
    exact (rdH c _ _ _ _ 3 _ e d (by decide)).trans (iblk1_apply m c p ⟨3, by decide⟩ e d)
  · intro e
    exact (rd2' _ _ _ 3 0 1 128 _ 0 e ⟨3, by decide⟩ e rfl (by omega)).trans (iblk14_apply m c p ⟨3, by decide⟩ e)

theorem st_at_0 (c : Dev nD) (p : Fin cfg0.N) (e d : Fin 128) :
    (outsAt0 m c p).2.1 (ix4 0 ⟨0, by decide⟩ e d) = sHead (aP (m ((c : Thread nD τ).loc main_arg0))) ⟨0, by decide⟩ e d := by
  unfold outsAt0
  dsimp only
  refine (out17_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  apply st_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 512 16 128 _ r e r ⟨512 + e.val, by omega⟩ (by omega) rfl).trans (iblk0_apply m c p r _)
  · intro r e
    exact (rd2' _ _ _ 0 1024 16 128 _ r e r ⟨1024 + e.val, by omega⟩ (by omega) rfl).trans (iblk0_apply m c p r _)
  · intro r e
    exact (rd3' _ _ _ 0 1 _ 0 r e ⟨0, by decide⟩ rfl).trans (iblk9_apply m c p ⟨0, by decide⟩ r e)
  · intro e d
    exact (rdH c _ _ _ _ 0 _ e d (by decide)).trans (iblk1_apply m c p ⟨0, by decide⟩ e d)
  · intro e
    exact (rd3' _ _ _ 0 1 _ 0 0 e ⟨0, by decide⟩ rfl).trans (iblk10_apply m c p ⟨0, by decide⟩ e)

theorem st_at_1 (c : Dev nD) (p : Fin cfg0.N) (e d : Fin 128) :
    (outsAt0 m c p).2.1 (ix4 0 ⟨1, by decide⟩ e d) = sHead (aP (m ((c : Thread nD τ).loc main_arg0))) ⟨1, by decide⟩ e d := by
  unfold outsAt0
  dsimp only
  refine (out17_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  apply st_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 640 16 128 _ r e r ⟨640 + e.val, by omega⟩ (by omega) rfl).trans (iblk0_apply m c p r _)
  · intro r e
    exact (rd2' _ _ _ 0 1152 16 128 _ r e r ⟨1152 + e.val, by omega⟩ (by omega) rfl).trans (iblk0_apply m c p r _)
  · intro r e
    exact (rd3' _ _ _ 1 1 _ 0 r e ⟨1, by decide⟩ rfl).trans (iblk9_apply m c p ⟨1, by decide⟩ r e)
  · intro e d
    exact (rdH c _ _ _ _ 1 _ e d (by decide)).trans (iblk1_apply m c p ⟨1, by decide⟩ e d)
  · intro e
    exact (rd3' _ _ _ 1 1 _ 0 0 e ⟨1, by decide⟩ rfl).trans (iblk10_apply m c p ⟨1, by decide⟩ e)

theorem st_at_2 (c : Dev nD) (p : Fin cfg0.N) (e d : Fin 128) :
    (outsAt0 m c p).2.1 (ix4 0 ⟨2, by decide⟩ e d) = sHead (aP (m ((c : Thread nD τ).loc main_arg0))) ⟨2, by decide⟩ e d := by
  unfold outsAt0
  dsimp only
  refine (out17_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  apply st_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 768 16 128 _ r e r ⟨768 + e.val, by omega⟩ (by omega) rfl).trans (iblk0_apply m c p r _)
  · intro r e
    exact (rd2' _ _ _ 0 1280 16 128 _ r e r ⟨1280 + e.val, by omega⟩ (by omega) rfl).trans (iblk0_apply m c p r _)
  · intro r e
    exact (rd3' _ _ _ 2 1 _ 0 r e ⟨2, by decide⟩ rfl).trans (iblk9_apply m c p ⟨2, by decide⟩ r e)
  · intro e d
    exact (rdH c _ _ _ _ 2 _ e d (by decide)).trans (iblk1_apply m c p ⟨2, by decide⟩ e d)
  · intro e
    exact (rd3' _ _ _ 2 1 _ 0 0 e ⟨2, by decide⟩ rfl).trans (iblk10_apply m c p ⟨2, by decide⟩ e)

theorem st_at_3 (c : Dev nD) (p : Fin cfg0.N) (e d : Fin 128) :
    (outsAt0 m c p).2.1 (ix4 0 ⟨3, by decide⟩ e d) = sHead (aP (m ((c : Thread nD τ).loc main_arg0))) ⟨3, by decide⟩ e d := by
  unfold outsAt0
  dsimp only
  refine (out17_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  apply st_row
  · intro r e
    exact (rd2' _ _ _ 0 0 16 128 _ r e r e (by omega) (by omega)).trans (X04_apply m c p r e)
  · intro r e
    exact (rd2' _ _ _ 0 0 16 128 _ r e r e (by omega) (by omega)).trans (X05_apply m c p r e)
  · intro r e
    exact (rd2' _ _ _ 0 896 16 128 _ r e r ⟨896 + e.val, by omega⟩ (by omega) rfl).trans (iblk0_apply m c p r _)
  · intro r e
    exact (rd2' _ _ _ 0 1408 16 128 _ r e r ⟨1408 + e.val, by omega⟩ (by omega) rfl).trans (iblk0_apply m c p r _)
  · intro r e
    exact (rd3' _ _ _ 3 1 _ 0 r e ⟨3, by decide⟩ rfl).trans (iblk9_apply m c p ⟨3, by decide⟩ r e)
  · intro e d
    exact (rdH c _ _ _ _ 3 _ e d (by decide)).trans (iblk1_apply m c p ⟨3, by decide⟩ e d)
  · intro e
    exact (rd3' _ _ _ 3 1 _ 0 0 e ⟨3, by decide⟩ rfl).trans (iblk10_apply m c p ⟨3, by decide⟩ e)

theorem cq_at (c : Dev nD) (p : Fin cfg0.N) (a : Fin 3) (b : Fin 1536) :
    (outsAt0 m c p).2.2.2 (ix3 0 a b) = aP (m ((c : Thread nD τ).loc main_arg0)) ⟨13 + a.val, by omega⟩ ⟨2048 + b.val, by omega⟩ := by
  unfold outsAt0
  dsimp only
  exact (out19_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ a b).trans (iblk0_apply m c p _ _)

end Cert.Kernel3Ideal.Hand
-- ==== Proof.RetFinal.lean ====
/-
The result arrays of the third program: the retention heads' rows of the meta tokens.
-/
module

public import proofs.«01_k».proof.Proof.RetPoint

@[expose] public section

set_option maxRecDepth 16384

noncomputable section

namespace Cert.Kernel3Ideal.Hand

open Cert.Kernel3Ideal Cert.Kernel3Ideal.Gen Cert.RetMath Cert.Reference3Ideal.Rows
open Idealize.ShloMosaic Idealize.ShloMosaic.TcCoe Idealize.SL.Sem
open Idealize.ShloMosaic.Pipeline (Dat Cfg Window)

variable (m : (ℓ : Loc nD τ sig) → Buf (Elt Ideal) ℓ)

/-- The one point. -/
def pt0 : Fin cfg0.N := ⟨0, by show 0 < grid0.N; rw [N_0]; decide⟩

theorem eq_pt0 (t : Fin cfg0.N) : t = pt0 := Fin.ext (by have h : t.val < 1 := lt_of_lt_of_eq t.isLt N_0; show t.val = 0; omega)

/-! ## The region's arrays -/

theorem final16 (c : Dev nD) : (dats m 0 c).arrAt 16 cfg0.N = (outsAt0 m c pt0).1 := by
  refine (dats m 0 c).arrAt_eq_of_covers 16 _ (by decide +kernel) fun t hf y => ?_
  have h0 := (idx_tab t).2.2.2.2.2.2.2.2.2.2.2.2.2.2.2.2.2.2.2.2.2.2.2.2.1
  have h1 := (idx_tab t).2.2.2.2.2.2.2.2.2.2.2.2.2.2.2.2.2.2.2.2.2.2.2.2.2.1
  have h2 := (idx_tab t).2.2.2.2.2.2.2.2.2.2.2.2.2.2.2.2.2.2.2.2.2.2.2.2.2.2.1
  rw [after0_16, eq_pt0 t]
  rw [eq_pt0 t] at h0 h1 h2
  refine congrArg (outsAt0 m c pt0).1 (funext fun a => Fin.ext ?_)
  match a with
  | ⟨0, _⟩ => blk_simp [h0, h1, h2]
  | ⟨1, _⟩ => blk_simp [h0, h1, h2]
  | ⟨2, _⟩ => blk_simp [h0, h1, h2]

theorem final17 (c : Dev nD) : (dats m 0 c).arrAt 17 cfg0.N = (outsAt0 m c pt0).2.1 := by
  refine (dats m 0 c).arrAt_eq_of_covers 17 _ (by decide +kernel) fun t hf y => ?_
  have h0 := (idx_tab t).2.2.2.2.2.2.2.2.2.2.2.2.2.2.2.2.2.2.2.2.2.2.2.2.2.2.2.1
  have h1 := (idx_tab t).2.2.2.2.2.2.2.2.2.2.2.2.2.2.2.2.2.2.2.2.2.2.2.2.2.2.2.2.1
  have h2 := (idx_tab t).2.2.2.2.2.2.2.2.2.2.2.2.2.2.2.2.2.2.2.2.2.2.2.2.2.2.2.2.2.1
  have h3 := (idx_tab t).2.2.2.2.2.2.2.2.2.2.2.2.2.2.2.2.2.2.2.2.2.2.2.2.2.2.2.2.2.2.1
  rw [after0_17, eq_pt0 t]
  rw [eq_pt0 t] at h0 h1 h2 h3
  refine congrArg (outsAt0 m c pt0).2.1 (funext fun a => Fin.ext ?_)
  match a with
  | ⟨0, _⟩ => blk_simp [h0, h1, h2, h3]
  | ⟨1, _⟩ => blk_simp [h0, h1, h2, h3]
  | ⟨2, _⟩ => blk_simp [h0, h1, h2, h3]
  | ⟨3, _⟩ => blk_simp [h0, h1, h2, h3]

theorem final19 (c : Dev nD) : (dats m 0 c).arrAt 19 cfg0.N = (outsAt0 m c pt0).2.2.2 := by
  refine (dats m 0 c).arrAt_eq_of_covers 19 _ (by decide +kernel) fun t hf y => ?_
  have h0 := (idx_tab t).2.2.2.2.2.2.2.2.2.2.2.2.2.2.2.2.2.2.2.2.2.2.2.2.2.2.2.2.2.2.2.1
  have h1 := (idx_tab t).2.2.2.2.2.2.2.2.2.2.2.2.2.2.2.2.2.2.2.2.2.2.2.2.2.2.2.2.2.2.2.2.1
  have h2 := (idx_tab t).2.2.2.2.2.2.2.2.2.2.2.2.2.2.2.2.2.2.2.2.2.2.2.2.2.2.2.2.2.2.2.2.2
  rw [after0_19, eq_pt0 t]
  rw [eq_pt0 t] at h0 h1 h2
  refine congrArg (outsAt0 m c pt0).2.2.2 (funext fun a => Fin.ext ?_)
  match a with
  | ⟨0, _⟩ => blk_simp [h0, h1, h2]
  | ⟨1, _⟩ => blk_simp [h0, h1, h2]
  | ⟨2, _⟩ => blk_simp [h0, h1, h2]

/-! ## The results -/

/-- The mix's columns, as the reference states them. -/
def G101 (c : Dev nD) : Vec Ideal S1x16x512 .bf16 :=
  Cert.Reference3Ideal.Read.val_main_v160 (F := Ideal) (m ((c : Thread nD τ).loc main_arg0)) (m ((c : Thread nD τ).loc main_arg4))

/-- The state, as the reference states it. -/
def G1001 (c : Dev nD) : Vec Ideal S1x4x128x128 .f32 :=
  Cert.Reference3Ideal.Read.val_main_v132 (F := Ideal) (m ((c : Thread nD τ).loc main_arg0))

/-- The convolution's last rows, as the reference states them. -/
def G1003 (c : Dev nD) : Vec Ideal S1x3x1536 .f32 :=
  Cert.Reference3Ideal.Read.val_main_v161 (F := Ideal) (m ((c : Thread nD τ).loc main_arg0))

theorem cut_apply (x : Vec Ideal S1x16x1024 .bf16) (t : Fin 16) (k : Fin 512) :
    extractStridedSlice S1x16x512 ![0, 0, 0] x slices_S1x16x1024_S1x16x512_0_0_0 (ix3 0 t k) = x (ix3 0 t ⟨k.val, by omega⟩) := by
  pointwise []

theorem mix_all (c : Dev nD) (t : Fin 16) (h : Fin 4) (d : Fin 128) :
    (outsAt0 m c pt0).1 (ix3 0 t (⟨128 * h.val + d.val, by omega⟩ : Fin 1024)) = yHead (aP (m ((c : Thread nD τ).loc main_arg0))) (aW (m ((c : Thread nD τ).loc main_arg4))) h t d := by
  match h with
  | ⟨0, _⟩ => exact mix_at_0 m c pt0 t d
  | ⟨1, _⟩ => exact mix_at_1 m c pt0 t d
  | ⟨2, _⟩ => exact mix_at_2 m c pt0 t d
  | ⟨3, _⟩ => exact mix_at_3 m c pt0 t d

theorem st_all (c : Dev nD) (h : Fin 4) (e d : Fin 128) :
    (outsAt0 m c pt0).2.1 (ix4 0 h e d) = sHead (aP (m ((c : Thread nD τ).loc main_arg0))) h e d := by
  match h with
  | ⟨0, _⟩ => exact st_at_0 m c pt0 e d
  | ⟨1, _⟩ => exact st_at_1 m c pt0 e d
  | ⟨2, _⟩ => exact st_at_2 m c pt0 e d
  | ⟨3, _⟩ => exact st_at_3 m c pt0 e d

theorem split512 (k : Fin 512) : ∃ (h : Fin 4) (d : Fin 128), k = ⟨128 * h.val + d.val, by omega⟩ :=
  ⟨⟨k.val / 128, by omega⟩, ⟨k.val % 128, by omega⟩, Fin.ext (by show k.val = 128 * (k.val / 128) + k.val % 128; omega)⟩

theorem mix_eq (c : Dev nD) : extractStridedSlice S1x16x512 ![0, 0, 0] (outsAt0 m c pt0).1 slices_S1x16x1024_S1x16x512_0_0_0 = G101 m c := by
  funext j
  have ej : j = ix3 0 (j 1) (j 2) := by funext a; match a with | ⟨0, _⟩ => exact Subsingleton.elim (α := Fin 1) _ _ | ⟨1, _⟩ => rfl | ⟨2, _⟩ => rfl
  rw [ej]
  generalize ht : (j 1 : Fin 16) = t
  obtain ⟨h, d, hk⟩ := split512 (j 2)
  rw [hk]
  refine (cut_apply _ t ⟨128 * h.val + d.val, by omega⟩).trans ?_
  exact (mix_all m c t h d).trans (v160_row _ _ h t d).symm

theorem st_eq (c : Dev nD) : (outsAt0 m c pt0).2.1 = G1001 m c := by
  funext j
  have ej : j = ix4 0 (j 1) (j 2) (j 3) := by funext a; match a with | ⟨0, _⟩ => exact Subsingleton.elim (α := Fin 1) _ _ | ⟨1, _⟩ => rfl | ⟨2, _⟩ => rfl | ⟨3, _⟩ => rfl
  rw [ej]
  exact (st_all m c (j 1) (j 2) (j 3)).trans (v132_row _ (j 1) (j 2) (j 3)).symm

theorem cq_eq (c : Dev nD) : (outsAt0 m c pt0).2.2.2 = G1003 m c := by
  funext j
  have ej : j = ix3 0 (j 1) (j 2) := by funext a; match a with | ⟨0, _⟩ => exact Subsingleton.elim (α := Fin 1) _ _ | ⟨1, _⟩ => rfl | ⟨2, _⟩ => rfl
  rw [ej]
  exact (cq_at m c pt0 (j 1) (j 2)).trans (v161_row _ (j 1) (j 2)).symm

theorem tail101 (c : Dev nD) : Pipeline.afterTail₀ cfgs (dats m) 0 (V0 m) [hostOps1] c main_v101 = G101 m c := by
  refine Eq.trans ?_ (mix_eq m c)
  rw [← final16 m c]
  unfold Pipeline.afterTail₀
  after_results
  exact congrArg (fun x => extractStridedSlice S1x16x512 ![0, 0, 0] x slices_S1x16x1024_S1x16x512_0_0_0)
    (Pipeline.withArrays_arr_shared spec0 c (V0 m c) (fun w => (dats m 0 c).arrAt w cfg0.N) ((dats m 0 c).arrAt_sharedIn launch₀0.sharedIn (V0 m c) (A_eq m c) cfg0.N) 16)

end Cert.Kernel3Ideal.Hand
-- ==== Proof.RetClaim.lean ====
/-
The claim about the third program's results: they are the reference's.
-/
module

public import proofs.«01_k».proof.Defs
public import proofs.«01_k».proof.Proof.RetFinal
public import Idealize.ShloMosaic.Adequacy

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem Idealize.ShloMosaic.StableHlo

/-- The run with the results named. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v101) = G101 m c ∧ r.2.mem ((c : Thread nD τ).loc main_v100_1) = G1001 m c
      ∧ r.2.mem ((c : Thread nD τ).loc main_v100_3) = G1003 m c) :=
  (θ_run defs _ _).mono (fun r h c => ⟨((h c).2 main_v101 (Pipeline.mem_restRefs_of main_v101 (by decide) (by decide))).trans (tail101 m c),
    ((h c).1 17).trans ((final17 m c).trans (st_eq m c)), ((h c).1 19).trans ((final19 m c).trans (cq_eq m c))⟩) (run_main m ρ)

theorem algebraic : Cert.algebraic_Kernel3Ideal_Reference3Ideal (hKernel3Ideal := Gen.facts) (hReference3Ideal := Cert.Reference3Ideal.Gen.facts) := by
  intro m g m' g' _ hag
  refine ⟨G101 m, G1001 m, G1003 m, ?_, ?_⟩
  · exact (θ_run defs _ _).mono (fun r h c => ⟨(h.1 c).1, (h.1 c).2.1, (h.1 c).2.2, h.2 c⟩) (θ_run_and (run_values m g) (unchanged m g))
  · refine (θ_run Cert.Reference3Ideal.defs _ _).mono (fun r h c => ⟨(h c).1.trans ?_, (h c).2.1.trans ?_, (h c).2.2.1.trans ?_, (h c).2.2.2⟩) (Cert.Reference3Ideal.Value.run m' g')
    · refine (Cert.Reference3Ideal.Read.val_main_v160_eq _).trans ?_
      show Cert.Reference3Ideal.Read.val_main_v160 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg4)) = _
      obtain ⟨a0, a1, a2, a3, a4, a5⟩ := hag c
      rw [a0, a4]
      rfl
    · refine (Cert.Reference3Ideal.Read.val_main_v132_eq _).trans ?_
      show Cert.Reference3Ideal.Read.val_main_v132 (F := Ideal) (m' ((c.tc : Thread Cert.Reference3Ideal.nD Cert.Reference3Ideal.τ).loc Cert.Reference3Ideal.main_arg0)) = _
      obtain ⟨a0, a1, a2, a3, a4, a5⟩ := hag c
      rw [a0]
      rfl
    · refine (Cert.Reference3Ideal.Read.val_main_v161_eq _).trans ?_
      show Cert.Reference3Ideal.Read.val_main_v161 (F := Ideal) (m' ((c.tc : Thread Cert.Reference3Ideal.nD Cert.Reference3Ideal.τ).loc Cert.Reference3Ideal.main_arg0)) = _
      obtain ⟨a0, a1, a2, a3, a4, a5⟩ := hag c
      rw [a0]
      rfl

end Cert.Kernel3Ideal.Hand
-- ==== Proof.GdnMath.lean ====
/-
Gated DeltaNet of one head over a chunk of sixteen steps, on extended reals: the block inverse of a unit lower triangular
matrix and the substitution row after row leave the same values where the matrix and the right side are real.
-/
module

public import Idealize.ShloMosaic.Lib.Pointwise
public import Mathlib.LinearAlgebra.Matrix.Notation
public import Mathlib.Tactic.NoncommRing

@[expose] public section

noncomputable section

namespace Cert.GdnMath

open Idealize.ShloMosaic

/-- A row. -/
abbrev Row (n : ℕ) := Fin n → EReal

/-- A square of one chunk. -/
abbrev Sq := Fin 16 → Fin 16 → EReal

/-- A value is real. -/
def Re (x : EReal) : Prop := ∃ r : ℝ, x = (r : EReal)

/-! ## The kernel's inverse and the reference's substitution -/

def mm (a b : Sq) : Sq := fun i j => ∑ k, a i k * b k j
def eye : Sq := fun i j => if i = j then 1 else 0
def blkD (a : Sq) : Sq := fun i j => if i.val / 8 = j.val / 8 then a i j else 0
def blkO (a : Sq) : Sq := fun i j => if i.val / 8 = j.val / 8 then 0 else a i j

/-- The inverse within the blocks of eight. -/
def inv8 (d : Sq) : Sq := fun i j =>
  ((eye i j - d i j) + mm (fun i j => eye i j - d i j) (mm d d) i j)
    + mm (fun i j => (eye i j - d i j) + mm (fun i j => eye i j - d i j) (mm d d) i j) (mm (mm d d) (mm d d)) i j

/-- The inverse across the blocks. -/
def inv16 (a : Sq) : Sq := fun i j =>
  inv8 (blkD a) i j - mm (inv8 (blkD a)) (mm (blkO a) (inv8 (blkD a))) i j

/-- What the inverse makes of a right side. -/
def solK {n : ℕ} (a : Sq) (r : Fin 16 → Row n) (t : Fin 16) : Row n := fun d => r t d + ∑ s, (inv16 a t s - eye t s) * r s d

/-- One step of the substitution. -/
def subStep {n : ℕ} (a : Sq) (r : Fin 16 → Row n) (i : ℕ) (x : Fin 16 → Row n) (t : Fin 16) : Row n := fun d =>
  if t.val = i then r t d - ∑ s, a t s * x s d else x t d

/-- The substitution after some steps. -/
def subs {n : ℕ} (a : Sq) (r : Fin 16 → Row n) : ℕ → Fin 16 → Row n
  | 0 => r
  | i + 1 => subStep a r (i + 1) (subs a r i)

/-! ## Over the reals -/

abbrev Mat := Matrix (Fin 16) (Fin 16) ℝ

/-- Nonzero only within a block and from `k` below the diagonal on. -/
def Below (k : ℕ) (M : Mat) : Prop := ∀ i j, M i j ≠ 0 → i.val / 8 = j.val / 8 ∧ j.val + k ≤ i.val

theorem Below.mul {k l : ℕ} {M N : Mat} (hM : Below k M) (hN : Below l N) : Below (k + l) (M * N) := by
  intro i j h
  rw [Matrix.mul_apply] at h
  obtain ⟨c, _, hc⟩ := Finset.exists_ne_zero_of_sum_ne_zero h
  have h1 := hM i c (left_ne_zero_of_mul hc)
  have h2 := hN c j (right_ne_zero_of_mul hc)
  omega

theorem Below.zero {M : Mat} (hM : Below 8 M) : M = 0 := by
  ext i j
  by_contra h
  have := hM i j h
  have := i.isLt
  omega

theorem Below.add {M N : Mat} (hM : Below 0 M) (hN : Below 0 N) : Below 0 (M + N) := by
  intro i j h
  by_cases h1 : M i j = 0
  · exact hN i j (fun h2 => h (by rw [Matrix.add_apply, h1, h2, add_zero]))
  · exact hM i j h1

theorem Below.sub {M N : Mat} (hM : Below 0 M) (hN : Below 0 N) : Below 0 (M - N) := by
  intro i j h
  by_cases h1 : M i j = 0
  · exact hN i j (fun h2 => h (by rw [Matrix.sub_apply, h1, h2, sub_zero]))
  · exact hM i j h1

theorem Below.mono {k : ℕ} {M : Mat} (hM : Below k M) : Below 0 M := fun i j h => ⟨(hM i j h).1, by have := (hM i j h).2; omega⟩

theorem Below.one : Below 0 (1 : Mat) := by
  intro i j h
  by_cases hij : i = j
  · subst hij; exact ⟨rfl, le_refl _⟩
  · exact absurd (Matrix.one_apply_ne hij) h

def T8 (d : Mat) : Mat := ((1 - d) + (1 - d) * (d * d)) + ((1 - d) + (1 - d) * (d * d)) * ((d * d) * (d * d))
def T16 (d o : Mat) : Mat := T8 d - T8 d * (o * T8 d)

theorem T8_mul (d : Mat) (hd : Below 1 d) : (1 + d) * T8 d = 1 := by
  have h2 := hd.mul hd
  have h4 := h2.mul h2
  have h8 : (d * d) * (d * d) * ((d * d) * (d * d)) = 0 := (h4.mul h4).zero
  have e : (1 + d) * T8 d = 1 - (d * d) * (d * d) * ((d * d) * (d * d)) := by
    unfold T8
    noncomm_ring
  rw [e, h8, sub_zero]

theorem T8_below (d : Mat) (hd : Below 1 d) : Below 0 (T8 d) := by
  have h0 := hd.mono
  have h1 : Below 0 (1 - d) := Below.one.sub h0
  have h2 : Below 0 (d * d) := h0.mul h0
  have h3 : Below 0 ((1 - d) + (1 - d) * (d * d)) := h1.add (h1.mul h2)
  exact h3.add (h3.mul (h2.mul h2))

theorem T16_mul (d o : Mat) (hd : Below 1 d) (ho : ∀ i j, o i j ≠ 0 → j.val / 8 < i.val / 8) : (1 + d + o) * T16 d o = 1 := by
  have h1 := T8_mul d hd
  have h0 : o * T8 d * o = 0 := by
    ext i j
    by_contra h
    rw [Matrix.mul_apply] at h
    obtain ⟨c, _, hc⟩ := Finset.exists_ne_zero_of_sum_ne_zero h
    have hr := ho c j (right_ne_zero_of_mul hc)
    have hl := left_ne_zero_of_mul hc
    rw [Matrix.mul_apply] at hl
    obtain ⟨b, _, hb⟩ := Finset.exists_ne_zero_of_sum_ne_zero hl
    have h2 := ho i b (left_ne_zero_of_mul hb)
    have h3 := (T8_below d hd b c (right_ne_zero_of_mul hb)).1
    have := i.isLt
    omega
  have e : (1 + d + o) * T16 d o = (1 + d) * T8 d + o * T8 d - ((1 + d) * T8 d) * (o * T8 d) - (o * T8 d * o) * T8 d := by
    unfold T16
    noncomm_ring
  rw [e, h1, h0]
  noncomm_ring

/-! ## From the extended reals -/

theorem coe_sum {n : ℕ} (f : Fin n → ℝ) : (∑ k, ((f k : ℝ) : EReal)) = ((∑ k, f k : ℝ) : EReal) := by
  classical
  have h : ∀ s : Finset (Fin n), (∑ k ∈ s, ((f k : ℝ) : EReal)) = ((∑ k ∈ s, f k : ℝ) : EReal) := by
    intro s
    induction s using Finset.induction with
    | empty => simp
    | insert a s ha ih => rw [Finset.sum_insert ha, Finset.sum_insert ha, ih, EReal.coe_add]
  exact h Finset.univ

def cm (M : Mat) : Sq := fun i j => ((M i j : ℝ) : EReal)

theorem mm_cm (M N : Mat) : mm (cm M) (cm N) = cm (M * N) := by
  funext i j
  unfold mm cm
  rw [Matrix.mul_apply, ← coe_sum]
  exact Finset.sum_congr rfl fun k _ => (EReal.coe_mul _ _).symm

theorem eye_cm : eye = cm 1 := by
  funext i j
  unfold eye cm
  rw [Matrix.one_apply]
  split_ifs <;> simp

theorem sub_cm (M N : Mat) : (fun i j => cm M i j - cm N i j) = cm (M - N) := by
  funext i j
  exact (EReal.coe_sub _ _).symm

theorem add_cm (M N : Mat) : (fun i j => cm M i j + cm N i j) = cm (M + N) := by
  funext i j
  exact (EReal.coe_add _ _).symm

theorem inv8_cm (d : Mat) : inv8 (cm d) = cm (T8 d) := by
  unfold inv8 T8
  rw [eye_cm]
  simp only [sub_cm, mm_cm, add_cm]
  have e : (fun i j => cm (1 - d) i j + cm ((1 - d) * (d * d)) i j) = cm ((1 - d) + (1 - d) * (d * d)) := add_cm _ _
  funext i j
  have e1 : ∀ i j, cm 1 i j - cm d i j = cm (1 - d) i j := fun i j => congrFun (congrFun (sub_cm _ _) i) j
  have e2 : ∀ i j, cm (1 - d) i j + cm ((1 - d) * (d * d)) i j = cm ((1 - d) + (1 - d) * (d * d)) i j := fun i j => congrFun (congrFun e i) j
  simp only [e1, e2]
  have e3 : (fun i j => cm ((1 - d) + (1 - d) * (d * d)) i j) = cm ((1 - d) + (1 - d) * (d * d)) := rfl
  try rw [e3]
  try rw [mm_cm]
  exact congrFun (congrFun (add_cm _ _) i) j

theorem inv16_cm (a : Mat) (d o : Mat) (hd : blkD (cm a) = cm d) (ho : blkO (cm a) = cm o) : inv16 (cm a) = cm (T16 d o) := by
  unfold inv16 T16
  rw [hd, ho, inv8_cm, mm_cm, mm_cm]
  exact sub_cm _ _

/-- The substitution's rows are those of any solution. -/
theorem subs_eq {n : ℕ} (a : Sq) (r y : Fin 16 → Row n) (ha : ∀ t s : Fin 16, ¬ s < t → a t s = 0)
    (hy : ∀ t d, y t d = r t d - ∑ s, a t s * y s d) : ∀ i : ℕ, ∀ t : Fin 16, t.val ≤ i → subs a r i t = y t := by
  intro i
  induction i with
  | zero =>
    intro t ht
    funext d
    rw [hy t d, Finset.sum_eq_zero (fun s _ => by rw [ha t s (by rw [Fin.lt_def]; omega), zero_mul]), sub_zero]
    rfl
  | succ i ih =>
    intro t ht
    funext d
    show (if t.val = i + 1 then r t d - ∑ s, a t s * subs a r i s d else subs a r i t d) = _
    split_ifs with h
    · rw [hy t d]
      congr 1
      refine Finset.sum_congr rfl fun s _ => ?_
      by_cases hs : s < t
      · rw [ih s (by rw [Fin.lt_def] at hs; omega)]
      · rw [ha t s hs, zero_mul, zero_mul]
    · rw [ih t (by omega)]

theorem sol_eq {n : ℕ} (a : Sq) (r : Fin 16 → Row n) (ha : ∀ t s : Fin 16, ¬ s < t → a t s = 0)
    (hre : ∀ t s, Re (a t s)) (hr : ∀ t d, Re (r t d)) : subs a r 15 = solK a r := by
  choose A hA using hre
  choose R hR using hr
  have ea : a = cm (Matrix.of A) := by funext t s; exact hA t s
  have er : r = fun t d => ((R t d : ℝ) : EReal) := by funext t d; exact hR t d
  have hz : ∀ t s : Fin 16, ¬ s < t → A t s = 0 := by
    intro t s h
    have := ha t s h
    rw [hA t s] at this
    exact_mod_cast this
  let D : Mat := Matrix.of fun i j => if i.val / 8 = j.val / 8 then A i j else 0
  let O : Mat := Matrix.of fun i j => if i.val / 8 = j.val / 8 then 0 else A i j
  have hD : blkD (cm (Matrix.of A)) = cm D := by
    funext i j
    show (if i.val / 8 = j.val / 8 then ((A i j : ℝ) : EReal) else 0) = (((if i.val / 8 = j.val / 8 then A i j else 0 : ℝ)) : EReal)
    split_ifs <;> rfl
  have hO : blkO (cm (Matrix.of A)) = cm O := by
    funext i j
    show (if i.val / 8 = j.val / 8 then 0 else ((A i j : ℝ) : EReal)) = (((if i.val / 8 = j.val / 8 then 0 else A i j : ℝ)) : EReal)
    split_ifs <;> rfl
  have hDb : Below 1 D := by
    intro i j h
    have h' : (if i.val / 8 = j.val / 8 then A i j else 0) ≠ 0 := h
    split_ifs at h' with hb
    · by_contra hc
      exact h' (hz i j (by rw [Fin.lt_def]; intro hlt; exact hc ⟨hb, by omega⟩))
    · exact absurd rfl h'
  have hOb : ∀ i j, O i j ≠ 0 → j.val / 8 < i.val / 8 := by
    intro i j h
    have h' : (if i.val / 8 = j.val / 8 then 0 else A i j) ≠ 0 := h
    split_ifs at h' with hb
    · exact absurd rfl h'
    · by_contra hc
      exact h' (hz i j (by rw [Fin.lt_def]; intro hlt; apply hc; omega))
  have hsum : (1 + D + O : Mat) = 1 + Matrix.of A := by
    ext i j
    show (1 : Mat) i j + (if i.val / 8 = j.val / 8 then A i j else 0) + (if i.val / 8 = j.val / 8 then 0 else A i j) = (1 : Mat) i j + A i j
    split_ifs <;> ring
  have hT := T16_mul D O hDb hOb
  rw [hsum] at hT
  have hinv : inv16 (cm (Matrix.of A)) = cm (T16 D O) := inv16_cm _ D O hD hO
  let T : Mat := T16 D O
  let Y : Matrix (Fin 16) (Fin n) ℝ := T * Matrix.of R
  have hY : (1 + Matrix.of A) * Y = Matrix.of R := by
    show (1 + Matrix.of A) * (T16 D O * Matrix.of R) = _
    rw [← Matrix.mul_assoc, hT, Matrix.one_mul]
  have ey : ∀ t d, solK a r t d = ((Y t d : ℝ) : EReal) := by
    intro t d
    unfold solK
    rw [ea, hinv, eye_cm, er]
    have : ∀ s : Fin 16, (cm (T16 D O) t s - cm 1 t s) * ((R s d : ℝ) : EReal) = (((T t s - (1 : Mat) t s) * R s d : ℝ) : EReal) := by
      intro s
      rw [EReal.coe_mul, EReal.coe_sub]
      rfl
    simp only [this]
    rw [coe_sum, ← EReal.coe_add]
    congr 1
    show R t d + ∑ s, (T t s - (1 : Mat) t s) * R s d = ∑ s, T t s * R s d
    simp only [sub_mul, Finset.sum_sub_distrib, Matrix.one_apply, ite_mul, one_mul, zero_mul, Finset.sum_ite_eq, Finset.mem_univ, if_true]
    ring
  have hy : ∀ t d, solK a r t d = r t d - ∑ s, a t s * solK a r s d := by
    intro t d
    have h1 : Y t d + ∑ s, A t s * Y s d = R t d := by
      have := congrFun (congrFun hY t) d
      rw [Matrix.add_mul, Matrix.one_mul, Matrix.add_apply, Matrix.mul_apply] at this
      exact this
    simp only [ey]
    rw [hR t d]
    have : ∀ s : Fin 16, a t s * ((Y s d : ℝ) : EReal) = ((A t s * Y s d : ℝ) : EReal) := by
      intro s
      rw [EReal.coe_mul, hA t s]
    simp only [this]
    rw [coe_sum, ← EReal.coe_sub]
    congr 1
    linarith
  funext t
  exact subs_eq a r (solK a r) ha hy 15 t (by omega)

end Cert.GdnMath
-- ==== Proof.GdnFun.lean ====
/-
Gated DeltaNet of one head over a chunk of sixteen steps: the rows, their norms, the decays, the outputs and the state.
-/
module

public import proofs.«01_k».proof.Proof.GdnMath

@[expose] public section

noncomputable section

namespace Cert.GdnMath

open Idealize.ShloMosaic

def eps : EReal := Ideal.ofBits FTy.f32 897988541#32
def scl : EReal := Ideal.ofBits FTy.f32 1035273459#32

/-- A value times its logistic. -/
def slu (y : EReal) : EReal := y * Ideal.logistic y

/-- Head `h`'s columns from `o` on. -/
def hd (C : Fin 16 → Row 1536) (o : ℕ) (ho : o ≤ 1024) (h : Fin 4) (t : Fin 16) : Row 128 := fun d => C t ⟨o + 128 * h.val + d.val, by omega⟩

/-- A row over its norm. -/
def nrm (x : Row 128) : Row 128 := fun d => x d * Ideal.rsqrt ((∑ e, x e * x e) + eps)

section
variable (C : Fin 16 → Row 1536) (h : Fin 4)
def qh (t : Fin 16) : Row 128 := fun d => nrm (hd C 0 (by decide) h t) d * scl
def kh (t : Fin 16) : Row 128 := nrm (hd C 512 (by decide) h t)
def vh (t : Fin 16) : Row 128 := hd C 1024 (by decide) h t
end

/-- The decay from step `s` to step `t`, from the decays' sums. -/
def dm (cu : Fin 16 → EReal) : Sq := fun t s => Ideal.exp (if s ≤ t then cu t - cu s else Ideal.ofBits FTy.f32 4286578688#32)

/-- The triangular matrix. -/
def aM (b : Fin 16 → EReal) (k : Fin 16 → Row 128) (cu : Fin 16 → EReal) : Sq := fun t s =>
  if s < t then b t * (∑ x, k t x * k s x) * dm cu t s else 0

/-- The right side. -/
def rM (v : Fin 16 → Row 128) (b : Fin 16 → EReal) (t : Fin 16) : Row 128 := fun d => v t d * b t

/-- The queries' weights. -/
def qM (q k : Fin 16 → Row 128) (cu : Fin 16 → EReal) : Sq := fun t s => if s ≤ t then (∑ x, q t x * k s x) * dm cu t s else 0

/-- The outputs from no state. -/
def oM (qk : Sq) (w : Fin 16 → Row 128) (t : Fin 16) : Row 128 := fun d => ∑ s, qk t s * w s d

/-- The state from no state. -/
def sM (k : Fin 16 → Row 128) (cu : Fin 16 → EReal) (w : Fin 16 → Row 128) (e : Fin 128) : Row 128 := fun d =>
  ∑ t, k t e * Ideal.exp (cu 15 - cu t) * w t d

/-- An output normalized, weighted and gated. -/
def yM (o wn g : Row 128) : Row 128 := fun d =>
  o d * Ideal.rsqrt (Ideal.div (∑ e, o e * o e) (Ideal.ofBits FTy.f32 1124073472#32) + eps) * wn d * slu (g d)

/-- The convolution's row before, zero before the first. -/
def pre (x : Fin 16 → Row 1536) (t : Fin 16) (n : ℕ) : Row 1536 := fun k => if n ≤ t.val then x ⟨t.val - n, by omega⟩ k else 0

/-- The convolution of four taps. -/
def cvM (x : Fin 16 → Row 1536) (w : Fin 4 → Row 1536) (t : Fin 16) : Row 1536 := fun k =>
  pre x t 3 k * w 0 k + pre x t 2 k * w 1 k + pre x t 1 k * w 2 k + x t k * w 3 k

/-- The decay of one step. -/
def gM (al dt : EReal) (a : Fin 16 → EReal) (t : Fin 16) : EReal :=
  -Ideal.exp al * (max (a t + dt) 0 + Ideal.log1p (Ideal.exp (-(FloatOps.absf (F := Ideal) (φ := FTy.f32) (a t + dt)))))

/-- The decays' sum up to a step. -/
def cuM (g : Fin 16 → EReal) (t : Fin 16) : EReal := ∑ s, if s ≤ t then g s else 0

section
variable (P : Fin 16 → Row 4224) (w : Fin 4 → Row 1536) (al dt : Fin 4 → EReal) (wn : Row 128)
  (sol : Sq → (Fin 16 → Row 128) → Fin 16 → Row 128) (h : Fin 4)

/-- The convolved and activated rows. -/
def cC : Fin 16 → Row 1536 := fun t k => slu (cvM (fun t k => P t ⟨2048 + k.val, by omega⟩) w t k)
/-- The write strengths. -/
def bC (t : Fin 16) : EReal := Ideal.logistic (P t ⟨4096 + h.val, by omega⟩)
/-- The decays. -/
def gC (t : Fin 16) : EReal := gM (al h) (dt h) (fun t => P t ⟨4100 + h.val, by omega⟩) t
/-- The decays' sums. -/
def uC : Fin 16 → EReal := cuM (gC P al dt h)
/-- What is written at each step, the triangular system solved by `sol`. -/
def wS : Fin 16 → Row 128 := sol (aM (bC P h) (kh (cC P w) h) (uC P al dt h)) (rM (vh (cC P w) h) (bC P h))
/-- The mix of a step. -/
def yS (t : Fin 16) : Row 128 := yM (oM (qM (qh (cC P w) h) (kh (cC P w) h) (uC P al dt h)) (wS P w al dt sol h) t) wn
  (fun d => P t ⟨3584 + 128 * h.val + d.val, by omega⟩)
/-- The state. -/
def sS (e : Fin 128) : Row 128 := sM (kh (cC P w) h) (uC P al dt h) (wS P w al dt sol h) e
end

end Cert.GdnMath
-- ==== Proof.GdnRow.lean ====
/-
The gated DeltaNet heads of the fourth program's body: what their operations leave, row by row.
-/
module

public import proofs.«01_k».proof.Proof.Gen.Kernel4Ideal.Frame
public import proofs.«01_k».proof.Proof.GdnFun
public import Idealize.ShloMosaic.Lib.Pointwise
public import Idealize.ShloMosaic.Lib.ValueIdxCore

@[expose] public section

set_option maxRecDepth 16384

noncomputable section

namespace Cert.Kernel4Ideal.Hand

open Cert.Kernel4Ideal Cert.Kernel4Ideal.Gen Cert.GdnMath
open Idealize.ShloMosaic Idealize.ShloMosaic.TcCoe

section
variable {F : FTy → Type} [FloatOps F]

/-- The chunk's rows and columns. -/
abbrev i0 : IVec S16x16 32 := iota .tc S16x16 32 [0] iota_S16x16_d0_w32
abbrev i1 : IVec S16x16 32 := iota .tc S16x16 32 [1] iota_S16x16_d1_w32

/-- The convolved rows. -/
def cvB (a b c d : Vec F S1x1536 .f32) (x : Vec F S16x1536 .f32) (p : Vec F S1x1x1536 .f32) (q r : Vec F S1x2x1536 .f32) : FVec F S16x1536 .f32 :=
  k0_pay69 (k0_pay61 a) (k0_pay62 b) (k0_pay63 c) (k0_pay64 d) x (k0_pay66 p) (k0_pay67 x) k0_pay68 q r

variable (B : FVec F S16x1536 .f32) (L : Vec F S16x16 .bf16) (x : Vec F S16x128 .f32) (dt al : Vec F S1x128 .f32) (S : Vec F S1x1x128x128 .f32)

def cuB : FVec F S16x128 .f32 := k0_pay75 L x dt al
def q0 := k0_pay92 (k0_pay78 B)
def k0 := k0_pay93 (k0_pay73 B)
def v0 := k0_pay91 (k0_pay73 B)
def b0 := k0_pay94 (k0_pay74 x)
def c0 := k0_pay95 (cuB L x dt al)
def q1 := k0_pay106 (k0_pay79 (k0_pay73 B)) (k0_pay85 (k0_pay73 B))
def k1 := k0_pay107 (k0_pay80 (k0_pay73 B)) (k0_pay86 (k0_pay73 B))
def v1 := k0_pay105 (k0_pay73 B)
def b1 := k0_pay108 (k0_pay74 x)
def c1 := k0_pay109 (cuB L x dt al)
def q2 := k0_pay120 (k0_pay81 (k0_pay73 B)) (k0_pay87 (k0_pay73 B))
def k2 := k0_pay121 (k0_pay82 (k0_pay73 B)) (k0_pay88 (k0_pay73 B))
def v2 := k0_pay119 (k0_pay73 B)
def b2 := k0_pay122 (k0_pay74 x)
def c2 := k0_pay123 (cuB L x dt al)
def q3 := k0_pay134 (k0_pay83 (k0_pay73 B)) (k0_pay89 (k0_pay73 B))
def k3 := k0_pay135 (k0_pay84 (k0_pay73 B)) (k0_pay90 (k0_pay73 B))
def v3 := k0_pay133 (k0_pay73 B)
def b3 := k0_pay136 (k0_pay74 x)
def c3 := k0_pay137 (cuB L x dt al)

def A0 := k0_pay100 k0_pay8 k0_pay9 (k0_pay77 L x dt al) (q0 B) (k0 B) (b0 x) (c0 L x dt al)
def Q0 := k0_pay101 k0_pay8 (k0_pay77 L x dt al) (q0 B) (k0 B) (c0 L x dt al)
def e0 := k0_pay102 (c0 L x dt al)
def d0 := k0_pay103 (k0_pay76 L x dt al) (c0 L x dt al)
def g0 := k0_pay104 (k0_pay76 L x dt al)
def A1 := k0_pay114 k0_pay8 k0_pay9 (q1 B) (k1 B) (b1 x) (k0_pay110 (cuB L x dt al) (k0_pay77 L x dt al))
def Q1 := k0_pay115 k0_pay8 (q1 B) (k1 B) (k0_pay110 (cuB L x dt al) (k0_pay77 L x dt al))
def e1 := k0_pay116 (c1 L x dt al)
def d1 := k0_pay117 (k0_pay76 L x dt al) (c1 L x dt al)
def g1 := k0_pay118 (k0_pay76 L x dt al)
def A2 := k0_pay128 k0_pay9 (q2 B) (k2 B) (b2 x) (k0_pay124 k0_pay8 (cuB L x dt al) (k0_pay77 L x dt al))
def Q2 := k0_pay129 k0_pay8 (q2 B) (k2 B) (k0_pay124 k0_pay8 (cuB L x dt al) (k0_pay77 L x dt al))
def e2 := k0_pay130 (c2 L x dt al)
def d2 := k0_pay131 (c2 L x dt al) (k0_pay125 (k0_pay76 L x dt al))
def g2 := k0_pay132 (k0_pay125 (k0_pay76 L x dt al))
def A3 := k0_pay143 k0_pay9 (b3 x) (k0_pay138 k0_pay8 (cuB L x dt al) (k0_pay77 L x dt al))
  (k0_pay140 (k0_pay83 (k0_pay73 B)) (k0_pay84 (k0_pay73 B)) (k0_pay89 (k0_pay73 B)) (k0_pay90 (k0_pay73 B))) (k0_pay141 (k0_pay84 (k0_pay73 B)) (k0_pay90 (k0_pay73 B)))
def Q3 := k0_pay144 k0_pay8 (k0_pay138 k0_pay8 (cuB L x dt al) (k0_pay77 L x dt al))
  (k0_pay140 (k0_pay83 (k0_pay73 B)) (k0_pay84 (k0_pay73 B)) (k0_pay89 (k0_pay73 B)) (k0_pay90 (k0_pay73 B))) (k0_pay141 (k0_pay84 (k0_pay73 B)) (k0_pay90 (k0_pay73 B)))
def e3 := k0_pay145 (c3 L x dt al)
def d3 := k0_pay146 (c3 L x dt al) (k0_pay139 (k0_pay76 L x dt al))
def g3 := k0_pay147 (k0_pay139 (k0_pay76 L x dt al))

/-- The levels of the blocks. -/
abbrev lv : IVec S16x16 1 := k0_pay172 i0 i1 16#32 (k0_pay170 i0) k0_pay171
abbrev r8 : IVec S16x16 32 := k0_pay174 i0 8#32 k0_pay173
abbrev l8 : IVec S16x16 32 := k0_pay175 i1

section
variable (A : FVec F S16x16 .f32)
def t0 := k0_pay166 (k0_pay157 A i1 k0_pay148 k0_pay149 8#32 k0_pay150 k0_pay151) (k0_pay161 A i1 k0_pay149 8#32 k0_pay150 k0_pay151)
  (k0_pay165 A i1 k0_pay148 k0_pay149 8#32 k0_pay150 k0_pay151)
def t1 := k0_pay167 (k0_pay158 A i1 k0_pay148 k0_pay149 8#32 k0_pay150 k0_pay151) (k0_pay162 A i1 k0_pay149 8#32 k0_pay150 k0_pay151)
def t2 := k0_pay168 (k0_pay159 A i1 k0_pay148 k0_pay149 8#32 k0_pay150 k0_pay151) (k0_pay163 A i1 k0_pay149 8#32 k0_pay150 k0_pay151)
def t3 := k0_pay169 (k0_pay160 A i1 k0_pay148 k0_pay149 8#32 k0_pay150 k0_pay151) (k0_pay164 A i1 k0_pay149 8#32 k0_pay150 k0_pay151)
def T0 := k0_pay182 i0 i1 A (t0 A) lv r8 l8
def T1 := k0_pay177 A (t1 A) lv r8 l8
def T2 := k0_pay178 A (t2 A) lv r8 l8
def T3 := k0_pay179 A (t3 A) lv r8 l8
end

def u0 := k0_pay184 (k0_pay181 (v0 B) (k0 B) (b0 x) (e0 L x dt al)) (T0 (A0 B L x dt al)) (k0_pay183 (v0 B) (k0 B) (b0 x) (e0 L x dt al))
def h0 := k0_pay192 (q0 B) (e0 L x dt al) (k0_pay181 (v0 B) (k0 B) (b0 x) (e0 L x dt al)) (T0 (A0 B L x dt al)) (k0_pay183 (v0 B) (k0 B) (b0 x) (e0 L x dt al))
def w0 := k0_pay197 (u0 B L x dt al) (k0_pay188 S) (h0 B L x dt al)
def o0 := k0_pay201 (Q0 B L x dt al) (u0 B L x dt al) (k0_pay188 S) (h0 B L x dt al)
def s0 := k0_pay207 (k0 B) (d0 L x dt al) (g0 L x dt al) (k0_pay188 S) (w0 B L x dt al S)
def u1 := k0_pay185 (v1 B) (k1 B) (b1 x) (e1 L x dt al) (T1 (A1 B L x dt al)) (k0_pay180 i0 i1)
def w1 := k0_pay198 (q1 B) (e1 L x dt al) (u1 B L x dt al) (k0_pay189 S)
def o1 := k0_pay202 (q1 B) (Q1 B L x dt al) (e1 L x dt al) (u1 B L x dt al) (k0_pay189 S)
def s1 := k0_pay208 (k1 B) (d1 L x dt al) (g1 L x dt al) (k0_pay189 S) (w1 B L x dt al S)
def u2 := k0_pay186 (v2 B) (k2 B) (b2 x) (e2 L x dt al) (T2 (A2 B L x dt al)) (k0_pay180 i0 i1)
def w2 := k0_pay199 (q2 B) (e2 L x dt al) (u2 B L x dt al) (k0_pay190 S)
def o2 := k0_pay203 (q2 B) (Q2 B L x dt al) (e2 L x dt al) (u2 B L x dt al) (k0_pay190 S)
def s2 := k0_pay209 (k2 B) (d2 L x dt al) (g2 L x dt al) (k0_pay190 S) (w2 B L x dt al S)
def u3 := k0_pay187 (v3 B) (k3 B) (b3 x) (e3 L x dt al) (T3 (A3 B L x dt al)) (k0_pay180 i0 i1)
def w3 := k0_pay200 (q3 B) (e3 L x dt al) (u3 B L x dt al) (k0_pay191 S)
def oa3 := k0_pay204 (q3 B) (e3 L x dt al) (u3 B L x dt al) (k0_pay191 S)
def ob3 := k0_pay205 (q3 B) (Q3 B L x dt al) (e3 L x dt al) (u3 B L x dt al) (k0_pay191 S)
def o3 := k0_pay206 (oa3 B L x dt al S) (ob3 B L x dt al S)
def s3 := k0_pay210 (k3 B) (d3 L x dt al) (g3 L x dt al) (k0_pay191 S) (w3 B L x dt al S)

variable (gt : Vec F S16x128 .f32) (wn : Vec F S1x128 .f32)
def y0 := k0_pay215 (o0 B L x dt al S) (k0_pay211 (o0 B L x dt al S)) gt wn
def y1 := k0_pay217 (o1 B L x dt al S) (k0_pay212 (o1 B L x dt al S)) gt wn
def y2 := k0_pay219 (o2 B L x dt al S) (k0_pay213 (o2 B L x dt al S)) gt wn
def y3 := k0_pay1 (k0_pay221 (o3 B L x dt al S) (k0_pay214 (oa3 B L x dt al S) (ob3 B L x dt al S)) gt wn)
def z0 := k0_pay216 (s0 B L x dt al S)
def z1 := k0_pay218 (s1 B L x dt al S)
def z2 := k0_pay220 (s2 B L x dt al S)
def z3 := k0_pay2 (s3 B L x dt al S)
end

/-! ## The masks -/

theorem sel_ite {α : Type} (p : Prop) [Decidable p] (a b : α) : Scalar.select (if p then 1#1 else 0#1) a b = if p then a else b := by
  split_ifs <;> rfl

theorem pay8_apply (t s : Fin 16) : k0_pay8 (ix2 t s) = if s ≤ t then 1#1 else 0#1 := by
  pointwise [k0_pay8]
  revert t s
  decide +kernel

theorem pay9_apply (t s : Fin 16) : k0_pay9 (ix2 t s) = if s < t then 1#1 else 0#1 := by
  pointwise [k0_pay9]
  revert t s
  decide +kernel

theorem pay152_apply (t s : Fin 16) : k0_pay152 i1 k0_pay149 8#32 k0_pay150 k0_pay151 (ix2 t s) = if t.val / 8 = s.val / 8 then 1#1 else 0#1 := by
  pointwise [k0_pay152, k0_pay149, k0_pay150, k0_pay151]
  revert t s
  decide +kernel

theorem pay176_apply (t s : Fin 16) : k0_pay176 lv r8 l8 (ix2 t s) = if ¬ t.val / 8 = s.val / 8 then 1#1 else 0#1 := by
  pointwise [k0_pay176, k0_pay172, k0_pay174, k0_pay170, k0_pay171, k0_pay173, k0_pay175]
  revert t s
  decide +kernel

theorem eye_apply (t s : Fin 16) : FloatOps.sitofp (F := Ideal) FTy.f32 (BitVec.setWidth 32 (IntOp.cmpi CmpIPredicate.eq (BitVec.ofNat 32 t.val) (BitVec.ofNat 32 s.val))) = eye t s := by
  have h : (BitVec.setWidth 32 (IntOp.cmpi CmpIPredicate.eq (BitVec.ofNat 32 t.val) (BitVec.ofNat 32 s.val))).toInt = if t = s then 1 else 0 := by
    revert t s
    decide +kernel
  unfold eye
  show (((BitVec.setWidth 32 (IntOp.cmpi CmpIPredicate.eq (BitVec.ofNat 32 t.val) (BitVec.ofNat 32 s.val))).toInt : ℝ) : EReal) = _
  rw [h]
  split_ifs <;> simp

theorem pay148_apply (t s : Fin 16) : k0_pay148 (F := Ideal) (ix2 t s) = eye t s := by
  pointwise [k0_pay148]
  exact eye_apply t s

theorem pay180_apply (t s : Fin 16) : k0_pay180 (F := Ideal) i0 i1 (ix2 t s) = eye t s := by
  pointwise [k0_pay180]
  exact eye_apply t s

/-! ## The heads -/

/-- The rows of a block. -/
def rw2 {n m : ℕ} (x : Vec Ideal ⟨2, ![n, m]⟩ .f32) : Fin n → Row m := fun t d => x (ix2 t d)

section
variable (A : FVec Ideal S16x16 .f32) (i j : Fin 16)

theorem pay153_apply : k0_pay153 (F := Ideal) A i1 k0_pay149 8#32 k0_pay150 k0_pay151 (ix2 i j) = blkD (rw2 A) i j := by
  pointwise [k0_pay153]
  rw [pay152_apply, sel_ite]
  rfl

theorem t0_apply : t0 (F := Ideal) A (ix2 i j) = inv8 (blkD (rw2 A)) i j := by
  pointwise [t0, k0_pay166, k0_pay157, k0_pay161, k0_pay165]
  simp only [pay153_apply, pay148_apply]
  rfl

theorem T0_apply : T0 (F := Ideal) A (ix2 i j) = inv16 (rw2 A) i j - eye i j := by
  pointwise [T0, k0_pay182]
  simp only [t0_apply, pay176_apply, pay180_apply, sel_ite]
  simp only [ite_not, inv16, mm, blkO, ite_mul, zero_mul]
  rfl

theorem pay154_apply : k0_pay154 (F := Ideal) A i1 k0_pay149 8#32 k0_pay150 k0_pay151 (ix2 i j) = blkD (rw2 A) i j := by
  pointwise [k0_pay154]
  rw [pay152_apply, sel_ite]
  rfl

theorem t1_apply : t1 (F := Ideal) A (ix2 i j) = inv8 (blkD (rw2 A)) i j := by
  pointwise [t1, k0_pay167, k0_pay158, k0_pay162]
  simp only [pay154_apply, pay148_apply]
  rfl

theorem T1_apply : T1 (F := Ideal) A (ix2 i j) = inv16 (rw2 A) i j := by
  pointwise [T1, k0_pay177]
  simp only [t1_apply, pay176_apply, sel_ite]
  simp only [ite_not, inv16, mm, blkO, ite_mul, zero_mul]
  rfl

theorem pay155_apply : k0_pay155 (F := Ideal) A i1 k0_pay149 8#32 k0_pay150 k0_pay151 (ix2 i j) = blkD (rw2 A) i j := by
  pointwise [k0_pay155]
  rw [pay152_apply, sel_ite]
  rfl

theorem t2_apply : t2 (F := Ideal) A (ix2 i j) = inv8 (blkD (rw2 A)) i j := by
  pointwise [t2, k0_pay168, k0_pay159, k0_pay163]
  simp only [pay155_apply, pay148_apply]
  rfl

theorem T2_apply : T2 (F := Ideal) A (ix2 i j) = inv16 (rw2 A) i j := by
  pointwise [T2, k0_pay178]
  simp only [t2_apply, pay176_apply, sel_ite]
  simp only [ite_not, inv16, mm, blkO, ite_mul, zero_mul]
  rfl

theorem pay156_apply : k0_pay156 (F := Ideal) A i1 k0_pay149 8#32 k0_pay150 k0_pay151 (ix2 i j) = blkD (rw2 A) i j := by
  pointwise [k0_pay156]
  rw [pay152_apply, sel_ite]
  rfl

theorem t3_apply : t3 (F := Ideal) A (ix2 i j) = inv8 (blkD (rw2 A)) i j := by
  pointwise [t3, k0_pay169, k0_pay160, k0_pay164]
  simp only [pay156_apply, pay148_apply]
  rfl

theorem T3_apply : T3 (F := Ideal) A (ix2 i j) = inv16 (rw2 A) i j := by
  pointwise [T3, k0_pay179]
  simp only [t3_apply, pay176_apply, sel_ite]
  simp only [ite_not, inv16, mm, blkO, ite_mul, zero_mul]
  rfl
end

section
variable (B : FVec Ideal S16x1536 .f32) (L : Vec Ideal S16x16 .bf16) (x : Vec Ideal S16x128 .f32) (dt al : Vec Ideal S1x128 .f32) (S : Vec Ideal S1x1x128x128 .f32)
  (gt : Vec Ideal S16x128 .f32) (wn : Vec Ideal S1x128 .f32)

/-- The activated rows. -/
def actB : Fin 16 → Row 1536 := fun t k => slu (B (ix2 t k))
/-- The write strengths of a head. -/
def bB (h : Fin 4) (t : Fin 16) : EReal := Ideal.logistic (x (ix2 t ⟨h.val, by omega⟩))
/-- The decays' sums of a head. -/
def cB (h : Fin 4) (t : Fin 16) : EReal := cuB L x dt al (ix2 t ⟨4 + h.val, by omega⟩)

theorem pay76_apply (i j : Fin 128) : k0_pay76 (F := Ideal) L x dt al (ix2 i j) = cuB L x dt al (ix2 15 j) := by
  pointwise [k0_pay76, cuB]
theorem pay77_apply (j : Fin 128) (t : Fin 16) : k0_pay77 (F := Ideal) L x dt al (ix2 j t) = cuB L x dt al (ix2 t j) := by
  pointwise [k0_pay77, cuB]

/-- What a head's matrix and right side make. -/
def wM (h : Fin 4) : Fin 16 → Row 128 := solK (aM (bB x h) (kh (actB B) h) (cB L x dt al h)) (rM (vh (actB B) h) (bB x h))

theorem q0_apply (t : Fin 16) (d : Fin 128) : q0 (F := Ideal) B (ix2 t d) = qh (actB B) 0 t d := by
  pointwise [q0, k0_pay92, k0_pay78, k0_pay73]
  simp only [qh, nrm, hd, actB, slu, Nat.zero_add, Fin.val_zero, Nat.mul_zero]
  rfl
theorem k0_apply (t : Fin 16) (d : Fin 128) : k0 (F := Ideal) B (ix2 t d) = kh (actB B) 0 t d := by
  pointwise [k0, k0_pay93, k0_pay73]
  rfl
theorem v0_apply (t : Fin 16) (d : Fin 128) : v0 (F := Ideal) B (ix2 t d) = vh (actB B) 0 t d := by
  pointwise [v0, k0_pay91, k0_pay73]
  rfl
theorem b0_apply (t : Fin 16) (d : Fin 128) : b0 (F := Ideal) x (ix2 t d) = bB x 0 t := by
  pointwise [b0, k0_pay94, k0_pay74]
  rfl
theorem c0_apply (t : Fin 16) : c0 (F := Ideal) L x dt al (ix2 t 0) = cB L x dt al 0 t := by
  pointwise [c0, k0_pay95]
  rfl

theorem A0_apply (t s : Fin 16) : A0 (F := Ideal) B L x dt al (ix2 t s) = aM (bB x 0) (kh (actB B) 0) (cB L x dt al 0) t s := by
  pointwise [A0, k0_pay100, k0_pay99, k0_pay97, k0_pay96]
  simp only [k0_apply, b0_apply, c0_apply, pay77_apply, pay8_apply, pay9_apply, sel_ite]
  rfl
theorem Q0_apply (t s : Fin 16) : Q0 (F := Ideal) B L x dt al (ix2 t s) = qM (qh (actB B) 0) (kh (actB B) 0) (cB L x dt al 0) t s := by
  pointwise [Q0, k0_pay101, k0_pay99, k0_pay97, k0_pay96]
  simp only [q0_apply, k0_apply, c0_apply, pay77_apply, pay8_apply, sel_ite]
  rfl
theorem d0_apply (t : Fin 16) (e : Fin 128) : d0 (F := Ideal) L x dt al (ix2 t e) = Ideal.exp (cB L x dt al 0 15 - cB L x dt al 0 t) := by
  pointwise [d0, k0_pay103, k0_pay98, k0_pay96]
  simp only [c0_apply, pay76_apply]
  rfl

theorem rA0 : rw2 (A0 (F := Ideal) B L x dt al) = aM (bB x 0) (kh (actB B) 0) (cB L x dt al 0) := by
  funext t s
  exact A0_apply B L x dt al t s
theorem u0_apply (t : Fin 16) (d : Fin 128) : u0 (F := Ideal) B L x dt al (ix2 t (⟨d.val, by omega⟩ : Fin 256)) = wM B L x dt al 0 t d := by
  pointwise [u0, k0_pay184, k0_pay181, k0_pay183]
  simp only [T0_apply, rA0, v0_apply, b0_apply, pay180_apply]
  rfl
theorem st0_apply (hS : ∀ e d : Fin 128, S (ix4 0 0 e d) = 0) (e d : Fin 128) : k0_pay188 (F := Ideal) S (ix2 e d) = (0 : EReal) := by
  pointwise [k0_pay188]
  exact hS e d
theorem w0_apply (hS : ∀ e d : Fin 128, S (ix4 0 0 e d) = 0) (t : Fin 16) (d : Fin 128) : w0 (F := Ideal) B L x dt al S (ix2 t d) = wM B L x dt al 0 t d := by
  pointwise [w0, k0_pay197, k0_pay193, h0, k0_pay192]
  simp only [st0_apply S hS, mul_zero, Finset.sum_const_zero, sub_zero]
  exact u0_apply B L x dt al t d
theorem o0_apply (hS : ∀ e d : Fin 128, S (ix4 0 0 e d) = 0) (t : Fin 16) (d : Fin 128) :
    o0 (F := Ideal) B L x dt al S (ix2 t d) = oM (qM (qh (actB B) 0) (kh (actB B) 0) (cB L x dt al 0)) (wM B L x dt al 0) t d := by
  pointwise [o0, k0_pay201, k0_pay193, h0, k0_pay192, k0_pay197, k0_pay193, h0, k0_pay192]
  simp only [st0_apply S hS, mul_zero, Finset.sum_const_zero, sub_zero, zero_add, u0_apply, Q0_apply]
  rfl
theorem z0_apply (hS : ∀ e d : Fin 128, S (ix4 0 0 e d) = 0) (e d : Fin 128) :
    z0 (F := Ideal) B L x dt al S (ix4 0 0 e d) = sM (kh (actB B) 0) (cB L x dt al 0) (wM B L x dt al 0) e d := by
  pointwise [z0, k0_pay216, s0, k0_pay207]
  simp only [st0_apply S hS, w0_apply _ _ _ _ _ S hS, mul_zero, zero_add, k0_apply, d0_apply]
  rfl
theorem y0_apply (hS : ∀ e d : Fin 128, S (ix4 0 0 e d) = 0) (t : Fin 16) (d : Fin 128) :
    y0 (F := Ideal) B L x dt al S gt wn (ix3 0 t d)
      = yM (oM (qM (qh (actB B) 0) (kh (actB B) 0) (cB L x dt al 0)) (wM B L x dt al 0) t) (fun d => wn (ix2 0 d)) (rw2 gt t) d := by
  have e : oM (qM (qh (actB B) 0) (kh (actB B) 0) (cB L x dt al 0)) (wM B L x dt al 0) t = fun d => o0 (F := Ideal) B L x dt al S (ix2 t d) := by
    funext d
    exact (o0_apply B L x dt al S hS t d).symm
  rw [e]
  unfold y0
  pointwise [k0_pay215, k0_pay211]
  rfl

theorem q1_apply (t : Fin 16) (d : Fin 128) : q1 (F := Ideal) B (ix2 t d) = qh (actB B) 1 t d := by
  pointwise [q1, k0_pay106, k0_pay79, k0_pay85, k0_pay73]
  rfl
theorem k1_apply (t : Fin 16) (d : Fin 128) : k1 (F := Ideal) B (ix2 t d) = kh (actB B) 1 t d := by
  pointwise [k1, k0_pay107, k0_pay80, k0_pay86, k0_pay73]
  rfl
theorem v1_apply (t : Fin 16) (d : Fin 128) : v1 (F := Ideal) B (ix2 t d) = vh (actB B) 1 t d := by
  pointwise [v1, k0_pay105, k0_pay73]
  rfl
theorem b1_apply (t : Fin 16) (d : Fin 128) : b1 (F := Ideal) x (ix2 t d) = bB x 1 t := by
  pointwise [b1, k0_pay108, k0_pay74]
  rfl
theorem c1_apply (t : Fin 16) (d : Fin 128) : c1 (F := Ideal) L x dt al (ix2 t d) = cB L x dt al 1 t := by
  pointwise [c1, k0_pay109]
  rfl

theorem A1_apply (t s : Fin 16) : A1 (F := Ideal) B L x dt al (ix2 t s) = aM (bB x 1) (kh (actB B) 1) (cB L x dt al 1) t s := by
  pointwise [A1, k0_pay114, k0_pay113, k0_pay111, k0_pay110, k0_pay109]
  simp only [k1_apply, b1_apply, c1_apply, pay77_apply, pay8_apply, pay9_apply, sel_ite]
  rfl
theorem Q1_apply (t s : Fin 16) : Q1 (F := Ideal) B L x dt al (ix2 t s) = qM (qh (actB B) 1) (kh (actB B) 1) (cB L x dt al 1) t s := by
  pointwise [Q1, k0_pay115, k0_pay113, k0_pay111, k0_pay110, k0_pay109]
  simp only [q1_apply, k1_apply, c1_apply, pay77_apply, pay8_apply, sel_ite]
  rfl
theorem d1_apply (t : Fin 16) (e : Fin 128) : d1 (F := Ideal) L x dt al (ix2 t e) = Ideal.exp (cB L x dt al 1 15 - cB L x dt al 1 t) := by
  pointwise [d1, k0_pay117, k0_pay112]
  simp only [c1_apply, pay76_apply]
  rfl

theorem rA1 : rw2 (A1 (F := Ideal) B L x dt al) = aM (bB x 1) (kh (actB B) 1) (cB L x dt al 1) := by
  funext t s
  exact A1_apply B L x dt al t s
theorem u1_apply (t : Fin 16) (d : Fin 128) : u1 (F := Ideal) B L x dt al (ix2 t (⟨d.val, by omega⟩ : Fin 256)) = wM B L x dt al 1 t d := by
  pointwise [u1, k0_pay185]
  simp only [T1_apply, rA1, v1_apply, b1_apply, pay180_apply]
  rfl
theorem st1_apply (hS : ∀ e d : Fin 128, S (ix4 0 0 e d) = 0) (e d : Fin 128) : k0_pay189 (F := Ideal) S (ix2 e d) = (0 : EReal) := by
  pointwise [k0_pay189]
  exact hS e d
theorem w1_apply (hS : ∀ e d : Fin 128, S (ix4 0 0 e d) = 0) (t : Fin 16) (d : Fin 128) : w1 (F := Ideal) B L x dt al S (ix2 t d) = wM B L x dt al 1 t d := by
  pointwise [w1, k0_pay198, k0_pay194]
  simp only [st1_apply S hS, mul_zero, Finset.sum_const_zero, sub_zero]
  exact u1_apply B L x dt al t d
theorem o1_apply (hS : ∀ e d : Fin 128, S (ix4 0 0 e d) = 0) (t : Fin 16) (d : Fin 128) :
    o1 (F := Ideal) B L x dt al S (ix2 t d) = oM (qM (qh (actB B) 1) (kh (actB B) 1) (cB L x dt al 1)) (wM B L x dt al 1) t d := by
  pointwise [o1, k0_pay202, k0_pay194, k0_pay198, k0_pay194]
  simp only [st1_apply S hS, mul_zero, Finset.sum_const_zero, sub_zero, zero_add, u1_apply, Q1_apply]
  rfl
theorem z1_apply (hS : ∀ e d : Fin 128, S (ix4 0 0 e d) = 0) (e d : Fin 128) :
    z1 (F := Ideal) B L x dt al S (ix4 0 0 e d) = sM (kh (actB B) 1) (cB L x dt al 1) (wM B L x dt al 1) e d := by
  pointwise [z1, k0_pay218, s1, k0_pay208]
  simp only [st1_apply S hS, w1_apply _ _ _ _ _ S hS, mul_zero, zero_add, k1_apply, d1_apply]
  rfl
theorem y1_apply (hS : ∀ e d : Fin 128, S (ix4 0 0 e d) = 0) (t : Fin 16) (d : Fin 128) :
    y1 (F := Ideal) B L x dt al S gt wn (ix3 0 t d)
      = yM (oM (qM (qh (actB B) 1) (kh (actB B) 1) (cB L x dt al 1)) (wM B L x dt al 1) t) (fun d => wn (ix2 0 d)) (rw2 gt t) d := by
  have e : oM (qM (qh (actB B) 1) (kh (actB B) 1) (cB L x dt al 1)) (wM B L x dt al 1) t = fun d => o1 (F := Ideal) B L x dt al S (ix2 t d) := by
    funext d
    exact (o1_apply B L x dt al S hS t d).symm
  rw [e]
  unfold y1
  pointwise [k0_pay217, k0_pay212]
  rfl

theorem q2_apply (t : Fin 16) (d : Fin 128) : q2 (F := Ideal) B (ix2 t d) = qh (actB B) 2 t d := by
  pointwise [q2, k0_pay120, k0_pay81, k0_pay87, k0_pay73]
  rfl
theorem k2_apply (t : Fin 16) (d : Fin 128) : k2 (F := Ideal) B (ix2 t d) = kh (actB B) 2 t d := by
  pointwise [k2, k0_pay121, k0_pay82, k0_pay88, k0_pay73]
  rfl
theorem v2_apply (t : Fin 16) (d : Fin 128) : v2 (F := Ideal) B (ix2 t d) = vh (actB B) 2 t d := by
  pointwise [v2, k0_pay119, k0_pay73]
  rfl
theorem b2_apply (t : Fin 16) (d : Fin 128) : b2 (F := Ideal) x (ix2 t d) = bB x 2 t := by
  pointwise [b2, k0_pay122, k0_pay74]
  rfl
theorem c2_apply (t : Fin 16) (d : Fin 128) : c2 (F := Ideal) L x dt al (ix2 t d) = cB L x dt al 2 t := by
  pointwise [c2, k0_pay123]
  rfl

theorem A2_apply (t s : Fin 16) : A2 (F := Ideal) B L x dt al (ix2 t s) = aM (bB x 2) (kh (actB B) 2) (cB L x dt al 2) t s := by
  pointwise [A2, k0_pay128, k0_pay127, k0_pay124, k0_pay123]
  simp only [k2_apply, b2_apply, c2_apply, pay77_apply, pay8_apply, pay9_apply, sel_ite]
  rfl
theorem Q2_apply (t s : Fin 16) : Q2 (F := Ideal) B L x dt al (ix2 t s) = qM (qh (actB B) 2) (kh (actB B) 2) (cB L x dt al 2) t s := by
  pointwise [Q2, k0_pay129, k0_pay127, k0_pay124, k0_pay123]
  simp only [q2_apply, k2_apply, c2_apply, pay77_apply, pay8_apply, sel_ite]
  rfl
theorem d2_apply (t : Fin 16) (e : Fin 128) : d2 (F := Ideal) L x dt al (ix2 t e) = Ideal.exp (cB L x dt al 2 15 - cB L x dt al 2 t) := by
  pointwise [d2, k0_pay131, k0_pay126, k0_pay125]
  simp only [c2_apply, pay76_apply]
  rfl

theorem rA2 : rw2 (A2 (F := Ideal) B L x dt al) = aM (bB x 2) (kh (actB B) 2) (cB L x dt al 2) := by
  funext t s
  exact A2_apply B L x dt al t s
theorem u2_apply (t : Fin 16) (d : Fin 128) : u2 (F := Ideal) B L x dt al (ix2 t (⟨d.val, by omega⟩ : Fin 256)) = wM B L x dt al 2 t d := by
  pointwise [u2, k0_pay186]
  simp only [T2_apply, rA2, v2_apply, b2_apply, pay180_apply]
  rfl
theorem st2_apply (hS : ∀ e d : Fin 128, S (ix4 0 0 e d) = 0) (e d : Fin 128) : k0_pay190 (F := Ideal) S (ix2 e d) = (0 : EReal) := by
  pointwise [k0_pay190]
  exact hS e d
theorem w2_apply (hS : ∀ e d : Fin 128, S (ix4 0 0 e d) = 0) (t : Fin 16) (d : Fin 128) : w2 (F := Ideal) B L x dt al S (ix2 t d) = wM B L x dt al 2 t d := by
  pointwise [w2, k0_pay199, k0_pay195]
  simp only [st2_apply S hS, mul_zero, Finset.sum_const_zero, sub_zero]
  exact u2_apply B L x dt al t d
theorem o2_apply (hS : ∀ e d : Fin 128, S (ix4 0 0 e d) = 0) (t : Fin 16) (d : Fin 128) :
    o2 (F := Ideal) B L x dt al S (ix2 t d) = oM (qM (qh (actB B) 2) (kh (actB B) 2) (cB L x dt al 2)) (wM B L x dt al 2) t d := by
  pointwise [o2, k0_pay203, k0_pay195, k0_pay199, k0_pay195]
  simp only [st2_apply S hS, mul_zero, Finset.sum_const_zero, sub_zero, zero_add, u2_apply, Q2_apply]
  rfl
theorem z2_apply (hS : ∀ e d : Fin 128, S (ix4 0 0 e d) = 0) (e d : Fin 128) :
    z2 (F := Ideal) B L x dt al S (ix4 0 0 e d) = sM (kh (actB B) 2) (cB L x dt al 2) (wM B L x dt al 2) e d := by
  pointwise [z2, k0_pay220, s2, k0_pay209]
  simp only [st2_apply S hS, w2_apply _ _ _ _ _ S hS, mul_zero, zero_add, k2_apply, d2_apply]
  rfl
theorem y2_apply (hS : ∀ e d : Fin 128, S (ix4 0 0 e d) = 0) (t : Fin 16) (d : Fin 128) :
    y2 (F := Ideal) B L x dt al S gt wn (ix3 0 t d)
      = yM (oM (qM (qh (actB B) 2) (kh (actB B) 2) (cB L x dt al 2)) (wM B L x dt al 2) t) (fun d => wn (ix2 0 d)) (rw2 gt t) d := by
  have e : oM (qM (qh (actB B) 2) (kh (actB B) 2) (cB L x dt al 2)) (wM B L x dt al 2) t = fun d => o2 (F := Ideal) B L x dt al S (ix2 t d) := by
    funext d
    exact (o2_apply B L x dt al S hS t d).symm
  rw [e]
  unfold y2
  pointwise [k0_pay219, k0_pay213]
  rfl

theorem q3_apply (t : Fin 16) (d : Fin 128) : q3 (F := Ideal) B (ix2 t d) = qh (actB B) 3 t d := by
  pointwise [q3, k0_pay134, k0_pay83, k0_pay89, k0_pay73]
  rfl
theorem k3_apply (t : Fin 16) (d : Fin 128) : k3 (F := Ideal) B (ix2 t d) = kh (actB B) 3 t d := by
  pointwise [k3, k0_pay135, k0_pay84, k0_pay90, k0_pay73]
  rfl
theorem v3_apply (t : Fin 16) (d : Fin 128) : v3 (F := Ideal) B (ix2 t d) = vh (actB B) 3 t d := by
  pointwise [v3, k0_pay133, k0_pay73]
  rfl
theorem b3_apply (t : Fin 16) (d : Fin 128) : b3 (F := Ideal) x (ix2 t d) = bB x 3 t := by
  pointwise [b3, k0_pay136, k0_pay74]
  rfl
theorem c3_apply (t : Fin 16) (d : Fin 128) : c3 (F := Ideal) L x dt al (ix2 t d) = cB L x dt al 3 t := by
  pointwise [c3, k0_pay137]
  rfl
theorem q3b (t : Fin 16) (d : Fin 128) : k0_pay134 (F := Ideal) (k0_pay83 (k0_pay73 B)) (k0_pay89 (k0_pay73 B)) (ix2 t d) = qh (actB B) 3 t d := q3_apply B t d
theorem k3b (t : Fin 16) (d : Fin 128) : k0_pay135 (F := Ideal) (k0_pay84 (k0_pay73 B)) (k0_pay90 (k0_pay73 B)) (ix2 t d) = kh (actB B) 3 t d := k3_apply B t d

theorem A3_apply (t s : Fin 16) : A3 (F := Ideal) B L x dt al (ix2 t s) = aM (bB x 3) (kh (actB B) 3) (cB L x dt al 3) t s := by
  pointwise [A3, k0_pay143, k0_pay142, k0_pay140, k0_pay141, k0_pay138, k0_pay137]
  simp only [q3b B, k3b B, k3_apply, b3_apply, c3_apply, pay77_apply, pay8_apply, pay9_apply, sel_ite]
  rfl
theorem Q3_apply (t s : Fin 16) : Q3 (F := Ideal) B L x dt al (ix2 t s) = qM (qh (actB B) 3) (kh (actB B) 3) (cB L x dt al 3) t s := by
  pointwise [Q3, k0_pay144, k0_pay142, k0_pay140, k0_pay141, k0_pay138, k0_pay137]
  simp only [q3b B, k3b B, q3_apply, k3_apply, c3_apply, pay77_apply, pay8_apply, sel_ite]
  rfl
theorem d3_apply (t : Fin 16) (e : Fin 128) : d3 (F := Ideal) L x dt al (ix2 t e) = Ideal.exp (cB L x dt al 3 15 - cB L x dt al 3 t) := by
  pointwise [d3, k0_pay146, k0_pay139]
  simp only [c3_apply, pay76_apply]
  rfl

theorem rA3 : rw2 (A3 (F := Ideal) B L x dt al) = aM (bB x 3) (kh (actB B) 3) (cB L x dt al 3) := by
  funext t s
  exact A3_apply B L x dt al t s
theorem u3_apply (t : Fin 16) (d : Fin 128) : u3 (F := Ideal) B L x dt al (ix2 t (⟨d.val, by omega⟩ : Fin 256)) = wM B L x dt al 3 t d := by
  pointwise [u3, k0_pay187]
  simp only [T3_apply, rA3, v3_apply, b3_apply, pay180_apply]
  rfl
theorem st3_apply (hS : ∀ e d : Fin 128, S (ix4 0 0 e d) = 0) (e d : Fin 128) : k0_pay191 (F := Ideal) S (ix2 e d) = (0 : EReal) := by
  pointwise [k0_pay191]
  exact hS e d
theorem w3_apply (hS : ∀ e d : Fin 128, S (ix4 0 0 e d) = 0) (t : Fin 16) (d : Fin 128) : w3 (F := Ideal) B L x dt al S (ix2 t d) = wM B L x dt al 3 t d := by
  pointwise [w3, k0_pay200, k0_pay196]
  simp only [st3_apply S hS, mul_zero, Finset.sum_const_zero, sub_zero]
  exact u3_apply B L x dt al t d
theorem o3_apply (hS : ∀ e d : Fin 128, S (ix4 0 0 e d) = 0) (t : Fin 16) (d : Fin 128) :
    o3 (F := Ideal) B L x dt al S (ix2 t d) = oM (qM (qh (actB B) 3) (kh (actB B) 3) (cB L x dt al 3)) (wM B L x dt al 3) t d := by
  pointwise [o3, k0_pay206, oa3, ob3, k0_pay204, k0_pay205, k0_pay196, k0_pay200, k0_pay196]
  simp only [st3_apply S hS, mul_zero, Finset.sum_const_zero, sub_zero, zero_add, u3_apply, Q3_apply]
  rfl
theorem z3_apply (hS : ∀ e d : Fin 128, S (ix4 0 0 e d) = 0) (e d : Fin 128) :
    z3 (F := Ideal) B L x dt al S (ix4 0 0 e d) = sM (kh (actB B) 3) (cB L x dt al 3) (wM B L x dt al 3) e d := by
  pointwise [z3, k0_pay2, s3, k0_pay210]
  simp only [st3_apply S hS, w3_apply _ _ _ _ _ S hS, mul_zero, zero_add, k3_apply, d3_apply]
  rfl
theorem y3_apply (hS : ∀ e d : Fin 128, S (ix4 0 0 e d) = 0) (t : Fin 16) (d : Fin 128) :
    y3 (F := Ideal) B L x dt al S gt wn (ix3 0 t d)
      = yM (oM (qM (qh (actB B) 3) (kh (actB B) 3) (cB L x dt al 3)) (wM B L x dt al 3) t) (fun d => wn (ix2 0 d)) (rw2 gt t) d := by
  have e : oM (qM (qh (actB B) 3) (kh (actB B) 3) (cB L x dt al 3)) (wM B L x dt al 3) t = fun d => o3 (F := Ideal) B L x dt al S (ix2 t d) := by
    funext d
    exact (o3_apply B L x dt al S hS t d).symm
  rw [e]
  unfold y3
  pointwise [k0_pay1, k0_pay221, k0_pay214, o3, k0_pay206]
  rfl
end

end Cert.Kernel4Ideal.Hand
-- ==== Proof.GdnReal.lean ====
/-
The gated DeltaNet of finite rows stays finite where its triangular system is, and its decays' sum is one product.
-/
module

public import proofs.«01_k».proof.Proof.GdnFun

@[expose] public section

noncomputable section

namespace Cert.GdnMath

open Idealize.ShloMosaic

/-! ## Finite values -/

theorem Re.add {x y : EReal} (hx : Re x) (hy : Re y) : Re (x + y) := by
  obtain ⟨a, rfl⟩ := hx; obtain ⟨b, rfl⟩ := hy; exact ⟨a + b, (EReal.coe_add a b).symm⟩
theorem Re.mul {x y : EReal} (hx : Re x) (hy : Re y) : Re (x * y) := by
  obtain ⟨a, rfl⟩ := hx; obtain ⟨b, rfl⟩ := hy; exact ⟨a * b, (EReal.coe_mul a b).symm⟩
theorem Re.zero : Re 0 := ⟨0, rfl⟩
theorem Re.sum {n : ℕ} {f : Fin n → EReal} (hf : ∀ i, Re (f i)) : Re (∑ i, f i) := by
  choose r hr using hf
  exact ⟨∑ i, r i, by rw [← coe_sum]; exact Finset.sum_congr rfl fun i _ => hr i⟩

theorem one_add_top : (1 : EReal) + ⊤ = ⊤ := by rw [← EReal.coe_one, EReal.coe_add_top]

theorem logistic_re (x : EReal) : Re (Ideal.logistic x) := by
  induction x with
  | bot => exact ⟨0, by simp [Ideal.logistic, Ideal.div, one_add_top]⟩
  | top => exact ⟨1, by simp [Ideal.logistic, Ideal.div]⟩
  | coe r =>
    refine ⟨(1 + Real.exp (-r))⁻¹, ?_⟩
    have hp : (0 : ℝ) < 1 + Real.exp (-r) := by positivity
    have e : Ideal.exp (-(r : EReal)) = ((Real.exp (-r) : ℝ) : EReal) := by rw [← EReal.coe_neg, Ideal.exp_coe]
    unfold Ideal.logistic Ideal.div
    rw [e, ← EReal.coe_one, ← EReal.coe_add, if_neg (by exact_mod_cast hp.ne'), EReal.coe_one, one_mul, EReal.coe_inv]

theorem slu_re {x : EReal} (hx : Re x) : Re (slu x) := hx.mul (logistic_re x)

theorem eps_pos : ∃ e : ℝ, 0 < e ∧ eps = (e : EReal) := by
  refine ⟨8796093 * 2 ^ (-43 : ℤ), by positivity, ?_⟩
  simp [eps, Ideal.ofBits, Ideal.ieee, -EReal.coe_mul]

theorem nrm_re {x : Row 128} (hx : ∀ d, Re (x d)) (d : Fin 128) : Re (nrm x d) := by
  choose r hr using hx
  obtain ⟨e, he, hee⟩ := eps_pos
  have hs : (∑ i, x i * x i) + eps = ((∑ i, r i * r i + e : ℝ) : EReal) := by
    rw [hee, EReal.coe_add, ← coe_sum]
    exact congrArg (· + (e : EReal)) (Finset.sum_congr rfl fun i _ => by rw [hr, EReal.coe_mul])
  have hp : 0 < ∑ i, r i * r i + e := add_pos_of_nonneg_of_pos (Finset.sum_nonneg fun i _ => mul_self_nonneg _) he
  unfold nrm
  rw [hs, Ideal.rsqrt_coe, if_neg hp.le.not_gt, if_neg hp.ne']
  exact Re.mul ⟨r d, hr d⟩ ⟨_, rfl⟩

/-! ## The decays -/

theorem exp_nonneg (x : EReal) : 0 ≤ Ideal.exp x := by
  induction x with
  | bot => simp
  | top => simp
  | coe r => rw [Ideal.exp_coe]; exact EReal.coe_nonneg.mpr (Real.exp_pos r).le

theorem log1p_nonneg {x : EReal} (hx : 0 ≤ x) : 0 ≤ Ideal.log1p x := by
  induction x with
  | bot => simp at hx
  | top => simp [Ideal.log1p, one_add_top]
  | coe r =>
    have h0 : 0 ≤ r := EReal.coe_nonneg.mp hx
    unfold Ideal.log1p
    rw [← EReal.coe_one, ← EReal.coe_add, Ideal.log_coe, if_neg (by linarith)]
    exact EReal.coe_nonneg.mpr (Real.log_nonneg (by linarith))

theorem gM_nonpos (al dt : EReal) (a : Fin 16 → EReal) (t : Fin 16) : gM al dt a t ≤ 0 := by
  unfold gM
  rw [neg_mul]
  have h : 0 ≤ Ideal.exp al * (max (a t + dt) 0 + Ideal.log1p (Ideal.exp (-(FloatOps.absf (F := Ideal) (φ := FTy.f32) (a t + dt))))) :=
    mul_nonneg (exp_nonneg _) (add_nonneg (le_max_right _ _) (log1p_nonneg (exp_nonneg _)))
  simpa using h

theorem re_or_bot {x : EReal} (hx : x ≤ 0) : Re x ∨ x = ⊥ := by
  induction x with
  | bot => exact Or.inr rfl
  | top => simp at hx
  | coe r => exact Or.inl ⟨r, rfl⟩

theorem sum_bot {n : ℕ} (f : Fin n → EReal) (i : Fin n) (h : f i = ⊥) : ∑ j, f j = ⊥ := by
  rw [← Finset.add_sum_erase _ _ (Finset.mem_univ i), h, EReal.bot_add]

section
variable (g : Fin 16 → EReal) (hg : ∀ s, g s ≤ 0)

theorem cuM_re (t : Fin 16) (h : ∀ s, s ≤ t → Re (g s)) : Re (cuM g t) := by
  refine Re.sum fun s => ?_
  split_ifs with hs
  · exact h s hs
  · exact Re.zero

theorem cuM_bot (t s : Fin 16) (hs : s ≤ t) (h : g s = ⊥) : cuM g t = ⊥ := sum_bot _ s (by rw [if_pos hs, h])

include hg
theorem cuM_cases (t : Fin 16) : (∀ s, s ≤ t → Re (g s)) ∨ cuM g t = ⊥ := by
  by_cases h : ∃ s, s ≤ t ∧ g s = ⊥
  · obtain ⟨s, hs, hb⟩ := h
    exact Or.inr (cuM_bot g t s hs hb)
  · refine Or.inl fun s hs => ?_
    rcases re_or_bot (hg s) with hr | hb
    · exact hr
    · exact absurd ⟨s, hs, hb⟩ h

theorem dm_re (t s : Fin 16) : Re (dm (cuM g) t s) := by
  unfold dm
  split_ifs with hs
  · rcases cuM_cases g hg t with h | h
    · obtain ⟨a, ha⟩ := cuM_re g t h
      obtain ⟨b, hb⟩ := cuM_re g s fun r hr => h r (hr.trans hs)
      rw [ha, hb, ← EReal.coe_sub, Ideal.exp_coe]
      exact ⟨_, rfl⟩
    · rw [h, EReal.bot_sub]
      exact ⟨0, by simp⟩
  · exact ⟨0, by simp [Ideal.ofBits, Ideal.ieee, -EReal.coe_mul]⟩

/-- The sum in three parts is the sum. -/
theorem split_cum (a : Fin 16 → Fin 16 → EReal) (ha : ∀ t s, a t s = if s ≤ t then 1 else 0) (t : Fin 16) :
    ∑ s, a t s * g s + ∑ s, a t s * (g s - g s) + ∑ s, a t s * (g s - g s - (g s - g s)) = cuM g t := by
  have e : ∀ f : Fin 16 → EReal, ∑ s, a t s * f s = ∑ s, if s ≤ t then f s else 0 := fun f =>
    Finset.sum_congr rfl fun s _ => by rw [ha]; split_ifs <;> simp
  rw [e, e, e]
  change cuM g t + _ + _ = cuM g t
  rcases cuM_cases g hg t with h | h
  · have z1 : (∑ s, if s ≤ t then g s - g s else 0) = 0 := Finset.sum_eq_zero fun s _ => by
      split_ifs with hs
      · obtain ⟨r, hr⟩ := h s hs
        rw [hr, ← EReal.coe_sub, sub_self, EReal.coe_zero]
      · rfl
    have z2 : (∑ s, if s ≤ t then g s - g s - (g s - g s) else 0) = 0 := Finset.sum_eq_zero fun s _ => by
      split_ifs with hs
      · obtain ⟨r, hr⟩ := h s hs
        rw [hr, ← EReal.coe_sub, sub_self, ← EReal.coe_sub, sub_self, EReal.coe_zero]
      · rfl
    rw [z1, z2, add_zero, add_zero]
  · rw [h, EReal.bot_add, EReal.bot_add]
end

/-! ## The system -/

section
variable (P : Fin 16 → Row 4224) (w : Fin 4 → Row 1536) (al dt : Fin 4 → EReal) (wn : Row 128) (h : Fin 4)
  (hP : ∀ t (k : Fin 1536) (hk : 2048 + k.val < 4224), Re (P t ⟨2048 + k.val, hk⟩)) (hw : ∀ n k, Re (w n k))
include hP hw

theorem cC_re (t : Fin 16) (k : Fin 1536) : Re (cC P w t k) := by
  have hp : ∀ n, Re (pre (fun t k => P t ⟨2048 + k.val, by omega⟩) t n k) := fun n => by
    unfold pre
    split_ifs with hn
    · exact hP _ _ _
    · exact Re.zero
  exact slu_re (((((hp 3).mul (hw 0 k)).add ((hp 2).mul (hw 1 k))).add ((hp 1).mul (hw 2 k))).add ((hP t k _).mul (hw 3 k)))

/-- The kernel's inverse and the substitution give one answer. -/
theorem wS_eq : wS P w al dt solK h = wS P w al dt (fun a r => subs a r 15) h := by
  have hk : ∀ t d, Re (kh (cC P w) h t d) := fun t d => nrm_re (fun e => cC_re P w hP hw t _) d
  refine (sol_eq _ _ ?_ ?_ ?_).symm
  · intro t s hts
    unfold aM
    rw [if_neg hts]
  · intro t s
    unfold aM
    split_ifs
    · exact ((logistic_re _).mul (Re.sum fun x => (hk t x).mul (hk s x))).mul (dm_re _ (fun r => gM_nonpos _ _ _ r) t s)
    · exact Re.zero
  · intro t d
    exact (cC_re P w hP hw t _).mul (logistic_re _)

theorem yS_eq : yS P w al dt wn solK h = yS P w al dt wn (fun a r => subs a r 15) h := by
  funext t
  unfold yS
  rw [wS_eq P w al dt h hP hw]

theorem sS_eq : sS P w al dt solK h = sS P w al dt (fun a r => subs a r 15) h := by
  funext e
  unfold sS
  rw [wS_eq P w al dt h hP hw]
end

end Cert.GdnMath
-- ==== Proof.GdnVals.lean ====
/-
What a run of the fourth program's body leaves in the results' blocks: the gated DeltaNet heads' columns and states.
-/
module

public import proofs.«01_k».proof.Proof.GdnRow
public import proofs.«01_k».proof.Proof.GdnReal
public import Idealize.ShloMosaic.Lib.Pipeline.Value
public import Idealize.ShloMosaic.Lib.ValueIdxCore
public import Idealize.ShloMosaic.Lib.VecWindow

@[expose] public section

set_option maxRecDepth 16384

noncomputable section

namespace Cert.Kernel4Ideal.Hand

open Cert.Kernel4Ideal Cert.Kernel4Ideal.Gen Cert.GdnMath
open Idealize.ShloMosaic Idealize.ShloMosaic.TcCoe
open Idealize.ShloMosaic.Pipeline (Dat Cfg Window)

variable {F : FTy → Type} [FloatOps F]

/-! ## Reads -/

theorem rd2 {κ : Kind} {sp : Space} {n m : ℕ} {e : EltTy} (M : Memref sig κ sp ⟨2, ![n, m]⟩ e) (hM : M.IsWhole) (X : Vec F ⟨2, ![n, m]⟩ e)
    (k lo a b : ℕ) (inb) (i : Fin a) (j : Fin b) (hk : k + i.val < n) (hl : lo + j.val < m) :
    View.readAt (Elt F) M.view (Rect.unit (s := ⟨2, ![n, m]⟩) ![k, lo] ![a, b] inb).toLoadRect (hM.unread X) (ix2 i j) = X (ix2 ⟨k + i.val, hk⟩ ⟨lo + j.val, hl⟩) := by
  show M.view.read (Elt F) (hM.unread X) ((Rect.unit (s := ⟨2, ![n, m]⟩) ![k, lo] ![a, b] inb).emb (ix2 i j)) = _
  rw [hM.read_unread]
  congr 1
  funext x
  apply Fin.ext
  match x with
  | ⟨0, _⟩ => show k + 1 * i.val = k + i.val; omega
  | ⟨1, _⟩ => show lo + 1 * j.val = lo + j.val; omega

theorem rd3 {κ : Kind} {sp : Space} {n m l : ℕ} {e : EltTy} (M : Memref sig κ sp ⟨3, ![n, m, l]⟩ e) (hM : M.IsWhole) (X : Vec F ⟨3, ![n, m, l]⟩ e)
    (k a b d : ℕ) (inb) (i : Fin a) (j : Fin b) (p : Fin d) (hk : k + i.val < n) (hj : j.val < m) (hp : p.val < l) :
    View.readAt (Elt F) M.view (Rect.unit (s := ⟨3, ![n, m, l]⟩) ![k, 0, 0] ![a, b, d] inb).toLoadRect (hM.unread X) (ix3 i j p) = X (ix3 ⟨k + i.val, hk⟩ ⟨j.val, hj⟩ ⟨p.val, hp⟩) := by
  show M.view.read (Elt F) (hM.unread X) ((Rect.unit (s := ⟨3, ![n, m, l]⟩) ![k, 0, 0] ![a, b, d] inb).emb (ix3 i j p)) = _
  rw [hM.read_unread]
  congr 1
  funext x
  apply Fin.ext
  match x with
  | ⟨0, _⟩ => show k + 1 * i.val = k + i.val; omega
  | ⟨1, _⟩ => show 0 + 1 * j.val = j.val; omega
  | ⟨2, _⟩ => show 0 + 1 * p.val = p.val; omega

/-- One head's square of what a whole block was written with. -/
theorem rdS (M : Memref sig .tc .vmem S1x4x128x128 .f32) (X : Vec F S1x4x128x128 .f32) (inbw) (k : ℕ) (inb) (e d : Fin 128) (hk : k < 4) :
    M.view.readCov [(⟨Rect.unit ![0, 0, 0, 0] S1x4x128x128.size inbw, X⟩ : View.Piece (Elt F) S1x4x128x128 .f32)]
      (Rect.unit (s := S1x4x128x128) ![0, k, 0, 0] S1x1x128x128.size inb).toLoadRect (ix4 0 0 e d) = X (ix4 0 ⟨k, hk⟩ e d) := by
  show M.view.read (Elt F) (M.view.writes (Elt F) M.view.junk [(⟨Rect.unit ![0, 0, 0, 0] S1x4x128x128.size inbw, X⟩ : View.Piece (Elt F) S1x4x128x128 .f32)])
    ((Rect.unit (s := S1x4x128x128) ![0, k, 0, 0] S1x1x128x128.size inb).emb (ix4 0 0 e d)) = _
  rw [View.read_writes_full]
  congr 1
  funext x
  apply Fin.ext
  match x with
  | ⟨0, _⟩ => rfl
  | ⟨1, _⟩ => show k + 1 * 0 = k; omega
  | ⟨2, _⟩ => show 0 + 1 * e.val = e.val; omega
  | ⟨3, _⟩ => show 0 + 1 * d.val = d.val; omega

/-! ## Windows put -/

theorem put3_ne {α : Type} (x : S1x16x1024.Idx → α) (lo : ℕ) (w) (t : Fin 16) (j : Fin 1024) (h : j.val < lo) :
    VecWindow.put x ![0, 0, lo] S1x16x128.size w (ix3 0 t j) = x (ix3 0 t j) := by
  unfold VecWindow.put
  rw [dif_neg (fun hh => by have : lo ≤ j.val := (hh 2).1; omega)]

theorem put3_eq {α : Type} (x : S1x16x1024.Idx → α) (lo : ℕ) (w : S1x16x128.Idx → α) (t : Fin 16) (d : Fin 128) (h : lo + d.val < 1024) :
    VecWindow.put x ![0, 0, lo] S1x16x128.size w (ix3 0 t ⟨lo + d.val, h⟩) = w (ix3 0 t d) := by
  unfold VecWindow.put
  rw [dif_pos (by
    intro a
    match a with
    | ⟨0, _⟩ => exact ⟨Nat.zero_le _, by show 0 < 0 + 1; omega⟩
    | ⟨1, _⟩ => exact ⟨Nat.zero_le _, by show t.val < 0 + 16; omega⟩
    | ⟨2, _⟩ => exact ⟨by show lo ≤ lo + d.val; omega, by show lo + d.val < lo + 128; omega⟩)]
  congr 1
  funext a
  apply Fin.ext
  match a with
  | ⟨0, _⟩ => rfl
  | ⟨1, _⟩ => show t.val - 0 = t.val; omega
  | ⟨2, _⟩ => show lo + d.val - lo = d.val; omega

theorem put4_ne {α : Type} (x : S1x4x128x128.Idx → α) (k : ℕ) (w) (h : Fin 4) (e d : Fin 128) (hk : h.val < k) :
    VecWindow.put x ![0, k, 0, 0] S1x1x128x128.size w (ix4 0 h e d) = x (ix4 0 h e d) := by
  unfold VecWindow.put
  rw [dif_neg (fun hh => by have : k ≤ h.val := (hh 1).1; omega)]

theorem put4_eq {α : Type} (x : S1x4x128x128.Idx → α) (k : ℕ) (w : S1x1x128x128.Idx → α) (hk : k < 4) (e d : Fin 128) :
    VecWindow.put x ![0, k, 0, 0] S1x1x128x128.size w (ix4 0 ⟨k, hk⟩ e d) = w (ix4 0 0 e d) := by
  unfold VecWindow.put
  rw [dif_pos (by
    intro a
    match a with
    | ⟨0, _⟩ => exact ⟨Nat.zero_le _, by show 0 < 0 + 1; omega⟩
    | ⟨1, _⟩ => exact ⟨Nat.le_refl _, by show k < k + 1; omega⟩
    | ⟨2, _⟩ => exact ⟨Nat.zero_le _, by show e.val < 0 + 128; omega⟩
    | ⟨3, _⟩ => exact ⟨Nat.zero_le _, by show d.val < 0 + 128; omega⟩)]
  congr 1
  funext a
  apply Fin.ext
  match a with
  | ⟨0, _⟩ => rfl
  | ⟨1, _⟩ => show k - k = 0; omega
  | ⟨2, _⟩ => show e.val - 0 = e.val; omega
  | ⟨3, _⟩ => show d.val - 0 = d.val; omega

theorem putB_eq {α : Type} (x : S1x24x1536.Idx → α) (w : S1x16x1536.Idx → α) (i : Fin 3) (j : Fin 1536) :
    VecWindow.put x ![0, 8, 0] S1x16x1536.size w (ix3 0 ⟨21 + i.val, by omega⟩ j) = w (ix3 0 ⟨13 + i.val, by omega⟩ j) := by
  unfold VecWindow.put
  rw [dif_pos (by
    intro a
    match a with
    | ⟨0, _⟩ => exact ⟨Nat.zero_le _, by show 0 < 0 + 1; omega⟩
    | ⟨1, _⟩ => exact ⟨by show 8 ≤ 21 + i.val; omega, by show 21 + i.val < 8 + 16; omega⟩
    | ⟨2, _⟩ => exact ⟨Nat.zero_le _, by show j.val < 0 + 1536; omega⟩)]
  congr 1
  funext a
  apply Fin.ext
  match a with
  | ⟨0, _⟩ => rfl
  | ⟨1, _⟩ => show 21 + i.val - 8 = 13 + i.val; omega
  | ⟨2, _⟩ => show j.val - 0 = j.val; omega

/-! ## The run -/

section
variable (c : Dev nD) (arg2 : Memref sig .tc .vmem S16x4224 .f32) (harg2 : arg2.IsWhole) (arg4 : Memref sig .tc .vmem S1x4x128x128 .f32) (harg4 : arg4.IsWhole)
  (arg5 : Memref sig .tc .vmem S1x3x1536 .f32) (harg5 : arg5.IsWhole) (arg13 : Memref sig .tc .vmem S4x1536 .f32) (harg13 : arg13.IsWhole)
  (arg20 : Memref sig .tc .vmem S1x4x128x128 .f32) (arg22 : Memref sig .tc .vmem S1x24x1536 .f32)
  (x0 : Vec F S16x4224 .f32) (x2 : Vec F S1x4x128x128 .f32) (x3 : Vec F S1x3x1536 .f32) (x11 : Vec F S4x1536 .f32)

/-- The rows convolved. -/
def Bk : FVec F S16x1536 .f32 := cvB (View.readAt (Elt F) arg13.view (Rect.unit (s := S4x1536) ![0, 0] S1x1536.size inb_S4x1536_S1x1536_0_0).toLoadRect (harg13.unread x11)) (View.readAt (Elt F) arg13.view (Rect.unit (s := S4x1536) ![1, 0] S1x1536.size inb_S4x1536_S1x1536_1_0).toLoadRect (harg13.unread x11)) (View.readAt (Elt F) arg13.view (Rect.unit (s := S4x1536) ![2, 0] S1x1536.size inb_S4x1536_S1x1536_2_0).toLoadRect (harg13.unread x11)) (View.readAt (Elt F) arg13.view (Rect.unit (s := S4x1536) ![3, 0] S1x1536.size inb_S4x1536_S1x1536_3_0).toLoadRect (harg13.unread x11))
  (View.readAt (Elt F) arg2.view (Rect.unit (s := S16x4224) ![0, 2048] S16x1536.size inb_S16x4224_S16x1536_0_2048).toLoadRect (harg2.unread x0)) (kernelRun0_A.sl.v316 c arg2 harg2 arg5 harg5 arg22 x0 x3) (kernelRun0_A.sl.v330 c arg2 harg2 arg5 harg5 arg22 x0 x3) (kernelRun0_A.sl.v334 c arg2 harg2 arg5 harg5 arg22 x0 x3)
/-- The state of a head. -/
def Sk0 : Vec F S1x1x128x128 .f32 := (arg20.view.readCov (kernelRun0_A.sl.H18_1 c arg4 harg4 x2) (Rect.unit (s := S1x4x128x128) ![0, 0, 0, 0] S1x1x128x128.size inb_S1x4x128x128_S1x1x128x128_0_0_0_0).toLoadRect)
/-- The state of a head. -/
def Sk1 : Vec F S1x1x128x128 .f32 := (arg20.view.readCov (kernelRun0_A.sl.H18_1 c arg4 harg4 x2) (Rect.unit (s := S1x4x128x128) ![0, 1, 0, 0] S1x1x128x128.size inb_S1x4x128x128_S1x1x128x128_0_1_0_0).toLoadRect)
/-- The state of a head. -/
def Sk2 : Vec F S1x1x128x128 .f32 := (arg20.view.readCov (kernelRun0_A.sl.H18_1 c arg4 harg4 x2) (Rect.unit (s := S1x4x128x128) ![0, 2, 0, 0] S1x1x128x128.size inb_S1x4x128x128_S1x1x128x128_0_2_0_0).toLoadRect)
/-- The state of a head. -/
def Sk3 : Vec F S1x1x128x128 .f32 := (arg20.view.readCov (kernelRun0_A.sl.H18_1 c arg4 harg4 x2) (Rect.unit (s := S1x4x128x128) ![0, 3, 0, 0] S1x1x128x128.size inb_S1x4x128x128_S1x1x128x128_0_3_0_0).toLoadRect)
end

section
variable (c : Dev nD) (i : grid0.Coords) (arg2 : Memref sig .tc .vmem S16x4224 .f32) (harg2 : arg2.IsWhole) (arg3 : Memref sig .tc .vmem S1x4x128x128 .f32) (harg3 : arg3.IsWhole) (arg4 : Memref sig .tc .vmem S1x4x128x128 .f32) (harg4 : arg4.IsWhole) (arg5 : Memref sig .tc .vmem S1x3x1536 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x16 .bf16) (harg8 : arg8.IsWhole) (arg9 : Memref sig .tc .vmem S4x16x16 .f32) (harg9 : arg9.IsWhole) (arg10 : Memref sig .tc .vmem S4x16x128 .f32) (harg10 : arg10.IsWhole) (arg11 : Memref sig .tc .vmem S4x16x128 .f32) (harg11 : arg11.IsWhole) (arg12 : Memref sig .tc .vmem S4x1x128 .f32) (harg12 : arg12.IsWhole) (arg13 : Memref sig .tc .vmem S4x1536 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S4x128 .f32) (harg16 : arg16.IsWhole) (arg17 : Memref sig .tc .vmem S1x128 .f32) (harg17 : arg17.IsWhole) (arg18 : Memref sig .tc .vmem S1x16x1024 .bf16) (harg18 : arg18.IsWhole) (arg19 : Memref sig .tc .vmem S1x4x128x128 .f32) (harg19 : arg19.IsWhole) (arg20 : Memref sig .tc .vmem S1x4x128x128 .f32) (harg20 : arg20.IsWhole) (arg21 : Memref sig .tc .vmem S1x3x1536 .f32) (harg21 : arg21.IsWhole) (arg22 : Memref sig .tc .vmem S1x24x1536 .f32) (harg22 : arg22.IsWhole) (hc0 : cond0_0 i)
    (x0 : Vec F S16x4224 .f32) (x1 : Vec F S1x4x128x128 .f32) (x2 : Vec F S1x4x128x128 .f32) (x3 : Vec F S1x3x1536 .f32) (x4 : Vec F S16x128 .f32) (x5 : Vec F S16x128 .f32) (x6 : Vec F S16x16 .bf16) (x7 : Vec F S4x16x16 .f32) (x8 : Vec F S4x16x128 .f32) (x9 : Vec F S4x16x128 .f32) (x10 : Vec F S4x1x128 .f32) (x11 : Vec F S4x1536 .f32) (x12 : Vec F S1x128 .f32) (x13 : Vec F S1x128 .f32) (x14 : Vec F S4x128 .f32) (x15 : Vec F S1x128 .f32)
include hc0

/-- The pieces of the mixer's block. -/
theorem run16 : ∃ w3 w2 w1 w0 : FVec F S1x16x128 .bf16, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1 = [
    ⟨Rect.unit (s := S1x16x1024) ![0, 0, 896] S1x16x128.size inb_S1x16x1024_S1x16x128_0_0_896, y3 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk3 c arg4 harg4 arg20 x2) (View.readAt (Elt F) arg2.view (Rect.unit (s := S16x4224) ![0, 3968] S16x128.size inb_S16x4224_S16x128_0_3968).toLoadRect (harg2.unread x0)) (View.readAt (Elt F) arg17.view (Rect.unit (s := S1x128) ![0, 0] S1x128.size inb_S1x128_S1x128_0_0).toLoadRect (harg17.unread x15))⟩,
    ⟨Rect.unit (s := S1x16x1024) ![0, 0, 768] S1x16x128.size inb_S1x16x1024_S1x16x128_0_0_768, y2 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk2 c arg4 harg4 arg20 x2) (View.readAt (Elt F) arg2.view (Rect.unit (s := S16x4224) ![0, 3840] S16x128.size inb_S16x4224_S16x128_0_3840).toLoadRect (harg2.unread x0)) (View.readAt (Elt F) arg17.view (Rect.unit (s := S1x128) ![0, 0] S1x128.size inb_S1x128_S1x128_0_0).toLoadRect (harg17.unread x15))⟩,
    ⟨Rect.unit (s := S1x16x1024) ![0, 0, 640] S1x16x128.size inb_S1x16x1024_S1x16x128_0_0_640, y1 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk1 c arg4 harg4 arg20 x2) (View.readAt (Elt F) arg2.view (Rect.unit (s := S16x4224) ![0, 3712] S16x128.size inb_S16x4224_S16x128_0_3712).toLoadRect (harg2.unread x0)) (View.readAt (Elt F) arg17.view (Rect.unit (s := S1x128) ![0, 0] S1x128.size inb_S1x128_S1x128_0_0).toLoadRect (harg17.unread x15))⟩,
    ⟨Rect.unit (s := S1x16x1024) ![0, 0, 512] S1x16x128.size inb_S1x16x1024_S1x16x128_0_0_512, y0 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk0 c arg4 harg4 arg20 x2) (View.readAt (Elt F) arg2.view (Rect.unit (s := S16x4224) ![0, 3584] S16x128.size inb_S16x4224_S16x128_0_3584).toLoadRect (harg2.unread x0)) (View.readAt (Elt F) arg17.view (Rect.unit (s := S1x128) ![0, 0] S1x128.size inb_S1x128_S1x128_0_0).toLoadRect (harg17.unread x15))⟩,
    ⟨Rect.unit (s := S1x16x1024) ![0, 0, 384] S1x16x128.size inb_S1x16x1024_S1x16x128_0_0_384, w3⟩,
    ⟨Rect.unit (s := S1x16x1024) ![0, 0, 256] S1x16x128.size inb_S1x16x1024_S1x16x128_0_0_256, w2⟩,
    ⟨Rect.unit (s := S1x16x1024) ![0, 0, 128] S1x16x128.size inb_S1x16x1024_S1x16x128_0_0_128, w1⟩,
    ⟨Rect.unit (s := S1x16x1024) ![0, 0, 0] S1x16x128.size inb_S1x16x1024_S1x16x128_0_0_0, w0⟩] :=
  ⟨_, _, _, _, rfl⟩

/-- The pieces of the states' block. -/
theorem run18 : ∃ w : S1x4x128x128.Idx → Elt F .f32, (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.1 = [
    ⟨Rect.unit (s := S1x4x128x128) ![0, 3, 0, 0] S1x1x128x128.size inb_S1x4x128x128_S1x1x128x128_0_3_0_0, z3 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk3 c arg4 harg4 arg20 x2)⟩,
    ⟨Rect.unit (s := S1x4x128x128) ![0, 2, 0, 0] S1x1x128x128.size inb_S1x4x128x128_S1x1x128x128_0_2_0_0, z2 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk2 c arg4 harg4 arg20 x2)⟩,
    ⟨Rect.unit (s := S1x4x128x128) ![0, 1, 0, 0] S1x1x128x128.size inb_S1x4x128x128_S1x1x128x128_0_1_0_0, z1 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk1 c arg4 harg4 arg20 x2)⟩,
    ⟨Rect.unit (s := S1x4x128x128) ![0, 0, 0, 0] S1x1x128x128.size inb_S1x4x128x128_S1x1x128x128_0_0_0_0, z0 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk0 c arg4 harg4 arg20 x2)⟩,
    ⟨Rect.unit ![0, 0, 0, 0] S1x4x128x128.size inb_S1x4x128x128_S1x4x128x128_0_0_0_0, w⟩] := ⟨_, rfl⟩

theorem out16_0 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨512 + d.val, by omega⟩)
    = y0 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk0 c arg4 harg4 arg20 x2) (View.readAt (Elt F) arg2.view (Rect.unit (s := S16x4224) ![0, 3584] S16x128.size inb_S16x4224_S16x128_0_3584).toLoadRect (harg2.unread x0)) (View.readAt (Elt F) arg17.view (Rect.unit (s := S1x128) ![0, 0] S1x128.size inb_S1x128_S1x128_0_0).toLoadRect (harg17.unread x15)) (ix3 0 t d) := by
  intro t d
  have hd := d.isLt
  obtain ⟨w3, w2, w1, w0, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 512 + d.val < 896; omega)]
  rw [View.read_writes_cons_put _ _ _ _ _ rfl, put3_ne _ 768 _ _ _ (by show 512 + d.val < 768; omega)]
  rw [View.read_writes_cons_put _ _ _ _ _ rfl, put3_ne _ 640 _ _ _ (by show 512 + d.val < 640; omega)]
  rw [View.read_writes_cons_put _ _ _ _ _ rfl]
  exact put3_eq _ 512 _ t d (by omega)

theorem out16_1 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨640 + d.val, by omega⟩)
    = y1 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk1 c arg4 harg4 arg20 x2) (View.readAt (Elt F) arg2.view (Rect.unit (s := S16x4224) ![0, 3712] S16x128.size inb_S16x4224_S16x128_0_3712).toLoadRect (harg2.unread x0)) (View.readAt (Elt F) arg17.view (Rect.unit (s := S1x128) ![0, 0] S1x128.size inb_S1x128_S1x128_0_0).toLoadRect (harg17.unread x15)) (ix3 0 t d) := by
  intro t d
  have hd := d.isLt
  obtain ⟨w3, w2, w1, w0, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 640 + d.val < 896; omega)]
  rw [View.read_writes_cons_put _ _ _ _ _ rfl, put3_ne _ 768 _ _ _ (by show 640 + d.val < 768; omega)]
  rw [View.read_writes_cons_put _ _ _ _ _ rfl]
  exact put3_eq _ 640 _ t d (by omega)

theorem out16_2 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨768 + d.val, by omega⟩)
    = y2 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk2 c arg4 harg4 arg20 x2) (View.readAt (Elt F) arg2.view (Rect.unit (s := S16x4224) ![0, 3840] S16x128.size inb_S16x4224_S16x128_0_3840).toLoadRect (harg2.unread x0)) (View.readAt (Elt F) arg17.view (Rect.unit (s := S1x128) ![0, 0] S1x128.size inb_S1x128_S1x128_0_0).toLoadRect (harg17.unread x15)) (ix3 0 t d) := by
  intro t d
  have hd := d.isLt
  obtain ⟨w3, w2, w1, w0, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl, put3_ne _ 896 _ _ _ (by show 768 + d.val < 896; omega)]
  rw [View.read_writes_cons_put _ _ _ _ _ rfl]
  exact put3_eq _ 768 _ t d (by omega)

theorem out16_3 : ∀ (t : Fin 16) (d : Fin 128), out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix3 0 t ⟨896 + d.val, by omega⟩)
    = y3 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk3 c arg4 harg4 arg20 x2) (View.readAt (Elt F) arg2.view (Rect.unit (s := S16x4224) ![0, 3968] S16x128.size inb_S16x4224_S16x128_0_3968).toLoadRect (harg2.unread x0)) (View.readAt (Elt F) arg17.view (Rect.unit (s := S1x128) ![0, 0] S1x128.size inb_S1x128_S1x128_0_0).toLoadRect (harg17.unread x15)) (ix3 0 t d) := by
  intro t d
  have hd := d.isLt
  obtain ⟨w3, w2, w1, w0, e⟩ := run16 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_16
  rw [e]
  rw [View.read_writes_cons_put _ _ _ _ _ rfl]
  exact put3_eq _ 896 _ t d (by omega)

theorem out18_0 (e d : Fin 128) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨0, by decide⟩ e d)
    = z0 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk0 c arg4 harg4 arg20 x2) (ix4 0 0 e d) := by
  obtain ⟨w, e'⟩ := run18 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_18
  rw [e']
  rw [View.read_writes_cons_put _ _ _ _ _ rfl, put4_ne _ 3 _ _ _ _ (by show 0 < 3; omega)]
  rw [View.read_writes_cons_put _ _ _ _ _ rfl, put4_ne _ 2 _ _ _ _ (by show 0 < 2; omega)]
  rw [View.read_writes_cons_put _ _ _ _ _ rfl, put4_ne _ 1 _ _ _ _ (by show 0 < 1; omega)]
  rw [View.read_writes_cons_put _ _ _ _ _ rfl]
  exact put4_eq _ 0 _ (by decide) e d

theorem out18_1 (e d : Fin 128) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨1, by decide⟩ e d)
    = z1 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk1 c arg4 harg4 arg20 x2) (ix4 0 0 e d) := by
  obtain ⟨w, e'⟩ := run18 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_18
  rw [e']
  rw [View.read_writes_cons_put _ _ _ _ _ rfl, put4_ne _ 3 _ _ _ _ (by show 1 < 3; omega)]
  rw [View.read_writes_cons_put _ _ _ _ _ rfl, put4_ne _ 2 _ _ _ _ (by show 1 < 2; omega)]
  rw [View.read_writes_cons_put _ _ _ _ _ rfl]
  exact put4_eq _ 1 _ (by decide) e d

theorem out18_2 (e d : Fin 128) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨2, by decide⟩ e d)
    = z2 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk2 c arg4 harg4 arg20 x2) (ix4 0 0 e d) := by
  obtain ⟨w, e'⟩ := run18 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_18
  rw [e']
  rw [View.read_writes_cons_put _ _ _ _ _ rfl, put4_ne _ 3 _ _ _ _ (by show 2 < 3; omega)]
  rw [View.read_writes_cons_put _ _ _ _ _ rfl]
  exact put4_eq _ 2 _ (by decide) e d

theorem out18_3 (e d : Fin 128) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 (ix4 0 ⟨3, by decide⟩ e d)
    = z3 (Bk c arg2 harg2 arg5 harg5 arg13 harg13 arg22 x0 x3 x11) (View.readAt (Elt F) arg8.view (Rect.unit (s := S16x16) ![0, 0] S16x16.size inb_S16x16_S16x16_0_0).toLoadRect (harg8.unread x6)) (View.readAt (Elt F) arg2.view (Rect.unit (s := S16x4224) ![0, 4096] S16x128.size inb_S16x4224_S16x128_0_4096).toLoadRect (harg2.unread x0)) (View.readAt (Elt F) arg15.view (Rect.unit (s := S1x128) ![0, 0] S1x128.size inb_S1x128_S1x128_0_0).toLoadRect (harg15.unread x13)) (View.readAt (Elt F) arg14.view (Rect.unit (s := S1x128) ![0, 0] S1x128.size inb_S1x128_S1x128_0_0).toLoadRect (harg14.unread x12)) (Sk3 c arg4 harg4 arg20 x2) (ix4 0 0 e d) := by
  obtain ⟨w, e'⟩ := run18 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15
  unfold out0_A_18
  rw [e']
  rw [View.read_writes_cons_put _ _ _ _ _ rfl]
  exact put4_eq _ 3 _ (by decide) e d
end

end Cert.Kernel4Ideal.Hand
-- ==== Proof.GdnConv.lean ====
/-
The fourth program's convolution and decays, in the layer's rows.
-/
module

public import proofs.«01_k».proof.Proof.GdnVals
public import proofs.«01_k».proof.Proof.GdnReal

@[expose] public section

set_option maxRecDepth 16384

noncomputable section

namespace Cert.Kernel4Ideal.Hand

open Cert.Kernel4Ideal Cert.Kernel4Ideal.Gen Cert.GdnMath
open Idealize.ShloMosaic Idealize.ShloMosaic.TcCoe

theorem row0_bit : ∀ i : Fin 16, IntOp.cmpi CmpIPredicate.eq (BitVec.ofNat 32 i.val) 0#32 = if i.val = 0 then 1#1 else 0#1 := by decide +kernel
theorem row1_bit : ∀ i : Fin 16, IntOp.cmpi CmpIPredicate.eq (BitVec.ofNat 32 i.val) 1#32 = if i.val = 1 then 1#1 else 0#1 := by decide +kernel
theorem row2_bit : ∀ i : Fin 16, IntOp.cmpi CmpIPredicate.eq (BitVec.ofNat 32 ((i.val + 16 - 2) % 16)) 0#32 = if i.val = 2 then 1#1 else 0#1 := by decide +kernel

theorem cv_key (X : Fin 16 → Row 1536) (w : Fin 4 → Row 1536) (k : Fin 1536) (i j1 j2 j3 : Fin 16) (h1 : j1.val = (i.val + 16 - 1) % 16)
    (h2 : j2.val = (i.val + 16 - 2) % 16) (h3 : j3.val = ((i.val + 16 - 2) % 16 + 16 - 1) % 16) :
    X i k * w 3 k + Scalar.select (IntOp.cmpi CmpIPredicate.eq (BitVec.ofNat 32 i.val) 0#32) 0 (X j1 k) * w 2 k +
      Scalar.select (IntOp.cmpi CmpIPredicate.eq (BitVec.ofNat 32 i.val) 1#32) (0 * w 1 k + 0 * w 0 k)
        (Scalar.select (IntOp.cmpi CmpIPredicate.eq (BitVec.ofNat 32 i.val) 0#32) (0 * w 1 k + 0 * w 0 k)
          (X j2 k * w 1 k + Scalar.select (IntOp.cmpi CmpIPredicate.eq (BitVec.ofNat 32 ((i.val + 16 - 2) % 16)) 0#32) 0 (X j3 k) * w 0 k))
    = (if h : 3 ≤ i.val then X ⟨i.val - 3, by omega⟩ k else 0) * w 0 k + (if h : 2 ≤ i.val then X ⟨i.val - 2, by omega⟩ k else 0) * w 1 k +
        (if h : 1 ≤ i.val then X ⟨i.val - 1, by omega⟩ k else 0) * w 2 k + X i k * w 3 k := by
  rw [row0_bit, row1_bit, row2_bit]
  simp only [sel_ite]
  by_cases g0 : i.val = 0
  · have e1 : ¬ 3 ≤ i.val := by omega
    have e2 : ¬ 2 ≤ i.val := by omega
    have e3 : ¬ 1 ≤ i.val := by omega
    rw [dif_neg e1, dif_neg e2, dif_neg e3, if_pos g0, if_pos g0, if_neg (by omega : ¬ i.val = 1)]
    simp only [zero_mul, zero_add, add_zero]
  have f1 : j1 = ⟨i.val - 1, by omega⟩ := Fin.ext (by rw [h1]; show _ = i.val - 1; omega)
  rw [f1, if_neg g0, if_neg g0, dif_pos (by omega : 1 ≤ i.val)]
  by_cases g1 : i.val = 1
  · rw [dif_neg (by omega), dif_neg (by omega), if_pos g1]
    simp only [zero_mul, zero_add, add_zero]
    exact add_comm _ _
  have f2 : j2 = ⟨i.val - 2, by omega⟩ := Fin.ext (by rw [h2]; show _ = i.val - 2; omega)
  rw [f2, if_neg g1, dif_pos (by omega : 2 ≤ i.val)]
  by_cases g2 : i.val = 2
  · rw [dif_neg (by omega), if_pos g2]
    simp only [zero_mul, zero_add, add_zero]
    ac_rfl
  · have f3 : j3 = ⟨i.val - 3, by omega⟩ := Fin.ext (by rw [h3]; show _ = i.val - 3; omega)
    rw [f3, if_neg g2, dif_pos (by omega)]
    ac_rfl

section
variable (X : Fin 16 → Row 1536) (w : Fin 4 → Row 1536) (a b c d : Vec Ideal S1x1536 .f32) (x : Vec Ideal S16x1536 .f32)
  (p : Vec Ideal S1x1x1536 .f32) (q r : Vec Ideal S1x2x1536 .f32)

theorem cv_row (ha : ∀ k, a (ix2 0 k) = w 0 k) (hb : ∀ k, b (ix2 0 k) = w 1 k) (hc : ∀ k, c (ix2 0 k) = w 2 k) (hd : ∀ k, d (ix2 0 k) = w 3 k)
    (hx : ∀ t k, x (ix2 t k) = X t k) (hp : ∀ k, p (ix3 0 0 k) = 0) (hq : ∀ n k, q (ix3 0 n k) = 0) (hr : ∀ n k, r (ix3 0 n k) = 0)
    (i : Fin 16) (k : Fin 1536) : cvB a b c d x p q r (ix2 i k) = cvM X w i k := by
  unfold cvB
  pointwise [k0_pay69, k0_pay61, k0_pay62, k0_pay63, k0_pay64, k0_pay66, k0_pay67, k0_pay68]
  unfold cvM pre
  simp only [ha, hb, hc, hd, hx, hp, hq, hr]
  exact cv_key X w k i _ _ _ rfl rfl rfl
end

section
variable (P : Fin 16 → Row 4224) (w : Fin 4 → Row 1536) (alv dtv : Fin 4 → EReal) (B : FVec Ideal S16x1536 .f32) (L : Vec Ideal S16x16 .bf16) (x : Vec Ideal S16x128 .f32)
  (dt al : Vec Ideal S1x128 .f32)

theorem act_row (hB : ∀ i k, B (ix2 i k) = cvM (fun t k => P t ⟨2048 + k.val, by omega⟩) w i k) : actB B = cC P w := by
  funext t k
  unfold actB cC
  rw [hB]

theorem bet_row (hx : ∀ t (k : Fin 128), x (ix2 t k) = P t ⟨4096 + k.val, by omega⟩) (h : Fin 4) : bB x h = bC P h := by
  funext t
  unfold bB bC
  rw [hx]

theorem cu_row (hL : ∀ t s, L (ix2 t s) = (if s ≤ t then 1 else 0 : EReal)) (hx : ∀ t (k : Fin 128), x (ix2 t k) = P t ⟨4096 + k.val, by omega⟩)
    (hd : ∀ h : Fin 4, dt (ix2 0 ⟨4 + h.val, by omega⟩) = dtv h) (ha : ∀ h : Fin 4, al (ix2 0 ⟨4 + h.val, by omega⟩) = alv h) (h : Fin 4) :
    cB L x dt al h = uC P alv dtv h := by
  funext t
  unfold cB uC
  rw [← split_cum (gC P alv dtv h) (fun s => gM_nonpos _ _ _ s) (fun t s => if s ≤ t then 1 else 0) (fun _ _ => rfl) t]
  unfold cuB
  pointwise [k0_pay75]
  simp only [hL, hx, hd, ha]
  have eg : ∀ s, (0 - Ideal.exp (alv h)) * (max (P s ⟨4096 + (4 + h.val), by omega⟩ + dtv h) 0 +
      Ideal.log1p (Ideal.exp (0 - FloatOps.absf (F := Ideal) (φ := .f32) (P s ⟨4096 + (4 + h.val), by omega⟩ + dtv h)))) = gC P alv dtv h s := by
    intro s
    have ix : (⟨4096 + (4 + h.val), by omega⟩ : Fin 4224) = ⟨4100 + h.val, by omega⟩ := Fin.ext (by show 4096 + (4 + h.val) = 4100 + h.val; omega)
    rw [ix, sub_eq_add_neg, sub_eq_add_neg, zero_add, zero_add]
    rfl
  simp only [eg]
end

end Cert.Kernel4Ideal.Hand
-- ==== Proof.GdnRef.lean ====
/-
The reference of the fourth program read head by head, at the extended reals.
-/
module

public import proofs.«01_k».proof.Proof.Gen.Reference4Ideal.Read
public import proofs.«01_k».proof.Proof.GdnFun
public import Idealize.ShloMosaic.Lib.Pointwise
public import Idealize.ShloMosaic.Lib.ValueIdxCore

@[expose] public section

set_option maxRecDepth 16384

noncomputable section

namespace Cert.Reference4Ideal.Rows

open Cert.Reference4Ideal Cert.Reference4Ideal.Gen Cert.Reference4Ideal.Read Cert.GdnMath
open Idealize.ShloMosaic

variable (x0 : Vec Ideal S528x4224 .f32) (x1 : Vec Ideal S1x4x1536 .f32) (x2 x3 : Vec Ideal S1x4 .f32) (x5 : Vec Ideal S1x128 .f32)

/-- The sixteen meta rows of the projection. -/
def aP (t : Fin 16) : Row 4224 := fun k => x0 (ix2 ⟨512 + t.val, by omega⟩ k)
/-- The convolution's taps. -/
def aC (n : Fin 4) : Row 1536 := fun k => x1 (ix3 0 n k)
/-- One value per head. -/
def aH (h : Fin 4) : EReal := x2 (ix2 0 h)
/-- The weights of the normalization. -/
def aW : Row 128 := fun d => x5 (ix2 0 d)

theorem sel_ite {α : Type} (p : Prop) [Decidable p] (a b : α) : Scalar.select (if p then 1#1 else 0#1) a b = if p then a else b := by
  split_ifs <;> rfl

theorem call2_v3_row (h : Fin 4) (t s : Fin 16) : val_main_call2_v3 (F := Ideal) (ix4 0 h t s) = (0 : EReal) := by
  pointwise [val_main_call2_v3, val_main_call2_v0]
  exact Ideal.ofBits_zero_f32

theorem call4_v2_row (h : Fin 4) (t s : Fin 16) : val_main_call4_v2 (F := Ideal) (ix4 0 h t s) = (0 : EReal) := by
  pointwise [val_main_call4_v2, val_main_call4_v0]
  exact Ideal.ofBits_zero_f32

theorem call35_v2_row (h : Fin 4) (t s : Fin 16) : val_main_call35_v2 (F := Ideal) (ix4 0 h t s) = (0 : EReal) := by
  pointwise [val_main_call35_v2, val_main_call35_v0]
  exact Ideal.ofBits_zero_f32

theorem v8_row (r : Fin 19) (k : Fin 1536) :
    val_main_v8 (F := Ideal) x0 (ix3 0 r k) = if h : 3 ≤ r.val then aP x0 ⟨r.val - 3, by omega⟩ ⟨2048 + k.val, by omega⟩ else 0 := by
  pointwise [val_main_v8, val_main_v6, val_main_cst, val_main_v2, val_main_v1, val_main_v0]
  unfold aP
  by_cases h : 3 ≤ r.val
  · rw [dif_neg (by omega), dif_pos h]
  · rw [dif_pos (by omega), dif_neg h]

theorem v35_row (t : Fin 16) (k : Fin 1536) :
    val_main_v35 (F := Ideal) x0 x1 (ix3 0 t k) = cvM (fun t k => aP x0 t ⟨2048 + k.val, by omega⟩) (aC x1) t k := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v7]
  simp only [v8_row]
  have e : ∀ n, n ≤ 3 → (if h : 3 ≤ 3 - n + t.val then aP x0 ⟨3 - n + t.val - 3, by omega⟩ ⟨2048 + k.val, by omega⟩ else 0) = pre (fun t k => aP x0 t ⟨2048 + k.val, by omega⟩) t n k := by
    intro n hn
    unfold pre
    split_ifs
    · exact congrArg (fun r => aP x0 r ⟨2048 + k.val, _⟩) (Fin.ext (by show 3 - n + t.val - 3 = t.val - n; omega))
    · omega
    · omega
    · rfl
  unfold cvM
  have e3 := e 3 (by omega)
  have e2 := e 2 (by omega)
  have e1 := e 1 (by omega)
  have e0 := e 0 (by omega)
  simp only [Nat.sub_self, Nat.zero_add, Nat.sub_zero, Nat.reduceSub] at e3 e2 e1 e0
  rw [← e3, ← e2, ← e1]
  refine congrArg₂ (· + ·) rfl (congrArg₂ (· * ·) (e0.trans ?_) rfl)
  unfold pre
  rw [if_pos (by omega)]
  rfl

theorem v37_row (t : Fin 16) (k : Fin 1536) : val_main_v37 (F := Ideal) x0 x1 (ix3 0 t k) = cC (aP x0) (aC x1) t k := by
  pointwise [val_main_v37, val_main_call0_v5, val_main_call0_v4, val_main_call0_v3, val_main_call0_v2, val_main_call0_v1, val_main_call0_v0, val_main_call0_cst, val_main_call0_cst_0]
  simp only [v35_row]
  rfl

theorem v42_row (h : Fin 4) (t : Fin 16) (d : Fin 128) : val_main_v42 (F := Ideal) x0 x1 (ix4 0 h t d) = hd (cC (aP x0) (aC x1)) 0 (by decide) h t d := by
  pointwise [val_main_v42, val_main_v41, val_main_v38]
  simp only [v37_row]
  exact congrArg (cC (aP x0) (aC x1) t) (Fin.ext (by dsimp only; omega))

theorem v54_row (h : Fin 4) (t : Fin 16) (d : Fin 128) : val_main_v54 (F := Ideal) x0 x1 (ix4 0 h t d) = hd (cC (aP x0) (aC x1)) 512 (by decide) h t d := by
  pointwise [val_main_v54, val_main_v53, val_main_v39]
  simp only [v37_row]
  exact congrArg (cC (aP x0) (aC x1) t) (Fin.ext (by dsimp only; omega))

theorem v84_row (h : Fin 4) (t : Fin 16) (d : Fin 128) : val_main_v84 (F := Ideal) x0 x1 (ix4 0 h t d) = vh (cC (aP x0) (aC x1)) h t d := by
  pointwise [val_main_v84, val_main_v83, val_main_v40]
  simp only [v37_row]
  exact congrArg (cC (aP x0) (aC x1) t) (Fin.ext (by dsimp only; omega))

theorem v52_row (h : Fin 4) (t : Fin 16) (d : Fin 128) : val_main_v52 (F := Ideal) x0 x1 (ix4 0 h t d) = qh (cC (aP x0) (aC x1)) h t d := by
  pointwise [val_main_v52, val_main_v51, val_main_v50, val_main_v49, val_main_v48, val_main_v47, val_main_v46, val_main_v45, val_main_v44, val_main_v43, val_main_cst_0, val_main_cst_1, val_main_cst_2]
  simp only [v42_row]
  rfl

theorem v62_row (h : Fin 4) (t : Fin 16) (d : Fin 128) : val_main_v62 (F := Ideal) x0 x1 (ix4 0 h t d) = kh (cC (aP x0) (aC x1)) h t d := by
  pointwise [val_main_v62, val_main_v61, val_main_v60, val_main_v59, val_main_v58, val_main_v57, val_main_v56, val_main_v55, val_main_cst_3, val_main_cst_4]
  simp only [v54_row]
  rfl

theorem v69_row (h : Fin 4) (t : Fin 16) : val_main_v69 (F := Ideal) x0 (ix3 0 h t) = bC (aP x0) h t := by
  pointwise [val_main_v69, val_main_v68, val_main_v67, val_main_v66, val_main_v65, val_main_v64, val_main_v63, val_main_cst_5, val_main_cst_6, val_main_v4, val_main_v1, val_main_v0]
  rfl

theorem v81_row (h : Fin 4) (t : Fin 16) : val_main_v81 (F := Ideal) x0 x2 x3 (ix3 0 h t) = gC (aP x0) (aH x2) (aH x3) h t := by
  pointwise [val_main_v81, val_main_v80, val_main_v79, val_main_v78, val_main_v77, val_main_v76, val_main_v75, val_main_v74, val_main_v73, val_main_v72, val_main_v71, val_main_v70, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v5, val_main_v1, val_main_v0]
  simp only [ne_eq, not_true_eq_false, if_false]
  rfl

theorem v90_row (t s : Fin 16) : val_main_v90 (F := Ideal) (ix2 t s) = if s ≤ t then 1#1 else 0#1 := by
  pointwise [val_main_v90, val_main_v89, val_main_v88, val_main_v87, val_main_v86, val_main_v85]
  revert t s
  decide +kernel

theorem v95_row (t s : Fin 16) : val_main_v95 (F := Ideal) (ix2 t s) = if s < t then 1#1 else 0#1 := by
  pointwise [val_main_v95, val_main_v94, val_main_v93, val_main_v92, val_main_v91, val_main_v85]
  revert t s
  decide +kernel

theorem v98_row (h : Fin 4) (t : Fin 16) : val_main_v98 (F := Ideal) x0 x2 x3 (ix3 0 h t) = uC (aP x0) (aH x2) (aH x3) h t := by
  pointwise [val_main_v98, val_main_v97, val_main_v96, val_main_call2_v2, val_main_call2_v1, val_main_cst_9]
  simp only [call2_v3_row, v90_row, v81_row, sel_ite]
  rfl

theorem v105_row (h : Fin 4) (t s : Fin 16) : val_main_v105 (F := Ideal) x0 x2 x3 (ix4 0 h t s) = dm (uC (aP x0) (aH x2) (aH x3) h) t s := by
  pointwise [val_main_v105, val_main_v104, val_main_v103, val_main_v102, val_main_v101, val_main_v100, val_main_v99, val_main_call3_v2, val_main_call3_v1, val_main_call3_v0, val_main_cst_10]
  simp only [v90_row, v98_row, sel_ite]
  rfl

section
variable (h : Fin 4)
/-- The matrix of the system. -/
def aA : Sq := aM (bC (aP x0) h) (kh (cC (aP x0) (aC x1)) h) (uC (aP x0) (aH x2) (aH x3) h)
/-- The right side of the system. -/
def aR : Fin 16 → Row 128 := rM (vh (cC (aP x0) (aC x1)) h) (bC (aP x0) h)
end

theorem v111_row (h : Fin 4) (t s : Fin 16) : val_main_v111 (F := Ideal) x0 x1 x2 x3 (ix4 0 h t s) = aA x0 x1 x2 x3 h t s := by
  pointwise [val_main_v111, val_main_v110, val_main_v109, val_main_v108, val_main_v107, val_main_v106, val_main_call4_v1]
  simp only [call4_v2_row, v95_row, v105_row, v62_row, v69_row, sel_ite]
  rfl

theorem v114_row (h : Fin 4) (t : Fin 16) (d : Fin 128) : val_main_v114 (F := Ideal) x0 x1 (ix4 0 h t d) = aR x0 x1 h t d := by
  pointwise [val_main_v114, val_main_v113, val_main_v112]
  simp only [v84_row, v69_row]
  rfl

theorem v121_row (h : Fin 4) (t : Fin 16) (d : Fin 128) : val_main_v121 (F := Ideal) x0 x1 x2 x3 (ix4 0 h t d) = subs (aA x0 x1 x2 x3 h) (aR x0 x1 h) 1 t d := by
  pointwise [val_main_v121, val_main_call5_v0, val_main_v120, val_main_v119, val_main_v118, val_main_v117, val_main_c, val_main_v116, val_main_v115]
  simp only [v114_row, v114_row, v111_row]
  have e : ∀ t : Fin 16, IntOp.cmpi CmpIPredicate.eq (BitVec.ofNat 32 t.val) 1#32 = if t.val = 1 then 1#1 else 0#1 := by decide +kernel
  rw [e, sel_ite]
  rfl

theorem v126_row (h : Fin 4) (t : Fin 16) (d : Fin 128) : val_main_v126 (F := Ideal) x0 x1 x2 x3 (ix4 0 h t d) = subs (aA x0 x1 x2 x3 h) (aR x0 x1 h) 2 t d := by
  pointwise [val_main_v126, val_main_call6_v0, val_main_v125, val_main_v124, val_main_v123, val_main_v122, val_main_c_12, val_main_v116, val_main_v115]
  simp only [v121_row, v114_row, v111_row]
  have e : ∀ t : Fin 16, IntOp.cmpi CmpIPredicate.eq (BitVec.ofNat 32 t.val) 2#32 = if t.val = 2 then 1#1 else 0#1 := by decide +kernel
  rw [e, sel_ite]
  rfl

theorem v131_row (h : Fin 4) (t : Fin 16) (d : Fin 128) : val_main_v131 (F := Ideal) x0 x1 x2 x3 (ix4 0 h t d) = subs (aA x0 x1 x2 x3 h) (aR x0 x1 h) 3 t d := by
  pointwise [val_main_v131, val_main_call7_v0, val_main_v130, val_main_v129, val_main_v128, val_main_v127, val_main_c_13, val_main_v116, val_main_v115]
  simp only [v126_row, v114_row, v111_row]
  have e : ∀ t : Fin 16, IntOp.cmpi CmpIPredicate.eq (BitVec.ofNat 32 t.val) 3#32 = if t.val = 3 then 1#1 else 0#1 := by decide +kernel
  rw [e, sel_ite]
  rfl

theorem v136_row (h : Fin 4) (t : Fin 16) (d : Fin 128) : val_main_v136 (F := Ideal) x0 x1 x2 x3 (ix4 0 h t d) = subs (aA x0 x1 x2 x3 h) (aR x0 x1 h) 4 t d := by
  pointwise [val_main_v136, val_main_call8_v0, val_main_v135, val_main_v134, val_main_v133, val_main_v132, val_main_c_14, val_main_v116, val_main_v115]
  simp only [v131_row, v114_row, v111_row]
  have e : ∀ t : Fin 16, IntOp.cmpi CmpIPredicate.eq (BitVec.ofNat 32 t.val) 4#32 = if t.val = 4 then 1#1 else 0#1 := by decide +kernel
  rw [e, sel_ite]
  rfl

theorem v141_row (h : Fin 4) (t : Fin 16) (d : Fin 128) : val_main_v141 (F := Ideal) x0 x1 x2 x3 (ix4 0 h t d) = subs (aA x0 x1 x2 x3 h) (aR x0 x1 h) 5 t d := by
  pointwise [val_main_v141, val_main_call9_v0, val_main_v140, val_main_v139, val_main_v138, val_main_v137, val_main_c_15, val_main_v116, val_main_v115]
  simp only [v136_row, v114_row, v111_row]
  have e : ∀ t : Fin 16, IntOp.cmpi CmpIPredicate.eq (BitVec.ofNat 32 t.val) 5#32 = if t.val = 5 then 1#1 else 0#1 := by decide +kernel
  rw [e, sel_ite]
  rfl

theorem v146_row (h : Fin 4) (t : Fin 16) (d : Fin 128) : val_main_v146 (F := Ideal) x0 x1 x2 x3 (ix4 0 h t d) = subs (aA x0 x1 x2 x3 h) (aR x0 x1 h) 6 t d := by
  pointwise [val_main_v146, val_main_call10_v0, val_main_v145, val_main_v144, val_main_v143, val_main_v142, val_main_c_16, val_main_v116, val_main_v115]
  simp only [v141_row, v114_row, v111_row]
  have e : ∀ t : Fin 16, IntOp.cmpi CmpIPredicate.eq (BitVec.ofNat 32 t.val) 6#32 = if t.val = 6 then 1#1 else 0#1 := by decide +kernel
  rw [e, sel_ite]
  rfl

theorem v151_row (h : Fin 4) (t : Fin 16) (d : Fin 128) : val_main_v151 (F := Ideal) x0 x1 x2 x3 (ix4 0 h t d) = subs (aA x0 x1 x2 x3 h) (aR x0 x1 h) 7 t d := by
  pointwise [val_main_v151, val_main_call11_v0, val_main_v150, val_main_v149, val_main_v148, val_main_v147, val_main_c_17, val_main_v116, val_main_v115]
  simp only [v146_row, v114_row, v111_row]
  have e : ∀ t : Fin 16, IntOp.cmpi CmpIPredicate.eq (BitVec.ofNat 32 t.val) 7#32 = if t.val = 7 then 1#1 else 0#1 := by decide +kernel
  rw [e, sel_ite]
  rfl

theorem v156_row (h : Fin 4) (t : Fin 16) (d : Fin 128) : val_main_v156 (F := Ideal) x0 x1 x2 x3 (ix4 0 h t d) = subs (aA x0 x1 x2 x3 h) (aR x0 x1 h) 8 t d := by
  pointwise [val_main_v156, val_main_call12_v0, val_main_v155, val_main_v154, val_main_v153, val_main_v152, val_main_c_18, val_main_v116, val_main_v115]
  simp only [v151_row, v114_row, v111_row]
  have e : ∀ t : Fin 16, IntOp.cmpi CmpIPredicate.eq (BitVec.ofNat 32 t.val) 8#32 = if t.val = 8 then 1#1 else 0#1 := by decide +kernel
  rw [e, sel_ite]
  rfl

theorem v161_row (h : Fin 4) (t : Fin 16) (d : Fin 128) : val_main_v161 (F := Ideal) x0 x1 x2 x3 (ix4 0 h t d) = subs (aA x0 x1 x2 x3 h) (aR x0 x1 h) 9 t d := by
  pointwise [val_main_v161, val_main_call13_v0, val_main_v160, val_main_v159, val_main_v158, val_main_v157, val_main_c_19, val_main_v116, val_main_v115]
  simp only [v156_row, v114_row, v111_row]
  have e : ∀ t : Fin 16, IntOp.cmpi CmpIPredicate.eq (BitVec.ofNat 32 t.val) 9#32 = if t.val = 9 then 1#1 else 0#1 := by decide +kernel
  rw [e, sel_ite]
  rfl

theorem v166_row (h : Fin 4) (t : Fin 16) (d : Fin 128) : val_main_v166 (F := Ideal) x0 x1 x2 x3 (ix4 0 h t d) = subs (aA x0 x1 x2 x3 h) (aR x0 x1 h) 10 t d := by
  pointwise [val_main_v166, val_main_call14_v0, val_main_v165, val_main_v164, val_main_v163, val_main_v162, val_main_c_20, val_main_v116, val_main_v115]
  simp only [v161_row, v114_row, v111_row]
  have e : ∀ t : Fin 16, IntOp.cmpi CmpIPredicate.eq (BitVec.ofNat 32 t.val) 10#32 = if t.val = 10 then 1#1 else 0#1 := by decide +kernel
  rw [e, sel_ite]
  rfl

theorem v171_row (h : Fin 4) (t : Fin 16) (d : Fin 128) : val_main_v171 (F := Ideal) x0 x1 x2 x3 (ix4 0 h t d) = subs (aA x0 x1 x2 x3 h) (aR x0 x1 h) 11 t d := by
  pointwise [val_main_v171, val_main_call15_v0, val_main_v170, val_main_v169, val_main_v168, val_main_v167, val_main_c_21, val_main_v116, val_main_v115]
  simp only [v166_row, v114_row, v111_row]
  have e : ∀ t : Fin 16, IntOp.cmpi CmpIPredicate.eq (BitVec.ofNat 32 t.val) 11#32 = if t.val = 11 then 1#1 else 0#1 := by decide +kernel
  rw [e, sel_ite]
  rfl

theorem v176_row (h : Fin 4) (t : Fin 16) (d : Fin 128) : val_main_v176 (F := Ideal) x0 x1 x2 x3 (ix4 0 h t d) = subs (aA x0 x1 x2 x3 h) (aR x0 x1 h) 12 t d := by
  pointwise [val_main_v176, val_main_call16_v0, val_main_v175, val_main_v174, val_main_v173, val_main_v172, val_main_c_22, val_main_v116, val_main_v115]
  simp only [v171_row, v114_row, v111_row]
  have e : ∀ t : Fin 16, IntOp.cmpi CmpIPredicate.eq (BitVec.ofNat 32 t.val) 12#32 = if t.val = 12 then 1#1 else 0#1 := by decide +kernel
  rw [e, sel_ite]
  rfl

theorem v181_row (h : Fin 4) (t : Fin 16) (d : Fin 128) : val_main_v181 (F := Ideal) x0 x1 x2 x3 (ix4 0 h t d) = subs (aA x0 x1 x2 x3 h) (aR x0 x1 h) 13 t d := by
  pointwise [val_main_v181, val_main_call17_v0, val_main_v180, val_main_v179, val_main_v178, val_main_v177, val_main_c_23, val_main_v116, val_main_v115]
  simp only [v176_row, v114_row, v111_row]
  have e : ∀ t : Fin 16, IntOp.cmpi CmpIPredicate.eq (BitVec.ofNat 32 t.val) 13#32 = if t.val = 13 then 1#1 else 0#1 := by decide +kernel
  rw [e, sel_ite]
  rfl

theorem v186_row (h : Fin 4) (t : Fin 16) (d : Fin 128) : val_main_v186 (F := Ideal) x0 x1 x2 x3 (ix4 0 h t d) = subs (aA x0 x1 x2 x3 h) (aR x0 x1 h) 14 t d := by
  pointwise [val_main_v186, val_main_call18_v0, val_main_v185, val_main_v184, val_main_v183, val_main_v182, val_main_c_24, val_main_v116, val_main_v115]
  simp only [v181_row, v114_row, v111_row]
  have e : ∀ t : Fin 16, IntOp.cmpi CmpIPredicate.eq (BitVec.ofNat 32 t.val) 14#32 = if t.val = 14 then 1#1 else 0#1 := by decide +kernel
  rw [e, sel_ite]
  rfl

theorem v191_row (h : Fin 4) (t : Fin 16) (d : Fin 128) : val_main_v191 (F := Ideal) x0 x1 x2 x3 (ix4 0 h t d) = subs (aA x0 x1 x2 x3 h) (aR x0 x1 h) 15 t d := by
  pointwise [val_main_v191, val_main_call19_v0, val_main_v190, val_main_v189, val_main_v188, val_main_v187, val_main_c_25, val_main_v116, val_main_v115]
  simp only [v186_row, v114_row, v111_row]
  have e : ∀ t : Fin 16, IntOp.cmpi CmpIPredicate.eq (BitVec.ofNat 32 t.val) 15#32 = if t.val = 15 then 1#1 else 0#1 := by decide +kernel
  rw [e, sel_ite]
  rfl

theorem v276_row (h : Fin 4) (t s : Fin 16) : val_main_v276 (F := Ideal) x0 x1 x2 x3 (ix4 0 h t s)
    = qM (qh (cC (aP x0) (aC x1)) h) (kh (cC (aP x0) (aC x1)) h) (uC (aP x0) (aH x2) (aH x3) h) t s := by
  pointwise [val_main_v276, val_main_v275, val_main_v274, val_main_call35_v1]
  simp only [call35_v2_row, v90_row, v105_row, v62_row, v52_row, sel_ite]
  rfl

theorem v292_row (h : Fin 4) (t : Fin 16) (d : Fin 128) : val_main_v292 (F := Ideal) x0 x1 x2 x3 (ix4 0 h t d)
    = wS (aP x0) (aC x1) (aH x2) (aH x3) (fun a r => subs a r 15) h t d := by
  pointwise [val_main_v292, val_main_v291, val_main_v82, val_main_cst_7]
  simp only [v191_row, mul_zero, Finset.sum_const_zero, sub_zero]
  rfl

theorem v295_row (h : Fin 4) (t : Fin 16) (d : Fin 128) : val_main_v295 (F := Ideal) x0 x1 x2 x3 (ix4 0 h t d)
    = oM (qM (qh (cC (aP x0) (aC x1)) h) (kh (cC (aP x0) (aC x1)) h) (uC (aP x0) (aH x2) (aH x3) h)) (wS (aP x0) (aC x1) (aH x2) (aH x3) (fun a r => subs a r 15) h) t d := by
  pointwise [val_main_v295, val_main_v294, val_main_v293, val_main_v82, val_main_cst_7]
  simp only [v276_row, v292_row, mul_zero, Finset.sum_const_zero, zero_add]
  rfl

theorem v300_row (h : Fin 4) (e d : Fin 128) : val_main_v300 (F := Ideal) x0 x1 x2 x3 (ix4 0 h e d)
    = sS (aP x0) (aC x1) (aH x2) (aH x3) (fun a r => subs a r 15) h e d := by
  pointwise [val_main_v300, val_main_v299, val_main_v298, val_main_v287, val_main_v286, val_main_v285, val_main_v284, val_main_v283, val_main_v282, val_main_v281, val_main_v82, val_main_cst_7]
  simp only [v62_row, v98_row, v292_row, mul_zero, zero_add]
  rfl

theorem v315_row (h : Fin 4) (t : Fin 16) (d : Fin 128) : val_main_v315 (F := Ideal) x0 x1 x2 x3 x5 (ix4 0 t h d)
    = (fun o : Row 128 => o d * Ideal.rsqrt (Ideal.div (∑ e, o e * o e) (Ideal.ofBits FTy.f32 1124073472#32) + eps) * aW x5 d)
      (oM (qM (qh (cC (aP x0) (aC x1)) h) (kh (cC (aP x0) (aC x1)) h) (uC (aP x0) (aH x2) (aH x3) h)) (wS (aP x0) (aC x1) (aH x2) (aH x3) (fun a r => subs a r 15) h) t) := by
  pointwise [val_main_v315, val_main_v314, val_main_v313, val_main_v312, val_main_v311, val_main_v310, val_main_v309, val_main_v308, val_main_v307, val_main_v306, val_main_v305, val_main_v304, val_main_v303, val_main_v302, val_main_v301, val_main_cst_42, val_main_cst_43, val_main_cst_44]
  simp only [v295_row]
  rfl

theorem v319_row (h : Fin 4) (t : Fin 16) (d : Fin 128) : val_main_v319 (F := Ideal) x0 x1 x2 x3 x5 (ix3 0 t (⟨128 * h.val + d.val, by omega⟩ : Fin 512))
    = yS (aP x0) (aC x1) (aH x2) (aH x3) (aW x5) (fun a r => subs a r 15) h t d := by
  pointwise [val_main_v319, val_main_v318, val_main_v317, val_main_v316, val_main_call36_v5, val_main_call36_v4, val_main_call36_v3, val_main_call36_v2, val_main_call36_v1, val_main_call36_v0, val_main_call36_cst, val_main_call36_cst_0, val_main_v3, val_main_v1, val_main_v0]
  rw [v315_row]
  have e : x0 (ix2 (⟨512 + t.val, by omega⟩ : Fin 528) (⟨3584 + (128 * h.val + d.val), by omega⟩ : Fin 4224)) = aP x0 t ⟨3584 + 128 * h.val + d.val, by omega⟩ :=
    congrArg (fun k => x0 (ix2 (⟨512 + t.val, by omega⟩ : Fin 528) k)) (Fin.ext (by show 3584 + (128 * h.val + d.val) = 3584 + 128 * h.val + d.val; omega))
  rw [e]
  rfl

end Cert.Reference4Ideal.Rows
-- ==== Proof.GdnTabs.lean ====
/-
The tables that the fourth program's host lines prepare for its region, and the blocks the one point reads.
-/
module

public import proofs.«01_k».proof.Proof.Gen.Kernel4Ideal.Frame
public import proofs.«01_k».proof.Proof.GdnRef
public import Idealize.ShloMosaic.Lib.IdealHost
public import Idealize.ShloMosaic.Lib.ValueIdxCore
public import Idealize.ShloMosaic.Lib.Pointwise
public import Idealize.ShloMosaic.Lib.Pipeline.ValueKit.Point

@[expose] public section

set_option maxRecDepth 16384

noncomputable section

namespace Cert.Kernel4Ideal.Hand

open Cert.Kernel4Ideal Cert.Kernel4Ideal.Gen Cert.GdnMath Cert.Reference4Ideal.Rows
open Idealize.ShloMosaic Idealize.ShloMosaic.TcCoe Idealize.SL.Sem
open Idealize.ShloMosaic.Pipeline (Dat Cfg Window)

variable (m : (ℓ : Loc nD τ sig) → Buf (Elt Ideal) ℓ)

/-! ## The arrays -/

/-- The ones on and under the diagonal. -/
def lowT : Vec Ideal S16x16 .bf16 := fun i => FloatOps.ofBits (F := Ideal) .bf16 (lit0 (S16x16.rowMajor i))

/-- A row of values per head, padded to the lanes. -/
def padT (x : Vec Ideal S1x4 .f32) : Vec Ideal S1x128 .f32 :=
  shapeCast S1x128 (pad S128 ![4] ![120] ![0] (shapeCast S4 x shapeCasts_S1x4_S4) (sitofp (F := Ideal) .f32 (constantI S_ 32 0#32)) pads_S4_S128_41200 h_S_) shapeCasts_S128_S1x128

theorem V_arg0 (c : Dev nD) : V m c main_arg0 = (m ((c : Thread nD τ).loc main_arg0)) := by
  show StableHlo.after _ _ (Proc.devRef .tc main_arg0) = _
  simp only [List.flatten_cons, List.flatten_nil, List.cons_append, List.nil_append, List.append_nil]
  after_results

theorem V_v42 (c : Dev nD) : V m c main_v42 = broadcastInDim S1x4x128x128 ![] bcast_S_S1x4x128x128 (constant (F := Ideal) S_ .f32 0x00000000#32) := by
  show StableHlo.after _ _ (Proc.devRef .tc main_v42) = _
  simp only [List.flatten_cons, List.flatten_nil, List.cons_append, List.nil_append, List.append_nil]
  after_results

theorem V_v43 (c : Dev nD) : V m c main_v43 = broadcastInDim S1x3x1536 ![] bcast_S_S1x3x1536 (constant (F := Ideal) S_ .f32 0x00000000#32) := by
  show StableHlo.after _ _ (Proc.devRef .tc main_v43) = _
  simp only [List.flatten_cons, List.flatten_nil, List.cons_append, List.nil_append, List.append_nil]
  after_results

theorem V_cst (c : Dev nD) : V m c main_cst = lowT := by
  show StableHlo.after _ _ (Proc.devRef .tc main_cst) = _
  simp only [List.flatten_cons, List.flatten_nil, List.cons_append, List.nil_append, List.append_nil]
  after_results
  rfl

theorem V_v0 (c : Dev nD) : V m c main_v0 = shapeCast S4x1536 (m ((c : Thread nD τ).loc main_arg1)) shapeCasts_S1x4x1536_S4x1536 := by
  show StableHlo.after _ _ (Proc.devRef .tc main_v0) = _
  simp only [List.flatten_cons, List.flatten_nil, List.cons_append, List.nil_append, List.append_nil]
  after_results
  rfl

theorem V_v3 (c : Dev nD) : V m c main_v3 = padT (m ((c : Thread nD τ).loc main_arg2)) := by
  show StableHlo.after _ _ (Proc.devRef .tc main_v3) = _
  simp only [List.flatten_cons, List.flatten_nil, List.cons_append, List.nil_append, List.append_nil]
  after_results
  rfl

theorem V_v6 (c : Dev nD) : V m c main_v6 = padT (m ((c : Thread nD τ).loc main_arg3)) := by
  show StableHlo.after _ _ (Proc.devRef .tc main_v6) = _
  simp only [List.flatten_cons, List.flatten_nil, List.cons_append, List.nil_append, List.append_nil]
  after_results
  rfl

theorem V_v10 (c : Dev nD) : V m c main_v10 = shapeCast S1x128 (shapeCast S128 (m ((c : Thread nD τ).loc main_arg5)) shapeCasts_S1x128_S128) shapeCasts_S128_S1x128 := by
  show StableHlo.after _ _ (Proc.devRef .tc main_v10) = _
  simp only [List.flatten_cons, List.flatten_nil, List.cons_append, List.nil_append, List.append_nil]
  after_results
  rfl

/-- Where each window's block lies. -/
theorem idx_tab : ∀ t : Fin cfg0.N,
    win0_0.index t (0 : Fin 2) = 32
    ∧ win0_0.index t (1 : Fin 2) = 0
    ∧ win0_2.index t (0 : Fin 4) = 0
    ∧ win0_2.index t (1 : Fin 4) = 0
    ∧ win0_2.index t (2 : Fin 4) = 0
    ∧ win0_2.index t (3 : Fin 4) = 0
    ∧ win0_3.index t (0 : Fin 3) = 0
    ∧ win0_3.index t (1 : Fin 3) = 0
    ∧ win0_3.index t (2 : Fin 3) = 0
    ∧ win0_6.index t (0 : Fin 2) = 0
    ∧ win0_6.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_15.index t (0 : Fin 2) = 0
    ∧ win0_15.index t (1 : Fin 2) = 0
    ∧ win0_16.index t (0 : Fin 3) = 0
    ∧ win0_16.index t (1 : Fin 3) = 0
    ∧ win0_16.index t (2 : Fin 3) = 0
    ∧ win0_18.index t (0 : Fin 4) = 0
    ∧ win0_18.index t (1 : Fin 4) = 0
    ∧ win0_18.index t (2 : Fin 4) = 0
    ∧ win0_18.index t (3 : Fin 4) = 0 :=
  (by decide +kernel : ∀ t : Fin grid0.N, _)

theorem zeroS_apply (i : S1x4x128x128.Idx) : broadcastInDim S1x4x128x128 ![] bcast_S_S1x4x128x128 (constant (F := Ideal) S_ .f32 0x00000000#32) i = (0 : EReal) := by
  pointwise

theorem zeroQ_apply (i : S1x3x1536.Idx) : broadcastInDim S1x3x1536 ![] bcast_S_S1x3x1536 (constant (F := Ideal) S_ .f32 0x00000000#32) i = (0 : EReal) := by
  pointwise

theorem low_bits : ∀ t s : Fin 16, lit0 (S16x16.rowMajor (ix2 t s)) = if s ≤ t then 0x3F80#16 else 0#16 := by
  decide +kernel

theorem one_bf16 : Ideal.ofBits .bf16 0x3F80#16 = (1 : EReal) := by
  exact Ideal.ofBits_one_bf16

theorem low_apply (t s : Fin 16) : lowT (ix2 t s) = (if s ≤ t then 1 else 0 : EReal) := by
  show Ideal.ofBits .bf16 (lit0 (S16x16.rowMajor (ix2 t s))) = _
  rw [low_bits]
  split_ifs
  · exact one_bf16
  · exact Ideal.ofBits_zero_bf16

theorem taps_apply (x : Vec Ideal S1x4x1536 .f32) (n : Fin 4) (k : Fin 1536) : shapeCast S4x1536 x shapeCasts_S1x4x1536_S4x1536 (ix2 n k) = aC x n k := by
  pointwise [aC]

theorem wn_apply (x : Vec Ideal S1x128 .f32) (d : Fin 128) : shapeCast S1x128 (shapeCast S128 x shapeCasts_S1x128_S128) shapeCasts_S128_S1x128 (ix2 0 d) = aW x d := by
  pointwise [aW]

theorem pad_apply (x : Vec Ideal S1x4 .f32) (h : Fin 4) : padT x (ix2 0 ⟨4 + h.val, by omega⟩) = aH x h := by
  unfold padT
  pointwise [aH]
  done

theorem iblk0_apply (c : Dev nD) (p : Fin cfg0.N) (r : Fin 16) (k : Fin 4224) : iblk m c 0 p (ix2 r k) = aP (m ((c : Thread nD τ).loc main_arg0)) r k := by
  have h0 := (idx_tab p).1
  have h1 := (idx_tab p).2.1
  have e : V m c main_arg0 (ix2 (⟨512 + r.val, by omega⟩ : Fin 528) k) = aP (m ((c : Thread nD τ).loc main_arg0)) r k := congrFun (V_arg0 m c) _
  rw [← e]
  blk_ext [iblk, h0, h1]

theorem iblk2_apply (c : Dev nD) (p : Fin cfg0.N) (h : Fin 4) (e d : Fin 128) : iblk m c 2 p (ix4 0 h e d) = (0 : EReal) := by
  have h0 := (idx_tab p).2.2.1
  have h1 := (idx_tab p).2.2.2.1
  have h2 := (idx_tab p).2.2.2.2.1
  have h3 := (idx_tab p).2.2.2.2.2.1
  have e : V m c main_v42 (ix4 0 h e d) = (0 : EReal) := (congrFun (V_v42 m c) _).trans (zeroS_apply _)
  rw [← e]
  blk_ext [iblk, h0, h1, h2, h3]

theorem iblk3_apply (c : Dev nD) (p : Fin cfg0.N) (a : Fin 3) (k : Fin 1536) : iblk m c 3 p (ix3 0 a k) = (0 : EReal) := by
  have h0 := (idx_tab p).2.2.2.2.2.2.1
  have h1 := (idx_tab p).2.2.2.2.2.2.2.1
  have h2 := (idx_tab p).2.2.2.2.2.2.2.2.1
  have e : V m c main_v43 (ix3 0 a k) = (0 : EReal) := (congrFun (V_v43 m c) _).trans (zeroQ_apply _)
  rw [← e]
  blk_ext [iblk, h0, h1, h2]

theorem iblk6_apply (c : Dev nD) (p : Fin cfg0.N) (t s : Fin 16) : iblk m c 6 p (ix2 t s) = (if s ≤ t then 1 else 0 : EReal) := by
  have h0 := (idx_tab p).2.2.2.2.2.2.2.2.2.1
  have h1 := (idx_tab p).2.2.2.2.2.2.2.2.2.2.1
  have e : V m c main_cst (ix2 t s) = (if s ≤ t then 1 else 0 : EReal) := (congrFun (V_cst m c) _).trans (low_apply t s)
  rw [← e]
  blk_ext [iblk, h0, h1]

theorem iblk11_apply (c : Dev nD) (p : Fin cfg0.N) (n : Fin 4) (k : Fin 1536) : iblk m c 11 p (ix2 n k) = aC (m ((c : Thread nD τ).loc main_arg1)) n k := by
  have h0 := (idx_tab p).2.2.2.2.2.2.2.2.2.2.2.1
  have h1 := (idx_tab p).2.2.2.2.2.2.2.2.2.2.2.2.1
  have e : V m c main_v0 (ix2 n k) = aC (m ((c : Thread nD τ).loc main_arg1)) n k := (congrFun (V_v0 m c) _).trans (taps_apply _ n k)
  rw [← e]
  blk_ext [iblk, h0, h1]

theorem iblk12_apply (c : Dev nD) (p : Fin cfg0.N) (h : Fin 4) : iblk m c 12 p (ix2 0 ⟨4 + h.val, by omega⟩) = aH (m ((c : Thread nD τ).loc main_arg2)) h := by
  have h0 := (idx_tab p).2.2.2.2.2.2.2.2.2.2.2.2.2.1
  have h1 := (idx_tab p).2.2.2.2.2.2.2.2.2.2.2.2.2.2.1
  have e : V m c main_v3 (ix2 0 ⟨4 + h.val, by omega⟩) = aH (m ((c : Thread nD τ).loc main_arg2)) h := (congrFun (V_v3 m c) _).trans (pad_apply _ h)
  rw [← e]
  blk_ext [iblk, h0, h1]

theorem iblk13_apply (c : Dev nD) (p : Fin cfg0.N) (h : Fin 4) : iblk m c 13 p (ix2 0 ⟨4 + h.val, by omega⟩) = aH (m ((c : Thread nD τ).loc main_arg3)) h := by
  have h0 := (idx_tab p).2.2.2.2.2.2.2.2.2.2.2.2.2.2.2.1
  have h1 := (idx_tab p).2.2.2.2.2.2.2.2.2.2.2.2.2.2.2.2.1
  have e : V m c main_v6 (ix2 0 ⟨4 + h.val, by omega⟩) = aH (m ((c : Thread nD τ).loc main_arg3)) h := (congrFun (V_v6 m c) _).trans (pad_apply _ h)
  rw [← e]
  blk_ext [iblk, h0, h1]

theorem iblk15_apply (c : Dev nD) (p : Fin cfg0.N) (d : Fin 128) : iblk m c 15 p (ix2 0 d) = aW (m ((c : Thread nD τ).loc main_arg5)) d := by
  have h0 := (idx_tab p).2.2.2.2.2.2.2.2.2.2.2.2.2.2.2.2.2.1
  have h1 := (idx_tab p).2.2.2.2.2.2.2.2.2.2.2.2.2.2.2.2.2.2.1
  have e : V m c main_v10 (ix2 0 d) = aW (m ((c : Thread nD τ).loc main_arg5)) d := (congrFun (V_v10 m c) _).trans (wn_apply _ d)
  rw [← e]
  blk_ext [iblk, h0, h1]

/-- The one point. -/
def pt0 : Fin cfg0.N := ⟨0, by show 0 < grid0.N; rw [N_0]; decide⟩

theorem eq_pt0 (t : Fin cfg0.N) : t = pt0 := Fin.ext (by have h : t.val < 1 := lt_of_lt_of_eq t.isLt N_0; show t.val = 0; omega)

theorem final16 (c : Dev nD) : (dats m 0 c).arrAt 16 cfg0.N = (outsAt0 m c pt0).1 := by
  refine (dats m 0 c).arrAt_eq_of_covers 16 _ (by decide +kernel) fun t hf y => ?_
  have h0 := (idx_tab t).2.2.2.2.2.2.2.2.2.2.2.2.2.2.2.2.2.2.2.1
  have h1 := (idx_tab t).2.2.2.2.2.2.2.2.2.2.2.2.2.2.2.2.2.2.2.2.1
  have h2 := (idx_tab t).2.2.2.2.2.2.2.2.2.2.2.2.2.2.2.2.2.2.2.2.2.1
  rw [after0_16, eq_pt0 t]
  rw [eq_pt0 t] at h0 h1 h2
  refine congrArg (outsAt0 m c pt0).1 (funext fun a => Fin.ext ?_)
  match a with
  | ⟨0, _⟩ => blk_simp [h0, h1, h2]
  | ⟨1, _⟩ => blk_simp [h0, h1, h2]
  | ⟨2, _⟩ => blk_simp [h0, h1, h2]

theorem final18 (c : Dev nD) : (dats m 0 c).arrAt 18 cfg0.N = (outsAt0 m c pt0).2.2.1 := by
  refine (dats m 0 c).arrAt_eq_of_covers 18 _ (by decide +kernel) fun t hf y => ?_
  have h0 := (idx_tab t).2.2.2.2.2.2.2.2.2.2.2.2.2.2.2.2.2.2.2.2.2.2.1
  have h1 := (idx_tab t).2.2.2.2.2.2.2.2.2.2.2.2.2.2.2.2.2.2.2.2.2.2.2.1
  have h2 := (idx_tab t).2.2.2.2.2.2.2.2.2.2.2.2.2.2.2.2.2.2.2.2.2.2.2.2.1
  have h3 := (idx_tab t).2.2.2.2.2.2.2.2.2.2.2.2.2.2.2.2.2.2.2.2.2.2.2.2.2
  rw [after0_18, eq_pt0 t]
  rw [eq_pt0 t] at h0 h1 h2 h3
  refine congrArg (outsAt0 m c pt0).2.2.1 (funext fun a => Fin.ext ?_)
  match a with
  | ⟨0, _⟩ => blk_simp [h0, h1, h2, h3]
  | ⟨1, _⟩ => blk_simp [h0, h1, h2, h3]
  | ⟨2, _⟩ => blk_simp [h0, h1, h2, h3]
  | ⟨3, _⟩ => blk_simp [h0, h1, h2, h3]

end Cert.Kernel4Ideal.Hand
-- ==== Proof.GdnPoint.lean ====
/-
What the fourth program's one point leaves, in the layer's rows.
-/
module

public import proofs.«01_k».proof.Proof.GdnConv
public import proofs.«01_k».proof.Proof.GdnTabs

@[expose] public section

set_option maxRecDepth 16384

noncomputable section

namespace Cert.Kernel4Ideal.Hand

open Cert.Kernel4Ideal Cert.Kernel4Ideal.Gen Cert.GdnMath Cert.Reference4Ideal.Rows
open Idealize.ShloMosaic Idealize.ShloMosaic.TcCoe Idealize.SL.Sem
open Idealize.ShloMosaic.Pipeline (Dat Cfg Window)

/-! ## Reads at an index -/

section
variable {F : FTy → Type} [FloatOps F]

theorem rd2' {κ : Kind} {sp : Space} {n m : ℕ} {e : EltTy} (M : Memref sig κ sp ⟨2, ![n, m]⟩ e) (hM : M.IsWhole) (X : Vec F ⟨2, ![n, m]⟩ e)
    (k lo a b : ℕ) (inb) (i : Fin a) (j : Fin b) (p : Fin n) (q : Fin m) (hp : p.val = k + i.val) (hq : q.val = lo + j.val) :
    View.readAt (Elt F) M.view (Rect.unit (s := ⟨2, ![n, m]⟩) ![k, lo] ![a, b] inb).toLoadRect (hM.unread X) (ix2 i j) = X (ix2 p q) := by
  obtain ⟨p, hp'⟩ := p
  obtain ⟨q, hq'⟩ := q
  have ep : p = k + i.val := hp
  have eq : q = lo + j.val := hq
  subst ep eq
  exact rd2 M hM X k lo a b inb i j hp' hq'

theorem pay4_apply (X : Vec F S1x4x128x128 .f32) : k0_pay4 X = X := by
  unfold k0_pay4
  exact shapeCast_self _ _

theorem pay5_apply (X : Vec F S1x3x1536 .f32) : k0_pay5 X = X := by
  unfold k0_pay5
  exact (shapeCast_self _ _).trans (shapeCast_self _ _)

theorem readAt_whole {κ : Kind} {sp : Space} {s : Shape} {e : EltTy} (M : Memref sig κ sp s e) (h : M.IsWhole) (X : Vec F s e)
    {off : Fin s.rank → ℕ} (inb) : View.readAt (Elt F) M.view (Rect.unit off s.size inb).toLoadRect (h.unread X) = X :=
  (View.readAt_full _ _ _).trans (h.read_unread X)

/-- A head's square of the state staged. -/
theorem rdH (c : Dev nD) (A : Memref sig .tc .vmem S1x4x128x128 .f32) (hA : A.IsWhole) (M : Memref sig .tc .vmem S1x4x128x128 .f32) (X : Vec F S1x4x128x128 .f32)
    (k : ℕ) (inb) (e d : Fin 128) (hk : k < 4) :
    M.view.readCov (kernelRun0_A.sl.H18_1 c A hA X) (Rect.unit (s := S1x4x128x128) ![0, k, 0, 0] S1x1x128x128.size inb).toLoadRect (ix4 0 0 e d) = X (ix4 0 ⟨k, hk⟩ e d) := by
  unfold kernelRun0_A.sl.H18_1
  rw [readAt_whole, pay4_apply]
  exact rdS M X _ k inb e d hk

theorem putA_ne {α : Type} (x : S1x24x1536.Idx → α) (w) (a : Fin 24) (j : Fin 1536) (h : a.val < 8) :
    VecWindow.put x ![0, 8, 0] S1x16x1536.size w (ix3 0 a j) = x (ix3 0 a j) := by
  unfold VecWindow.put
  rw [dif_neg (fun hh => by have : 8 ≤ a.val := (hh 1).1; omega)]

theorem putQ_eq {α : Type} (x : S1x24x1536.Idx → α) (w : S1x3x1536.Idx → α) (a : Fin 24) (i : Fin 3) (j : Fin 1536) (h : a.val = 5 + i.val) :
    VecWindow.put x ![0, 5, 0] S1x3x1536.size w (ix3 0 a j) = w (ix3 0 i j) := by
  unfold VecWindow.put
  rw [dif_pos (by
    intro b
    match b with
    | ⟨0, _⟩ => exact ⟨Nat.zero_le _, by show 0 < 0 + 1; omega⟩
    | ⟨1, _⟩ => exact ⟨by show 5 ≤ a.val; omega, by show a.val < 5 + 3; omega⟩
    | ⟨2, _⟩ => exact ⟨Nat.zero_le _, by show j.val < 0 + 1536; omega⟩)]
  congr 1
  funext b
  apply Fin.ext
  match b with
  | ⟨0, _⟩ => rfl
  | ⟨1, _⟩ => show a.val - 5 = i.val; omega
  | ⟨2, _⟩ => show j.val - 0 = j.val; omega

/-- A row of the queue staged, above the rows. -/
theorem rdQ (c : Dev nD) (A : Memref sig .tc .vmem S16x4224 .f32) (hA : A.IsWhole) (B : Memref sig .tc .vmem S1x3x1536 .f32) (hB : B.IsWhole)
    (M : Memref sig .tc .vmem S1x24x1536 .f32) (X : Vec F S16x4224 .f32) (Q : Vec F S1x3x1536 .f32)
    (o n : ℕ) (inb) (a : Fin n) (j : Fin 1536) (i : Fin 3) (h : o + a.val = 5 + i.val) :
    M.view.readCov (kernelRun0_A.sl.HS0_2 c A hA B hB X Q) (Rect.unit (s := S1x24x1536) ![0, o, 0] ![1, n, 1536] inb).toLoadRect (ix3 0 a j) = Q (ix3 0 i j) := by
  show M.view.read (Elt F) (M.view.writes (Elt F) M.view.junk (kernelRun0_A.sl.HS0_2 c A hA B hB X Q))
    ((Rect.unit (s := S1x24x1536) ![0, o, 0] ![1, n, 1536] inb).emb (ix3 0 a j)) = _
  have ei : (Rect.unit (s := S1x24x1536) ![0, o, 0] ![1, n, 1536] inb).emb (ix3 0 a j) = ix3 0 (⟨o + a.val, by omega⟩ : Fin 24) j := by
    funext x
    apply Fin.ext
    match x with
    | ⟨0, _⟩ => rfl
    | ⟨1, _⟩ => show o + 1 * a.val = o + a.val; omega
    | ⟨2, _⟩ => show 0 + 1 * j.val = j.val; omega
  rw [ei]
  unfold kernelRun0_A.sl.HS0_2
  rw [View.read_writes_cons_put _ _ _ _ _ rfl, putA_ne _ _ _ _ (by show o + a.val < 8; omega)]
  rw [View.read_writes_cons_put _ _ _ _ _ rfl]
  refine (putQ_eq _ _ _ i j h).trans ?_
  rw [readAt_whole, pay5_apply]
end

/-! ## The point -/

variable (m : (ℓ : Loc nD τ sig) → Buf (Elt Ideal) ℓ)

section
variable (c : Dev nD) (p : Fin cfg0.N)

abbrev pB : FVec Ideal S16x1536 .f32 := Bk c (ms0_0 p) (hs0_0 p) (ms0_3 p) (hs0_3 p) (ms0_11 p) (hs0_11 p) scM0_0 (iblk m c 0 p) (iblk m c 3 p) (iblk m c 11 p)
abbrev pL : Vec Ideal S16x16 .bf16 := View.readAt (Elt Ideal) (ms0_6 p).view (Rect.unit (s := S16x16) ![0, 0] S16x16.size inb_S16x16_S16x16_0_0).toLoadRect ((hs0_6 p).unread (iblk m c 6 p))
abbrev pX : Vec Ideal S16x128 .f32 := View.readAt (Elt Ideal) (ms0_0 p).view (Rect.unit (s := S16x4224) ![0, 4096] S16x128.size inb_S16x4224_S16x128_0_4096).toLoadRect ((hs0_0 p).unread (iblk m c 0 p))
abbrev pD : Vec Ideal S1x128 .f32 := View.readAt (Elt Ideal) (ms0_13 p).view (Rect.unit (s := S1x128) ![0, 0] S1x128.size inb_S1x128_S1x128_0_0).toLoadRect ((hs0_13 p).unread (iblk m c 13 p))
abbrev pA : Vec Ideal S1x128 .f32 := View.readAt (Elt Ideal) (ms0_12 p).view (Rect.unit (s := S1x128) ![0, 0] S1x128.size inb_S1x128_S1x128_0_0).toLoadRect ((hs0_12 p).unread (iblk m c 12 p))

theorem pB_apply (i : Fin 16) (k : Fin 1536) : pB m c p (ix2 i k) = cvM (fun t k => aP (m ((c : Thread nD τ).loc main_arg0)) t ⟨2048 + k.val, by omega⟩) (aC (m ((c : Thread nD τ).loc main_arg1))) i k := by
  unfold pB Bk
  apply cv_row
  · intro k
    exact (rd2' _ _ _ 0 0 1 1536 _ 0 k ⟨0, by decide⟩ k rfl (by omega)).trans (iblk11_apply m c p ⟨0, by decide⟩ k)
  · intro k
    exact (rd2' _ _ _ 1 0 1 1536 _ 0 k ⟨1, by decide⟩ k rfl (by omega)).trans (iblk11_apply m c p ⟨1, by decide⟩ k)
  · intro k
    exact (rd2' _ _ _ 2 0 1 1536 _ 0 k ⟨2, by decide⟩ k rfl (by omega)).trans (iblk11_apply m c p ⟨2, by decide⟩ k)
  · intro k
    exact (rd2' _ _ _ 3 0 1 1536 _ 0 k ⟨3, by decide⟩ k rfl (by omega)).trans (iblk11_apply m c p ⟨3, by decide⟩ k)
  · intro t k
    exact (rd2' _ _ _ 0 2048 16 1536 _ t k t ⟨2048 + k.val, by omega⟩ (by omega) rfl).trans (iblk0_apply m c p t _)
  · intro k
    exact (rdQ c _ _ _ _ _ _ _ 7 1 _ 0 k 2 rfl).trans (iblk3_apply m c p 2 k)
  · intro n k
    exact (rdQ c _ _ _ _ _ _ _ 6 2 _ n k ⟨1 + n.val, by omega⟩ (by show 6 + n.val = 5 + (1 + n.val); omega)).trans (iblk3_apply m c p _ k)
  · intro n k
    exact (rdQ c _ _ _ _ _ _ _ 5 2 _ n k ⟨n.val, by omega⟩ rfl).trans (iblk3_apply m c p _ k)

theorem pX_apply (t : Fin 16) (k : Fin 128) : pX m c p (ix2 t k) = (aP (m ((c : Thread nD τ).loc main_arg0))) t ⟨4096 + k.val, by omega⟩ :=
  (rd2' _ _ _ 0 4096 16 128 _ t k t ⟨4096 + k.val, by omega⟩ (by omega) rfl).trans (iblk0_apply m c p t _)

theorem pL_apply (t s : Fin 16) : pL m c p (ix2 t s) = (if s ≤ t then 1 else 0 : EReal) :=
  (rd2' _ _ _ 0 0 16 16 _ t s t s (by omega) (by omega)).trans (iblk6_apply m c p t s)

theorem pD_apply (h : Fin 4) : pD m c p (ix2 0 ⟨4 + h.val, by omega⟩) = (aH (m ((c : Thread nD τ).loc main_arg3))) h :=
  (rd2' _ _ _ 0 0 1 128 _ 0 ⟨4 + h.val, by omega⟩ 0 ⟨4 + h.val, by omega⟩ rfl (by omega)).trans (iblk13_apply m c p h)

theorem pA_apply (h : Fin 4) : pA m c p (ix2 0 ⟨4 + h.val, by omega⟩) = (aH (m ((c : Thread nD τ).loc main_arg2))) h :=
  (rd2' _ _ _ 0 0 1 128 _ 0 ⟨4 + h.val, by omega⟩ 0 ⟨4 + h.val, by omega⟩ rfl (by omega)).trans (iblk12_apply m c p h)

theorem act_at : actB (pB m c p) = cC (aP (m ((c : Thread nD τ).loc main_arg0))) (aC (m ((c : Thread nD τ).loc main_arg1))) := act_row _ _ _ (pB_apply m c p)
theorem bet_at (h : Fin 4) : bB (pX m c p) h = bC (aP (m ((c : Thread nD τ).loc main_arg0))) h := bet_row _ _ (pX_apply m c p) h
theorem cum_at (h : Fin 4) : cB (pL m c p) (pX m c p) (pD m c p) (pA m c p) h = uC (aP (m ((c : Thread nD τ).loc main_arg0))) (aH (m ((c : Thread nD τ).loc main_arg2))) (aH (m ((c : Thread nD τ).loc main_arg3))) h :=
  cu_row _ _ _ _ _ _ _ (pL_apply m c p) (pX_apply m c p) (pD_apply m c p) (pA_apply m c p) h
theorem w_at (h : Fin 4) : wM (pB m c p) (pL m c p) (pX m c p) (pD m c p) (pA m c p) h = wS (aP (m ((c : Thread nD τ).loc main_arg0))) (aC (m ((c : Thread nD τ).loc main_arg1))) (aH (m ((c : Thread nD τ).loc main_arg2))) (aH (m ((c : Thread nD τ).loc main_arg3))) solK h := by
  unfold wM wS
  rw [act_at, bet_at, cum_at]
end

theorem mix_at_0 (c : Dev nD) (p : Fin cfg0.N) (t : Fin 16) (d : Fin 128) :
    (outsAt0 m c p).1 (ix3 0 t ⟨512 + d.val, by omega⟩) = yS (aP (m ((c : Thread nD τ).loc main_arg0))) (aC (m ((c : Thread nD τ).loc main_arg1))) (aH (m ((c : Thread nD τ).loc main_arg2))) (aH (m ((c : Thread nD τ).loc main_arg3))) (aW (m ((c : Thread nD τ).loc main_arg5))) solK ⟨0, by decide⟩ t d := by
  unfold outsAt0
  dsimp only
  refine (out16_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  refine (y0_apply (pB m c p) (pL m c p) (pX m c p) (pD m c p) (pA m c p) _ _ _ (fun e d => (rdH c _ _ _ _ 0 _ e d (by decide)).trans (iblk2_apply m c p ⟨0, by decide⟩ e d)) t d).trans ?_
  have ew : (fun d => (View.readAt (Elt Ideal) (ms0_15 p).view (Rect.unit (s := S1x128) ![0, 0] S1x128.size inb_S1x128_S1x128_0_0).toLoadRect ((hs0_15 p).unread (iblk m c 15 p)) : Vec Ideal S1x128 .f32) (ix2 0 d)) = (aW (m ((c : Thread nD τ).loc main_arg5))) :=
    funext fun d => (rd2' _ _ _ 0 0 1 128 _ 0 d 0 d rfl (by omega)).trans (iblk15_apply m c p d)
  have eg : rw2 (View.readAt (Elt Ideal) (ms0_0 p).view (Rect.unit (s := S16x4224) ![0, 3584] S16x128.size inb_S16x4224_S16x128_0_3584).toLoadRect ((hs0_0 p).unread (iblk m c 0 p))) t = fun d => (aP (m ((c : Thread nD τ).loc main_arg0))) t ⟨3584 + 128 * 0 + d.val, by omega⟩ :=
    funext fun d => (rd2' _ _ _ 0 3584 16 128 _ t d t ⟨3584 + 128 * 0 + d.val, by omega⟩ (by omega) rfl).trans (iblk0_apply m c p t _)
  rw [act_at, cum_at, w_at, ew, eg]
  rfl

theorem st_at_0 (c : Dev nD) (p : Fin cfg0.N) (e d : Fin 128) :
    (outsAt0 m c p).2.2.1 (ix4 0 ⟨0, by decide⟩ e d) = sS (aP (m ((c : Thread nD τ).loc main_arg0))) (aC (m ((c : Thread nD τ).loc main_arg1))) (aH (m ((c : Thread nD τ).loc main_arg2))) (aH (m ((c : Thread nD τ).loc main_arg3))) solK ⟨0, by decide⟩ e d := by
  unfold outsAt0
  dsimp only
  refine (out18_0 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  refine (z0_apply (pB m c p) (pL m c p) (pX m c p) (pD m c p) (pA m c p) _ (fun e d => (rdH c _ _ _ _ 0 _ e d (by decide)).trans (iblk2_apply m c p ⟨0, by decide⟩ e d)) e d).trans ?_
  rw [act_at, cum_at, w_at]
  rfl

theorem mix_at_1 (c : Dev nD) (p : Fin cfg0.N) (t : Fin 16) (d : Fin 128) :
    (outsAt0 m c p).1 (ix3 0 t ⟨640 + d.val, by omega⟩) = yS (aP (m ((c : Thread nD τ).loc main_arg0))) (aC (m ((c : Thread nD τ).loc main_arg1))) (aH (m ((c : Thread nD τ).loc main_arg2))) (aH (m ((c : Thread nD τ).loc main_arg3))) (aW (m ((c : Thread nD τ).loc main_arg5))) solK ⟨1, by decide⟩ t d := by
  unfold outsAt0
  dsimp only
  refine (out16_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  refine (y1_apply (pB m c p) (pL m c p) (pX m c p) (pD m c p) (pA m c p) _ _ _ (fun e d => (rdH c _ _ _ _ 1 _ e d (by decide)).trans (iblk2_apply m c p ⟨1, by decide⟩ e d)) t d).trans ?_
  have ew : (fun d => (View.readAt (Elt Ideal) (ms0_15 p).view (Rect.unit (s := S1x128) ![0, 0] S1x128.size inb_S1x128_S1x128_0_0).toLoadRect ((hs0_15 p).unread (iblk m c 15 p)) : Vec Ideal S1x128 .f32) (ix2 0 d)) = (aW (m ((c : Thread nD τ).loc main_arg5))) :=
    funext fun d => (rd2' _ _ _ 0 0 1 128 _ 0 d 0 d rfl (by omega)).trans (iblk15_apply m c p d)
  have eg : rw2 (View.readAt (Elt Ideal) (ms0_0 p).view (Rect.unit (s := S16x4224) ![0, 3712] S16x128.size inb_S16x4224_S16x128_0_3712).toLoadRect ((hs0_0 p).unread (iblk m c 0 p))) t = fun d => (aP (m ((c : Thread nD τ).loc main_arg0))) t ⟨3584 + 128 * 1 + d.val, by omega⟩ :=
    funext fun d => (rd2' _ _ _ 0 3712 16 128 _ t d t ⟨3584 + 128 * 1 + d.val, by omega⟩ (by omega) rfl).trans (iblk0_apply m c p t _)
  rw [act_at, cum_at, w_at, ew, eg]
  rfl

theorem st_at_1 (c : Dev nD) (p : Fin cfg0.N) (e d : Fin 128) :
    (outsAt0 m c p).2.2.1 (ix4 0 ⟨1, by decide⟩ e d) = sS (aP (m ((c : Thread nD τ).loc main_arg0))) (aC (m ((c : Thread nD τ).loc main_arg1))) (aH (m ((c : Thread nD τ).loc main_arg2))) (aH (m ((c : Thread nD τ).loc main_arg3))) solK ⟨1, by decide⟩ e d := by
  unfold outsAt0
  dsimp only
  refine (out18_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  refine (z1_apply (pB m c p) (pL m c p) (pX m c p) (pD m c p) (pA m c p) _ (fun e d => (rdH c _ _ _ _ 1 _ e d (by decide)).trans (iblk2_apply m c p ⟨1, by decide⟩ e d)) e d).trans ?_
  rw [act_at, cum_at, w_at]
  rfl

theorem mix_at_2 (c : Dev nD) (p : Fin cfg0.N) (t : Fin 16) (d : Fin 128) :
    (outsAt0 m c p).1 (ix3 0 t ⟨768 + d.val, by omega⟩) = yS (aP (m ((c : Thread nD τ).loc main_arg0))) (aC (m ((c : Thread nD τ).loc main_arg1))) (aH (m ((c : Thread nD τ).loc main_arg2))) (aH (m ((c : Thread nD τ).loc main_arg3))) (aW (m ((c : Thread nD τ).loc main_arg5))) solK ⟨2, by decide⟩ t d := by
  unfold outsAt0
  dsimp only
  refine (out16_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  refine (y2_apply (pB m c p) (pL m c p) (pX m c p) (pD m c p) (pA m c p) _ _ _ (fun e d => (rdH c _ _ _ _ 2 _ e d (by decide)).trans (iblk2_apply m c p ⟨2, by decide⟩ e d)) t d).trans ?_
  have ew : (fun d => (View.readAt (Elt Ideal) (ms0_15 p).view (Rect.unit (s := S1x128) ![0, 0] S1x128.size inb_S1x128_S1x128_0_0).toLoadRect ((hs0_15 p).unread (iblk m c 15 p)) : Vec Ideal S1x128 .f32) (ix2 0 d)) = (aW (m ((c : Thread nD τ).loc main_arg5))) :=
    funext fun d => (rd2' _ _ _ 0 0 1 128 _ 0 d 0 d rfl (by omega)).trans (iblk15_apply m c p d)
  have eg : rw2 (View.readAt (Elt Ideal) (ms0_0 p).view (Rect.unit (s := S16x4224) ![0, 3840] S16x128.size inb_S16x4224_S16x128_0_3840).toLoadRect ((hs0_0 p).unread (iblk m c 0 p))) t = fun d => (aP (m ((c : Thread nD τ).loc main_arg0))) t ⟨3584 + 128 * 2 + d.val, by omega⟩ :=
    funext fun d => (rd2' _ _ _ 0 3840 16 128 _ t d t ⟨3584 + 128 * 2 + d.val, by omega⟩ (by omega) rfl).trans (iblk0_apply m c p t _)
  rw [act_at, cum_at, w_at, ew, eg]
  rfl

theorem st_at_2 (c : Dev nD) (p : Fin cfg0.N) (e d : Fin 128) :
    (outsAt0 m c p).2.2.1 (ix4 0 ⟨2, by decide⟩ e d) = sS (aP (m ((c : Thread nD τ).loc main_arg0))) (aC (m ((c : Thread nD τ).loc main_arg1))) (aH (m ((c : Thread nD τ).loc main_arg2))) (aH (m ((c : Thread nD τ).loc main_arg3))) solK ⟨2, by decide⟩ e d := by
  unfold outsAt0
  dsimp only
  refine (out18_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  refine (z2_apply (pB m c p) (pL m c p) (pX m c p) (pD m c p) (pA m c p) _ (fun e d => (rdH c _ _ _ _ 2 _ e d (by decide)).trans (iblk2_apply m c p ⟨2, by decide⟩ e d)) e d).trans ?_
  rw [act_at, cum_at, w_at]
  rfl

theorem mix_at_3 (c : Dev nD) (p : Fin cfg0.N) (t : Fin 16) (d : Fin 128) :
    (outsAt0 m c p).1 (ix3 0 t ⟨896 + d.val, by omega⟩) = yS (aP (m ((c : Thread nD τ).loc main_arg0))) (aC (m ((c : Thread nD τ).loc main_arg1))) (aH (m ((c : Thread nD τ).loc main_arg2))) (aH (m ((c : Thread nD τ).loc main_arg3))) (aW (m ((c : Thread nD τ).loc main_arg5))) solK ⟨3, by decide⟩ t d := by
  unfold outsAt0
  dsimp only
  refine (out16_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ t d).trans ?_
  refine (y3_apply (pB m c p) (pL m c p) (pX m c p) (pD m c p) (pA m c p) _ _ _ (fun e d => (rdH c _ _ _ _ 3 _ e d (by decide)).trans (iblk2_apply m c p ⟨3, by decide⟩ e d)) t d).trans ?_
  have ew : (fun d => (View.readAt (Elt Ideal) (ms0_15 p).view (Rect.unit (s := S1x128) ![0, 0] S1x128.size inb_S1x128_S1x128_0_0).toLoadRect ((hs0_15 p).unread (iblk m c 15 p)) : Vec Ideal S1x128 .f32) (ix2 0 d)) = (aW (m ((c : Thread nD τ).loc main_arg5))) :=
    funext fun d => (rd2' _ _ _ 0 0 1 128 _ 0 d 0 d rfl (by omega)).trans (iblk15_apply m c p d)
  have eg : rw2 (View.readAt (Elt Ideal) (ms0_0 p).view (Rect.unit (s := S16x4224) ![0, 3968] S16x128.size inb_S16x4224_S16x128_0_3968).toLoadRect ((hs0_0 p).unread (iblk m c 0 p))) t = fun d => (aP (m ((c : Thread nD τ).loc main_arg0))) t ⟨3584 + 128 * 3 + d.val, by omega⟩ :=
    funext fun d => (rd2' _ _ _ 0 3968 16 128 _ t d t ⟨3584 + 128 * 3 + d.val, by omega⟩ (by omega) rfl).trans (iblk0_apply m c p t _)
  rw [act_at, cum_at, w_at, ew, eg]
  rfl

theorem st_at_3 (c : Dev nD) (p : Fin cfg0.N) (e d : Fin 128) :
    (outsAt0 m c p).2.2.1 (ix4 0 ⟨3, by decide⟩ e d) = sS (aP (m ((c : Thread nD τ).loc main_arg0))) (aC (m ((c : Thread nD τ).loc main_arg1))) (aH (m ((c : Thread nD τ).loc main_arg2))) (aH (m ((c : Thread nD τ).loc main_arg3))) solK ⟨3, by decide⟩ e d := by
  unfold outsAt0
  dsimp only
  refine (out18_3 _ _ _ _ _ _ _ _ _ _ _ _ _ _ _ _ _ _ _ _ _ _ _ _ _ _ _ _ _ _ _ _ _ _ _ _ _ _ _ _ _ _ _ _ _ _ _ _ _ _ _ _ _ _ _ _ _ _ _ _ _ e d).trans ?_
  refine (z3_apply (pB m c p) (pL m c p) (pX m c p) (pD m c p) (pA m c p) _ (fun e d => (rdH c _ _ _ _ 3 _ e d (by decide)).trans (iblk2_apply m c p ⟨3, by decide⟩ e d)) e d).trans ?_
  rw [act_at, cum_at, w_at]
  rfl

end Cert.Kernel4Ideal.Hand
-- ==== Proof.GdnPre.lean ====
/-
What the precondition of the fourth algebraic claim says: the rows convolved and the taps are real numbers.
-/
module

public import proofs.«01_k».proof.Defs
public import proofs.«01_k».proof.Proof.GdnReal
public import proofs.«01_k».proof.Proof.GdnRef
public import Idealize.ShloMosaic.Lib.ValueIdxCore
public import Idealize.ShloMosaic.Lib.Pointwise

@[expose] public section

set_option maxRecDepth 16384

noncomputable section

namespace Cert.GdnPre

open Cert.GdnMath Cert.Pre_finite_conv Cert.Reference4Ideal.Rows
open Idealize.ShloMosaic

theorem facts : Cert.Pre_finite_conv.Facts where
  slices_S528x4224_S16x1536_512_2048 := by decide +kernel
  shapeCasts_S1x4x1536_S4x1536 := by decide +kernel
  concatenates_S16x1536_S4x1536_S20x1536_d0 := by decide +kernel
  bcast_S_S20x1536 := by decide +kernel

theorem inf_f32 : Ideal.ofBits FTy.f32 2139095040#32 = ⊤ := by
  simp [Ideal.ofBits, Ideal.ieee]

theorem re_of (x : EReal) (h : BitVec.ofBool (decide (FloatOps.absf (F := Ideal) (φ := .f32) x < Ideal.ofBits FTy.f32 2139095040#32)) = 1#1) : Re x := by
  rw [inf_f32] at h
  have h' : (max x (-x) : EReal) < ⊤ := by
    by_contra hn
    have e : BitVec.ofBool (decide ((max x (-x) : EReal) < ⊤)) = 1#1 := h
    rw [decide_eq_false hn] at e
    exact absurd e (by decide)
  induction x with
  | bot => simp at h'
  | top => simp at h'
  | coe r => exact ⟨r, rfl⟩

variable [hP : Cert.Pre_finite_conv.Facts]
variable (x0 : FVec Ideal S528x4224 .f32) (x1 : FVec Ideal S1x4x1536 .f32) (x2 x3 : FVec Ideal S1x4 .f32) (x4 : FVec Ideal S1x512 .f32) (x5 : FVec Ideal S1x128 .f32)

theorem rows_re (h : fn (F := Ideal) x0 x1 x2 x3 x4 x5 = fun _ => 1#1) (t : Fin 16) (k : Fin 1536) : Re (x0 (ix2 ⟨512 + t.val, by omega⟩ ⟨2048 + k.val, by omega⟩)) := by
  have e := congrFun h (ix2 ⟨t.val, by omega⟩ k)
  unfold fn at e
  pointwise at e
  exact re_of _ e

theorem taps_re (h : fn (F := Ideal) x0 x1 x2 x3 x4 x5 = fun _ => 1#1) (n : Fin 4) (k : Fin 1536) : Re (x1 (ix3 0 n k)) := by
  have e := congrFun h (ix2 ⟨16 + n.val, by omega⟩ k)
  unfold fn at e
  pointwise at e
  exact re_of _ e

end Cert.GdnPre
-- ==== Proof.GdnFinal.lean ====
/-
The claim about the fourth program's results: they are the reference's, where the rows convolved and the taps are finite.
-/
module

public import proofs.«01_k».proof.Defs
public import proofs.«01_k».proof.Proof.GdnPoint
public import proofs.«01_k».proof.Proof.GdnPre
public import Idealize.ShloMosaic.Adequacy

@[expose] public section

set_option maxRecDepth 16384

noncomputable section

namespace Cert.Kernel4Ideal.Hand

open Cert.Kernel4Ideal Cert.Kernel4Ideal.Gen Cert.GdnMath Cert.Reference4Ideal.Rows
open Idealize.ShloMosaic Idealize.ShloMosaic.TcCoe Idealize.SL.Sem
open Idealize.ShloMosaic.Pipeline (Dat Cfg Window)

variable (m : (ℓ : Loc nD τ sig) → Buf (Elt Ideal) ℓ)

/-! ## The results -/

/-- The mix's columns, as the reference states them. -/
def G101 (c : Dev nD) : Vec Ideal S1x16x512 .bf16 :=
  Cert.Reference4Ideal.Read.val_main_v319 (F := Ideal) (m ((c : Thread nD τ).loc main_arg0)) (m ((c : Thread nD τ).loc main_arg1))
    (m ((c : Thread nD τ).loc main_arg2)) (m ((c : Thread nD τ).loc main_arg3)) (m ((c : Thread nD τ).loc main_arg5))

/-- The state, as the reference states it. -/
def G1002 (c : Dev nD) : Vec Ideal S1x4x128x128 .f32 :=
  Cert.Reference4Ideal.Read.val_main_v300 (F := Ideal) (m ((c : Thread nD τ).loc main_arg0)) (m ((c : Thread nD τ).loc main_arg1))
    (m ((c : Thread nD τ).loc main_arg2)) (m ((c : Thread nD τ).loc main_arg3))

theorem cut_apply (x : Vec Ideal S1x16x1024 .bf16) (t : Fin 16) (k : Fin 512) :
    extractStridedSlice S1x16x512 ![0, 0, 512] x slices_S1x16x1024_S1x16x512_0_0_512 (ix3 0 t k) = x (ix3 0 t ⟨512 + k.val, by omega⟩) := by
  pointwise []

theorem col_key (x : Vec Ideal S1x16x1024 .bf16) (t : Fin 16) (a b : ℕ) (ha : a < 1024) (hb : b < 1024) (e : a = b) :
    x (ix3 0 t (⟨a, ha⟩ : Fin 1024)) = x (ix3 0 t (⟨b, hb⟩ : Fin 1024)) := by
  subst e; rfl

/-- The precondition on one device: the rows convolved and the taps are real. -/
structure Fin1 (c : Dev nD) : Prop where
  rows : ∀ (t : Fin 16) (k : Fin 1536) (hk : 2048 + k.val < 4224), Re (aP (m ((c : Thread nD τ).loc main_arg0)) t ⟨2048 + k.val, hk⟩)
  taps : ∀ (n : Fin 4) (k : Fin 1536), Re (aC (m ((c : Thread nD τ).loc main_arg1)) n k)

section
variable (c : Dev nD)

theorem mix_all (h : Fin 4) (t : Fin 16) (d : Fin 128) :
    (outsAt0 m c pt0).1 (ix3 0 t (⟨512 + (128 * h.val + d.val), by omega⟩ : Fin 1024))
      = yS (aP (m ((c : Thread nD τ).loc main_arg0))) (aC (m ((c : Thread nD τ).loc main_arg1))) (aH (m ((c : Thread nD τ).loc main_arg2)))
        (aH (m ((c : Thread nD τ).loc main_arg3))) (aW (m ((c : Thread nD τ).loc main_arg5))) solK h t d := by
  match h with
  | ⟨0, _⟩ => exact (col_key _ t _ _ _ _ (by show 512 + (128 * 0 + d.val) = 512 + d.val; omega)).trans (mix_at_0 m c pt0 t d)
  | ⟨1, _⟩ => exact (col_key _ t _ _ _ _ (by show 512 + (128 * 1 + d.val) = 640 + d.val; omega)).trans (mix_at_1 m c pt0 t d)
  | ⟨2, _⟩ => exact (col_key _ t _ _ _ _ (by show 512 + (128 * 2 + d.val) = 768 + d.val; omega)).trans (mix_at_2 m c pt0 t d)
  | ⟨3, _⟩ => exact (col_key _ t _ _ _ _ (by show 512 + (128 * 3 + d.val) = 896 + d.val; omega)).trans (mix_at_3 m c pt0 t d)

theorem st_all (h : Fin 4) (e d : Fin 128) :
    (outsAt0 m c pt0).2.2.1 (ix4 0 h e d)
      = sS (aP (m ((c : Thread nD τ).loc main_arg0))) (aC (m ((c : Thread nD τ).loc main_arg1))) (aH (m ((c : Thread nD τ).loc main_arg2)))
        (aH (m ((c : Thread nD τ).loc main_arg3))) solK h e d := by
  match h with
  | ⟨0, _⟩ => exact st_at_0 m c pt0 e d
  | ⟨1, _⟩ => exact st_at_1 m c pt0 e d
  | ⟨2, _⟩ => exact st_at_2 m c pt0 e d
  | ⟨3, _⟩ => exact st_at_3 m c pt0 e d

theorem split512 (k : Fin 512) : ∃ (h : Fin 4) (d : Fin 128), k = ⟨128 * h.val + d.val, by omega⟩ :=
  ⟨⟨k.val / 128, by omega⟩, ⟨k.val % 128, by omega⟩, Fin.ext (by show k.val = 128 * (k.val / 128) + k.val % 128; omega)⟩

variable (hF : Fin1 m c)
include hF

theorem mix_eq : extractStridedSlice S1x16x512 ![0, 0, 512] (outsAt0 m c pt0).1 slices_S1x16x1024_S1x16x512_0_0_512 = G101 m c := by
  funext j
  have ej : j = ix3 0 (j 1) (j 2) := by funext a; match a with | ⟨0, _⟩ => exact Subsingleton.elim (α := Fin 1) _ _ | ⟨1, _⟩ => rfl | ⟨2, _⟩ => rfl
  rw [ej]
  generalize ht : (j 1 : Fin 16) = t
  obtain ⟨h, d, hk⟩ := split512 (j 2)
  rw [hk]
  refine (cut_apply _ t ⟨128 * h.val + d.val, by omega⟩).trans ?_
  refine (mix_all m c h t d).trans ?_
  rw [yS_eq _ _ _ _ _ h hF.rows hF.taps]
  exact (v319_row _ _ _ _ _ h t d).symm

theorem st_eq : (outsAt0 m c pt0).2.2.1 = G1002 m c := by
  funext j
  have ej : j = ix4 0 (j 1) (j 2) (j 3) := by funext a; match a with | ⟨0, _⟩ => exact Subsingleton.elim (α := Fin 1) _ _ | ⟨1, _⟩ => rfl | ⟨2, _⟩ => rfl | ⟨3, _⟩ => rfl
  rw [ej]
  refine (st_all m c (j 1) (j 2) (j 3)).trans ?_
  rw [sS_eq _ _ _ _ (j 1) hF.rows hF.taps]
  exact (v300_row _ _ _ _ (j 1) (j 2) (j 3)).symm

theorem tail101 : Pipeline.afterTail₀ cfgs (dats m) 0 (V0 m) [hostOps1] c main_v101 = G101 m c := by
  refine Eq.trans ?_ (mix_eq m c hF)
  rw [← final16 m c]
  unfold Pipeline.afterTail₀
  after_results
  exact congrArg (fun x => extractStridedSlice S1x16x512 ![0, 0, 512] x slices_S1x16x1024_S1x16x512_0_0_512)
    (Pipeline.withArrays_arr_shared spec0 c (V0 m c) (fun w => (dats m 0 c).arrAt w cfg0.N) ((dats m 0 c).arrAt_sharedIn launch₀0.sharedIn (V0 m c) (A_eq m c) cfg0.N) 16)
end

/-- The run with the results named. -/
theorem run_values (hF : ∀ c, Fin1 m c) (ρ : Dev nD → PrngReg) :
    θ_run defs (onTc (τ := τ) (main (F := Ideal))) ⟨m, fun _ => 0, ρ⟩ (fun r => ∀ c : Dev nD,
      r.2.mem ((c : Thread nD τ).loc main_v101) = G101 m c ∧ r.2.mem ((c : Thread nD τ).loc main_v100_2) = G1002 m c) :=
  (θ_run defs _ _).mono (fun r h c => ⟨((h c).2 main_v101 (Pipeline.mem_restRefs_of main_v101 (by decide) (by decide))).trans (tail101 m c (hF c)),
    ((h c).1 18).trans ((final18 m c).trans (st_eq m c (hF c)))⟩) (run_main m ρ)

theorem fin_of_pre (h : Cert.Pre_Kernel4Ideal_finite_conv (hPre_finite_conv := Cert.GdnPre.facts) m) (c : Dev nD) : Fin1 m c :=
  ⟨fun t k _ => Cert.GdnPre.rows_re (hP := Cert.GdnPre.facts) _ _ _ _ _ _ (h c) t k, fun n k => Cert.GdnPre.taps_re (hP := Cert.GdnPre.facts) _ _ _ _ _ _ (h c) n k⟩

theorem algebraic : Cert.algebraic_Kernel4Ideal_Reference4Ideal_pre_finite_conv (hKernel4Ideal := Gen.facts) (hReference4Ideal := Cert.Reference4Ideal.Gen.facts)
    (hPre_finite_conv := Cert.GdnPre.facts) := by
  intro m g m' g' hp hag
  refine ⟨G101 m, G1002 m, ?_, ?_⟩
  · exact (θ_run defs _ _).mono (fun r h c => ⟨(h.1 c).1, (h.1 c).2, h.2 c⟩) (θ_run_and (run_values m (fin_of_pre m hp) g) (unchanged m g))
  · refine (θ_run Cert.Reference4Ideal.defs _ _).mono (fun r h c => ⟨(h c).1.trans ?_, (h c).2.1.trans ?_, (h c).2.2⟩) (Cert.Reference4Ideal.Value.run m' g')
    · refine (Cert.Reference4Ideal.Read.val_main_v319_eq _).trans ?_
      show Cert.Reference4Ideal.Read.val_main_v319 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg5)) = _
      obtain ⟨a0, a1, a2, a3, a4, a5⟩ := hag c
      rw [a0, a1, a2, a3, a5]
      rfl
    · refine (Cert.Reference4Ideal.Read.val_main_v300_eq _).trans ?_
      show Cert.Reference4Ideal.Read.val_main_v300 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
      obtain ⟨a0, a1, a2, a3, a4, a5⟩ := hag c
      rw [a0, a1, a2, a3]
      rfl

end Cert.Kernel4Ideal.Hand
-- ==== Proof.lean ====
/-
The claims of this certificate, each proved in the modules named beside it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.FfnClaim
public import proofs.«01_k».proof.Proof.SmpClaim
public import proofs.«01_k».proof.Proof.RetClaim
public import proofs.«01_k».proof.Proof.GdnFinal
public import proofs.«01_k».proof.Proof.Gen.Kernel3
public import proofs.«01_k».proof.Proof.Gen.Kernel4
public import proofs.«01_k».proof.Proof.Gen.Kernel3.Skeleton
public import proofs.«01_k».proof.Proof.Gen.Kernel4.Skeleton
public import proofs.«01_k».proof.Proof.Gen.Kernel3.Launch
public import proofs.«01_k».proof.Proof.Gen.Kernel4.Launch
public import proofs.«01_k».proof.Proof.Gen.Kernel3.Points
public import proofs.«01_k».proof.Proof.Gen.Kernel4.Points
public import proofs.«01_k».proof.Proof.Gen.Kernel3.Frame
public import proofs.«01_k».proof.Proof.Gen.Kernel4.Frame
public import proofs.«01_k».proof.Proof.Gen.Kernel3Ideal
public import proofs.«01_k».proof.Proof.Gen.Kernel4Ideal
public import proofs.«01_k».proof.Proof.Gen.Kernel3Ideal.Skeleton
public import proofs.«01_k».proof.Proof.Gen.Kernel4Ideal.Skeleton
public import proofs.«01_k».proof.Proof.Gen.Kernel3Ideal.Launch
public import proofs.«01_k».proof.Proof.Gen.Kernel4Ideal.Launch
public import proofs.«01_k».proof.Proof.Gen.Kernel3Ideal.Points
public import proofs.«01_k».proof.Proof.Gen.Kernel4Ideal.Points
public import proofs.«01_k».proof.Proof.Gen.Kernel3Ideal.Frame
public import proofs.«01_k».proof.Proof.Gen.Kernel4Ideal.Frame
public import proofs.«01_k».proof.Proof.Gen.Reference3Ideal
public import proofs.«01_k».proof.Proof.Gen.Reference4Ideal
public import proofs.«01_k».proof.Proof.Gen.Reference3Ideal.Run
public import proofs.«01_k».proof.Proof.Gen.Reference4Ideal.Run
public import proofs.«01_k».proof.Proof.Gen.Reference3Ideal.Read
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

/-- The second reference runs to its end, leaves its arguments and has no counters. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run m ρ)

/-- The third reference likewise. -/
theorem frame_reference3 : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run m ρ)

/-- The fourth reference likewise. -/
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run m ρ)

/-- So too under the precondition of the fourth algebraic claim. -/
theorem frame_reference4_pre : Cert.quiescent_Reference4Ideal_pre_finite_conv (hReference4Ideal := Cert.Reference4Ideal.Gen.facts)
    (hPre_finite_conv := Cert.GdnPre.facts) := fun m ρ _ =>
  (θ_run Cert.Reference4Ideal.defs _ _).mono (fun r h => ⟨fun c => (h c).2.2, sem_eq_zero_of_no_sems (by decide) r.2⟩)
    (Cert.Reference4Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.GdnPre.facts,
  Cert.KernelIdeal.Hand.frame_kernel, Cert.KernelIdeal.Hand.frame_ideal, Cert.KernelIdeal.Hand.frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, fun m ρ _ => Cert.Kernel4Ideal.Gen.frame m ρ, frame_reference4, frame_reference4_pre,
  trivial, Cert.KernelIdeal.Hand.algebraic, trivial, Cert.Kernel2Ideal.Hand.algebraic, trivial, Cert.Kernel3Ideal.Hand.algebraic,
  trivial, Cert.Kernel4Ideal.Hand.algebraic⟩

end Cert.Proof
